-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 8192]⟩ ⟨2, ![4096, 16384]⟩ (Layout.meshBlock [2, 2, 4] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 8192]⟩ ⟨2, ![4096, 16384]⟩ (Layout.meshBlock [2, 2, 4] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x8192 : Shape := ⟨2, ![4096, 8192]⟩
abbrev S_ : Shape := ⟨0, ![]⟩
abbrev S1 : Shape := ⟨1, ![1]⟩
abbrev S4096x4096 : Shape := ⟨2, ![4096, 4096]⟩
abbrev S512x512 : Shape := ⟨2, ![512, 512]⟩
abbrev S2048x512 : Shape := ⟨2, ![2048, 512]⟩
abbrev S512x2048 : Shape := ⟨2, ![512, 2048]⟩
abbrev S8x512x4096 : Shape := ⟨3, ![8, 512, 4096]⟩
abbrev S2x512x2048 : Shape := ⟨3, ![2, 512, 2048]⟩
abbrev S2 : Shape := ⟨1, ![2]⟩
abbrev S4 : Shape := ⟨1, ![4]⟩
abbrev S7 : Shape := ⟨1, ![7]⟩
abbrev S1x512x2048 : Shape := ⟨3, ![1, 512, 2048]⟩
abbrev S1x512x4096 : Shape := ⟨3, ![1, 512, 4096]⟩
abbrev S512x4096 : Shape := ⟨2, ![512, 4096]⟩
abbrev S1x512x2816 : Shape := ⟨3, ![1, 512, 2816]⟩
abbrev S512x2816 : Shape := ⟨2, ![512, 2816]⟩
abbrev S1x512x1280 : Shape := ⟨3, ![1, 512, 1280]⟩
abbrev S512x1280 : Shape := ⟨2, ![512, 1280]⟩
abbrev S1x512x1408 : Shape := ⟨3, ![1, 512, 1408]⟩
abbrev S512x1408 : Shape := ⟨2, ![512, 1408]⟩

abbrev nBuf : Space → Nat
  | .hbm => 20
  | .vmem => 7
  | .smem => 1
  | _ => 0

abbrev bufTy : (tb : Table) → Fin (tcTables nBuf tb) → BufTy
  | .hbm, ⟨0, _⟩ => ⟨S4096x8192, .bf16⟩
  | .hbm, ⟨1, _⟩ => ⟨S4096x8192, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S4096x4096, .f32⟩
  | .local _ .vmem, ⟨0, _⟩ => ⟨S512x512, .bf16⟩
  | .local _ .vmem, ⟨1, _⟩ => ⟨S512x512, .bf16⟩
  | .local _ .vmem, ⟨2, _⟩ => ⟨S2048x512, .bf16⟩
  | .local _ .vmem, ⟨3, _⟩ => ⟨S2048x512, .bf16⟩
  | .local _ .vmem, ⟨4, _⟩ => ⟨S512x2048, .f32⟩
  | .local _ .vmem, ⟨5, _⟩ => ⟨S8x512x4096, .bf16⟩
  | .local _ .vmem, ⟨6, _⟩ => ⟨S2x512x2048, .f32⟩
  | .local _ .smem, ⟨0, _⟩ => ⟨S1, .i32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_v9 : Ref sig .tc := ⟨.hbm, 15, rfl⟩
abbrev main_c_4 : Ref sig .tc := ⟨.hbm, 16, rfl⟩
abbrev main_v10 : Ref sig .tc := ⟨.hbm, 17, rfl⟩
abbrev main_v11 : Ref sig .tc := ⟨.hbm, 18, rfl⟩
abbrev main_v13 : Ref sig .tc := ⟨.hbm, 19, rfl⟩
abbrev main_v12 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev barrier0 : Sem sig := 0

abbrev nD : Nat := 16
abbrev τ : Topo := Topo.v7x

variable {F : FTy → Type} [FloatOps F]

abbrev grid0 : Pipeline.Grid := ⟨2, ![2, 16], ![false, false]⟩

abbrev pre0 : Pipeline.Prefetch sig := ⟨1, ![main_v12.idx], fun | 0 => main_v12.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_41 : BitVec 32 := 0#32
  let v87 : BitVec 1 := Scalar.cmpi .eq arg0 c0_i32_41
  let arg1 : BitVec 32 := BitVec.ofNat 32 (i 1).val
  let c0_i32_42 : BitVec 32 := 0#32
  let v88 : BitVec 1 := Scalar.cmpi .eq arg1 c0_i32_42
  let v89 : BitVec 1 := Scalar.andi v87 v88
  let v90 : BitVec 32 := Scalar.extui v89
  let c0_i32_43 : BitVec 32 := 0#32
  let v91 : BitVec 1 := Scalar.cmpi .ne v90 c0_i32_43
  v91

def k0_dev1 (d3 : Dev nD) : Nat :=
  let c0_i32_63 : BitVec 32 := 0#32
  let v3 : BitVec 32 := Dev.word d3
  let c8_i32 : BitVec 32 := 8#32
  let v4 : BitVec 32 := Scalar.divsi v3 c8_i32
  let c2_i32 : BitVec 32 := 2#32
  let v5 : BitVec 32 := Scalar.remsi v4 c2_i32
  let c8_i32_62 : BitVec 32 := 8#32
  let v118 : BitVec 32 := Scalar.muli v5 c8_i32_62
  let v119 : BitVec 32 := Scalar.addi c0_i32_63 v118
  let c1_i32_33 : BitVec 32 := 1#32
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let v75 : BitVec 32 := Scalar.subi c1_i32_33 v8
  let c4_i32_64 : BitVec 32 := 4#32
  let v120 : BitVec 32 := Scalar.muli v75 c4_i32_64
  let v121 : BitVec 32 := Scalar.addi v119 v120
  let v9 : BitVec 32 := Dev.word d3
  let c1_i32_2 : BitVec 32 := 1#32
  let v10 : BitVec 32 := Scalar.divsi v9 c1_i32_2
  let c4_i32_1 : BitVec 32 := 4#32
  let v11 : BitVec 32 := Scalar.remsi v10 c4_i32_1
  let c1_i32_65 : BitVec 32 := 1#32
  let v122 : BitVec 32 := Scalar.muli v11 c1_i32_65
  let v123 : BitVec 32 := Scalar.addi v121 v122
  v123.toNat
def k0_dev2 (d3 : Dev nD) (v12 : BitVec 32) : Nat :=
  let c0_i32_68 : BitVec 32 := 0#32
  let c1_i32_17 : BitVec 32 := 1#32
  let v44 : BitVec 32 := Scalar.subi v12 c1_i32_17
  let c8_i32_18 : BitVec 32 := 8#32
  let c0_i32_19 : BitVec 32 := 0#32
  let v45 : BitVec 1 := Scalar.cmpi .eq c8_i32_18 c0_i32_19
  let c1_i32_20 : BitVec 32 := 1#32
  let v46 : BitVec 32 := Scalar.select v45 c1_i32_20 c8_i32_18
  let v47 : BitVec 32 := Scalar.remsi v44 v46
  let c0_i32_22 : BitVec 32 := 0#32
  let v49 : BitVec 1 := Scalar.cmpi .slt v47 c0_i32_22
  let c0_i32_23 : BitVec 32 := 0#32
  let v50 : BitVec 1 := Scalar.cmpi .slt v46 c0_i32_23
  let v51 : BitVec 1 := Scalar.xori v49 v50
  let c0_i32_21 : BitVec 32 := 0#32
  let v48 : BitVec 1 := Scalar.cmpi .ne v47 c0_i32_21
  let v52 : BitVec 1 := Scalar.andi v51 v48
  let v53 : BitVec 32 := Scalar.addi v47 v46
  let v54 : BitVec 32 := Scalar.select v52 v53 v47
  let c0_i32_25 : BitVec 32 := 0#32
  let v56 : BitVec 1 := Scalar.cmpi .sgt v54 c0_i32_25
  let v57 : BitVec 32 := Scalar.extui v56
  let c0_i32_26 : BitVec 32 := 0#32
  let v58 : BitVec 1 := Scalar.cmpi .slt v54 c0_i32_26
  let v59 : BitVec 32 := Scalar.extui v58
  let v60 : BitVec 32 := Scalar.subi v57 v59
  let c4_i32_24 : BitVec 32 := 4#32
  let c0_i32_27 : BitVec 32 := 0#32
  let v61 : BitVec 1 := Scalar.cmpi .sgt c4_i32_24 c0_i32_27
  let v62 : BitVec 32 := Scalar.extui v61
  let c0_i32_28 : BitVec 32 := 0#32
  let v63 : BitVec 1 := Scalar.cmpi .slt c4_i32_24 c0_i32_28
  let v64 : BitVec 32 := Scalar.extui v63
  let v65 : BitVec 32 := Scalar.subi v62 v64
  let v66 : BitVec 1 := Scalar.cmpi .ne v60 v65
  let v67 : BitVec 32 := Scalar.remsi v54 c4_i32_24
  let c0_i32_29 : BitVec 32 := 0#32
  let v68 : BitVec 1 := Scalar.cmpi .ne v67 c0_i32_29
  let v69 : BitVec 1 := Scalar.andi v66 v68
  let v55 : BitVec 32 := Scalar.divsi v54 c4_i32_24
  let c1_i32_30 : BitVec 32 := 1#32
  let v70 : BitVec 32 := Scalar.subi v55 c1_i32_30
  let v71 : BitVec 32 := Scalar.select v69 v70 v55
  let c8_i32_67 : BitVec 32 := 8#32
  let v124 : BitVec 32 := Scalar.muli v71 c8_i32_67
  let v125 : BitVec 32 := Scalar.addi c0_i32_68 v124
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let c4_i32_69 : BitVec 32 := 4#32
  let v126 : BitVec 32 := Scalar.muli v8 c4_i32_69
  let v127 : BitVec 32 := Scalar.addi v125 v126
  let c0_i32_31 : BitVec 32 := 0#32
  let v72 : BitVec 1 := Scalar.cmpi .eq v71 c0_i32_31
  let c7_i32_32 : BitVec 32 := 7#32
  let v73 : BitVec 32 := Scalar.subi c7_i32_32 v54
  let v74 : BitVec 32 := Scalar.select v72 v54 v73
  let c1_i32_70 : BitVec 32 := 1#32
  let v128 : BitVec 32 := Scalar.muli v74 c1_i32_70
  let v129 : BitVec 32 := Scalar.addi v127 v128
  v129.toNat

def k0_dev3 (d3 : Dev nD) (v12 : BitVec 32) : Nat :=
  let c0_i32_73 : BitVec 32 := 0#32
  let c1_i32_3 : BitVec 32 := 1#32
  let v13 : BitVec 32 := Scalar.addi v12 c1_i32_3
  let c8_i32_4 : BitVec 32 := 8#32
  let c0_i32 : BitVec 32 := 0#32
  let v14 : BitVec 1 := Scalar.cmpi .eq c8_i32_4 c0_i32
  let c1_i32_5 : BitVec 32 := 1#32
  let v15 : BitVec 32 := Scalar.select v14 c1_i32_5 c8_i32_4
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let c0_i32_10 : BitVec 32 := 0#32
  let v25 : BitVec 1 := Scalar.cmpi .sgt v23 c0_i32_10
  let v26 : BitVec 32 := Scalar.extui v25
  let c0_i32_11 : BitVec 32 := 0#32
  let v27 : BitVec 1 := Scalar.cmpi .slt v23 c0_i32_11
  let v28 : BitVec 32 := Scalar.extui v27
  let v29 : BitVec 32 := Scalar.subi v26 v28
  let c4_i32_9 : BitVec 32 := 4#32
  let c0_i32_12 : BitVec 32 := 0#32
  let v30 : BitVec 1 := Scalar.cmpi .sgt c4_i32_9 c0_i32_12
  let v31 : BitVec 32 := Scalar.extui v30
  let c0_i32_13 : BitVec 32 := 0#32
  let v32 : BitVec 1 := Scalar.cmpi .slt c4_i32_9 c0_i32_13
  let v33 : BitVec 32 := Scalar.extui v32
  let v34 : BitVec 32 := Scalar.subi v31 v33
  let v35 : BitVec 1 := Scalar.cmpi .ne v29 v34
  let v36 : BitVec 32 := Scalar.remsi v23 c4_i32_9
  let c0_i32_14 : BitVec 32 := 0#32
  let v37 : BitVec 1 := Scalar.cmpi .ne v36 c0_i32_14
  let v38 : BitVec 1 := Scalar.andi v35 v37
  let v24 : BitVec 32 := Scalar.divsi v23 c4_i32_9
  let c1_i32_15 : BitVec 32 := 1#32
  let v39 : BitVec 32 := Scalar.subi v24 c1_i32_15
  let v40 : BitVec 32 := Scalar.select v38 v39 v24
  let c8_i32_72 : BitVec 32 := 8#32
  let v130 : BitVec 32 := Scalar.muli v40 c8_i32_72
  let v131 : BitVec 32 := Scalar.addi c0_i32_73 v130
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let c4_i32_74 : BitVec 32 := 4#32
  let v132 : BitVec 32 := Scalar.muli v8 c4_i32_74
  let v133 : BitVec 32 := Scalar.addi v131 v132
  let c0_i32_16 : BitVec 32 := 0#32
  let v41 : BitVec 1 := Scalar.cmpi .eq v40 c0_i32_16
  let c7_i32 : BitVec 32 := 7#32
  let v42 : BitVec 32 := Scalar.subi c7_i32 v23
  let v43 : BitVec 32 := Scalar.select v41 v23 v42
  let c1_i32_75 : BitVec 32 := 1#32
  let v134 : BitVec 32 := Scalar.muli v43 c1_i32_75
  let v135 : BitVec 32 := Scalar.addi v133 v134
  v135.toNat
def k0_cond3 (i : grid0.Coords) : BitVec 1 :=
  let arg0 : BitVec 32 := BitVec.ofNat 32 (i 0).val
  let c0_i32_54 : BitVec 32 := 0#32
  let v105 : BitVec 1 := Scalar.cmpi .eq arg0 c0_i32_54
  let arg1 : BitVec 32 := BitVec.ofNat 32 (i 1).val
  let c15_i32_55 : BitVec 32 := 15#32
  let v106 : BitVec 1 := Scalar.cmpi .eq arg1 c15_i32_55
  let v107 : BitVec 1 := Scalar.andi v105 v106
  let v108 : BitVec 32 := Scalar.extui v107
  let c0_i32_56 : BitVec 32 := 0#32
  let v109 : BitVec 1 := Scalar.cmpi .ne v108 c0_i32_56
  v109

def k0_off1 (v12 : BitVec 32) : Fin 3 → Nat :=
  let v119 : Index := Scalar.indexCast v12
  let c0_63 : Index := 0#32
  let c0_64 : Index := 0#32
  ![v119.toNat, 0, 0]
def k0_off2 (v12 : BitVec 32) : Fin 3 → Nat :=
  let c4_i32_34 : BitVec 32 := 4#32
  let v76 : BitVec 32 := Scalar.addi v12 c4_i32_34
  let c8_i32_35 : BitVec 32 := 8#32
  let c0_i32_36 : BitVec 32 := 0#32
  let v77 : BitVec 1 := Scalar.cmpi .eq c8_i32_35 c0_i32_36
  let c1_i32_37 : BitVec 32 := 1#32
  let v78 : BitVec 32 := Scalar.select v77 c1_i32_37 c8_i32_35
  let v79 : BitVec 32 := Scalar.remsi v76 v78
  let c0_i32_39 : BitVec 32 := 0#32
  let v81 : BitVec 1 := Scalar.cmpi .slt v79 c0_i32_39
  let c0_i32_40 : BitVec 32 := 0#32
  let v82 : BitVec 1 := Scalar.cmpi .slt v78 c0_i32_40
  let v83 : BitVec 1 := Scalar.xori v81 v82
  let c0_i32_38 : BitVec 32 := 0#32
  let v80 : BitVec 1 := Scalar.cmpi .ne v79 c0_i32_38
  let v84 : BitVec 1 := Scalar.andi v83 v80
  let v85 : BitVec 32 := Scalar.addi v79 v78
  let v86 : BitVec 32 := Scalar.select v84 v85 v79
  let c0_i32_71 : BitVec 32 := 0#32
  let c0_i32_72 : BitVec 32 := 0#32
  ![v86.toNat, 0, 0]
def k0_off3 (v12 : BitVec 32) : Fin 3 → Nat :=
  let c0_i32_73 : BitVec 32 := 0#32
  let c0_i32_74 : BitVec 32 := 0#32
  ![v12.toNat, 0, 0]
def k0_dev4 (d3 : Dev nD) : Nat :=
  let c0_i32_68 : BitVec 32 := 0#32
  let v3 : BitVec 32 := Dev.word d3
  let c8_i32 : BitVec 32 := 8#32
  let v4 : BitVec 32 := Scalar.divsi v3 c8_i32
  let c2_i32 : BitVec 32 := 2#32
  let v5 : BitVec 32 := Scalar.remsi v4 c2_i32
  let c8_i32_67 : BitVec 32 := 8#32
  let v123 : BitVec 32 := Scalar.muli v5 c8_i32_67
  let v124 : BitVec 32 := Scalar.addi c0_i32_68 v123
  let c1_i32_33 : BitVec 32 := 1#32
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let v75 : BitVec 32 := Scalar.subi c1_i32_33 v8
  let c4_i32_69 : BitVec 32 := 4#32
  let v125 : BitVec 32 := Scalar.muli v75 c4_i32_69
  let v126 : BitVec 32 := Scalar.addi v124 v125
  let v9 : BitVec 32 := Dev.word d3
  let c1_i32_2 : BitVec 32 := 1#32
  let v10 : BitVec 32 := Scalar.divsi v9 c1_i32_2
  let c4_i32_1 : BitVec 32 := 4#32
  let v11 : BitVec 32 := Scalar.remsi v10 c4_i32_1
  let c1_i32_70 : BitVec 32 := 1#32
  let v127 : BitVec 32 := Scalar.muli v11 c1_i32_70
  let v128 : BitVec 32 := Scalar.addi v126 v127
  v128.toNat
def k0_cond4 (i : grid0.Coords) : BitVec 1 :=
  let arg0 : BitVec 32 := BitVec.ofNat 32 (i 0).val
  let c1_i32_57 : BitVec 32 := 1#32
  let v110 : BitVec 1 := Scalar.cmpi .eq arg0 c1_i32_57
  let arg1 : BitVec 32 := BitVec.ofNat 32 (i 1).val
  let c15_i32_58 : BitVec 32 := 15#32
  let v111 : BitVec 1 := Scalar.cmpi .eq arg1 c15_i32_58
  let v112 : BitVec 1 := Scalar.andi v110 v111
  let v113 : BitVec 32 := Scalar.extui v112
  let c0_i32_59 : BitVec 32 := 0#32
  let v114 : BitVec 1 := Scalar.cmpi .ne v113 c0_i32_59
  v114

def k0_off4 (v12 : BitVec 32) : Fin 3 → Nat :=
  let v119 : Index := Scalar.indexCast v12
  let c0_63 : Index := 0#32
  let c2048 : Index := 2048#32
  ![v119.toNat, 0, 2048]
def k0_off5 (v12 : BitVec 32) : Fin 3 → Nat :=
  let c4_i32_34 : BitVec 32 := 4#32
  let v76 : BitVec 32 := Scalar.addi v12 c4_i32_34
  let c8_i32_35 : BitVec 32 := 8#32
  let c0_i32_36 : BitVec 32 := 0#32
  let v77 : BitVec 1 := Scalar.cmpi .eq c8_i32_35 c0_i32_36
  let c1_i32_37 : BitVec 32 := 1#32
  let v78 : BitVec 32 := Scalar.select v77 c1_i32_37 c8_i32_35
  let v79 : BitVec 32 := Scalar.remsi v76 v78
  let c0_i32_39 : BitVec 32 := 0#32
  let v81 : BitVec 1 := Scalar.cmpi .slt v79 c0_i32_39
  let c0_i32_40 : BitVec 32 := 0#32
  let v82 : BitVec 1 := Scalar.cmpi .slt v78 c0_i32_40
  let v83 : BitVec 1 := Scalar.xori v81 v82
  let c0_i32_38 : BitVec 32 := 0#32
  let v80 : BitVec 1 := Scalar.cmpi .ne v79 c0_i32_38
  let v84 : BitVec 1 := Scalar.andi v83 v80
  let v85 : BitVec 32 := Scalar.addi v79 v78
  let v86 : BitVec 32 := Scalar.select v84 v85 v79
  let c0_i32_70 : BitVec 32 := 0#32
  let c2048_i32 : BitVec 32 := 2048#32
  ![v86.toNat, 0, 2048]
def k0_off6 (v12 : BitVec 32) : Fin 3 → Nat :=
  let c0_i32_71 : BitVec 32 := 0#32
  let c2048_i32_72 : BitVec 32 := 2048#32
  ![v12.toNat, 0, 2048]
def k0_dev5 (d3 : Dev nD) : Nat :=
  let c0_i32_67 : BitVec 32 := 0#32
  let v3 : BitVec 32 := Dev.word d3
  let c8_i32 : BitVec 32 := 8#32
  let v4 : BitVec 32 := Scalar.divsi v3 c8_i32
  let c2_i32 : BitVec 32 := 2#32
  let v5 : BitVec 32 := Scalar.remsi v4 c2_i32
  let c8_i32_66 : BitVec 32 := 8#32
  let v123 : BitVec 32 := Scalar.muli v5 c8_i32_66
  let v124 : BitVec 32 := Scalar.addi c0_i32_67 v123
  let c1_i32_33 : BitVec 32 := 1#32
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let v75 : BitVec 32 := Scalar.subi c1_i32_33 v8
  let c4_i32_68 : BitVec 32 := 4#32
  let v125 : BitVec 32 := Scalar.muli v75 c4_i32_68
  let v126 : BitVec 32 := Scalar.addi v124 v125
  let v9 : BitVec 32 := Dev.word d3
  let c1_i32_2 : BitVec 32 := 1#32
  let v10 : BitVec 32 := Scalar.divsi v9 c1_i32_2
  let c4_i32_1 : BitVec 32 := 4#32
  let v11 : BitVec 32 := Scalar.remsi v10 c4_i32_1
  let c1_i32_69 : BitVec 32 := 1#32
  let v127 : BitVec 32 := Scalar.muli v11 c1_i32_69
  let v128 : BitVec 32 := Scalar.addi v126 v127
  v128.toNat
def k0_cond5 (i : grid0.Coords) : BitVec 1 :=
  let arg0 : BitVec 32 := BitVec.ofNat 32 (i 0).val
  let c1_i32 : BitVec 32 := 1#32
  let v0 : BitVec 1 := Scalar.cmpi .eq arg0 c1_i32
  let arg1 : BitVec 32 := BitVec.ofNat 32 (i 1).val
  let c15_i32 : BitVec 32 := 15#32
  let v1 : BitVec 1 := Scalar.cmpi .eq arg1 c15_i32
  let v2 : BitVec 1 := Scalar.andi v0 v1
  let v115 : BitVec 32 := Scalar.extui v2
  let c0_i32_60 : BitVec 32 := 0#32
  let v116 : BitVec 1 := Scalar.cmpi .ne v115 c0_i32_60
  v116

def k0_off7 (v12 : BitVec 32) : Fin 3 → Nat :=
  let c0_i32_64 : BitVec 32 := 0#32
  let c0_i32_65 : BitVec 32 := 0#32
  ![v12.toNat, 0, 0]
def k0_off8 (v12 : BitVec 32) : Fin 3 → Nat :=
  let c4_i32_34 : BitVec 32 := 4#32
  let v76 : BitVec 32 := Scalar.addi v12 c4_i32_34
  let c8_i32_35 : BitVec 32 := 8#32
  let c0_i32_36 : BitVec 32 := 0#32
  let v77 : BitVec 1 := Scalar.cmpi .eq c8_i32_35 c0_i32_36
  let c1_i32_37 : BitVec 32 := 1#32
  let v78 : BitVec 32 := Scalar.select v77 c1_i32_37 c8_i32_35
  let v79 : BitVec 32 := Scalar.remsi v76 v78
  let c0_i32_39 : BitVec 32 := 0#32
  let v81 : BitVec 1 := Scalar.cmpi .slt v79 c0_i32_39
  let c0_i32_40 : BitVec 32 := 0#32
  let v82 : BitVec 1 := Scalar.cmpi .slt v78 c0_i32_40
  let v83 : BitVec 1 := Scalar.xori v81 v82
  let c0_i32_38 : BitVec 32 := 0#32
  let v80 : BitVec 1 := Scalar.cmpi .ne v79 c0_i32_38
  let v84 : BitVec 1 := Scalar.andi v83 v80
  let v85 : BitVec 32 := Scalar.addi v79 v78
  let v86 : BitVec 32 := Scalar.select v84 v85 v79
  let c0_i32_66 : BitVec 32 := 0#32
  let c0_i32_67 : BitVec 32 := 0#32
  ![v86.toNat, 0, 0]
def k0_off9 (v12 : BitVec 32) : Fin 3 → Nat :=
  let c0_i32_81 : BitVec 32 := 0#32
  let c2048_i32 : BitVec 32 := 2048#32
  ![v12.toNat, 0, 2048]
def k0_off10 (v12 : BitVec 32) : Fin 3 → Nat :=
  let c4_i32_34 : BitVec 32 := 4#32
  let v76 : BitVec 32 := Scalar.addi v12 c4_i32_34
  let c8_i32_35 : BitVec 32 := 8#32
  let c0_i32_36 : BitVec 32 := 0#32
  let v77 : BitVec 1 := Scalar.cmpi .eq c8_i32_35 c0_i32_36
  let c1_i32_37 : BitVec 32 := 1#32
  let v78 : BitVec 32 := Scalar.select v77 c1_i32_37 c8_i32_35
  let v79 : BitVec 32 := Scalar.remsi v76 v78
  let c0_i32_39 : BitVec 32 := 0#32
  let v81 : BitVec 1 := Scalar.cmpi .slt v79 c0_i32_39
  let c0_i32_40 : BitVec 32 := 0#32
  let v82 : BitVec 1 := Scalar.cmpi .slt v78 c0_i32_40
  let v83 : BitVec 1 := Scalar.xori v81 v82
  let c0_i32_38 : BitVec 32 := 0#32
  let v80 : BitVec 1 := Scalar.cmpi .ne v79 c0_i32_38
  let v84 : BitVec 1 := Scalar.andi v83 v80
  let v85 : BitVec 32 := Scalar.addi v79 v78
  let v86 : BitVec 32 := Scalar.select v84 v85 v79
  let c0_i32_82 : BitVec 32 := 0#32
  let c2048_i32_83 : BitVec 32 := 2048#32
  ![v86.toNat, 0, 2048]
def k0_off11 (v12 : BitVec 32) : Fin 3 → Nat :=
  let v153 : Index := Scalar.indexCast v12
  let c0_94 : Index := 0#32
  let c0_95 : Index := 0#32
  ![v153.toNat, 0, 0]
def k0_off12 (v12 : BitVec 32) : Fin 3 → Nat :=
  let c4_i32_34 : BitVec 32 := 4#32
  let v76 : BitVec 32 := Scalar.addi v12 c4_i32_34
  let c8_i32_35 : BitVec 32 := 8#32
  let c0_i32_36 : BitVec 32 := 0#32
  let v77 : BitVec 1 := Scalar.cmpi .eq c8_i32_35 c0_i32_36
  let c1_i32_37 : BitVec 32 := 1#32
  let v78 : BitVec 32 := Scalar.select v77 c1_i32_37 c8_i32_35
  let v79 : BitVec 32 := Scalar.remsi v76 v78
  let c0_i32_39 : BitVec 32 := 0#32
  let v81 : BitVec 1 := Scalar.cmpi .slt v79 c0_i32_39
  let c0_i32_40 : BitVec 32 := 0#32
  let v82 : BitVec 1 := Scalar.cmpi .slt v78 c0_i32_40
  let v83 : BitVec 1 := Scalar.xori v81 v82
  let c0_i32_38 : BitVec 32 := 0#32
  let v80 : BitVec 1 := Scalar.cmpi .ne v79 c0_i32_38
  let v84 : BitVec 1 := Scalar.andi v83 v80
  let v85 : BitVec 32 := Scalar.addi v79 v78
  let v86 : BitVec 32 := Scalar.select v84 v85 v79
  let v157 : Index := Scalar.indexCast v86
  let c0_96 : Index := 0#32
  let c0_97 : Index := 0#32
  ![v157.toNat, 0, 0]
def k0_cond6 (d3 : Dev nD) : BitVec 1 :=
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let c0_i32_100 : BitVec 32 := 0#32
  let v167 : BitVec 1 := Scalar.cmpi .eq v8 c0_i32_100
  let v168 : BitVec 32 := Scalar.extui v167
  let c0_i32_101 : BitVec 32 := 0#32
  let v169 : BitVec 1 := Scalar.cmpi .ne v168 c0_i32_101
  v169

def k0_off13 (v12 : BitVec 32) (c0_i32_104 : BitVec 32) : Fin 3 → Nat :=
  let v173 : BitVec 32 := Scalar.subi v12 c0_i32_104
  let c8_i32_105 : BitVec 32 := 8#32
  let c0_i32_106 : BitVec 32 := 0#32
  let v174 : BitVec 1 := Scalar.cmpi .eq c8_i32_105 c0_i32_106
  let c1_i32_107 : BitVec 32 := 1#32
  let v175 : BitVec 32 := Scalar.select v174 c1_i32_107 c8_i32_105
  let v176 : BitVec 32 := Scalar.remsi v173 v175
  let c0_i32_109 : BitVec 32 := 0#32
  let v178 : BitVec 1 := Scalar.cmpi .slt v176 c0_i32_109
  let c0_i32_110 : BitVec 32 := 0#32
  let v179 : BitVec 1 := Scalar.cmpi .slt v175 c0_i32_110
  let v180 : BitVec 1 := Scalar.xori v178 v179
  let c0_i32_108 : BitVec 32 := 0#32
  let v177 : BitVec 1 := Scalar.cmpi .ne v176 c0_i32_108
  let v181 : BitVec 1 := Scalar.andi v180 v177
  let v182 : BitVec 32 := Scalar.addi v176 v175
  let v183 : BitVec 32 := Scalar.select v181 v182 v176
  let c0_i32_124 : BitVec 32 := 0#32
  let c0_i32_125 : BitVec 32 := 0#32
  ![v183.toNat, 0, 0]
def k0_dev6 (d3 : Dev nD) (v12 : BitVec 32) : Nat :=
  let c0_i32_121 : BitVec 32 := 0#32
  let c1_i32_3 : BitVec 32 := 1#32
  let v13 : BitVec 32 := Scalar.addi v12 c1_i32_3
  let c8_i32_4 : BitVec 32 := 8#32
  let c0_i32 : BitVec 32 := 0#32
  let v14 : BitVec 1 := Scalar.cmpi .eq c8_i32_4 c0_i32
  let c1_i32_5 : BitVec 32 := 1#32
  let v15 : BitVec 32 := Scalar.select v14 c1_i32_5 c8_i32_4
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let c0_i32_10 : BitVec 32 := 0#32
  let v25 : BitVec 1 := Scalar.cmpi .sgt v23 c0_i32_10
  let v26 : BitVec 32 := Scalar.extui v25
  let c0_i32_11 : BitVec 32 := 0#32
  let v27 : BitVec 1 := Scalar.cmpi .slt v23 c0_i32_11
  let v28 : BitVec 32 := Scalar.extui v27
  let v29 : BitVec 32 := Scalar.subi v26 v28
  let c4_i32_9 : BitVec 32 := 4#32
  let c0_i32_12 : BitVec 32 := 0#32
  let v30 : BitVec 1 := Scalar.cmpi .sgt c4_i32_9 c0_i32_12
  let v31 : BitVec 32 := Scalar.extui v30
  let c0_i32_13 : BitVec 32 := 0#32
  let v32 : BitVec 1 := Scalar.cmpi .slt c4_i32_9 c0_i32_13
  let v33 : BitVec 32 := Scalar.extui v32
  let v34 : BitVec 32 := Scalar.subi v31 v33
  let v35 : BitVec 1 := Scalar.cmpi .ne v29 v34
  let v36 : BitVec 32 := Scalar.remsi v23 c4_i32_9
  let c0_i32_14 : BitVec 32 := 0#32
  let v37 : BitVec 1 := Scalar.cmpi .ne v36 c0_i32_14
  let v38 : BitVec 1 := Scalar.andi v35 v37
  let v24 : BitVec 32 := Scalar.divsi v23 c4_i32_9
  let c1_i32_15 : BitVec 32 := 1#32
  let v39 : BitVec 32 := Scalar.subi v24 c1_i32_15
  let v40 : BitVec 32 := Scalar.select v38 v39 v24
  let c8_i32_120 : BitVec 32 := 8#32
  let v195 : BitVec 32 := Scalar.muli v40 c8_i32_120
  let v196 : BitVec 32 := Scalar.addi c0_i32_121 v195
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let c4_i32_122 : BitVec 32 := 4#32
  let v197 : BitVec 32 := Scalar.muli v8 c4_i32_122
  let v198 : BitVec 32 := Scalar.addi v196 v197
  let c0_i32_16 : BitVec 32 := 0#32
  let v41 : BitVec 1 := Scalar.cmpi .eq v40 c0_i32_16
  let c7_i32 : BitVec 32 := 7#32
  let v42 : BitVec 32 := Scalar.subi c7_i32 v23
  let v43 : BitVec 32 := Scalar.select v41 v23 v42
  let c1_i32_123 : BitVec 32 := 1#32
  let v199 : BitVec 32 := Scalar.muli v43 c1_i32_123
  let v200 : BitVec 32 := Scalar.addi v198 v199
  v200.toNat
def k0_off14 (v12 : BitVec 32) (c0_i32_111 : BitVec 32) : Fin 3 → Nat :=
  let v184 : BitVec 32 := Scalar.addi v12 c0_i32_111
  let c8_i32_112 : BitVec 32 := 8#32
  let c0_i32_113 : BitVec 32 := 0#32
  let v185 : BitVec 1 := Scalar.cmpi .eq c8_i32_112 c0_i32_113
  let c1_i32_114 : BitVec 32 := 1#32
  let v186 : BitVec 32 := Scalar.select v185 c1_i32_114 c8_i32_112
  let v187 : BitVec 32 := Scalar.remsi v184 v186
  let c0_i32_116 : BitVec 32 := 0#32
  let v189 : BitVec 1 := Scalar.cmpi .slt v187 c0_i32_116
  let c0_i32_117 : BitVec 32 := 0#32
  let v190 : BitVec 1 := Scalar.cmpi .slt v186 c0_i32_117
  let v191 : BitVec 1 := Scalar.xori v189 v190
  let c0_i32_115 : BitVec 32 := 0#32
  let v188 : BitVec 1 := Scalar.cmpi .ne v187 c0_i32_115
  let v192 : BitVec 1 := Scalar.andi v191 v188
  let v193 : BitVec 32 := Scalar.addi v187 v186
  let v194 : BitVec 32 := Scalar.select v192 v193 v187
  let c0_i32_134 : BitVec 32 := 0#32
  let c0_i32_135 : BitVec 32 := 0#32
  ![v194.toNat, 0, 0]
def k0_dev7 (d3 : Dev nD) (v12 : BitVec 32) : Nat :=
  let c0_i32_131 : BitVec 32 := 0#32
  let c1_i32_17 : BitVec 32 := 1#32
  let v44 : BitVec 32 := Scalar.subi v12 c1_i32_17
  let c8_i32_18 : BitVec 32 := 8#32
  let c0_i32_19 : BitVec 32 := 0#32
  let v45 : BitVec 1 := Scalar.cmpi .eq c8_i32_18 c0_i32_19
  let c1_i32_20 : BitVec 32 := 1#32
  let v46 : BitVec 32 := Scalar.select v45 c1_i32_20 c8_i32_18
  let v47 : BitVec 32 := Scalar.remsi v44 v46
  let c0_i32_22 : BitVec 32 := 0#32
  let v49 : BitVec 1 := Scalar.cmpi .slt v47 c0_i32_22
  let c0_i32_23 : BitVec 32 := 0#32
  let v50 : BitVec 1 := Scalar.cmpi .slt v46 c0_i32_23
  let v51 : BitVec 1 := Scalar.xori v49 v50
  let c0_i32_21 : BitVec 32 := 0#32
  let v48 : BitVec 1 := Scalar.cmpi .ne v47 c0_i32_21
  let v52 : BitVec 1 := Scalar.andi v51 v48
  let v53 : BitVec 32 := Scalar.addi v47 v46
  let v54 : BitVec 32 := Scalar.select v52 v53 v47
  let c0_i32_25 : BitVec 32 := 0#32
  let v56 : BitVec 1 := Scalar.cmpi .sgt v54 c0_i32_25
  let v57 : BitVec 32 := Scalar.extui v56
  let c0_i32_26 : BitVec 32 := 0#32
  let v58 : BitVec 1 := Scalar.cmpi .slt v54 c0_i32_26
  let v59 : BitVec 32 := Scalar.extui v58
  let v60 : BitVec 32 := Scalar.subi v57 v59
  let c4_i32_24 : BitVec 32 := 4#32
  let c0_i32_27 : BitVec 32 := 0#32
  let v61 : BitVec 1 := Scalar.cmpi .sgt c4_i32_24 c0_i32_27
  let v62 : BitVec 32 := Scalar.extui v61
  let c0_i32_28 : BitVec 32 := 0#32
  let v63 : BitVec 1 := Scalar.cmpi .slt c4_i32_24 c0_i32_28
  let v64 : BitVec 32 := Scalar.extui v63
  let v65 : BitVec 32 := Scalar.subi v62 v64
  let v66 : BitVec 1 := Scalar.cmpi .ne v60 v65
  let v67 : BitVec 32 := Scalar.remsi v54 c4_i32_24
  let c0_i32_29 : BitVec 32 := 0#32
  let v68 : BitVec 1 := Scalar.cmpi .ne v67 c0_i32_29
  let v69 : BitVec 1 := Scalar.andi v66 v68
  let v55 : BitVec 32 := Scalar.divsi v54 c4_i32_24
  let c1_i32_30 : BitVec 32 := 1#32
  let v70 : BitVec 32 := Scalar.subi v55 c1_i32_30
  let v71 : BitVec 32 := Scalar.select v69 v70 v55
  let c8_i32_130 : BitVec 32 := 8#32
  let v209 : BitVec 32 := Scalar.muli v71 c8_i32_130
  let v210 : BitVec 32 := Scalar.addi c0_i32_131 v209
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let c4_i32_132 : BitVec 32 := 4#32
  let v211 : BitVec 32 := Scalar.muli v8 c4_i32_132
  let v212 : BitVec 32 := Scalar.addi v210 v211
  let c0_i32_31 : BitVec 32 := 0#32
  let v72 : BitVec 1 := Scalar.cmpi .eq v71 c0_i32_31
  let c7_i32_32 : BitVec 32 := 7#32
  let v73 : BitVec 32 := Scalar.subi c7_i32_32 v54
  let v74 : BitVec 32 := Scalar.select v72 v54 v73
  let c1_i32_133 : BitVec 32 := 1#32
  let v213 : BitVec 32 := Scalar.muli v74 c1_i32_133
  let v214 : BitVec 32 := Scalar.addi v212 v213
  v214.toNat
def k0_off15 (v12 : BitVec 32) : Fin 3 → Nat :=
  let v223 : Index := Scalar.indexCast v12
  let c0_138 : Index := 0#32
  let c0_139 : Index := 0#32
  ![v223.toNat, 0, 0]
def k0_off16 (v12 : BitVec 32) : Fin 2 → Nat :=
  let c512_i32 : BitVec 32 := 512#32
  let v230 : BitVec 32 := Scalar.muli v12 c512_i32
  let c0_i32_145 : BitVec 32 := 0#32
  ![v230.toNat, 0]
def k0_off17 (v12 : BitVec 32) : Fin 3 → Nat :=
  let v236 : Index := Scalar.indexCast v12
  let c0_148 : Index := 0#32
  let c2048 : Index := 2048#32
  ![v236.toNat, 0, 2048]
def k0_off18 (v12 : BitVec 32) : Fin 2 → Nat :=
  let c512_i32_151 : BitVec 32 := 512#32
  let v243 : BitVec 32 := Scalar.muli v12 c512_i32_151
  let c2048_i32_154 : BitVec 32 := 2048#32
  ![v243.toNat, 2048]
def k0_off19 (v12 : BitVec 32) (c0_i32_192 : BitVec 32) : Fin 3 → Nat :=
  let c1_i32_191 : BitVec 32 := 1#32
  let v285 : BitVec 32 := Scalar.subi v12 c1_i32_191
  let v286 : BitVec 32 := Scalar.subi v285 c0_i32_192
  let c8_i32_193 : BitVec 32 := 8#32
  let c0_i32_194 : BitVec 32 := 0#32
  let v287 : BitVec 1 := Scalar.cmpi .eq c8_i32_193 c0_i32_194
  let c1_i32_195 : BitVec 32 := 1#32
  let v288 : BitVec 32 := Scalar.select v287 c1_i32_195 c8_i32_193
  let v289 : BitVec 32 := Scalar.remsi v286 v288
  let c0_i32_197 : BitVec 32 := 0#32
  let v291 : BitVec 1 := Scalar.cmpi .slt v289 c0_i32_197
  let c0_i32_198 : BitVec 32 := 0#32
  let v292 : BitVec 1 := Scalar.cmpi .slt v288 c0_i32_198
  let v293 : BitVec 1 := Scalar.xori v291 v292
  let c0_i32_196 : BitVec 32 := 0#32
  let v290 : BitVec 1 := Scalar.cmpi .ne v289 c0_i32_196
  let v294 : BitVec 1 := Scalar.andi v293 v290
  let v295 : BitVec 32 := Scalar.addi v289 v288
  let v296 : BitVec 32 := Scalar.select v294 v295 v289
  let c0_i32_213 : BitVec 32 := 0#32
  let c0_i32_214 : BitVec 32 := 0#32
  ![v296.toNat, 0, 0]
def k0_dev8 (d3 : Dev nD) : Nat :=
  let c0_i32_210 : BitVec 32 := 0#32
  let v3 : BitVec 32 := Dev.word d3
  let c8_i32 : BitVec 32 := 8#32
  let v4 : BitVec 32 := Scalar.divsi v3 c8_i32
  let c2_i32 : BitVec 32 := 2#32
  let v5 : BitVec 32 := Scalar.remsi v4 c2_i32
  let c8_i32_209 : BitVec 32 := 8#32
  let v309 : BitVec 32 := Scalar.muli v5 c8_i32_209
  let v310 : BitVec 32 := Scalar.addi c0_i32_210 v309
  let c1_i32_33 : BitVec 32 := 1#32
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let v75 : BitVec 32 := Scalar.subi c1_i32_33 v8
  let c4_i32_211 : BitVec 32 := 4#32
  let v311 : BitVec 32 := Scalar.muli v75 c4_i32_211
  let v312 : BitVec 32 := Scalar.addi v310 v311
  let v9 : BitVec 32 := Dev.word d3
  let c1_i32_2 : BitVec 32 := 1#32
  let v10 : BitVec 32 := Scalar.divsi v9 c1_i32_2
  let c4_i32_1 : BitVec 32 := 4#32
  let v11 : BitVec 32 := Scalar.remsi v10 c4_i32_1
  let c1_i32_212 : BitVec 32 := 1#32
  let v313 : BitVec 32 := Scalar.muli v11 c1_i32_212
  let v314 : BitVec 32 := Scalar.addi v312 v313
  v314.toNat
def k0_off20 (v12 : BitVec 32) (c0_i32_200 : BitVec 32) : Fin 3 → Nat :=
  let c1_i32_199 : BitVec 32 := 1#32
  let v297 : BitVec 32 := Scalar.addi v12 c1_i32_199
  let v298 : BitVec 32 := Scalar.addi v297 c0_i32_200
  let c8_i32_201 : BitVec 32 := 8#32
  let c0_i32_202 : BitVec 32 := 0#32
  let v299 : BitVec 1 := Scalar.cmpi .eq c8_i32_201 c0_i32_202
  let c1_i32_203 : BitVec 32 := 1#32
  let v300 : BitVec 32 := Scalar.select v299 c1_i32_203 c8_i32_201
  let v301 : BitVec 32 := Scalar.remsi v298 v300
  let c0_i32_205 : BitVec 32 := 0#32
  let v303 : BitVec 1 := Scalar.cmpi .slt v301 c0_i32_205
  let c0_i32_206 : BitVec 32 := 0#32
  let v304 : BitVec 1 := Scalar.cmpi .slt v300 c0_i32_206
  let v305 : BitVec 1 := Scalar.xori v303 v304
  let c0_i32_204 : BitVec 32 := 0#32
  let v302 : BitVec 1 := Scalar.cmpi .ne v301 c0_i32_204
  let v306 : BitVec 1 := Scalar.andi v305 v302
  let v307 : BitVec 32 := Scalar.addi v301 v300
  let v308 : BitVec 32 := Scalar.select v306 v307 v301
  let c0_i32_223 : BitVec 32 := 0#32
  let c0_i32_224 : BitVec 32 := 0#32
  ![v308.toNat, 0, 0]
def k0_dev9 (d3 : Dev nD) : Nat :=
  let c0_i32_220 : BitVec 32 := 0#32
  let v3 : BitVec 32 := Dev.word d3
  let c8_i32 : BitVec 32 := 8#32
  let v4 : BitVec 32 := Scalar.divsi v3 c8_i32
  let c2_i32 : BitVec 32 := 2#32
  let v5 : BitVec 32 := Scalar.remsi v4 c2_i32
  let c8_i32_219 : BitVec 32 := 8#32
  let v323 : BitVec 32 := Scalar.muli v5 c8_i32_219
  let v324 : BitVec 32 := Scalar.addi c0_i32_220 v323
  let c1_i32_33 : BitVec 32 := 1#32
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let v75 : BitVec 32 := Scalar.subi c1_i32_33 v8
  let c4_i32_221 : BitVec 32 := 4#32
  let v325 : BitVec 32 := Scalar.muli v75 c4_i32_221
  let v326 : BitVec 32 := Scalar.addi v324 v325
  let v9 : BitVec 32 := Dev.word d3
  let c1_i32_2 : BitVec 32 := 1#32
  let v10 : BitVec 32 := Scalar.divsi v9 c1_i32_2
  let c4_i32_1 : BitVec 32 := 4#32
  let v11 : BitVec 32 := Scalar.remsi v10 c4_i32_1
  let c1_i32_222 : BitVec 32 := 1#32
  let v327 : BitVec 32 := Scalar.muli v11 c1_i32_222
  let v328 : BitVec 32 := Scalar.addi v326 v327
  v328.toNat
def k0_dev10 (d3 : Dev nD) (v12 : BitVec 32) : Nat :=
  let c0_i32_244 : BitVec 32 := 0#32
  let c1_i32_3 : BitVec 32 := 1#32
  let v13 : BitVec 32 := Scalar.addi v12 c1_i32_3
  let c8_i32_4 : BitVec 32 := 8#32
  let c0_i32 : BitVec 32 := 0#32
  let v14 : BitVec 1 := Scalar.cmpi .eq c8_i32_4 c0_i32
  let c1_i32_5 : BitVec 32 := 1#32
  let v15 : BitVec 32 := Scalar.select v14 c1_i32_5 c8_i32_4
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let c0_i32_10 : BitVec 32 := 0#32
  let v25 : BitVec 1 := Scalar.cmpi .sgt v23 c0_i32_10
  let v26 : BitVec 32 := Scalar.extui v25
  let c0_i32_11 : BitVec 32 := 0#32
  let v27 : BitVec 1 := Scalar.cmpi .slt v23 c0_i32_11
  let v28 : BitVec 32 := Scalar.extui v27
  let v29 : BitVec 32 := Scalar.subi v26 v28
  let c4_i32_9 : BitVec 32 := 4#32
  let c0_i32_12 : BitVec 32 := 0#32
  let v30 : BitVec 1 := Scalar.cmpi .sgt c4_i32_9 c0_i32_12
  let v31 : BitVec 32 := Scalar.extui v30
  let c0_i32_13 : BitVec 32 := 0#32
  let v32 : BitVec 1 := Scalar.cmpi .slt c4_i32_9 c0_i32_13
  let v33 : BitVec 32 := Scalar.extui v32
  let v34 : BitVec 32 := Scalar.subi v31 v33
  let v35 : BitVec 1 := Scalar.cmpi .ne v29 v34
  let v36 : BitVec 32 := Scalar.remsi v23 c4_i32_9
  let c0_i32_14 : BitVec 32 := 0#32
  let v37 : BitVec 1 := Scalar.cmpi .ne v36 c0_i32_14
  let v38 : BitVec 1 := Scalar.andi v35 v37
  let v24 : BitVec 32 := Scalar.divsi v23 c4_i32_9
  let c1_i32_15 : BitVec 32 := 1#32
  let v39 : BitVec 32 := Scalar.subi v24 c1_i32_15
  let v40 : BitVec 32 := Scalar.select v38 v39 v24
  let c8_i32_243 : BitVec 32 := 8#32
  let v359 : BitVec 32 := Scalar.muli v40 c8_i32_243
  let v360 : BitVec 32 := Scalar.addi c0_i32_244 v359
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let c4_i32_245 : BitVec 32 := 4#32
  let v361 : BitVec 32 := Scalar.muli v8 c4_i32_245
  let v362 : BitVec 32 := Scalar.addi v360 v361
  let c0_i32_16 : BitVec 32 := 0#32
  let v41 : BitVec 1 := Scalar.cmpi .eq v40 c0_i32_16
  let c7_i32 : BitVec 32 := 7#32
  let v42 : BitVec 32 := Scalar.subi c7_i32 v23
  let v43 : BitVec 32 := Scalar.select v41 v23 v42
  let c1_i32_246 : BitVec 32 := 1#32
  let v363 : BitVec 32 := Scalar.muli v43 c1_i32_246
  let v364 : BitVec 32 := Scalar.addi v362 v363
  v364.toNat
def k0_dev11 (d3 : Dev nD) (v12 : BitVec 32) : Nat :=
  let c0_i32_254 : BitVec 32 := 0#32
  let c1_i32_17 : BitVec 32 := 1#32
  let v44 : BitVec 32 := Scalar.subi v12 c1_i32_17
  let c8_i32_18 : BitVec 32 := 8#32
  let c0_i32_19 : BitVec 32 := 0#32
  let v45 : BitVec 1 := Scalar.cmpi .eq c8_i32_18 c0_i32_19
  let c1_i32_20 : BitVec 32 := 1#32
  let v46 : BitVec 32 := Scalar.select v45 c1_i32_20 c8_i32_18
  let v47 : BitVec 32 := Scalar.remsi v44 v46
  let c0_i32_22 : BitVec 32 := 0#32
  let v49 : BitVec 1 := Scalar.cmpi .slt v47 c0_i32_22
  let c0_i32_23 : BitVec 32 := 0#32
  let v50 : BitVec 1 := Scalar.cmpi .slt v46 c0_i32_23
  let v51 : BitVec 1 := Scalar.xori v49 v50
  let c0_i32_21 : BitVec 32 := 0#32
  let v48 : BitVec 1 := Scalar.cmpi .ne v47 c0_i32_21
  let v52 : BitVec 1 := Scalar.andi v51 v48
  let v53 : BitVec 32 := Scalar.addi v47 v46
  let v54 : BitVec 32 := Scalar.select v52 v53 v47
  let c0_i32_25 : BitVec 32 := 0#32
  let v56 : BitVec 1 := Scalar.cmpi .sgt v54 c0_i32_25
  let v57 : BitVec 32 := Scalar.extui v56
  let c0_i32_26 : BitVec 32 := 0#32
  let v58 : BitVec 1 := Scalar.cmpi .slt v54 c0_i32_26
  let v59 : BitVec 32 := Scalar.extui v58
  let v60 : BitVec 32 := Scalar.subi v57 v59
  let c4_i32_24 : BitVec 32 := 4#32
  let c0_i32_27 : BitVec 32 := 0#32
  let v61 : BitVec 1 := Scalar.cmpi .sgt c4_i32_24 c0_i32_27
  let v62 : BitVec 32 := Scalar.extui v61
  let c0_i32_28 : BitVec 32 := 0#32
  let v63 : BitVec 1 := Scalar.cmpi .slt c4_i32_24 c0_i32_28
  let v64 : BitVec 32 := Scalar.extui v63
  let v65 : BitVec 32 := Scalar.subi v62 v64
  let v66 : BitVec 1 := Scalar.cmpi .ne v60 v65
  let v67 : BitVec 32 := Scalar.remsi v54 c4_i32_24
  let c0_i32_29 : BitVec 32 := 0#32
  let v68 : BitVec 1 := Scalar.cmpi .ne v67 c0_i32_29
  let v69 : BitVec 1 := Scalar.andi v66 v68
  let v55 : BitVec 32 := Scalar.divsi v54 c4_i32_24
  let c1_i32_30 : BitVec 32 := 1#32
  let v70 : BitVec 32 := Scalar.subi v55 c1_i32_30
  let v71 : BitVec 32 := Scalar.select v69 v70 v55
  let c8_i32_253 : BitVec 32 := 8#32
  let v373 : BitVec 32 := Scalar.muli v71 c8_i32_253
  let v374 : BitVec 32 := Scalar.addi c0_i32_254 v373
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let c4_i32_255 : BitVec 32 := 4#32
  let v375 : BitVec 32 := Scalar.muli v8 c4_i32_255
  let v376 : BitVec 32 := Scalar.addi v374 v375
  let c0_i32_31 : BitVec 32 := 0#32
  let v72 : BitVec 1 := Scalar.cmpi .eq v71 c0_i32_31
  let c7_i32_32 : BitVec 32 := 7#32
  let v73 : BitVec 32 := Scalar.subi c7_i32_32 v54
  let v74 : BitVec 32 := Scalar.select v72 v54 v73
  let c1_i32_256 : BitVec 32 := 1#32
  let v377 : BitVec 32 := Scalar.muli v74 c1_i32_256
  let v378 : BitVec 32 := Scalar.addi v376 v377
  v378.toNat
def k0_off21 (v12 : BitVec 32) (c1_i32_227 : BitVec 32) : Fin 3 → Nat :=
  let v337 : BitVec 32 := Scalar.subi v12 c1_i32_227
  let c8_i32_228 : BitVec 32 := 8#32
  let c0_i32_229 : BitVec 32 := 0#32
  let v338 : BitVec 1 := Scalar.cmpi .eq c8_i32_228 c0_i32_229
  let c1_i32_230 : BitVec 32 := 1#32
  let v339 : BitVec 32 := Scalar.select v338 c1_i32_230 c8_i32_228
  let v340 : BitVec 32 := Scalar.remsi v337 v339
  let c0_i32_232 : BitVec 32 := 0#32
  let v342 : BitVec 1 := Scalar.cmpi .slt v340 c0_i32_232
  let c0_i32_233 : BitVec 32 := 0#32
  let v343 : BitVec 1 := Scalar.cmpi .slt v339 c0_i32_233
  let v344 : BitVec 1 := Scalar.xori v342 v343
  let c0_i32_231 : BitVec 32 := 0#32
  let v341 : BitVec 1 := Scalar.cmpi .ne v340 c0_i32_231
  let v345 : BitVec 1 := Scalar.andi v344 v341
  let v346 : BitVec 32 := Scalar.addi v340 v339
  let v347 : BitVec 32 := Scalar.select v345 v346 v340
  let v428 : Index := Scalar.indexCast v347
  let c0_300 : Index := 0#32
  let c0_301 : Index := 0#32
  ![v428.toNat, 0, 0]
def k0_off22 (v12 : BitVec 32) (c1_i32_227 : BitVec 32) : Fin 2 → Nat :=
  let v337 : BitVec 32 := Scalar.subi v12 c1_i32_227
  let c8_i32_228 : BitVec 32 := 8#32
  let c0_i32_229 : BitVec 32 := 0#32
  let v338 : BitVec 1 := Scalar.cmpi .eq c8_i32_228 c0_i32_229
  let c1_i32_230 : BitVec 32 := 1#32
  let v339 : BitVec 32 := Scalar.select v338 c1_i32_230 c8_i32_228
  let v340 : BitVec 32 := Scalar.remsi v337 v339
  let c0_i32_232 : BitVec 32 := 0#32
  let v342 : BitVec 1 := Scalar.cmpi .slt v340 c0_i32_232
  let c0_i32_233 : BitVec 32 := 0#32
  let v343 : BitVec 1 := Scalar.cmpi .slt v339 c0_i32_233
  let v344 : BitVec 1 := Scalar.xori v342 v343
  let c0_i32_231 : BitVec 32 := 0#32
  let v341 : BitVec 1 := Scalar.cmpi .ne v340 c0_i32_231
  let v345 : BitVec 1 := Scalar.andi v344 v341
  let v346 : BitVec 32 := Scalar.addi v340 v339
  let v347 : BitVec 32 := Scalar.select v345 v346 v340
  let c512_i32_305 : BitVec 32 := 512#32
  let v435 : BitVec 32 := Scalar.muli v347 c512_i32_305
  let c0_i32_308 : BitVec 32 := 0#32
  ![v435.toNat, 0]
def k0_off23 (v12 : BitVec 32) (c1_i32_227 : BitVec 32) : Fin 3 → Nat :=
  let v337 : BitVec 32 := Scalar.subi v12 c1_i32_227
  let c8_i32_228 : BitVec 32 := 8#32
  let c0_i32_229 : BitVec 32 := 0#32
  let v338 : BitVec 1 := Scalar.cmpi .eq c8_i32_228 c0_i32_229
  let c1_i32_230 : BitVec 32 := 1#32
  let v339 : BitVec 32 := Scalar.select v338 c1_i32_230 c8_i32_228
  let v340 : BitVec 32 := Scalar.remsi v337 v339
  let c0_i32_232 : BitVec 32 := 0#32
  let v342 : BitVec 1 := Scalar.cmpi .slt v340 c0_i32_232
  let c0_i32_233 : BitVec 32 := 0#32
  let v343 : BitVec 1 := Scalar.cmpi .slt v339 c0_i32_233
  let v344 : BitVec 1 := Scalar.xori v342 v343
  let c0_i32_231 : BitVec 32 := 0#32
  let v341 : BitVec 1 := Scalar.cmpi .ne v340 c0_i32_231
  let v345 : BitVec 1 := Scalar.andi v344 v341
  let v346 : BitVec 32 := Scalar.addi v340 v339
  let v347 : BitVec 32 := Scalar.select v345 v346 v340
  let v446 : Index := Scalar.indexCast v347
  let c0_316 : Index := 0#32
  let c2048_317 : Index := 2048#32
  ![v446.toNat, 0, 2048]
def k0_off24 (v12 : BitVec 32) (c1_i32_227 : BitVec 32) : Fin 2 → Nat :=
  let v337 : BitVec 32 := Scalar.subi v12 c1_i32_227
  let c8_i32_228 : BitVec 32 := 8#32
  let c0_i32_229 : BitVec 32 := 0#32
  let v338 : BitVec 1 := Scalar.cmpi .eq c8_i32_228 c0_i32_229
  let c1_i32_230 : BitVec 32 := 1#32
  let v339 : BitVec 32 := Scalar.select v338 c1_i32_230 c8_i32_228
  let v340 : BitVec 32 := Scalar.remsi v337 v339
  let c0_i32_232 : BitVec 32 := 0#32
  let v342 : BitVec 1 := Scalar.cmpi .slt v340 c0_i32_232
  let c0_i32_233 : BitVec 32 := 0#32
  let v343 : BitVec 1 := Scalar.cmpi .slt v339 c0_i32_233
  let v344 : BitVec 1 := Scalar.xori v342 v343
  let c0_i32_231 : BitVec 32 := 0#32
  let v341 : BitVec 1 := Scalar.cmpi .ne v340 c0_i32_231
  let v345 : BitVec 1 := Scalar.andi v344 v341
  let v346 : BitVec 32 := Scalar.addi v340 v339
  let v347 : BitVec 32 := Scalar.select v345 v346 v340
  let c512_i32_321 : BitVec 32 := 512#32
  let v453 : BitVec 32 := Scalar.muli v347 c512_i32_321
  let c2048_i32_324 : BitVec 32 := 2048#32
  ![v453.toNat, 2048]
def k0_off25 (v12 : BitVec 32) (c1_i32_234 : BitVec 32) : Fin 3 → Nat :=
  let v348 : BitVec 32 := Scalar.addi v12 c1_i32_234
  let c8_i32_235 : BitVec 32 := 8#32
  let c0_i32_236 : BitVec 32 := 0#32
  let v349 : BitVec 1 := Scalar.cmpi .eq c8_i32_235 c0_i32_236
  let c1_i32_237 : BitVec 32 := 1#32
  let v350 : BitVec 32 := Scalar.select v349 c1_i32_237 c8_i32_235
  let v351 : BitVec 32 := Scalar.remsi v348 v350
  let c0_i32_239 : BitVec 32 := 0#32
  let v353 : BitVec 1 := Scalar.cmpi .slt v351 c0_i32_239
  let c0_i32_240 : BitVec 32 := 0#32
  let v354 : BitVec 1 := Scalar.cmpi .slt v350 c0_i32_240
  let v355 : BitVec 1 := Scalar.xori v353 v354
  let c0_i32_238 : BitVec 32 := 0#32
  let v352 : BitVec 1 := Scalar.cmpi .ne v351 c0_i32_238
  let v356 : BitVec 1 := Scalar.andi v355 v352
  let v357 : BitVec 32 := Scalar.addi v351 v350
  let v358 : BitVec 32 := Scalar.select v356 v357 v351
  let v464 : Index := Scalar.indexCast v358
  let c0_332 : Index := 0#32
  let c0_333 : Index := 0#32
  ![v464.toNat, 0, 0]
def k0_off26 (v12 : BitVec 32) (c1_i32_234 : BitVec 32) : Fin 2 → Nat :=
  let v348 : BitVec 32 := Scalar.addi v12 c1_i32_234
  let c8_i32_235 : BitVec 32 := 8#32
  let c0_i32_236 : BitVec 32 := 0#32
  let v349 : BitVec 1 := Scalar.cmpi .eq c8_i32_235 c0_i32_236
  let c1_i32_237 : BitVec 32 := 1#32
  let v350 : BitVec 32 := Scalar.select v349 c1_i32_237 c8_i32_235
  let v351 : BitVec 32 := Scalar.remsi v348 v350
  let c0_i32_239 : BitVec 32 := 0#32
  let v353 : BitVec 1 := Scalar.cmpi .slt v351 c0_i32_239
  let c0_i32_240 : BitVec 32 := 0#32
  let v354 : BitVec 1 := Scalar.cmpi .slt v350 c0_i32_240
  let v355 : BitVec 1 := Scalar.xori v353 v354
  let c0_i32_238 : BitVec 32 := 0#32
  let v352 : BitVec 1 := Scalar.cmpi .ne v351 c0_i32_238
  let v356 : BitVec 1 := Scalar.andi v355 v352
  let v357 : BitVec 32 := Scalar.addi v351 v350
  let v358 : BitVec 32 := Scalar.select v356 v357 v351
  let c512_i32_337 : BitVec 32 := 512#32
  let v471 : BitVec 32 := Scalar.muli v358 c512_i32_337
  let c0_i32_340 : BitVec 32 := 0#32
  ![v471.toNat, 0]
def k0_off27 (v12 : BitVec 32) (c1_i32_234 : BitVec 32) : Fin 3 → Nat :=
  let v348 : BitVec 32 := Scalar.addi v12 c1_i32_234
  let c8_i32_235 : BitVec 32 := 8#32
  let c0_i32_236 : BitVec 32 := 0#32
  let v349 : BitVec 1 := Scalar.cmpi .eq c8_i32_235 c0_i32_236
  let c1_i32_237 : BitVec 32 := 1#32
  let v350 : BitVec 32 := Scalar.select v349 c1_i32_237 c8_i32_235
  let v351 : BitVec 32 := Scalar.remsi v348 v350
  let c0_i32_239 : BitVec 32 := 0#32
  let v353 : BitVec 1 := Scalar.cmpi .slt v351 c0_i32_239
  let c0_i32_240 : BitVec 32 := 0#32
  let v354 : BitVec 1 := Scalar.cmpi .slt v350 c0_i32_240
  let v355 : BitVec 1 := Scalar.xori v353 v354
  let c0_i32_238 : BitVec 32 := 0#32
  let v352 : BitVec 1 := Scalar.cmpi .ne v351 c0_i32_238
  let v356 : BitVec 1 := Scalar.andi v355 v352
  let v357 : BitVec 32 := Scalar.addi v351 v350
  let v358 : BitVec 32 := Scalar.select v356 v357 v351
  let v482 : Index := Scalar.indexCast v358
  let c0_348 : Index := 0#32
  let c2048_349 : Index := 2048#32
  ![v482.toNat, 0, 2048]
def k0_off28 (v12 : BitVec 32) (c1_i32_234 : BitVec 32) : Fin 2 → Nat :=
  let v348 : BitVec 32 := Scalar.addi v12 c1_i32_234
  let c8_i32_235 : BitVec 32 := 8#32
  let c0_i32_236 : BitVec 32 := 0#32
  let v349 : BitVec 1 := Scalar.cmpi .eq c8_i32_235 c0_i32_236
  let c1_i32_237 : BitVec 32 := 1#32
  let v350 : BitVec 32 := Scalar.select v349 c1_i32_237 c8_i32_235
  let v351 : BitVec 32 := Scalar.remsi v348 v350
  let c0_i32_239 : BitVec 32 := 0#32
  let v353 : BitVec 1 := Scalar.cmpi .slt v351 c0_i32_239
  let c0_i32_240 : BitVec 32 := 0#32
  let v354 : BitVec 1 := Scalar.cmpi .slt v350 c0_i32_240
  let v355 : BitVec 1 := Scalar.xori v353 v354
  let c0_i32_238 : BitVec 32 := 0#32
  let v352 : BitVec 1 := Scalar.cmpi .ne v351 c0_i32_238
  let v356 : BitVec 1 := Scalar.andi v355 v352
  let v357 : BitVec 32 := Scalar.addi v351 v350
  let v358 : BitVec 32 := Scalar.select v356 v357 v351
  let c512_i32_353 : BitVec 32 := 512#32
  let v489 : BitVec 32 := Scalar.muli v358 c512_i32_353
  let c2048_i32_356 : BitVec 32 := 2048#32
  ![v489.toNat, 2048]
def k0_dev12 (d3 : Dev nD) : Nat :=
  let c0_i32_412 : BitVec 32 := 0#32
  let v3 : BitVec 32 := Dev.word d3
  let c8_i32 : BitVec 32 := 8#32
  let v4 : BitVec 32 := Scalar.divsi v3 c8_i32
  let c2_i32 : BitVec 32 := 2#32
  let v5 : BitVec 32 := Scalar.remsi v4 c2_i32
  let c8_i32_411 : BitVec 32 := 8#32
  let v555 : BitVec 32 := Scalar.muli v5 c8_i32_411
  let v556 : BitVec 32 := Scalar.addi c0_i32_412 v555
  let c1_i32_33 : BitVec 32 := 1#32
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let v75 : BitVec 32 := Scalar.subi c1_i32_33 v8
  let c4_i32_413 : BitVec 32 := 4#32
  let v557 : BitVec 32 := Scalar.muli v75 c4_i32_413
  let v558 : BitVec 32 := Scalar.addi v556 v557
  let v9 : BitVec 32 := Dev.word d3
  let c1_i32_2 : BitVec 32 := 1#32
  let v10 : BitVec 32 := Scalar.divsi v9 c1_i32_2
  let c4_i32_1 : BitVec 32 := 4#32
  let v11 : BitVec 32 := Scalar.remsi v10 c4_i32_1
  let c1_i32_414 : BitVec 32 := 1#32
  let v559 : BitVec 32 := Scalar.muli v11 c1_i32_414
  let v560 : BitVec 32 := Scalar.addi v558 v559
  v560.toNat
def k0_dev13 (d3 : Dev nD) : Nat :=
  let c0_i32_421 : BitVec 32 := 0#32
  let v3 : BitVec 32 := Dev.word d3
  let c8_i32 : BitVec 32 := 8#32
  let v4 : BitVec 32 := Scalar.divsi v3 c8_i32
  let c2_i32 : BitVec 32 := 2#32
  let v5 : BitVec 32 := Scalar.remsi v4 c2_i32
  let c8_i32_420 : BitVec 32 := 8#32
  let v569 : BitVec 32 := Scalar.muli v5 c8_i32_420
  let v570 : BitVec 32 := Scalar.addi c0_i32_421 v569
  let c1_i32_33 : BitVec 32 := 1#32
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let v75 : BitVec 32 := Scalar.subi c1_i32_33 v8
  let c4_i32_422 : BitVec 32 := 4#32
  let v571 : BitVec 32 := Scalar.muli v75 c4_i32_422
  let v572 : BitVec 32 := Scalar.addi v570 v571
  let v9 : BitVec 32 := Dev.word d3
  let c1_i32_2 : BitVec 32 := 1#32
  let v10 : BitVec 32 := Scalar.divsi v9 c1_i32_2
  let c4_i32_1 : BitVec 32 := 4#32
  let v11 : BitVec 32 := Scalar.remsi v10 c4_i32_1
  let c1_i32_423 : BitVec 32 := 1#32
  let v573 : BitVec 32 := Scalar.muli v11 c1_i32_423
  let v574 : BitVec 32 := Scalar.addi v572 v573
  v574.toNat
def k0_dev14 (d3 : Dev nD) (v12 : BitVec 32) : Nat :=
  let c0_i32_445 : BitVec 32 := 0#32
  let c1_i32_3 : BitVec 32 := 1#32
  let v13 : BitVec 32 := Scalar.addi v12 c1_i32_3
  let c8_i32_4 : BitVec 32 := 8#32
  let c0_i32 : BitVec 32 := 0#32
  let v14 : BitVec 1 := Scalar.cmpi .eq c8_i32_4 c0_i32
  let c1_i32_5 : BitVec 32 := 1#32
  let v15 : BitVec 32 := Scalar.select v14 c1_i32_5 c8_i32_4
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let c0_i32_10 : BitVec 32 := 0#32
  let v25 : BitVec 1 := Scalar.cmpi .sgt v23 c0_i32_10
  let v26 : BitVec 32 := Scalar.extui v25
  let c0_i32_11 : BitVec 32 := 0#32
  let v27 : BitVec 1 := Scalar.cmpi .slt v23 c0_i32_11
  let v28 : BitVec 32 := Scalar.extui v27
  let v29 : BitVec 32 := Scalar.subi v26 v28
  let c4_i32_9 : BitVec 32 := 4#32
  let c0_i32_12 : BitVec 32 := 0#32
  let v30 : BitVec 1 := Scalar.cmpi .sgt c4_i32_9 c0_i32_12
  let v31 : BitVec 32 := Scalar.extui v30
  let c0_i32_13 : BitVec 32 := 0#32
  let v32 : BitVec 1 := Scalar.cmpi .slt c4_i32_9 c0_i32_13
  let v33 : BitVec 32 := Scalar.extui v32
  let v34 : BitVec 32 := Scalar.subi v31 v33
  let v35 : BitVec 1 := Scalar.cmpi .ne v29 v34
  let v36 : BitVec 32 := Scalar.remsi v23 c4_i32_9
  let c0_i32_14 : BitVec 32 := 0#32
  let v37 : BitVec 1 := Scalar.cmpi .ne v36 c0_i32_14
  let v38 : BitVec 1 := Scalar.andi v35 v37
  let v24 : BitVec 32 := Scalar.divsi v23 c4_i32_9
  let c1_i32_15 : BitVec 32 := 1#32
  let v39 : BitVec 32 := Scalar.subi v24 c1_i32_15
  let v40 : BitVec 32 := Scalar.select v38 v39 v24
  let c8_i32_444 : BitVec 32 := 8#32
  let v605 : BitVec 32 := Scalar.muli v40 c8_i32_444
  let v606 : BitVec 32 := Scalar.addi c0_i32_445 v605
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let c4_i32_446 : BitVec 32 := 4#32
  let v607 : BitVec 32 := Scalar.muli v8 c4_i32_446
  let v608 : BitVec 32 := Scalar.addi v606 v607
  let c0_i32_16 : BitVec 32 := 0#32
  let v41 : BitVec 1 := Scalar.cmpi .eq v40 c0_i32_16
  let c7_i32 : BitVec 32 := 7#32
  let v42 : BitVec 32 := Scalar.subi c7_i32 v23
  let v43 : BitVec 32 := Scalar.select v41 v23 v42
  let c1_i32_447 : BitVec 32 := 1#32
  let v609 : BitVec 32 := Scalar.muli v43 c1_i32_447
  let v610 : BitVec 32 := Scalar.addi v608 v609
  v610.toNat
def k0_dev15 (d3 : Dev nD) (v12 : BitVec 32) : Nat :=
  let c0_i32_455 : BitVec 32 := 0#32
  let c1_i32_17 : BitVec 32 := 1#32
  let v44 : BitVec 32 := Scalar.subi v12 c1_i32_17
  let c8_i32_18 : BitVec 32 := 8#32
  let c0_i32_19 : BitVec 32 := 0#32
  let v45 : BitVec 1 := Scalar.cmpi .eq c8_i32_18 c0_i32_19
  let c1_i32_20 : BitVec 32 := 1#32
  let v46 : BitVec 32 := Scalar.select v45 c1_i32_20 c8_i32_18
  let v47 : BitVec 32 := Scalar.remsi v44 v46
  let c0_i32_22 : BitVec 32 := 0#32
  let v49 : BitVec 1 := Scalar.cmpi .slt v47 c0_i32_22
  let c0_i32_23 : BitVec 32 := 0#32
  let v50 : BitVec 1 := Scalar.cmpi .slt v46 c0_i32_23
  let v51 : BitVec 1 := Scalar.xori v49 v50
  let c0_i32_21 : BitVec 32 := 0#32
  let v48 : BitVec 1 := Scalar.cmpi .ne v47 c0_i32_21
  let v52 : BitVec 1 := Scalar.andi v51 v48
  let v53 : BitVec 32 := Scalar.addi v47 v46
  let v54 : BitVec 32 := Scalar.select v52 v53 v47
  let c0_i32_25 : BitVec 32 := 0#32
  let v56 : BitVec 1 := Scalar.cmpi .sgt v54 c0_i32_25
  let v57 : BitVec 32 := Scalar.extui v56
  let c0_i32_26 : BitVec 32 := 0#32
  let v58 : BitVec 1 := Scalar.cmpi .slt v54 c0_i32_26
  let v59 : BitVec 32 := Scalar.extui v58
  let v60 : BitVec 32 := Scalar.subi v57 v59
  let c4_i32_24 : BitVec 32 := 4#32
  let c0_i32_27 : BitVec 32 := 0#32
  let v61 : BitVec 1 := Scalar.cmpi .sgt c4_i32_24 c0_i32_27
  let v62 : BitVec 32 := Scalar.extui v61
  let c0_i32_28 : BitVec 32 := 0#32
  let v63 : BitVec 1 := Scalar.cmpi .slt c4_i32_24 c0_i32_28
  let v64 : BitVec 32 := Scalar.extui v63
  let v65 : BitVec 32 := Scalar.subi v62 v64
  let v66 : BitVec 1 := Scalar.cmpi .ne v60 v65
  let v67 : BitVec 32 := Scalar.remsi v54 c4_i32_24
  let c0_i32_29 : BitVec 32 := 0#32
  let v68 : BitVec 1 := Scalar.cmpi .ne v67 c0_i32_29
  let v69 : BitVec 1 := Scalar.andi v66 v68
  let v55 : BitVec 32 := Scalar.divsi v54 c4_i32_24
  let c1_i32_30 : BitVec 32 := 1#32
  let v70 : BitVec 32 := Scalar.subi v55 c1_i32_30
  let v71 : BitVec 32 := Scalar.select v69 v70 v55
  let c8_i32_454 : BitVec 32 := 8#32
  let v619 : BitVec 32 := Scalar.muli v71 c8_i32_454
  let v620 : BitVec 32 := Scalar.addi c0_i32_455 v619
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let c4_i32_456 : BitVec 32 := 4#32
  let v621 : BitVec 32 := Scalar.muli v8 c4_i32_456
  let v622 : BitVec 32 := Scalar.addi v620 v621
  let c0_i32_31 : BitVec 32 := 0#32
  let v72 : BitVec 1 := Scalar.cmpi .eq v71 c0_i32_31
  let c7_i32_32 : BitVec 32 := 7#32
  let v73 : BitVec 32 := Scalar.subi c7_i32_32 v54
  let v74 : BitVec 32 := Scalar.select v72 v54 v73
  let c1_i32_457 : BitVec 32 := 1#32
  let v623 : BitVec 32 := Scalar.muli v74 c1_i32_457
  let v624 : BitVec 32 := Scalar.addi v622 v623
  v624.toNat
def k0_dev16 (d3 : Dev nD) : Nat :=
  let c0_i32_613 : BitVec 32 := 0#32
  let v3 : BitVec 32 := Dev.word d3
  let c8_i32 : BitVec 32 := 8#32
  let v4 : BitVec 32 := Scalar.divsi v3 c8_i32
  let c2_i32 : BitVec 32 := 2#32
  let v5 : BitVec 32 := Scalar.remsi v4 c2_i32
  let c8_i32_612 : BitVec 32 := 8#32
  let v801 : BitVec 32 := Scalar.muli v5 c8_i32_612
  let v802 : BitVec 32 := Scalar.addi c0_i32_613 v801
  let c1_i32_33 : BitVec 32 := 1#32
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let v75 : BitVec 32 := Scalar.subi c1_i32_33 v8
  let c4_i32_614 : BitVec 32 := 4#32
  let v803 : BitVec 32 := Scalar.muli v75 c4_i32_614
  let v804 : BitVec 32 := Scalar.addi v802 v803
  let v9 : BitVec 32 := Dev.word d3
  let c1_i32_2 : BitVec 32 := 1#32
  let v10 : BitVec 32 := Scalar.divsi v9 c1_i32_2
  let c4_i32_1 : BitVec 32 := 4#32
  let v11 : BitVec 32 := Scalar.remsi v10 c4_i32_1
  let c1_i32_615 : BitVec 32 := 1#32
  let v805 : BitVec 32 := Scalar.muli v11 c1_i32_615
  let v806 : BitVec 32 := Scalar.addi v804 v805
  v806.toNat
def k0_dev17 (d3 : Dev nD) : Nat :=
  let c0_i32_622 : BitVec 32 := 0#32
  let v3 : BitVec 32 := Dev.word d3
  let c8_i32 : BitVec 32 := 8#32
  let v4 : BitVec 32 := Scalar.divsi v3 c8_i32
  let c2_i32 : BitVec 32 := 2#32
  let v5 : BitVec 32 := Scalar.remsi v4 c2_i32
  let c8_i32_621 : BitVec 32 := 8#32
  let v815 : BitVec 32 := Scalar.muli v5 c8_i32_621
  let v816 : BitVec 32 := Scalar.addi c0_i32_622 v815
  let c1_i32_33 : BitVec 32 := 1#32
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let v75 : BitVec 32 := Scalar.subi c1_i32_33 v8
  let c4_i32_623 : BitVec 32 := 4#32
  let v817 : BitVec 32 := Scalar.muli v75 c4_i32_623
  let v818 : BitVec 32 := Scalar.addi v816 v817
  let v9 : BitVec 32 := Dev.word d3
  let c1_i32_2 : BitVec 32 := 1#32
  let v10 : BitVec 32 := Scalar.divsi v9 c1_i32_2
  let c4_i32_1 : BitVec 32 := 4#32
  let v11 : BitVec 32 := Scalar.remsi v10 c4_i32_1
  let c1_i32_624 : BitVec 32 := 1#32
  let v819 : BitVec 32 := Scalar.muli v11 c1_i32_624
  let v820 : BitVec 32 := Scalar.addi v818 v819
  v820.toNat
def k0_off29 (v12 : BitVec 32) : Fin 3 → Nat :=
  let c3_i32_629 : BitVec 32 := 3#32
  let v829 : BitVec 32 := Scalar.subi v12 c3_i32_629
  let c8_i32_630 : BitVec 32 := 8#32
  let c0_i32_631 : BitVec 32 := 0#32
  let v830 : BitVec 1 := Scalar.cmpi .eq c8_i32_630 c0_i32_631
  let c1_i32_632 : BitVec 32 := 1#32
  let v831 : BitVec 32 := Scalar.select v830 c1_i32_632 c8_i32_630
  let v832 : BitVec 32 := Scalar.remsi v829 v831
  let c0_i32_634 : BitVec 32 := 0#32
  let v834 : BitVec 1 := Scalar.cmpi .slt v832 c0_i32_634
  let c0_i32_635 : BitVec 32 := 0#32
  let v835 : BitVec 1 := Scalar.cmpi .slt v831 c0_i32_635
  let v836 : BitVec 1 := Scalar.xori v834 v835
  let c0_i32_633 : BitVec 32 := 0#32
  let v833 : BitVec 1 := Scalar.cmpi .ne v832 c0_i32_633
  let v837 : BitVec 1 := Scalar.andi v836 v833
  let v838 : BitVec 32 := Scalar.addi v832 v831
  let v839 : BitVec 32 := Scalar.select v837 v838 v832
  let c0_i32_649 : BitVec 32 := 0#32
  let c0_i32_650 : BitVec 32 := 0#32
  ![v839.toNat, 0, 0]
def k0_dev18 (d3 : Dev nD) (v12 : BitVec 32) : Nat :=
  let c0_i32_646 : BitVec 32 := 0#32
  let c1_i32_3 : BitVec 32 := 1#32
  let v13 : BitVec 32 := Scalar.addi v12 c1_i32_3
  let c8_i32_4 : BitVec 32 := 8#32
  let c0_i32 : BitVec 32 := 0#32
  let v14 : BitVec 1 := Scalar.cmpi .eq c8_i32_4 c0_i32
  let c1_i32_5 : BitVec 32 := 1#32
  let v15 : BitVec 32 := Scalar.select v14 c1_i32_5 c8_i32_4
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let c0_i32_10 : BitVec 32 := 0#32
  let v25 : BitVec 1 := Scalar.cmpi .sgt v23 c0_i32_10
  let v26 : BitVec 32 := Scalar.extui v25
  let c0_i32_11 : BitVec 32 := 0#32
  let v27 : BitVec 1 := Scalar.cmpi .slt v23 c0_i32_11
  let v28 : BitVec 32 := Scalar.extui v27
  let v29 : BitVec 32 := Scalar.subi v26 v28
  let c4_i32_9 : BitVec 32 := 4#32
  let c0_i32_12 : BitVec 32 := 0#32
  let v30 : BitVec 1 := Scalar.cmpi .sgt c4_i32_9 c0_i32_12
  let v31 : BitVec 32 := Scalar.extui v30
  let c0_i32_13 : BitVec 32 := 0#32
  let v32 : BitVec 1 := Scalar.cmpi .slt c4_i32_9 c0_i32_13
  let v33 : BitVec 32 := Scalar.extui v32
  let v34 : BitVec 32 := Scalar.subi v31 v33
  let v35 : BitVec 1 := Scalar.cmpi .ne v29 v34
  let v36 : BitVec 32 := Scalar.remsi v23 c4_i32_9
  let c0_i32_14 : BitVec 32 := 0#32
  let v37 : BitVec 1 := Scalar.cmpi .ne v36 c0_i32_14
  let v38 : BitVec 1 := Scalar.andi v35 v37
  let v24 : BitVec 32 := Scalar.divsi v23 c4_i32_9
  let c1_i32_15 : BitVec 32 := 1#32
  let v39 : BitVec 32 := Scalar.subi v24 c1_i32_15
  let v40 : BitVec 32 := Scalar.select v38 v39 v24
  let c8_i32_645 : BitVec 32 := 8#32
  let v851 : BitVec 32 := Scalar.muli v40 c8_i32_645
  let v852 : BitVec 32 := Scalar.addi c0_i32_646 v851
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let c4_i32_647 : BitVec 32 := 4#32
  let v853 : BitVec 32 := Scalar.muli v8 c4_i32_647
  let v854 : BitVec 32 := Scalar.addi v852 v853
  let c0_i32_16 : BitVec 32 := 0#32
  let v41 : BitVec 1 := Scalar.cmpi .eq v40 c0_i32_16
  let c7_i32 : BitVec 32 := 7#32
  let v42 : BitVec 32 := Scalar.subi c7_i32 v23
  let v43 : BitVec 32 := Scalar.select v41 v23 v42
  let c1_i32_648 : BitVec 32 := 1#32
  let v855 : BitVec 32 := Scalar.muli v43 c1_i32_648
  let v856 : BitVec 32 := Scalar.addi v854 v855
  v856.toNat
def k0_off30 (v12 : BitVec 32) : Fin 3 → Nat :=
  let c3_i32_636 : BitVec 32 := 3#32
  let v840 : BitVec 32 := Scalar.addi v12 c3_i32_636
  let c8_i32_637 : BitVec 32 := 8#32
  let c0_i32_638 : BitVec 32 := 0#32
  let v841 : BitVec 1 := Scalar.cmpi .eq c8_i32_637 c0_i32_638
  let c1_i32_639 : BitVec 32 := 1#32
  let v842 : BitVec 32 := Scalar.select v841 c1_i32_639 c8_i32_637
  let v843 : BitVec 32 := Scalar.remsi v840 v842
  let c0_i32_641 : BitVec 32 := 0#32
  let v845 : BitVec 1 := Scalar.cmpi .slt v843 c0_i32_641
  let c0_i32_642 : BitVec 32 := 0#32
  let v846 : BitVec 1 := Scalar.cmpi .slt v842 c0_i32_642
  let v847 : BitVec 1 := Scalar.xori v845 v846
  let c0_i32_640 : BitVec 32 := 0#32
  let v844 : BitVec 1 := Scalar.cmpi .ne v843 c0_i32_640
  let v848 : BitVec 1 := Scalar.andi v847 v844
  let v849 : BitVec 32 := Scalar.addi v843 v842
  let v850 : BitVec 32 := Scalar.select v848 v849 v843
  let c0_i32_659 : BitVec 32 := 0#32
  let c1408_i32 : BitVec 32 := 1408#32
  ![v850.toNat, 0, 1408]
def k0_dev19 (d3 : Dev nD) (v12 : BitVec 32) : Nat :=
  let c0_i32_656 : BitVec 32 := 0#32
  let c1_i32_17 : BitVec 32 := 1#32
  let v44 : BitVec 32 := Scalar.subi v12 c1_i32_17
  let c8_i32_18 : BitVec 32 := 8#32
  let c0_i32_19 : BitVec 32 := 0#32
  let v45 : BitVec 1 := Scalar.cmpi .eq c8_i32_18 c0_i32_19
  let c1_i32_20 : BitVec 32 := 1#32
  let v46 : BitVec 32 := Scalar.select v45 c1_i32_20 c8_i32_18
  let v47 : BitVec 32 := Scalar.remsi v44 v46
  let c0_i32_22 : BitVec 32 := 0#32
  let v49 : BitVec 1 := Scalar.cmpi .slt v47 c0_i32_22
  let c0_i32_23 : BitVec 32 := 0#32
  let v50 : BitVec 1 := Scalar.cmpi .slt v46 c0_i32_23
  let v51 : BitVec 1 := Scalar.xori v49 v50
  let c0_i32_21 : BitVec 32 := 0#32
  let v48 : BitVec 1 := Scalar.cmpi .ne v47 c0_i32_21
  let v52 : BitVec 1 := Scalar.andi v51 v48
  let v53 : BitVec 32 := Scalar.addi v47 v46
  let v54 : BitVec 32 := Scalar.select v52 v53 v47
  let c0_i32_25 : BitVec 32 := 0#32
  let v56 : BitVec 1 := Scalar.cmpi .sgt v54 c0_i32_25
  let v57 : BitVec 32 := Scalar.extui v56
  let c0_i32_26 : BitVec 32 := 0#32
  let v58 : BitVec 1 := Scalar.cmpi .slt v54 c0_i32_26
  let v59 : BitVec 32 := Scalar.extui v58
  let v60 : BitVec 32 := Scalar.subi v57 v59
  let c4_i32_24 : BitVec 32 := 4#32
  let c0_i32_27 : BitVec 32 := 0#32
  let v61 : BitVec 1 := Scalar.cmpi .sgt c4_i32_24 c0_i32_27
  let v62 : BitVec 32 := Scalar.extui v61
  let c0_i32_28 : BitVec 32 := 0#32
  let v63 : BitVec 1 := Scalar.cmpi .slt c4_i32_24 c0_i32_28
  let v64 : BitVec 32 := Scalar.extui v63
  let v65 : BitVec 32 := Scalar.subi v62 v64
  let v66 : BitVec 1 := Scalar.cmpi .ne v60 v65
  let v67 : BitVec 32 := Scalar.remsi v54 c4_i32_24
  let c0_i32_29 : BitVec 32 := 0#32
  let v68 : BitVec 1 := Scalar.cmpi .ne v67 c0_i32_29
  let v69 : BitVec 1 := Scalar.andi v66 v68
  let v55 : BitVec 32 := Scalar.divsi v54 c4_i32_24
  let c1_i32_30 : BitVec 32 := 1#32
  let v70 : BitVec 32 := Scalar.subi v55 c1_i32_30
  let v71 : BitVec 32 := Scalar.select v69 v70 v55
  let c8_i32_655 : BitVec 32 := 8#32
  let v865 : BitVec 32 := Scalar.muli v71 c8_i32_655
  let v866 : BitVec 32 := Scalar.addi c0_i32_656 v865
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let c4_i32_657 : BitVec 32 := 4#32
  let v867 : BitVec 32 := Scalar.muli v8 c4_i32_657
  let v868 : BitVec 32 := Scalar.addi v866 v867
  let c0_i32_31 : BitVec 32 := 0#32
  let v72 : BitVec 1 := Scalar.cmpi .eq v71 c0_i32_31
  let c7_i32_32 : BitVec 32 := 7#32
  let v73 : BitVec 32 := Scalar.subi c7_i32_32 v54
  let v74 : BitVec 32 := Scalar.select v72 v54 v73
  let c1_i32_658 : BitVec 32 := 1#32
  let v869 : BitVec 32 := Scalar.muli v74 c1_i32_658
  let v870 : BitVec 32 := Scalar.addi v868 v869
  v870.toNat
def k0_off31 (v12 : BitVec 32) : Fin 3 → Nat :=
  let c4_i32_34 : BitVec 32 := 4#32
  let v76 : BitVec 32 := Scalar.addi v12 c4_i32_34
  let c8_i32_35 : BitVec 32 := 8#32
  let c0_i32_36 : BitVec 32 := 0#32
  let v77 : BitVec 1 := Scalar.cmpi .eq c8_i32_35 c0_i32_36
  let c1_i32_37 : BitVec 32 := 1#32
  let v78 : BitVec 32 := Scalar.select v77 c1_i32_37 c8_i32_35
  let v79 : BitVec 32 := Scalar.remsi v76 v78
  let c0_i32_39 : BitVec 32 := 0#32
  let v81 : BitVec 1 := Scalar.cmpi .slt v79 c0_i32_39
  let c0_i32_40 : BitVec 32 := 0#32
  let v82 : BitVec 1 := Scalar.cmpi .slt v78 c0_i32_40
  let v83 : BitVec 1 := Scalar.xori v81 v82
  let c0_i32_38 : BitVec 32 := 0#32
  let v80 : BitVec 1 := Scalar.cmpi .ne v79 c0_i32_38
  let v84 : BitVec 1 := Scalar.andi v83 v80
  let v85 : BitVec 32 := Scalar.addi v79 v78
  let v86 : BitVec 32 := Scalar.select v84 v85 v79
  let c0_i32_799 : BitVec 32 := 0#32
  let c0_i32_800 : BitVec 32 := 0#32
  ![v86.toNat, 0, 0]
def k0_dev20 (d3 : Dev nD) : Nat :=
  let c0_i32_796 : BitVec 32 := 0#32
  let v3 : BitVec 32 := Dev.word d3
  let c8_i32 : BitVec 32 := 8#32
  let v4 : BitVec 32 := Scalar.divsi v3 c8_i32
  let c2_i32 : BitVec 32 := 2#32
  let v5 : BitVec 32 := Scalar.remsi v4 c2_i32
  let c8_i32_795 : BitVec 32 := 8#32
  let v1023 : BitVec 32 := Scalar.muli v5 c8_i32_795
  let v1024 : BitVec 32 := Scalar.addi c0_i32_796 v1023
  let c1_i32_33 : BitVec 32 := 1#32
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let v75 : BitVec 32 := Scalar.subi c1_i32_33 v8
  let c4_i32_797 : BitVec 32 := 4#32
  let v1025 : BitVec 32 := Scalar.muli v75 c4_i32_797
  let v1026 : BitVec 32 := Scalar.addi v1024 v1025
  let v9 : BitVec 32 := Dev.word d3
  let c1_i32_2 : BitVec 32 := 1#32
  let v10 : BitVec 32 := Scalar.divsi v9 c1_i32_2
  let c4_i32_1 : BitVec 32 := 4#32
  let v11 : BitVec 32 := Scalar.remsi v10 c4_i32_1
  let c1_i32_798 : BitVec 32 := 1#32
  let v1027 : BitVec 32 := Scalar.muli v11 c1_i32_798
  let v1028 : BitVec 32 := Scalar.addi v1026 v1027
  v1028.toNat
def k0_cond7 (d3 : Dev nD) : BitVec 1 :=
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let c1_i32_102 : BitVec 32 := 1#32
  let v170 : BitVec 1 := Scalar.cmpi .eq v8 c1_i32_102
  let v171 : BitVec 32 := Scalar.extui v170
  let c0_i32_103 : BitVec 32 := 0#32
  let v172 : BitVec 1 := Scalar.cmpi .ne v171 c0_i32_103
  v172

def k0_off32 (v12 : BitVec 32) (c0_i32_104 : BitVec 32) : Fin 3 → Nat :=
  let v173 : BitVec 32 := Scalar.subi v12 c0_i32_104
  let c8_i32_105 : BitVec 32 := 8#32
  let c0_i32_106 : BitVec 32 := 0#32
  let v174 : BitVec 1 := Scalar.cmpi .eq c8_i32_105 c0_i32_106
  let c1_i32_107 : BitVec 32 := 1#32
  let v175 : BitVec 32 := Scalar.select v174 c1_i32_107 c8_i32_105
  let v176 : BitVec 32 := Scalar.remsi v173 v175
  let c0_i32_109 : BitVec 32 := 0#32
  let v178 : BitVec 1 := Scalar.cmpi .slt v176 c0_i32_109
  let c0_i32_110 : BitVec 32 := 0#32
  let v179 : BitVec 1 := Scalar.cmpi .slt v175 c0_i32_110
  let v180 : BitVec 1 := Scalar.xori v178 v179
  let c0_i32_108 : BitVec 32 := 0#32
  let v177 : BitVec 1 := Scalar.cmpi .ne v176 c0_i32_108
  let v181 : BitVec 1 := Scalar.andi v180 v177
  let v182 : BitVec 32 := Scalar.addi v176 v175
  let v183 : BitVec 32 := Scalar.select v181 v182 v176
  let c0_i32_124 : BitVec 32 := 0#32
  let c1280_i32 : BitVec 32 := 1280#32
  ![v183.toNat, 0, 1280]
def k0_dev21 (d3 : Dev nD) (v12 : BitVec 32) : Nat :=
  let c0_i32_121 : BitVec 32 := 0#32
  let c1_i32_3 : BitVec 32 := 1#32
  let v13 : BitVec 32 := Scalar.addi v12 c1_i32_3
  let c8_i32_4 : BitVec 32 := 8#32
  let c0_i32 : BitVec 32 := 0#32
  let v14 : BitVec 1 := Scalar.cmpi .eq c8_i32_4 c0_i32
  let c1_i32_5 : BitVec 32 := 1#32
  let v15 : BitVec 32 := Scalar.select v14 c1_i32_5 c8_i32_4
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let c0_i32_10 : BitVec 32 := 0#32
  let v25 : BitVec 1 := Scalar.cmpi .sgt v23 c0_i32_10
  let v26 : BitVec 32 := Scalar.extui v25
  let c0_i32_11 : BitVec 32 := 0#32
  let v27 : BitVec 1 := Scalar.cmpi .slt v23 c0_i32_11
  let v28 : BitVec 32 := Scalar.extui v27
  let v29 : BitVec 32 := Scalar.subi v26 v28
  let c4_i32_9 : BitVec 32 := 4#32
  let c0_i32_12 : BitVec 32 := 0#32
  let v30 : BitVec 1 := Scalar.cmpi .sgt c4_i32_9 c0_i32_12
  let v31 : BitVec 32 := Scalar.extui v30
  let c0_i32_13 : BitVec 32 := 0#32
  let v32 : BitVec 1 := Scalar.cmpi .slt c4_i32_9 c0_i32_13
  let v33 : BitVec 32 := Scalar.extui v32
  let v34 : BitVec 32 := Scalar.subi v31 v33
  let v35 : BitVec 1 := Scalar.cmpi .ne v29 v34
  let v36 : BitVec 32 := Scalar.remsi v23 c4_i32_9
  let c0_i32_14 : BitVec 32 := 0#32
  let v37 : BitVec 1 := Scalar.cmpi .ne v36 c0_i32_14
  let v38 : BitVec 1 := Scalar.andi v35 v37
  let v24 : BitVec 32 := Scalar.divsi v23 c4_i32_9
  let c1_i32_15 : BitVec 32 := 1#32
  let v39 : BitVec 32 := Scalar.subi v24 c1_i32_15
  let v40 : BitVec 32 := Scalar.select v38 v39 v24
  let c8_i32_120 : BitVec 32 := 8#32
  let v195 : BitVec 32 := Scalar.muli v40 c8_i32_120
  let v196 : BitVec 32 := Scalar.addi c0_i32_121 v195
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let c4_i32_122 : BitVec 32 := 4#32
  let v197 : BitVec 32 := Scalar.muli v8 c4_i32_122
  let v198 : BitVec 32 := Scalar.addi v196 v197
  let c0_i32_16 : BitVec 32 := 0#32
  let v41 : BitVec 1 := Scalar.cmpi .eq v40 c0_i32_16
  let c7_i32 : BitVec 32 := 7#32
  let v42 : BitVec 32 := Scalar.subi c7_i32 v23
  let v43 : BitVec 32 := Scalar.select v41 v23 v42
  let c1_i32_123 : BitVec 32 := 1#32
  let v199 : BitVec 32 := Scalar.muli v43 c1_i32_123
  let v200 : BitVec 32 := Scalar.addi v198 v199
  v200.toNat
def k0_off33 (v12 : BitVec 32) (c0_i32_111 : BitVec 32) : Fin 3 → Nat :=
  let v184 : BitVec 32 := Scalar.addi v12 c0_i32_111
  let c8_i32_112 : BitVec 32 := 8#32
  let c0_i32_113 : BitVec 32 := 0#32
  let v185 : BitVec 1 := Scalar.cmpi .eq c8_i32_112 c0_i32_113
  let c1_i32_114 : BitVec 32 := 1#32
  let v186 : BitVec 32 := Scalar.select v185 c1_i32_114 c8_i32_112
  let v187 : BitVec 32 := Scalar.remsi v184 v186
  let c0_i32_116 : BitVec 32 := 0#32
  let v189 : BitVec 1 := Scalar.cmpi .slt v187 c0_i32_116
  let c0_i32_117 : BitVec 32 := 0#32
  let v190 : BitVec 1 := Scalar.cmpi .slt v186 c0_i32_117
  let v191 : BitVec 1 := Scalar.xori v189 v190
  let c0_i32_115 : BitVec 32 := 0#32
  let v188 : BitVec 1 := Scalar.cmpi .ne v187 c0_i32_115
  let v192 : BitVec 1 := Scalar.andi v191 v188
  let v193 : BitVec 32 := Scalar.addi v187 v186
  let v194 : BitVec 32 := Scalar.select v192 v193 v187
  let c0_i32_133 : BitVec 32 := 0#32
  let c1280_i32_134 : BitVec 32 := 1280#32
  ![v194.toNat, 0, 1280]
def k0_dev22 (d3 : Dev nD) (v12 : BitVec 32) : Nat :=
  let c0_i32_130 : BitVec 32 := 0#32
  let c1_i32_17 : BitVec 32 := 1#32
  let v44 : BitVec 32 := Scalar.subi v12 c1_i32_17
  let c8_i32_18 : BitVec 32 := 8#32
  let c0_i32_19 : BitVec 32 := 0#32
  let v45 : BitVec 1 := Scalar.cmpi .eq c8_i32_18 c0_i32_19
  let c1_i32_20 : BitVec 32 := 1#32
  let v46 : BitVec 32 := Scalar.select v45 c1_i32_20 c8_i32_18
  let v47 : BitVec 32 := Scalar.remsi v44 v46
  let c0_i32_22 : BitVec 32 := 0#32
  let v49 : BitVec 1 := Scalar.cmpi .slt v47 c0_i32_22
  let c0_i32_23 : BitVec 32 := 0#32
  let v50 : BitVec 1 := Scalar.cmpi .slt v46 c0_i32_23
  let v51 : BitVec 1 := Scalar.xori v49 v50
  let c0_i32_21 : BitVec 32 := 0#32
  let v48 : BitVec 1 := Scalar.cmpi .ne v47 c0_i32_21
  let v52 : BitVec 1 := Scalar.andi v51 v48
  let v53 : BitVec 32 := Scalar.addi v47 v46
  let v54 : BitVec 32 := Scalar.select v52 v53 v47
  let c0_i32_25 : BitVec 32 := 0#32
  let v56 : BitVec 1 := Scalar.cmpi .sgt v54 c0_i32_25
  let v57 : BitVec 32 := Scalar.extui v56
  let c0_i32_26 : BitVec 32 := 0#32
  let v58 : BitVec 1 := Scalar.cmpi .slt v54 c0_i32_26
  let v59 : BitVec 32 := Scalar.extui v58
  let v60 : BitVec 32 := Scalar.subi v57 v59
  let c4_i32_24 : BitVec 32 := 4#32
  let c0_i32_27 : BitVec 32 := 0#32
  let v61 : BitVec 1 := Scalar.cmpi .sgt c4_i32_24 c0_i32_27
  let v62 : BitVec 32 := Scalar.extui v61
  let c0_i32_28 : BitVec 32 := 0#32
  let v63 : BitVec 1 := Scalar.cmpi .slt c4_i32_24 c0_i32_28
  let v64 : BitVec 32 := Scalar.extui v63
  let v65 : BitVec 32 := Scalar.subi v62 v64
  let v66 : BitVec 1 := Scalar.cmpi .ne v60 v65
  let v67 : BitVec 32 := Scalar.remsi v54 c4_i32_24
  let c0_i32_29 : BitVec 32 := 0#32
  let v68 : BitVec 1 := Scalar.cmpi .ne v67 c0_i32_29
  let v69 : BitVec 1 := Scalar.andi v66 v68
  let v55 : BitVec 32 := Scalar.divsi v54 c4_i32_24
  let c1_i32_30 : BitVec 32 := 1#32
  let v70 : BitVec 32 := Scalar.subi v55 c1_i32_30
  let v71 : BitVec 32 := Scalar.select v69 v70 v55
  let c8_i32_129 : BitVec 32 := 8#32
  let v209 : BitVec 32 := Scalar.muli v71 c8_i32_129
  let v210 : BitVec 32 := Scalar.addi c0_i32_130 v209
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let c4_i32_131 : BitVec 32 := 4#32
  let v211 : BitVec 32 := Scalar.muli v8 c4_i32_131
  let v212 : BitVec 32 := Scalar.addi v210 v211
  let c0_i32_31 : BitVec 32 := 0#32
  let v72 : BitVec 1 := Scalar.cmpi .eq v71 c0_i32_31
  let c7_i32_32 : BitVec 32 := 7#32
  let v73 : BitVec 32 := Scalar.subi c7_i32_32 v54
  let v74 : BitVec 32 := Scalar.select v72 v54 v73
  let c1_i32_132 : BitVec 32 := 1#32
  let v213 : BitVec 32 := Scalar.muli v74 c1_i32_132
  let v214 : BitVec 32 := Scalar.addi v212 v213
  v214.toNat
def k0_off34 (v12 : BitVec 32) : Fin 3 → Nat :=
  let v223 : Index := Scalar.indexCast v12
  let c0_137 : Index := 0#32
  let c0_138 : Index := 0#32
  ![v223.toNat, 0, 0]
def k0_off35 (v12 : BitVec 32) : Fin 2 → Nat :=
  let c512_i32 : BitVec 32 := 512#32
  let v230 : BitVec 32 := Scalar.muli v12 c512_i32
  let c0_i32_144 : BitVec 32 := 0#32
  ![v230.toNat, 0]
def k0_off36 (v12 : BitVec 32) : Fin 3 → Nat :=
  let v236 : Index := Scalar.indexCast v12
  let c0_147 : Index := 0#32
  let c2048 : Index := 2048#32
  ![v236.toNat, 0, 2048]
def k0_off37 (v12 : BitVec 32) : Fin 2 → Nat :=
  let c512_i32_150 : BitVec 32 := 512#32
  let v243 : BitVec 32 := Scalar.muli v12 c512_i32_150
  let c2048_i32_153 : BitVec 32 := 2048#32
  ![v243.toNat, 2048]
def k0_off38 (v12 : BitVec 32) (c0_i32_191 : BitVec 32) : Fin 3 → Nat :=
  let c1_i32_190 : BitVec 32 := 1#32
  let v285 : BitVec 32 := Scalar.subi v12 c1_i32_190
  let v286 : BitVec 32 := Scalar.subi v285 c0_i32_191
  let c8_i32_192 : BitVec 32 := 8#32
  let c0_i32_193 : BitVec 32 := 0#32
  let v287 : BitVec 1 := Scalar.cmpi .eq c8_i32_192 c0_i32_193
  let c1_i32_194 : BitVec 32 := 1#32
  let v288 : BitVec 32 := Scalar.select v287 c1_i32_194 c8_i32_192
  let v289 : BitVec 32 := Scalar.remsi v286 v288
  let c0_i32_196 : BitVec 32 := 0#32
  let v291 : BitVec 1 := Scalar.cmpi .slt v289 c0_i32_196
  let c0_i32_197 : BitVec 32 := 0#32
  let v292 : BitVec 1 := Scalar.cmpi .slt v288 c0_i32_197
  let v293 : BitVec 1 := Scalar.xori v291 v292
  let c0_i32_195 : BitVec 32 := 0#32
  let v290 : BitVec 1 := Scalar.cmpi .ne v289 c0_i32_195
  let v294 : BitVec 1 := Scalar.andi v293 v290
  let v295 : BitVec 32 := Scalar.addi v289 v288
  let v296 : BitVec 32 := Scalar.select v294 v295 v289
  let c0_i32_212 : BitVec 32 := 0#32
  let c2816_i32 : BitVec 32 := 2816#32
  ![v296.toNat, 0, 2816]
def k0_dev23 (d3 : Dev nD) : Nat :=
  let c0_i32_209 : BitVec 32 := 0#32
  let v3 : BitVec 32 := Dev.word d3
  let c8_i32 : BitVec 32 := 8#32
  let v4 : BitVec 32 := Scalar.divsi v3 c8_i32
  let c2_i32 : BitVec 32 := 2#32
  let v5 : BitVec 32 := Scalar.remsi v4 c2_i32
  let c8_i32_208 : BitVec 32 := 8#32
  let v309 : BitVec 32 := Scalar.muli v5 c8_i32_208
  let v310 : BitVec 32 := Scalar.addi c0_i32_209 v309
  let c1_i32_33 : BitVec 32 := 1#32
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let v75 : BitVec 32 := Scalar.subi c1_i32_33 v8
  let c4_i32_210 : BitVec 32 := 4#32
  let v311 : BitVec 32 := Scalar.muli v75 c4_i32_210
  let v312 : BitVec 32 := Scalar.addi v310 v311
  let v9 : BitVec 32 := Dev.word d3
  let c1_i32_2 : BitVec 32 := 1#32
  let v10 : BitVec 32 := Scalar.divsi v9 c1_i32_2
  let c4_i32_1 : BitVec 32 := 4#32
  let v11 : BitVec 32 := Scalar.remsi v10 c4_i32_1
  let c1_i32_211 : BitVec 32 := 1#32
  let v313 : BitVec 32 := Scalar.muli v11 c1_i32_211
  let v314 : BitVec 32 := Scalar.addi v312 v313
  v314.toNat
def k0_off39 (v12 : BitVec 32) (c0_i32_199 : BitVec 32) : Fin 3 → Nat :=
  let c1_i32_198 : BitVec 32 := 1#32
  let v297 : BitVec 32 := Scalar.addi v12 c1_i32_198
  let v298 : BitVec 32 := Scalar.addi v297 c0_i32_199
  let c8_i32_200 : BitVec 32 := 8#32
  let c0_i32_201 : BitVec 32 := 0#32
  let v299 : BitVec 1 := Scalar.cmpi .eq c8_i32_200 c0_i32_201
  let c1_i32_202 : BitVec 32 := 1#32
  let v300 : BitVec 32 := Scalar.select v299 c1_i32_202 c8_i32_200
  let v301 : BitVec 32 := Scalar.remsi v298 v300
  let c0_i32_204 : BitVec 32 := 0#32
  let v303 : BitVec 1 := Scalar.cmpi .slt v301 c0_i32_204
  let c0_i32_205 : BitVec 32 := 0#32
  let v304 : BitVec 1 := Scalar.cmpi .slt v300 c0_i32_205
  let v305 : BitVec 1 := Scalar.xori v303 v304
  let c0_i32_203 : BitVec 32 := 0#32
  let v302 : BitVec 1 := Scalar.cmpi .ne v301 c0_i32_203
  let v306 : BitVec 1 := Scalar.andi v305 v302
  let v307 : BitVec 32 := Scalar.addi v301 v300
  let v308 : BitVec 32 := Scalar.select v306 v307 v301
  let c0_i32_221 : BitVec 32 := 0#32
  let c2816_i32_222 : BitVec 32 := 2816#32
  ![v308.toNat, 0, 2816]
def k0_dev24 (d3 : Dev nD) : Nat :=
  let c0_i32_218 : BitVec 32 := 0#32
  let v3 : BitVec 32 := Dev.word d3
  let c8_i32 : BitVec 32 := 8#32
  let v4 : BitVec 32 := Scalar.divsi v3 c8_i32
  let c2_i32 : BitVec 32 := 2#32
  let v5 : BitVec 32 := Scalar.remsi v4 c2_i32
  let c8_i32_217 : BitVec 32 := 8#32
  let v323 : BitVec 32 := Scalar.muli v5 c8_i32_217
  let v324 : BitVec 32 := Scalar.addi c0_i32_218 v323
  let c1_i32_33 : BitVec 32 := 1#32
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let v75 : BitVec 32 := Scalar.subi c1_i32_33 v8
  let c4_i32_219 : BitVec 32 := 4#32
  let v325 : BitVec 32 := Scalar.muli v75 c4_i32_219
  let v326 : BitVec 32 := Scalar.addi v324 v325
  let v9 : BitVec 32 := Dev.word d3
  let c1_i32_2 : BitVec 32 := 1#32
  let v10 : BitVec 32 := Scalar.divsi v9 c1_i32_2
  let c4_i32_1 : BitVec 32 := 4#32
  let v11 : BitVec 32 := Scalar.remsi v10 c4_i32_1
  let c1_i32_220 : BitVec 32 := 1#32
  let v327 : BitVec 32 := Scalar.muli v11 c1_i32_220
  let v328 : BitVec 32 := Scalar.addi v326 v327
  v328.toNat
def k0_dev25 (d3 : Dev nD) (v12 : BitVec 32) : Nat :=
  let c0_i32_242 : BitVec 32 := 0#32
  let c1_i32_3 : BitVec 32 := 1#32
  let v13 : BitVec 32 := Scalar.addi v12 c1_i32_3
  let c8_i32_4 : BitVec 32 := 8#32
  let c0_i32 : BitVec 32 := 0#32
  let v14 : BitVec 1 := Scalar.cmpi .eq c8_i32_4 c0_i32
  let c1_i32_5 : BitVec 32 := 1#32
  let v15 : BitVec 32 := Scalar.select v14 c1_i32_5 c8_i32_4
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let c0_i32_10 : BitVec 32 := 0#32
  let v25 : BitVec 1 := Scalar.cmpi .sgt v23 c0_i32_10
  let v26 : BitVec 32 := Scalar.extui v25
  let c0_i32_11 : BitVec 32 := 0#32
  let v27 : BitVec 1 := Scalar.cmpi .slt v23 c0_i32_11
  let v28 : BitVec 32 := Scalar.extui v27
  let v29 : BitVec 32 := Scalar.subi v26 v28
  let c4_i32_9 : BitVec 32 := 4#32
  let c0_i32_12 : BitVec 32 := 0#32
  let v30 : BitVec 1 := Scalar.cmpi .sgt c4_i32_9 c0_i32_12
  let v31 : BitVec 32 := Scalar.extui v30
  let c0_i32_13 : BitVec 32 := 0#32
  let v32 : BitVec 1 := Scalar.cmpi .slt c4_i32_9 c0_i32_13
  let v33 : BitVec 32 := Scalar.extui v32
  let v34 : BitVec 32 := Scalar.subi v31 v33
  let v35 : BitVec 1 := Scalar.cmpi .ne v29 v34
  let v36 : BitVec 32 := Scalar.remsi v23 c4_i32_9
  let c0_i32_14 : BitVec 32 := 0#32
  let v37 : BitVec 1 := Scalar.cmpi .ne v36 c0_i32_14
  let v38 : BitVec 1 := Scalar.andi v35 v37
  let v24 : BitVec 32 := Scalar.divsi v23 c4_i32_9
  let c1_i32_15 : BitVec 32 := 1#32
  let v39 : BitVec 32 := Scalar.subi v24 c1_i32_15
  let v40 : BitVec 32 := Scalar.select v38 v39 v24
  let c8_i32_241 : BitVec 32 := 8#32
  let v359 : BitVec 32 := Scalar.muli v40 c8_i32_241
  let v360 : BitVec 32 := Scalar.addi c0_i32_242 v359
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let c4_i32_243 : BitVec 32 := 4#32
  let v361 : BitVec 32 := Scalar.muli v8 c4_i32_243
  let v362 : BitVec 32 := Scalar.addi v360 v361
  let c0_i32_16 : BitVec 32 := 0#32
  let v41 : BitVec 1 := Scalar.cmpi .eq v40 c0_i32_16
  let c7_i32 : BitVec 32 := 7#32
  let v42 : BitVec 32 := Scalar.subi c7_i32 v23
  let v43 : BitVec 32 := Scalar.select v41 v23 v42
  let c1_i32_244 : BitVec 32 := 1#32
  let v363 : BitVec 32 := Scalar.muli v43 c1_i32_244
  let v364 : BitVec 32 := Scalar.addi v362 v363
  v364.toNat
def k0_dev26 (d3 : Dev nD) (v12 : BitVec 32) : Nat :=
  let c0_i32_252 : BitVec 32 := 0#32
  let c1_i32_17 : BitVec 32 := 1#32
  let v44 : BitVec 32 := Scalar.subi v12 c1_i32_17
  let c8_i32_18 : BitVec 32 := 8#32
  let c0_i32_19 : BitVec 32 := 0#32
  let v45 : BitVec 1 := Scalar.cmpi .eq c8_i32_18 c0_i32_19
  let c1_i32_20 : BitVec 32 := 1#32
  let v46 : BitVec 32 := Scalar.select v45 c1_i32_20 c8_i32_18
  let v47 : BitVec 32 := Scalar.remsi v44 v46
  let c0_i32_22 : BitVec 32 := 0#32
  let v49 : BitVec 1 := Scalar.cmpi .slt v47 c0_i32_22
  let c0_i32_23 : BitVec 32 := 0#32
  let v50 : BitVec 1 := Scalar.cmpi .slt v46 c0_i32_23
  let v51 : BitVec 1 := Scalar.xori v49 v50
  let c0_i32_21 : BitVec 32 := 0#32
  let v48 : BitVec 1 := Scalar.cmpi .ne v47 c0_i32_21
  let v52 : BitVec 1 := Scalar.andi v51 v48
  let v53 : BitVec 32 := Scalar.addi v47 v46
  let v54 : BitVec 32 := Scalar.select v52 v53 v47
  let c0_i32_25 : BitVec 32 := 0#32
  let v56 : BitVec 1 := Scalar.cmpi .sgt v54 c0_i32_25
  let v57 : BitVec 32 := Scalar.extui v56
  let c0_i32_26 : BitVec 32 := 0#32
  let v58 : BitVec 1 := Scalar.cmpi .slt v54 c0_i32_26
  let v59 : BitVec 32 := Scalar.extui v58
  let v60 : BitVec 32 := Scalar.subi v57 v59
  let c4_i32_24 : BitVec 32 := 4#32
  let c0_i32_27 : BitVec 32 := 0#32
  let v61 : BitVec 1 := Scalar.cmpi .sgt c4_i32_24 c0_i32_27
  let v62 : BitVec 32 := Scalar.extui v61
  let c0_i32_28 : BitVec 32 := 0#32
  let v63 : BitVec 1 := Scalar.cmpi .slt c4_i32_24 c0_i32_28
  let v64 : BitVec 32 := Scalar.extui v63
  let v65 : BitVec 32 := Scalar.subi v62 v64
  let v66 : BitVec 1 := Scalar.cmpi .ne v60 v65
  let v67 : BitVec 32 := Scalar.remsi v54 c4_i32_24
  let c0_i32_29 : BitVec 32 := 0#32
  let v68 : BitVec 1 := Scalar.cmpi .ne v67 c0_i32_29
  let v69 : BitVec 1 := Scalar.andi v66 v68
  let v55 : BitVec 32 := Scalar.divsi v54 c4_i32_24
  let c1_i32_30 : BitVec 32 := 1#32
  let v70 : BitVec 32 := Scalar.subi v55 c1_i32_30
  let v71 : BitVec 32 := Scalar.select v69 v70 v55
  let c8_i32_251 : BitVec 32 := 8#32
  let v373 : BitVec 32 := Scalar.muli v71 c8_i32_251
  let v374 : BitVec 32 := Scalar.addi c0_i32_252 v373
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let c4_i32_253 : BitVec 32 := 4#32
  let v375 : BitVec 32 := Scalar.muli v8 c4_i32_253
  let v376 : BitVec 32 := Scalar.addi v374 v375
  let c0_i32_31 : BitVec 32 := 0#32
  let v72 : BitVec 1 := Scalar.cmpi .eq v71 c0_i32_31
  let c7_i32_32 : BitVec 32 := 7#32
  let v73 : BitVec 32 := Scalar.subi c7_i32_32 v54
  let v74 : BitVec 32 := Scalar.select v72 v54 v73
  let c1_i32_254 : BitVec 32 := 1#32
  let v377 : BitVec 32 := Scalar.muli v74 c1_i32_254
  let v378 : BitVec 32 := Scalar.addi v376 v377
  v378.toNat
def k0_off40 (v12 : BitVec 32) (c1_i32_225 : BitVec 32) : Fin 3 → Nat :=
  let v337 : BitVec 32 := Scalar.subi v12 c1_i32_225
  let c8_i32_226 : BitVec 32 := 8#32
  let c0_i32_227 : BitVec 32 := 0#32
  let v338 : BitVec 1 := Scalar.cmpi .eq c8_i32_226 c0_i32_227
  let c1_i32_228 : BitVec 32 := 1#32
  let v339 : BitVec 32 := Scalar.select v338 c1_i32_228 c8_i32_226
  let v340 : BitVec 32 := Scalar.remsi v337 v339
  let c0_i32_230 : BitVec 32 := 0#32
  let v342 : BitVec 1 := Scalar.cmpi .slt v340 c0_i32_230
  let c0_i32_231 : BitVec 32 := 0#32
  let v343 : BitVec 1 := Scalar.cmpi .slt v339 c0_i32_231
  let v344 : BitVec 1 := Scalar.xori v342 v343
  let c0_i32_229 : BitVec 32 := 0#32
  let v341 : BitVec 1 := Scalar.cmpi .ne v340 c0_i32_229
  let v345 : BitVec 1 := Scalar.andi v344 v341
  let v346 : BitVec 32 := Scalar.addi v340 v339
  let v347 : BitVec 32 := Scalar.select v345 v346 v340
  let v428 : Index := Scalar.indexCast v347
  let c0_298 : Index := 0#32
  let c0_299 : Index := 0#32
  ![v428.toNat, 0, 0]
def k0_off41 (v12 : BitVec 32) (c1_i32_225 : BitVec 32) : Fin 2 → Nat :=
  let v337 : BitVec 32 := Scalar.subi v12 c1_i32_225
  let c8_i32_226 : BitVec 32 := 8#32
  let c0_i32_227 : BitVec 32 := 0#32
  let v338 : BitVec 1 := Scalar.cmpi .eq c8_i32_226 c0_i32_227
  let c1_i32_228 : BitVec 32 := 1#32
  let v339 : BitVec 32 := Scalar.select v338 c1_i32_228 c8_i32_226
  let v340 : BitVec 32 := Scalar.remsi v337 v339
  let c0_i32_230 : BitVec 32 := 0#32
  let v342 : BitVec 1 := Scalar.cmpi .slt v340 c0_i32_230
  let c0_i32_231 : BitVec 32 := 0#32
  let v343 : BitVec 1 := Scalar.cmpi .slt v339 c0_i32_231
  let v344 : BitVec 1 := Scalar.xori v342 v343
  let c0_i32_229 : BitVec 32 := 0#32
  let v341 : BitVec 1 := Scalar.cmpi .ne v340 c0_i32_229
  let v345 : BitVec 1 := Scalar.andi v344 v341
  let v346 : BitVec 32 := Scalar.addi v340 v339
  let v347 : BitVec 32 := Scalar.select v345 v346 v340
  let c512_i32_303 : BitVec 32 := 512#32
  let v435 : BitVec 32 := Scalar.muli v347 c512_i32_303
  let c0_i32_306 : BitVec 32 := 0#32
  ![v435.toNat, 0]
def k0_off42 (v12 : BitVec 32) (c1_i32_225 : BitVec 32) : Fin 3 → Nat :=
  let v337 : BitVec 32 := Scalar.subi v12 c1_i32_225
  let c8_i32_226 : BitVec 32 := 8#32
  let c0_i32_227 : BitVec 32 := 0#32
  let v338 : BitVec 1 := Scalar.cmpi .eq c8_i32_226 c0_i32_227
  let c1_i32_228 : BitVec 32 := 1#32
  let v339 : BitVec 32 := Scalar.select v338 c1_i32_228 c8_i32_226
  let v340 : BitVec 32 := Scalar.remsi v337 v339
  let c0_i32_230 : BitVec 32 := 0#32
  let v342 : BitVec 1 := Scalar.cmpi .slt v340 c0_i32_230
  let c0_i32_231 : BitVec 32 := 0#32
  let v343 : BitVec 1 := Scalar.cmpi .slt v339 c0_i32_231
  let v344 : BitVec 1 := Scalar.xori v342 v343
  let c0_i32_229 : BitVec 32 := 0#32
  let v341 : BitVec 1 := Scalar.cmpi .ne v340 c0_i32_229
  let v345 : BitVec 1 := Scalar.andi v344 v341
  let v346 : BitVec 32 := Scalar.addi v340 v339
  let v347 : BitVec 32 := Scalar.select v345 v346 v340
  let v446 : Index := Scalar.indexCast v347
  let c0_314 : Index := 0#32
  let c2048_315 : Index := 2048#32
  ![v446.toNat, 0, 2048]
def k0_off43 (v12 : BitVec 32) (c1_i32_225 : BitVec 32) : Fin 2 → Nat :=
  let v337 : BitVec 32 := Scalar.subi v12 c1_i32_225
  let c8_i32_226 : BitVec 32 := 8#32
  let c0_i32_227 : BitVec 32 := 0#32
  let v338 : BitVec 1 := Scalar.cmpi .eq c8_i32_226 c0_i32_227
  let c1_i32_228 : BitVec 32 := 1#32
  let v339 : BitVec 32 := Scalar.select v338 c1_i32_228 c8_i32_226
  let v340 : BitVec 32 := Scalar.remsi v337 v339
  let c0_i32_230 : BitVec 32 := 0#32
  let v342 : BitVec 1 := Scalar.cmpi .slt v340 c0_i32_230
  let c0_i32_231 : BitVec 32 := 0#32
  let v343 : BitVec 1 := Scalar.cmpi .slt v339 c0_i32_231
  let v344 : BitVec 1 := Scalar.xori v342 v343
  let c0_i32_229 : BitVec 32 := 0#32
  let v341 : BitVec 1 := Scalar.cmpi .ne v340 c0_i32_229
  let v345 : BitVec 1 := Scalar.andi v344 v341
  let v346 : BitVec 32 := Scalar.addi v340 v339
  let v347 : BitVec 32 := Scalar.select v345 v346 v340
  let c512_i32_319 : BitVec 32 := 512#32
  let v453 : BitVec 32 := Scalar.muli v347 c512_i32_319
  let c2048_i32_322 : BitVec 32 := 2048#32
  ![v453.toNat, 2048]
def k0_off44 (v12 : BitVec 32) (c1_i32_232 : BitVec 32) : Fin 3 → Nat :=
  let v348 : BitVec 32 := Scalar.addi v12 c1_i32_232
  let c8_i32_233 : BitVec 32 := 8#32
  let c0_i32_234 : BitVec 32 := 0#32
  let v349 : BitVec 1 := Scalar.cmpi .eq c8_i32_233 c0_i32_234
  let c1_i32_235 : BitVec 32 := 1#32
  let v350 : BitVec 32 := Scalar.select v349 c1_i32_235 c8_i32_233
  let v351 : BitVec 32 := Scalar.remsi v348 v350
  let c0_i32_237 : BitVec 32 := 0#32
  let v353 : BitVec 1 := Scalar.cmpi .slt v351 c0_i32_237
  let c0_i32_238 : BitVec 32 := 0#32
  let v354 : BitVec 1 := Scalar.cmpi .slt v350 c0_i32_238
  let v355 : BitVec 1 := Scalar.xori v353 v354
  let c0_i32_236 : BitVec 32 := 0#32
  let v352 : BitVec 1 := Scalar.cmpi .ne v351 c0_i32_236
  let v356 : BitVec 1 := Scalar.andi v355 v352
  let v357 : BitVec 32 := Scalar.addi v351 v350
  let v358 : BitVec 32 := Scalar.select v356 v357 v351
  let v464 : Index := Scalar.indexCast v358
  let c0_330 : Index := 0#32
  let c0_331 : Index := 0#32
  ![v464.toNat, 0, 0]
def k0_off45 (v12 : BitVec 32) (c1_i32_232 : BitVec 32) : Fin 2 → Nat :=
  let v348 : BitVec 32 := Scalar.addi v12 c1_i32_232
  let c8_i32_233 : BitVec 32 := 8#32
  let c0_i32_234 : BitVec 32 := 0#32
  let v349 : BitVec 1 := Scalar.cmpi .eq c8_i32_233 c0_i32_234
  let c1_i32_235 : BitVec 32 := 1#32
  let v350 : BitVec 32 := Scalar.select v349 c1_i32_235 c8_i32_233
  let v351 : BitVec 32 := Scalar.remsi v348 v350
  let c0_i32_237 : BitVec 32 := 0#32
  let v353 : BitVec 1 := Scalar.cmpi .slt v351 c0_i32_237
  let c0_i32_238 : BitVec 32 := 0#32
  let v354 : BitVec 1 := Scalar.cmpi .slt v350 c0_i32_238
  let v355 : BitVec 1 := Scalar.xori v353 v354
  let c0_i32_236 : BitVec 32 := 0#32
  let v352 : BitVec 1 := Scalar.cmpi .ne v351 c0_i32_236
  let v356 : BitVec 1 := Scalar.andi v355 v352
  let v357 : BitVec 32 := Scalar.addi v351 v350
  let v358 : BitVec 32 := Scalar.select v356 v357 v351
  let c512_i32_335 : BitVec 32 := 512#32
  let v471 : BitVec 32 := Scalar.muli v358 c512_i32_335
  let c0_i32_338 : BitVec 32 := 0#32
  ![v471.toNat, 0]
def k0_off46 (v12 : BitVec 32) (c1_i32_232 : BitVec 32) : Fin 3 → Nat :=
  let v348 : BitVec 32 := Scalar.addi v12 c1_i32_232
  let c8_i32_233 : BitVec 32 := 8#32
  let c0_i32_234 : BitVec 32 := 0#32
  let v349 : BitVec 1 := Scalar.cmpi .eq c8_i32_233 c0_i32_234
  let c1_i32_235 : BitVec 32 := 1#32
  let v350 : BitVec 32 := Scalar.select v349 c1_i32_235 c8_i32_233
  let v351 : BitVec 32 := Scalar.remsi v348 v350
  let c0_i32_237 : BitVec 32 := 0#32
  let v353 : BitVec 1 := Scalar.cmpi .slt v351 c0_i32_237
  let c0_i32_238 : BitVec 32 := 0#32
  let v354 : BitVec 1 := Scalar.cmpi .slt v350 c0_i32_238
  let v355 : BitVec 1 := Scalar.xori v353 v354
  let c0_i32_236 : BitVec 32 := 0#32
  let v352 : BitVec 1 := Scalar.cmpi .ne v351 c0_i32_236
  let v356 : BitVec 1 := Scalar.andi v355 v352
  let v357 : BitVec 32 := Scalar.addi v351 v350
  let v358 : BitVec 32 := Scalar.select v356 v357 v351
  let v482 : Index := Scalar.indexCast v358
  let c0_346 : Index := 0#32
  let c2048_347 : Index := 2048#32
  ![v482.toNat, 0, 2048]
def k0_off47 (v12 : BitVec 32) (c1_i32_232 : BitVec 32) : Fin 2 → Nat :=
  let v348 : BitVec 32 := Scalar.addi v12 c1_i32_232
  let c8_i32_233 : BitVec 32 := 8#32
  let c0_i32_234 : BitVec 32 := 0#32
  let v349 : BitVec 1 := Scalar.cmpi .eq c8_i32_233 c0_i32_234
  let c1_i32_235 : BitVec 32 := 1#32
  let v350 : BitVec 32 := Scalar.select v349 c1_i32_235 c8_i32_233
  let v351 : BitVec 32 := Scalar.remsi v348 v350
  let c0_i32_237 : BitVec 32 := 0#32
  let v353 : BitVec 1 := Scalar.cmpi .slt v351 c0_i32_237
  let c0_i32_238 : BitVec 32 := 0#32
  let v354 : BitVec 1 := Scalar.cmpi .slt v350 c0_i32_238
  let v355 : BitVec 1 := Scalar.xori v353 v354
  let c0_i32_236 : BitVec 32 := 0#32
  let v352 : BitVec 1 := Scalar.cmpi .ne v351 c0_i32_236
  let v356 : BitVec 1 := Scalar.andi v355 v352
  let v357 : BitVec 32 := Scalar.addi v351 v350
  let v358 : BitVec 32 := Scalar.select v356 v357 v351
  let c512_i32_351 : BitVec 32 := 512#32
  let v489 : BitVec 32 := Scalar.muli v358 c512_i32_351
  let c2048_i32_354 : BitVec 32 := 2048#32
  ![v489.toNat, 2048]
def k0_dev27 (d3 : Dev nD) : Nat :=
  let c0_i32_410 : BitVec 32 := 0#32
  let v3 : BitVec 32 := Dev.word d3
  let c8_i32 : BitVec 32 := 8#32
  let v4 : BitVec 32 := Scalar.divsi v3 c8_i32
  let c2_i32 : BitVec 32 := 2#32
  let v5 : BitVec 32 := Scalar.remsi v4 c2_i32
  let c8_i32_409 : BitVec 32 := 8#32
  let v555 : BitVec 32 := Scalar.muli v5 c8_i32_409
  let v556 : BitVec 32 := Scalar.addi c0_i32_410 v555
  let c1_i32_33 : BitVec 32 := 1#32
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let v75 : BitVec 32 := Scalar.subi c1_i32_33 v8
  let c4_i32_411 : BitVec 32 := 4#32
  let v557 : BitVec 32 := Scalar.muli v75 c4_i32_411
  let v558 : BitVec 32 := Scalar.addi v556 v557
  let v9 : BitVec 32 := Dev.word d3
  let c1_i32_2 : BitVec 32 := 1#32
  let v10 : BitVec 32 := Scalar.divsi v9 c1_i32_2
  let c4_i32_1 : BitVec 32 := 4#32
  let v11 : BitVec 32 := Scalar.remsi v10 c4_i32_1
  let c1_i32_412 : BitVec 32 := 1#32
  let v559 : BitVec 32 := Scalar.muli v11 c1_i32_412
  let v560 : BitVec 32 := Scalar.addi v558 v559
  v560.toNat
def k0_dev28 (d3 : Dev nD) : Nat :=
  let c0_i32_419 : BitVec 32 := 0#32
  let v3 : BitVec 32 := Dev.word d3
  let c8_i32 : BitVec 32 := 8#32
  let v4 : BitVec 32 := Scalar.divsi v3 c8_i32
  let c2_i32 : BitVec 32 := 2#32
  let v5 : BitVec 32 := Scalar.remsi v4 c2_i32
  let c8_i32_418 : BitVec 32 := 8#32
  let v569 : BitVec 32 := Scalar.muli v5 c8_i32_418
  let v570 : BitVec 32 := Scalar.addi c0_i32_419 v569
  let c1_i32_33 : BitVec 32 := 1#32
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let v75 : BitVec 32 := Scalar.subi c1_i32_33 v8
  let c4_i32_420 : BitVec 32 := 4#32
  let v571 : BitVec 32 := Scalar.muli v75 c4_i32_420
  let v572 : BitVec 32 := Scalar.addi v570 v571
  let v9 : BitVec 32 := Dev.word d3
  let c1_i32_2 : BitVec 32 := 1#32
  let v10 : BitVec 32 := Scalar.divsi v9 c1_i32_2
  let c4_i32_1 : BitVec 32 := 4#32
  let v11 : BitVec 32 := Scalar.remsi v10 c4_i32_1
  let c1_i32_421 : BitVec 32 := 1#32
  let v573 : BitVec 32 := Scalar.muli v11 c1_i32_421
  let v574 : BitVec 32 := Scalar.addi v572 v573
  v574.toNat
def k0_dev29 (d3 : Dev nD) (v12 : BitVec 32) : Nat :=
  let c0_i32_443 : BitVec 32 := 0#32
  let c1_i32_3 : BitVec 32 := 1#32
  let v13 : BitVec 32 := Scalar.addi v12 c1_i32_3
  let c8_i32_4 : BitVec 32 := 8#32
  let c0_i32 : BitVec 32 := 0#32
  let v14 : BitVec 1 := Scalar.cmpi .eq c8_i32_4 c0_i32
  let c1_i32_5 : BitVec 32 := 1#32
  let v15 : BitVec 32 := Scalar.select v14 c1_i32_5 c8_i32_4
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let c0_i32_10 : BitVec 32 := 0#32
  let v25 : BitVec 1 := Scalar.cmpi .sgt v23 c0_i32_10
  let v26 : BitVec 32 := Scalar.extui v25
  let c0_i32_11 : BitVec 32 := 0#32
  let v27 : BitVec 1 := Scalar.cmpi .slt v23 c0_i32_11
  let v28 : BitVec 32 := Scalar.extui v27
  let v29 : BitVec 32 := Scalar.subi v26 v28
  let c4_i32_9 : BitVec 32 := 4#32
  let c0_i32_12 : BitVec 32 := 0#32
  let v30 : BitVec 1 := Scalar.cmpi .sgt c4_i32_9 c0_i32_12
  let v31 : BitVec 32 := Scalar.extui v30
  let c0_i32_13 : BitVec 32 := 0#32
  let v32 : BitVec 1 := Scalar.cmpi .slt c4_i32_9 c0_i32_13
  let v33 : BitVec 32 := Scalar.extui v32
  let v34 : BitVec 32 := Scalar.subi v31 v33
  let v35 : BitVec 1 := Scalar.cmpi .ne v29 v34
  let v36 : BitVec 32 := Scalar.remsi v23 c4_i32_9
  let c0_i32_14 : BitVec 32 := 0#32
  let v37 : BitVec 1 := Scalar.cmpi .ne v36 c0_i32_14
  let v38 : BitVec 1 := Scalar.andi v35 v37
  let v24 : BitVec 32 := Scalar.divsi v23 c4_i32_9
  let c1_i32_15 : BitVec 32 := 1#32
  let v39 : BitVec 32 := Scalar.subi v24 c1_i32_15
  let v40 : BitVec 32 := Scalar.select v38 v39 v24
  let c8_i32_442 : BitVec 32 := 8#32
  let v605 : BitVec 32 := Scalar.muli v40 c8_i32_442
  let v606 : BitVec 32 := Scalar.addi c0_i32_443 v605
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let c4_i32_444 : BitVec 32 := 4#32
  let v607 : BitVec 32 := Scalar.muli v8 c4_i32_444
  let v608 : BitVec 32 := Scalar.addi v606 v607
  let c0_i32_16 : BitVec 32 := 0#32
  let v41 : BitVec 1 := Scalar.cmpi .eq v40 c0_i32_16
  let c7_i32 : BitVec 32 := 7#32
  let v42 : BitVec 32 := Scalar.subi c7_i32 v23
  let v43 : BitVec 32 := Scalar.select v41 v23 v42
  let c1_i32_445 : BitVec 32 := 1#32
  let v609 : BitVec 32 := Scalar.muli v43 c1_i32_445
  let v610 : BitVec 32 := Scalar.addi v608 v609
  v610.toNat
def k0_dev30 (d3 : Dev nD) (v12 : BitVec 32) : Nat :=
  let c0_i32_453 : BitVec 32 := 0#32
  let c1_i32_17 : BitVec 32 := 1#32
  let v44 : BitVec 32 := Scalar.subi v12 c1_i32_17
  let c8_i32_18 : BitVec 32 := 8#32
  let c0_i32_19 : BitVec 32 := 0#32
  let v45 : BitVec 1 := Scalar.cmpi .eq c8_i32_18 c0_i32_19
  let c1_i32_20 : BitVec 32 := 1#32
  let v46 : BitVec 32 := Scalar.select v45 c1_i32_20 c8_i32_18
  let v47 : BitVec 32 := Scalar.remsi v44 v46
  let c0_i32_22 : BitVec 32 := 0#32
  let v49 : BitVec 1 := Scalar.cmpi .slt v47 c0_i32_22
  let c0_i32_23 : BitVec 32 := 0#32
  let v50 : BitVec 1 := Scalar.cmpi .slt v46 c0_i32_23
  let v51 : BitVec 1 := Scalar.xori v49 v50
  let c0_i32_21 : BitVec 32 := 0#32
  let v48 : BitVec 1 := Scalar.cmpi .ne v47 c0_i32_21
  let v52 : BitVec 1 := Scalar.andi v51 v48
  let v53 : BitVec 32 := Scalar.addi v47 v46
  let v54 : BitVec 32 := Scalar.select v52 v53 v47
  let c0_i32_25 : BitVec 32 := 0#32
  let v56 : BitVec 1 := Scalar.cmpi .sgt v54 c0_i32_25
  let v57 : BitVec 32 := Scalar.extui v56
  let c0_i32_26 : BitVec 32 := 0#32
  let v58 : BitVec 1 := Scalar.cmpi .slt v54 c0_i32_26
  let v59 : BitVec 32 := Scalar.extui v58
  let v60 : BitVec 32 := Scalar.subi v57 v59
  let c4_i32_24 : BitVec 32 := 4#32
  let c0_i32_27 : BitVec 32 := 0#32
  let v61 : BitVec 1 := Scalar.cmpi .sgt c4_i32_24 c0_i32_27
  let v62 : BitVec 32 := Scalar.extui v61
  let c0_i32_28 : BitVec 32 := 0#32
  let v63 : BitVec 1 := Scalar.cmpi .slt c4_i32_24 c0_i32_28
  let v64 : BitVec 32 := Scalar.extui v63
  let v65 : BitVec 32 := Scalar.subi v62 v64
  let v66 : BitVec 1 := Scalar.cmpi .ne v60 v65
  let v67 : BitVec 32 := Scalar.remsi v54 c4_i32_24
  let c0_i32_29 : BitVec 32 := 0#32
  let v68 : BitVec 1 := Scalar.cmpi .ne v67 c0_i32_29
  let v69 : BitVec 1 := Scalar.andi v66 v68
  let v55 : BitVec 32 := Scalar.divsi v54 c4_i32_24
  let c1_i32_30 : BitVec 32 := 1#32
  let v70 : BitVec 32 := Scalar.subi v55 c1_i32_30
  let v71 : BitVec 32 := Scalar.select v69 v70 v55
  let c8_i32_452 : BitVec 32 := 8#32
  let v619 : BitVec 32 := Scalar.muli v71 c8_i32_452
  let v620 : BitVec 32 := Scalar.addi c0_i32_453 v619
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let c4_i32_454 : BitVec 32 := 4#32
  let v621 : BitVec 32 := Scalar.muli v8 c4_i32_454
  let v622 : BitVec 32 := Scalar.addi v620 v621
  let c0_i32_31 : BitVec 32 := 0#32
  let v72 : BitVec 1 := Scalar.cmpi .eq v71 c0_i32_31
  let c7_i32_32 : BitVec 32 := 7#32
  let v73 : BitVec 32 := Scalar.subi c7_i32_32 v54
  let v74 : BitVec 32 := Scalar.select v72 v54 v73
  let c1_i32_455 : BitVec 32 := 1#32
  let v623 : BitVec 32 := Scalar.muli v74 c1_i32_455
  let v624 : BitVec 32 := Scalar.addi v622 v623
  v624.toNat
def k0_dev31 (d3 : Dev nD) : Nat :=
  let c0_i32_611 : BitVec 32 := 0#32
  let v3 : BitVec 32 := Dev.word d3
  let c8_i32 : BitVec 32 := 8#32
  let v4 : BitVec 32 := Scalar.divsi v3 c8_i32
  let c2_i32 : BitVec 32 := 2#32
  let v5 : BitVec 32 := Scalar.remsi v4 c2_i32
  let c8_i32_610 : BitVec 32 := 8#32
  let v801 : BitVec 32 := Scalar.muli v5 c8_i32_610
  let v802 : BitVec 32 := Scalar.addi c0_i32_611 v801
  let c1_i32_33 : BitVec 32 := 1#32
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let v75 : BitVec 32 := Scalar.subi c1_i32_33 v8
  let c4_i32_612 : BitVec 32 := 4#32
  let v803 : BitVec 32 := Scalar.muli v75 c4_i32_612
  let v804 : BitVec 32 := Scalar.addi v802 v803
  let v9 : BitVec 32 := Dev.word d3
  let c1_i32_2 : BitVec 32 := 1#32
  let v10 : BitVec 32 := Scalar.divsi v9 c1_i32_2
  let c4_i32_1 : BitVec 32 := 4#32
  let v11 : BitVec 32 := Scalar.remsi v10 c4_i32_1
  let c1_i32_613 : BitVec 32 := 1#32
  let v805 : BitVec 32 := Scalar.muli v11 c1_i32_613
  let v806 : BitVec 32 := Scalar.addi v804 v805
  v806.toNat
def k0_dev32 (d3 : Dev nD) : Nat :=
  let c0_i32_620 : BitVec 32 := 0#32
  let v3 : BitVec 32 := Dev.word d3
  let c8_i32 : BitVec 32 := 8#32
  let v4 : BitVec 32 := Scalar.divsi v3 c8_i32
  let c2_i32 : BitVec 32 := 2#32
  let v5 : BitVec 32 := Scalar.remsi v4 c2_i32
  let c8_i32_619 : BitVec 32 := 8#32
  let v815 : BitVec 32 := Scalar.muli v5 c8_i32_619
  let v816 : BitVec 32 := Scalar.addi c0_i32_620 v815
  let c1_i32_33 : BitVec 32 := 1#32
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let v75 : BitVec 32 := Scalar.subi c1_i32_33 v8
  let c4_i32_621 : BitVec 32 := 4#32
  let v817 : BitVec 32 := Scalar.muli v75 c4_i32_621
  let v818 : BitVec 32 := Scalar.addi v816 v817
  let v9 : BitVec 32 := Dev.word d3
  let c1_i32_2 : BitVec 32 := 1#32
  let v10 : BitVec 32 := Scalar.divsi v9 c1_i32_2
  let c4_i32_1 : BitVec 32 := 4#32
  let v11 : BitVec 32 := Scalar.remsi v10 c4_i32_1
  let c1_i32_622 : BitVec 32 := 1#32
  let v819 : BitVec 32 := Scalar.muli v11 c1_i32_622
  let v820 : BitVec 32 := Scalar.addi v818 v819
  v820.toNat
def k0_off48 (v12 : BitVec 32) : Fin 3 → Nat :=
  let c3_i32_627 : BitVec 32 := 3#32
  let v829 : BitVec 32 := Scalar.subi v12 c3_i32_627
  let c8_i32_628 : BitVec 32 := 8#32
  let c0_i32_629 : BitVec 32 := 0#32
  let v830 : BitVec 1 := Scalar.cmpi .eq c8_i32_628 c0_i32_629
  let c1_i32_630 : BitVec 32 := 1#32
  let v831 : BitVec 32 := Scalar.select v830 c1_i32_630 c8_i32_628
  let v832 : BitVec 32 := Scalar.remsi v829 v831
  let c0_i32_632 : BitVec 32 := 0#32
  let v834 : BitVec 1 := Scalar.cmpi .slt v832 c0_i32_632
  let c0_i32_633 : BitVec 32 := 0#32
  let v835 : BitVec 1 := Scalar.cmpi .slt v831 c0_i32_633
  let v836 : BitVec 1 := Scalar.xori v834 v835
  let c0_i32_631 : BitVec 32 := 0#32
  let v833 : BitVec 1 := Scalar.cmpi .ne v832 c0_i32_631
  let v837 : BitVec 1 := Scalar.andi v836 v833
  let v838 : BitVec 32 := Scalar.addi v832 v831
  let v839 : BitVec 32 := Scalar.select v837 v838 v832
  let c0_i32_647 : BitVec 32 := 0#32
  let c1280_i32_648 : BitVec 32 := 1280#32
  ![v839.toNat, 0, 1280]
def k0_dev33 (d3 : Dev nD) (v12 : BitVec 32) : Nat :=
  let c0_i32_644 : BitVec 32 := 0#32
  let c1_i32_3 : BitVec 32 := 1#32
  let v13 : BitVec 32 := Scalar.addi v12 c1_i32_3
  let c8_i32_4 : BitVec 32 := 8#32
  let c0_i32 : BitVec 32 := 0#32
  let v14 : BitVec 1 := Scalar.cmpi .eq c8_i32_4 c0_i32
  let c1_i32_5 : BitVec 32 := 1#32
  let v15 : BitVec 32 := Scalar.select v14 c1_i32_5 c8_i32_4
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let c0_i32_10 : BitVec 32 := 0#32
  let v25 : BitVec 1 := Scalar.cmpi .sgt v23 c0_i32_10
  let v26 : BitVec 32 := Scalar.extui v25
  let c0_i32_11 : BitVec 32 := 0#32
  let v27 : BitVec 1 := Scalar.cmpi .slt v23 c0_i32_11
  let v28 : BitVec 32 := Scalar.extui v27
  let v29 : BitVec 32 := Scalar.subi v26 v28
  let c4_i32_9 : BitVec 32 := 4#32
  let c0_i32_12 : BitVec 32 := 0#32
  let v30 : BitVec 1 := Scalar.cmpi .sgt c4_i32_9 c0_i32_12
  let v31 : BitVec 32 := Scalar.extui v30
  let c0_i32_13 : BitVec 32 := 0#32
  let v32 : BitVec 1 := Scalar.cmpi .slt c4_i32_9 c0_i32_13
  let v33 : BitVec 32 := Scalar.extui v32
  let v34 : BitVec 32 := Scalar.subi v31 v33
  let v35 : BitVec 1 := Scalar.cmpi .ne v29 v34
  let v36 : BitVec 32 := Scalar.remsi v23 c4_i32_9
  let c0_i32_14 : BitVec 32 := 0#32
  let v37 : BitVec 1 := Scalar.cmpi .ne v36 c0_i32_14
  let v38 : BitVec 1 := Scalar.andi v35 v37
  let v24 : BitVec 32 := Scalar.divsi v23 c4_i32_9
  let c1_i32_15 : BitVec 32 := 1#32
  let v39 : BitVec 32 := Scalar.subi v24 c1_i32_15
  let v40 : BitVec 32 := Scalar.select v38 v39 v24
  let c8_i32_643 : BitVec 32 := 8#32
  let v851 : BitVec 32 := Scalar.muli v40 c8_i32_643
  let v852 : BitVec 32 := Scalar.addi c0_i32_644 v851
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let c4_i32_645 : BitVec 32 := 4#32
  let v853 : BitVec 32 := Scalar.muli v8 c4_i32_645
  let v854 : BitVec 32 := Scalar.addi v852 v853
  let c0_i32_16 : BitVec 32 := 0#32
  let v41 : BitVec 1 := Scalar.cmpi .eq v40 c0_i32_16
  let c7_i32 : BitVec 32 := 7#32
  let v42 : BitVec 32 := Scalar.subi c7_i32 v23
  let v43 : BitVec 32 := Scalar.select v41 v23 v42
  let c1_i32_646 : BitVec 32 := 1#32
  let v855 : BitVec 32 := Scalar.muli v43 c1_i32_646
  let v856 : BitVec 32 := Scalar.addi v854 v855
  v856.toNat
def k0_off49 (v12 : BitVec 32) : Fin 3 → Nat :=
  let c3_i32_634 : BitVec 32 := 3#32
  let v840 : BitVec 32 := Scalar.addi v12 c3_i32_634
  let c8_i32_635 : BitVec 32 := 8#32
  let c0_i32_636 : BitVec 32 := 0#32
  let v841 : BitVec 1 := Scalar.cmpi .eq c8_i32_635 c0_i32_636
  let c1_i32_637 : BitVec 32 := 1#32
  let v842 : BitVec 32 := Scalar.select v841 c1_i32_637 c8_i32_635
  let v843 : BitVec 32 := Scalar.remsi v840 v842
  let c0_i32_639 : BitVec 32 := 0#32
  let v845 : BitVec 1 := Scalar.cmpi .slt v843 c0_i32_639
  let c0_i32_640 : BitVec 32 := 0#32
  let v846 : BitVec 1 := Scalar.cmpi .slt v842 c0_i32_640
  let v847 : BitVec 1 := Scalar.xori v845 v846
  let c0_i32_638 : BitVec 32 := 0#32
  let v844 : BitVec 1 := Scalar.cmpi .ne v843 c0_i32_638
  let v848 : BitVec 1 := Scalar.andi v847 v844
  let v849 : BitVec 32 := Scalar.addi v843 v842
  let v850 : BitVec 32 := Scalar.select v848 v849 v843
  let c0_i32_657 : BitVec 32 := 0#32
  let c2688_i32 : BitVec 32 := 2688#32
  ![v850.toNat, 0, 2688]
def k0_dev34 (d3 : Dev nD) (v12 : BitVec 32) : Nat :=
  let c0_i32_654 : BitVec 32 := 0#32
  let c1_i32_17 : BitVec 32 := 1#32
  let v44 : BitVec 32 := Scalar.subi v12 c1_i32_17
  let c8_i32_18 : BitVec 32 := 8#32
  let c0_i32_19 : BitVec 32 := 0#32
  let v45 : BitVec 1 := Scalar.cmpi .eq c8_i32_18 c0_i32_19
  let c1_i32_20 : BitVec 32 := 1#32
  let v46 : BitVec 32 := Scalar.select v45 c1_i32_20 c8_i32_18
  let v47 : BitVec 32 := Scalar.remsi v44 v46
  let c0_i32_22 : BitVec 32 := 0#32
  let v49 : BitVec 1 := Scalar.cmpi .slt v47 c0_i32_22
  let c0_i32_23 : BitVec 32 := 0#32
  let v50 : BitVec 1 := Scalar.cmpi .slt v46 c0_i32_23
  let v51 : BitVec 1 := Scalar.xori v49 v50
  let c0_i32_21 : BitVec 32 := 0#32
  let v48 : BitVec 1 := Scalar.cmpi .ne v47 c0_i32_21
  let v52 : BitVec 1 := Scalar.andi v51 v48
  let v53 : BitVec 32 := Scalar.addi v47 v46
  let v54 : BitVec 32 := Scalar.select v52 v53 v47
  let c0_i32_25 : BitVec 32 := 0#32
  let v56 : BitVec 1 := Scalar.cmpi .sgt v54 c0_i32_25
  let v57 : BitVec 32 := Scalar.extui v56
  let c0_i32_26 : BitVec 32 := 0#32
  let v58 : BitVec 1 := Scalar.cmpi .slt v54 c0_i32_26
  let v59 : BitVec 32 := Scalar.extui v58
  let v60 : BitVec 32 := Scalar.subi v57 v59
  let c4_i32_24 : BitVec 32 := 4#32
  let c0_i32_27 : BitVec 32 := 0#32
  let v61 : BitVec 1 := Scalar.cmpi .sgt c4_i32_24 c0_i32_27
  let v62 : BitVec 32 := Scalar.extui v61
  let c0_i32_28 : BitVec 32 := 0#32
  let v63 : BitVec 1 := Scalar.cmpi .slt c4_i32_24 c0_i32_28
  let v64 : BitVec 32 := Scalar.extui v63
  let v65 : BitVec 32 := Scalar.subi v62 v64
  let v66 : BitVec 1 := Scalar.cmpi .ne v60 v65
  let v67 : BitVec 32 := Scalar.remsi v54 c4_i32_24
  let c0_i32_29 : BitVec 32 := 0#32
  let v68 : BitVec 1 := Scalar.cmpi .ne v67 c0_i32_29
  let v69 : BitVec 1 := Scalar.andi v66 v68
  let v55 : BitVec 32 := Scalar.divsi v54 c4_i32_24
  let c1_i32_30 : BitVec 32 := 1#32
  let v70 : BitVec 32 := Scalar.subi v55 c1_i32_30
  let v71 : BitVec 32 := Scalar.select v69 v70 v55
  let c8_i32_653 : BitVec 32 := 8#32
  let v865 : BitVec 32 := Scalar.muli v71 c8_i32_653
  let v866 : BitVec 32 := Scalar.addi c0_i32_654 v865
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let c4_i32_655 : BitVec 32 := 4#32
  let v867 : BitVec 32 := Scalar.muli v8 c4_i32_655
  let v868 : BitVec 32 := Scalar.addi v866 v867
  let c0_i32_31 : BitVec 32 := 0#32
  let v72 : BitVec 1 := Scalar.cmpi .eq v71 c0_i32_31
  let c7_i32_32 : BitVec 32 := 7#32
  let v73 : BitVec 32 := Scalar.subi c7_i32_32 v54
  let v74 : BitVec 32 := Scalar.select v72 v54 v73
  let c1_i32_656 : BitVec 32 := 1#32
  let v869 : BitVec 32 := Scalar.muli v74 c1_i32_656
  let v870 : BitVec 32 := Scalar.addi v868 v869
  v870.toNat
def k0_off50 (v12 : BitVec 32) : Fin 3 → Nat :=
  let c4_i32_34 : BitVec 32 := 4#32
  let v76 : BitVec 32 := Scalar.addi v12 c4_i32_34
  let c8_i32_35 : BitVec 32 := 8#32
  let c0_i32_36 : BitVec 32 := 0#32
  let v77 : BitVec 1 := Scalar.cmpi .eq c8_i32_35 c0_i32_36
  let c1_i32_37 : BitVec 32 := 1#32
  let v78 : BitVec 32 := Scalar.select v77 c1_i32_37 c8_i32_35
  let v79 : BitVec 32 := Scalar.remsi v76 v78
  let c0_i32_39 : BitVec 32 := 0#32
  let v81 : BitVec 1 := Scalar.cmpi .slt v79 c0_i32_39
  let c0_i32_40 : BitVec 32 := 0#32
  let v82 : BitVec 1 := Scalar.cmpi .slt v78 c0_i32_40
  let v83 : BitVec 1 := Scalar.xori v81 v82
  let c0_i32_38 : BitVec 32 := 0#32
  let v80 : BitVec 1 := Scalar.cmpi .ne v79 c0_i32_38
  let v84 : BitVec 1 := Scalar.andi v83 v80
  let v85 : BitVec 32 := Scalar.addi v79 v78
  let v86 : BitVec 32 := Scalar.select v84 v85 v79
  let c0_i32_797 : BitVec 32 := 0#32
  let c2816_i32_798 : BitVec 32 := 2816#32
  ![v86.toNat, 0, 2816]

def k0_chk1_0 (i : grid0.Coords) (d3 : Dev nD) (v12 : BitVec 32) : Prop :=
  (∀ (k0_h1 : k0_cond1 i = 1#1), (k0_dev2 d3 v12) < nD) ∧
  (∀ (k0_h1 : k0_cond1 i = 1#1), (k0_dev3 d3 v12) < nD) ∧
  (∀ (k0_h3 : k0_cond3 i = 1#1), ∀ a, (k0_off1 v12) a + S1x512x2048.size a ≤ S8x512x4096.size a) ∧
  (∀ (k0_h3 : k0_cond3 i = 1#1), ∀ (hinb : ∀ a, (k0_off1 v12) a + S1x512x2048.size a ≤ S8x512x4096.size a), (Rect.unit (s := S8x512x4096) (k0_off1 v12) S1x512x2048.size hinb).PackedRows (EltTy.packing .bf16)) ∧
  (∀ (k0_h3 : k0_cond3 i = 1#1), ∀ a, (k0_off2 v12) a + S1x512x2048.size a ≤ S8x512x4096.size a) ∧
  (∀ (k0_h3 : k0_cond3 i = 1#1), ∀ a, (k0_off3 v12) a + S1x512x2048.size a ≤ S8x512x4096.size a) ∧
  (∀ (k0_h3 : k0_cond3 i = 1#1), ∀ (hinb : ∀ a, (k0_off3 v12) a + S1x512x2048.size a ≤ S8x512x4096.size a), (Rect.unit (s := S8x512x4096) (k0_off3 v12) S1x512x2048.size hinb).WholeWords (EltTy.packing .bf16)) ∧
  (∀ (k0_h3 : k0_cond3 i = 1#1), ∀ (hinb : ∀ a, (k0_off2 v12) a + S1x512x2048.size a ≤ S8x512x4096.size a), (Rect.unit (s := S8x512x4096) (k0_off2 v12) S1x512x2048.size hinb).WholeWords (EltTy.packing .bf16)) ∧
  (∀ (k0_h4 : k0_cond4 i = 1#1), ∀ a, (k0_off4 v12) a + S1x512x2048.size a ≤ S8x512x4096.size a) ∧
  (∀ (k0_h4 : k0_cond4 i = 1#1), ∀ (hinb : ∀ a, (k0_off4 v12) a + S1x512x2048.size a ≤ S8x512x4096.size a), (Rect.unit (s := S8x512x4096) (k0_off4 v12) S1x512x2048.size hinb).PackedRows (EltTy.packing .bf16)) ∧
  (∀ (k0_h4 : k0_cond4 i = 1#1), ∀ a, (k0_off5 v12) a + S1x512x2048.size a ≤ S8x512x4096.size a) ∧
  (∀ (k0_h4 : k0_cond4 i = 1#1), ∀ a, (k0_off6 v12) a + S1x512x2048.size a ≤ S8x512x4096.size a) ∧
  (∀ (k0_h4 : k0_cond4 i = 1#1), ∀ (hinb : ∀ a, (k0_off6 v12) a + S1x512x2048.size a ≤ S8x512x4096.size a), (Rect.unit (s := S8x512x4096) (k0_off6 v12) S1x512x2048.size hinb).WholeWords (EltTy.packing .bf16)) ∧
  (∀ (k0_h4 : k0_cond4 i = 1#1), ∀ (hinb : ∀ a, (k0_off5 v12) a + S1x512x2048.size a ≤ S8x512x4096.size a), (Rect.unit (s := S8x512x4096) (k0_off5 v12) S1x512x2048.size hinb).WholeWords (EltTy.packing .bf16)) ∧
  (∀ (k0_h5 : k0_cond5 i = 1#1), ∀ a, (k0_off7 v12) a + S1x512x2048.size a ≤ S8x512x4096.size a) ∧
  (∀ (k0_h5 : k0_cond5 i = 1#1), ∀ a, (k0_off8 v12) a + S1x512x2048.size a ≤ S8x512x4096.size a) ∧
  (∀ (k0_h5 : k0_cond5 i = 1#1), ∀ (hinb : ∀ a, (k0_off8 v12) a + S1x512x2048.size a ≤ S8x512x4096.size a), (Rect.unit (s := S8x512x4096) (k0_off8 v12) S1x512x2048.size hinb).WholeWords (EltTy.packing .bf16)) ∧
  (∀ (k0_h5 : k0_cond5 i = 1#1), ∀ (hinb : ∀ a, (k0_off7 v12) a + S1x512x2048.size a ≤ S8x512x4096.size a), (Rect.unit (s := S8x512x4096) (k0_off7 v12) S1x512x2048.size hinb).WholeWords (EltTy.packing .bf16)) ∧
  (∀ (k0_h5 : k0_cond5 i = 1#1), ∀ a, (k0_off9 v12) a + S1x512x2048.size a ≤ S8x512x4096.size a) ∧
  (∀ (k0_h5 : k0_cond5 i = 1#1), ∀ a, (k0_off10 v12) a + S1x512x2048.size a ≤ S8x512x4096.size a) ∧
  (∀ (k0_h5 : k0_cond5 i = 1#1), ∀ (hinb : ∀ a, (k0_off10 v12) a + S1x512x2048.size a ≤ S8x512x4096.size a), (Rect.unit (s := S8x512x4096) (k0_off10 v12) S1x512x2048.size hinb).WholeWords (EltTy.packing .bf16)) ∧
  (∀ (k0_h5 : k0_cond5 i = 1#1), ∀ (hinb : ∀ a, (k0_off9 v12) a + S1x512x2048.size a ≤ S8x512x4096.size a), (Rect.unit (s := S8x512x4096) (k0_off9 v12) S1x512x2048.size hinb).WholeWords (EltTy.packing .bf16)) ∧
  (∀ (k0_h5 : k0_cond5 i = 1#1), ∀ a, (k0_off11 v12) a + S1x512x4096.size a ≤ S8x512x4096.size a) ∧
  (∀ (k0_h5 : k0_cond5 i = 1#1), ∀ a, (k0_off12 v12) a + S1x512x4096.size a ≤ S8x512x4096.size a) ∧
  (∀ (k0_h5 : k0_cond5 i = 1#1), ∀ (hinb : ∀ a, (k0_off11 v12) a + S1x512x4096.size a ≤ S8x512x4096.size a), (Rect.unit (s := S8x512x4096) (k0_off11 v12) S1x512x4096.size hinb).PackedRows (EltTy.packing .bf16)) ∧
  (∀ (k0_h5 : k0_cond5 i = 1#1), ∀ (k0_h6 : k0_cond6 d3 = 1#1), ∀ (r : Fin 3), ∀ a, (k0_off13 v12 (BitVec.ofNat 32 r.val)) a + S1x512x2816.size a ≤ S8x512x4096.size a) ∧
  (∀ (k0_h5 : k0_cond5 i = 1#1), ∀ (k0_h6 : k0_cond6 d3 = 1#1), ∀ (r : Fin 3), ∀ (hinb : ∀ a, (k0_off13 v12 (BitVec.ofNat 32 r.val)) a + S1x512x2816.size a ≤ S8x512x4096.size a), (Rect.unit (s := S8x512x4096) (k0_off13 v12 (BitVec.ofNat 32 r.val)) S1x512x2816.size hinb).WholeWords (EltTy.packing .bf16)) ∧
  (∀ (k0_h5 : k0_cond5 i = 1#1), ∀ (k0_h6 : k0_cond6 d3 = 1#1), (k0_dev6 d3 v12) < nD) ∧
  (∀ (k0_h5 : k0_cond5 i = 1#1), ∀ (k0_h6 : k0_cond6 d3 = 1#1), ∀ (r : Fin 3), ∀ a, (k0_off14 v12 (BitVec.ofNat 32 r.val)) a + S1x512x2816.size a ≤ S8x512x4096.size a) ∧
  (∀ (k0_h5 : k0_cond5 i = 1#1), ∀ (k0_h6 : k0_cond6 d3 = 1#1), ∀ (r : Fin 3), ∀ (hinb : ∀ a, (k0_off14 v12 (BitVec.ofNat 32 r.val)) a + S1x512x2816.size a ≤ S8x512x4096.size a), (Rect.unit (s := S8x512x4096) (k0_off14 v12 (BitVec.ofNat 32 r.val)) S1x512x2816.size hinb).WholeWords (EltTy.packing .bf16)) ∧
  (∀ (k0_h5 : k0_cond5 i = 1#1), ∀ (k0_h6 : k0_cond6 d3 = 1#1), (k0_dev7 d3 v12) < nD) ∧
  (∀ (k0_h5 : k0_cond5 i = 1#1), ∀ (k0_h6 : k0_cond6 d3 = 1#1), ∀ a, (k0_off15 v12) a + S1x512x2048.size a ≤ S8x512x4096.size a)
def k0_chk1_1 (i : grid0.Coords) (d3 : Dev nD) (v12 : BitVec 32) : Prop :=
  (∀ (k0_h5 : k0_cond5 i = 1#1), ∀ (k0_h6 : k0_cond6 d3 = 1#1), ∀ a, (k0_off16 v12) a + S512x2048.size a ≤ S4096x4096.size a) ∧
  (∀ (k0_h5 : k0_cond5 i = 1#1), ∀ (k0_h6 : k0_cond6 d3 = 1#1), ∀ a, (k0_off17 v12) a + S1x512x2048.size a ≤ S8x512x4096.size a) ∧
  (∀ (k0_h5 : k0_cond5 i = 1#1), ∀ (k0_h6 : k0_cond6 d3 = 1#1), ∀ a, (k0_off18 v12) a + S512x2048.size a ≤ S4096x4096.size a) ∧
  (∀ (k0_h5 : k0_cond5 i = 1#1), ∀ (k0_h6 : k0_cond6 d3 = 1#1), ∀ (r : Fin 3), ∀ a, (k0_off19 v12 (BitVec.ofNat 32 r.val)) a + S1x512x1280.size a ≤ S8x512x4096.size a) ∧
  (∀ (k0_h5 : k0_cond5 i = 1#1), ∀ (k0_h6 : k0_cond6 d3 = 1#1), ∀ (r : Fin 3), ∀ (hinb : ∀ a, (k0_off19 v12 (BitVec.ofNat 32 r.val)) a + S1x512x1280.size a ≤ S8x512x4096.size a), (Rect.unit (s := S8x512x4096) (k0_off19 v12 (BitVec.ofNat 32 r.val)) S1x512x1280.size hinb).WholeWords (EltTy.packing .bf16)) ∧
  (∀ (k0_h5 : k0_cond5 i = 1#1), ∀ (k0_h6 : k0_cond6 d3 = 1#1), ∀ (r : Fin 3), ∀ a, (k0_off20 v12 (BitVec.ofNat 32 r.val)) a + S1x512x1280.size a ≤ S8x512x4096.size a) ∧
  (∀ (k0_h5 : k0_cond5 i = 1#1), ∀ (k0_h6 : k0_cond6 d3 = 1#1), ∀ (r : Fin 3), ∀ (hinb : ∀ a, (k0_off20 v12 (BitVec.ofNat 32 r.val)) a + S1x512x1280.size a ≤ S8x512x4096.size a), (Rect.unit (s := S8x512x4096) (k0_off20 v12 (BitVec.ofNat 32 r.val)) S1x512x1280.size hinb).WholeWords (EltTy.packing .bf16)) ∧
  (∀ (k0_h5 : k0_cond5 i = 1#1), ∀ (k0_h6 : k0_cond6 d3 = 1#1), (k0_dev10 d3 v12) < nD) ∧
  (∀ (k0_h5 : k0_cond5 i = 1#1), ∀ (k0_h6 : k0_cond6 d3 = 1#1), (k0_dev11 d3 v12) < nD) ∧
  (∀ (k0_h5 : k0_cond5 i = 1#1), ∀ (k0_h6 : k0_cond6 d3 = 1#1), ∀ (r : Fin 3), ∀ a, (k0_off21 v12 (BitVec.ofNat 32 (1 + r.val))) a + S1x512x2048.size a ≤ S8x512x4096.size a) ∧
  (∀ (k0_h5 : k0_cond5 i = 1#1), ∀ (k0_h6 : k0_cond6 d3 = 1#1), ∀ (r : Fin 3), ∀ a, (k0_off22 v12 (BitVec.ofNat 32 (1 + r.val))) a + S512x2048.size a ≤ S4096x4096.size a) ∧
  (∀ (k0_h5 : k0_cond5 i = 1#1), ∀ (k0_h6 : k0_cond6 d3 = 1#1), ∀ (r : Fin 3), ∀ a, (k0_off23 v12 (BitVec.ofNat 32 (1 + r.val))) a + S1x512x2048.size a ≤ S8x512x4096.size a) ∧
  (∀ (k0_h5 : k0_cond5 i = 1#1), ∀ (k0_h6 : k0_cond6 d3 = 1#1), ∀ (r : Fin 3), ∀ a, (k0_off24 v12 (BitVec.ofNat 32 (1 + r.val))) a + S512x2048.size a ≤ S4096x4096.size a) ∧
  (∀ (k0_h5 : k0_cond5 i = 1#1), ∀ (k0_h6 : k0_cond6 d3 = 1#1), ∀ (r : Fin 4), ∀ a, (k0_off25 v12 (BitVec.ofNat 32 (1 + r.val))) a + S1x512x2048.size a ≤ S8x512x4096.size a) ∧
  (∀ (k0_h5 : k0_cond5 i = 1#1), ∀ (k0_h6 : k0_cond6 d3 = 1#1), ∀ (r : Fin 4), ∀ a, (k0_off26 v12 (BitVec.ofNat 32 (1 + r.val))) a + S512x2048.size a ≤ S4096x4096.size a) ∧
  (∀ (k0_h5 : k0_cond5 i = 1#1), ∀ (k0_h6 : k0_cond6 d3 = 1#1), ∀ (r : Fin 4), ∀ a, (k0_off27 v12 (BitVec.ofNat 32 (1 + r.val))) a + S1x512x2048.size a ≤ S8x512x4096.size a) ∧
  (∀ (k0_h5 : k0_cond5 i = 1#1), ∀ (k0_h6 : k0_cond6 d3 = 1#1), ∀ (r : Fin 4), ∀ a, (k0_off28 v12 (BitVec.ofNat 32 (1 + r.val))) a + S512x2048.size a ≤ S4096x4096.size a) ∧
  (∀ (k0_h5 : k0_cond5 i = 1#1), ∀ (k0_h6 : k0_cond6 d3 = 1#1), (k0_dev14 d3 v12) < nD) ∧
  (∀ (k0_h5 : k0_cond5 i = 1#1), ∀ (k0_h6 : k0_cond6 d3 = 1#1), (k0_dev15 d3 v12) < nD) ∧
  (∀ (k0_h5 : k0_cond5 i = 1#1), ∀ (k0_h6 : k0_cond6 d3 = 1#1), ∀ a, (k0_off29 v12) a + S1x512x1408.size a ≤ S8x512x4096.size a) ∧
  (∀ (k0_h5 : k0_cond5 i = 1#1), ∀ (k0_h6 : k0_cond6 d3 = 1#1), ∀ (hinb : ∀ a, (k0_off29 v12) a + S1x512x1408.size a ≤ S8x512x4096.size a), (Rect.unit (s := S8x512x4096) (k0_off29 v12) S1x512x1408.size hinb).WholeWords (EltTy.packing .bf16)) ∧
  (∀ (k0_h5 : k0_cond5 i = 1#1), ∀ (k0_h6 : k0_cond6 d3 = 1#1), (k0_dev18 d3 v12) < nD) ∧
  (∀ (k0_h5 : k0_cond5 i = 1#1), ∀ (k0_h6 : k0_cond6 d3 = 1#1), ∀ a, (k0_off30 v12) a + S1x512x1408.size a ≤ S8x512x4096.size a) ∧
  (∀ (k0_h5 : k0_cond5 i = 1#1), ∀ (k0_h6 : k0_cond6 d3 = 1#1), ∀ (hinb : ∀ a, (k0_off30 v12) a + S1x512x1408.size a ≤ S8x512x4096.size a), (Rect.unit (s := S8x512x4096) (k0_off30 v12) S1x512x1408.size hinb).WholeWords (EltTy.packing .bf16)) ∧
  (∀ (k0_h5 : k0_cond5 i = 1#1), ∀ (k0_h6 : k0_cond6 d3 = 1#1), (k0_dev19 d3 v12) < nD) ∧
  (∀ (k0_h5 : k0_cond5 i = 1#1), ∀ (k0_h6 : k0_cond6 d3 = 1#1), ∀ a, (k0_off31 v12) a + S1x512x1280.size a ≤ S8x512x4096.size a) ∧
  (∀ (k0_h5 : k0_cond5 i = 1#1), ∀ (k0_h6 : k0_cond6 d3 = 1#1), ∀ (hinb : ∀ a, (k0_off31 v12) a + S1x512x1280.size a ≤ S8x512x4096.size a), (Rect.unit (s := S8x512x4096) (k0_off31 v12) S1x512x1280.size hinb).WholeWords (EltTy.packing .bf16)) ∧
  (∀ (k0_h5 : k0_cond5 i = 1#1), ∀ (k0_h7 : k0_cond7 d3 = 1#1), ∀ (r : Fin 3), ∀ a, (k0_off32 v12 (BitVec.ofNat 32 r.val)) a + S1x512x2816.size a ≤ S8x512x4096.size a) ∧
  (∀ (k0_h5 : k0_cond5 i = 1#1), ∀ (k0_h7 : k0_cond7 d3 = 1#1), ∀ (r : Fin 3), ∀ (hinb : ∀ a, (k0_off32 v12 (BitVec.ofNat 32 r.val)) a + S1x512x2816.size a ≤ S8x512x4096.size a), (Rect.unit (s := S8x512x4096) (k0_off32 v12 (BitVec.ofNat 32 r.val)) S1x512x2816.size hinb).WholeWords (EltTy.packing .bf16)) ∧
  (∀ (k0_h5 : k0_cond5 i = 1#1), ∀ (k0_h7 : k0_cond7 d3 = 1#1), (k0_dev21 d3 v12) < nD) ∧
  (∀ (k0_h5 : k0_cond5 i = 1#1), ∀ (k0_h7 : k0_cond7 d3 = 1#1), ∀ (r : Fin 3), ∀ a, (k0_off33 v12 (BitVec.ofNat 32 r.val)) a + S1x512x2816.size a ≤ S8x512x4096.size a) ∧
  (∀ (k0_h5 : k0_cond5 i = 1#1), ∀ (k0_h7 : k0_cond7 d3 = 1#1), ∀ (r : Fin 3), ∀ (hinb : ∀ a, (k0_off33 v12 (BitVec.ofNat 32 r.val)) a + S1x512x2816.size a ≤ S8x512x4096.size a), (Rect.unit (s := S8x512x4096) (k0_off33 v12 (BitVec.ofNat 32 r.val)) S1x512x2816.size hinb).WholeWords (EltTy.packing .bf16))
def k0_chk1_2 (i : grid0.Coords) (d3 : Dev nD) (v12 : BitVec 32) : Prop :=
  (∀ (k0_h5 : k0_cond5 i = 1#1), ∀ (k0_h7 : k0_cond7 d3 = 1#1), (k0_dev22 d3 v12) < nD) ∧
  (∀ (k0_h5 : k0_cond5 i = 1#1), ∀ (k0_h7 : k0_cond7 d3 = 1#1), ∀ a, (k0_off34 v12) a + S1x512x2048.size a ≤ S8x512x4096.size a) ∧
  (∀ (k0_h5 : k0_cond5 i = 1#1), ∀ (k0_h7 : k0_cond7 d3 = 1#1), ∀ a, (k0_off35 v12) a + S512x2048.size a ≤ S4096x4096.size a) ∧
  (∀ (k0_h5 : k0_cond5 i = 1#1), ∀ (k0_h7 : k0_cond7 d3 = 1#1), ∀ a, (k0_off36 v12) a + S1x512x2048.size a ≤ S8x512x4096.size a) ∧
  (∀ (k0_h5 : k0_cond5 i = 1#1), ∀ (k0_h7 : k0_cond7 d3 = 1#1), ∀ a, (k0_off37 v12) a + S512x2048.size a ≤ S4096x4096.size a) ∧
  (∀ (k0_h5 : k0_cond5 i = 1#1), ∀ (k0_h7 : k0_cond7 d3 = 1#1), ∀ (r : Fin 3), ∀ a, (k0_off38 v12 (BitVec.ofNat 32 r.val)) a + S1x512x1280.size a ≤ S8x512x4096.size a) ∧
  (∀ (k0_h5 : k0_cond5 i = 1#1), ∀ (k0_h7 : k0_cond7 d3 = 1#1), ∀ (r : Fin 3), ∀ (hinb : ∀ a, (k0_off38 v12 (BitVec.ofNat 32 r.val)) a + S1x512x1280.size a ≤ S8x512x4096.size a), (Rect.unit (s := S8x512x4096) (k0_off38 v12 (BitVec.ofNat 32 r.val)) S1x512x1280.size hinb).WholeWords (EltTy.packing .bf16)) ∧
  (∀ (k0_h5 : k0_cond5 i = 1#1), ∀ (k0_h7 : k0_cond7 d3 = 1#1), ∀ (r : Fin 3), ∀ a, (k0_off39 v12 (BitVec.ofNat 32 r.val)) a + S1x512x1280.size a ≤ S8x512x4096.size a) ∧
  (∀ (k0_h5 : k0_cond5 i = 1#1), ∀ (k0_h7 : k0_cond7 d3 = 1#1), ∀ (r : Fin 3), ∀ (hinb : ∀ a, (k0_off39 v12 (BitVec.ofNat 32 r.val)) a + S1x512x1280.size a ≤ S8x512x4096.size a), (Rect.unit (s := S8x512x4096) (k0_off39 v12 (BitVec.ofNat 32 r.val)) S1x512x1280.size hinb).WholeWords (EltTy.packing .bf16)) ∧
  (∀ (k0_h5 : k0_cond5 i = 1#1), ∀ (k0_h7 : k0_cond7 d3 = 1#1), (k0_dev25 d3 v12) < nD) ∧
  (∀ (k0_h5 : k0_cond5 i = 1#1), ∀ (k0_h7 : k0_cond7 d3 = 1#1), (k0_dev26 d3 v12) < nD) ∧
  (∀ (k0_h5 : k0_cond5 i = 1#1), ∀ (k0_h7 : k0_cond7 d3 = 1#1), ∀ (r : Fin 3), ∀ a, (k0_off40 v12 (BitVec.ofNat 32 (1 + r.val))) a + S1x512x2048.size a ≤ S8x512x4096.size a) ∧
  (∀ (k0_h5 : k0_cond5 i = 1#1), ∀ (k0_h7 : k0_cond7 d3 = 1#1), ∀ (r : Fin 3), ∀ a, (k0_off41 v12 (BitVec.ofNat 32 (1 + r.val))) a + S512x2048.size a ≤ S4096x4096.size a) ∧
  (∀ (k0_h5 : k0_cond5 i = 1#1), ∀ (k0_h7 : k0_cond7 d3 = 1#1), ∀ (r : Fin 3), ∀ a, (k0_off42 v12 (BitVec.ofNat 32 (1 + r.val))) a + S1x512x2048.size a ≤ S8x512x4096.size a) ∧
  (∀ (k0_h5 : k0_cond5 i = 1#1), ∀ (k0_h7 : k0_cond7 d3 = 1#1), ∀ (r : Fin 3), ∀ a, (k0_off43 v12 (BitVec.ofNat 32 (1 + r.val))) a + S512x2048.size a ≤ S4096x4096.size a) ∧
  (∀ (k0_h5 : k0_cond5 i = 1#1), ∀ (k0_h7 : k0_cond7 d3 = 1#1), ∀ (r : Fin 4), ∀ a, (k0_off44 v12 (BitVec.ofNat 32 (1 + r.val))) a + S1x512x2048.size a ≤ S8x512x4096.size a) ∧
  (∀ (k0_h5 : k0_cond5 i = 1#1), ∀ (k0_h7 : k0_cond7 d3 = 1#1), ∀ (r : Fin 4), ∀ a, (k0_off45 v12 (BitVec.ofNat 32 (1 + r.val))) a + S512x2048.size a ≤ S4096x4096.size a) ∧
  (∀ (k0_h5 : k0_cond5 i = 1#1), ∀ (k0_h7 : k0_cond7 d3 = 1#1), ∀ (r : Fin 4), ∀ a, (k0_off46 v12 (BitVec.ofNat 32 (1 + r.val))) a + S1x512x2048.size a ≤ S8x512x4096.size a) ∧
  (∀ (k0_h5 : k0_cond5 i = 1#1), ∀ (k0_h7 : k0_cond7 d3 = 1#1), ∀ (r : Fin 4), ∀ a, (k0_off47 v12 (BitVec.ofNat 32 (1 + r.val))) a + S512x2048.size a ≤ S4096x4096.size a) ∧
  (∀ (k0_h5 : k0_cond5 i = 1#1), ∀ (k0_h7 : k0_cond7 d3 = 1#1), (k0_dev29 d3 v12) < nD) ∧
  (∀ (k0_h5 : k0_cond5 i = 1#1), ∀ (k0_h7 : k0_cond7 d3 = 1#1), (k0_dev30 d3 v12) < nD) ∧
  (∀ (k0_h5 : k0_cond5 i = 1#1), ∀ (k0_h7 : k0_cond7 d3 = 1#1), ∀ a, (k0_off48 v12) a + S1x512x1408.size a ≤ S8x512x4096.size a) ∧
  (∀ (k0_h5 : k0_cond5 i = 1#1), ∀ (k0_h7 : k0_cond7 d3 = 1#1), ∀ (hinb : ∀ a, (k0_off48 v12) a + S1x512x1408.size a ≤ S8x512x4096.size a), (Rect.unit (s := S8x512x4096) (k0_off48 v12) S1x512x1408.size hinb).WholeWords (EltTy.packing .bf16)) ∧
  (∀ (k0_h5 : k0_cond5 i = 1#1), ∀ (k0_h7 : k0_cond7 d3 = 1#1), (k0_dev33 d3 v12) < nD) ∧
  (∀ (k0_h5 : k0_cond5 i = 1#1), ∀ (k0_h7 : k0_cond7 d3 = 1#1), ∀ a, (k0_off49 v12) a + S1x512x1408.size a ≤ S8x512x4096.size a) ∧
  (∀ (k0_h5 : k0_cond5 i = 1#1), ∀ (k0_h7 : k0_cond7 d3 = 1#1), ∀ (hinb : ∀ a, (k0_off49 v12) a + S1x512x1408.size a ≤ S8x512x4096.size a), (Rect.unit (s := S8x512x4096) (k0_off49 v12) S1x512x1408.size hinb).WholeWords (EltTy.packing .bf16)) ∧
  (∀ (k0_h5 : k0_cond5 i = 1#1), ∀ (k0_h7 : k0_cond7 d3 = 1#1), (k0_dev34 d3 v12) < nD) ∧
  (∀ (k0_h5 : k0_cond5 i = 1#1), ∀ (k0_h7 : k0_cond7 d3 = 1#1), ∀ a, (k0_off50 v12) a + S1x512x1280.size a ≤ S8x512x4096.size a) ∧
  (∀ (k0_h5 : k0_cond5 i = 1#1), ∀ (k0_h7 : k0_cond7 d3 = 1#1), ∀ (hinb : ∀ a, (k0_off50 v12) a + S1x512x1280.size a ≤ S8x512x4096.size a), (Rect.unit (s := S8x512x4096) (k0_off50 v12) S1x512x1280.size hinb).WholeWords (EltTy.packing .bf16))
def k0_chk1 (i : grid0.Coords) (d3 : Dev nD) (v12 : BitVec 32) : Prop :=
  k0_chk1_0 i d3 v12 ∧
  k0_chk1_1 i d3 v12 ∧
  k0_chk1_2 i d3 v12
theorem k0_dev2_lt : ∀ (i : grid0.Coords) (d3 : Dev nD) (v12 : BitVec 32) (k0_hw1 : k0_chk1 i d3 v12), ∀ (k0_h1 : k0_cond1 i = 1#1), (k0_dev2 d3 v12) < nD := fun i d3 v12 k0_hw1 k0_h1 => k0_hw1.1.1 k0_h1
theorem k0_dev3_lt : ∀ (i : grid0.Coords) (d3 : Dev nD) (v12 : BitVec 32) (k0_hw1 : k0_chk1 i d3 v12), ∀ (k0_h1 : k0_cond1 i = 1#1), (k0_dev3 d3 v12) < nD := fun i d3 v12 k0_hw1 k0_h1 => k0_hw1.1.2.1 k0_h1
theorem k0_off1_inb : ∀ (i : grid0.Coords) (d3 : Dev nD) (v12 : BitVec 32) (k0_hw1 : k0_chk1 i d3 v12), ∀ (k0_h3 : k0_cond3 i = 1#1), ∀ a, (k0_off1 v12) a + S1x512x2048.size a ≤ S8x512x4096.size a := fun i d3 v12 k0_hw1 k0_h3 => k0_hw1.1.2.2.1 k0_h3
theorem k0_off1_packedbf16 : ∀ (i : grid0.Coords) (d3 : Dev nD) (v12 : BitVec 32) (k0_hw1 : k0_chk1 i d3 v12), ∀ (k0_h3 : k0_cond3 i = 1#1), (Rect.unit (s := S8x512x4096) (k0_off1 v12) S1x512x2048.size (k0_off1_inb i d3 v12 k0_hw1 k0_h3)).PackedRows (EltTy.packing .bf16) := fun i d3 v12 k0_hw1 k0_h3 => k0_hw1.1.2.2.2.1 k0_h3 (k0_off1_inb i d3 v12 k0_hw1 k0_h3)
theorem k0_off2_inb : ∀ (i : grid0.Coords) (d3 : Dev nD) (v12 : BitVec 32) (k0_hw1 : k0_chk1 i d3 v12), ∀ (k0_h3 : k0_cond3 i = 1#1), ∀ a, (k0_off2 v12) a + S1x512x2048.size a ≤ S8x512x4096.size a := fun i d3 v12 k0_hw1 k0_h3 => k0_hw1.1.2.2.2.2.1 k0_h3
theorem k0_off3_inb : ∀ (i : grid0.Coords) (d3 : Dev nD) (v12 : BitVec 32) (k0_hw1 : k0_chk1 i d3 v12), ∀ (k0_h3 : k0_cond3 i = 1#1), ∀ a, (k0_off3 v12) a + S1x512x2048.size a ≤ S8x512x4096.size a := fun i d3 v12 k0_hw1 k0_h3 => k0_hw1.1.2.2.2.2.2.1 k0_h3
theorem k0_off3_wordsbf16 : ∀ (i : grid0.Coords) (d3 : Dev nD) (v12 : BitVec 32) (k0_hw1 : k0_chk1 i d3 v12), ∀ (k0_h3 : k0_cond3 i = 1#1), (Rect.unit (s := S8x512x4096) (k0_off3 v12) S1x512x2048.size (k0_off3_inb i d3 v12 k0_hw1 k0_h3)).WholeWords (EltTy.packing .bf16) := fun i d3 v12 k0_hw1 k0_h3 => k0_hw1.1.2.2.2.2.2.2.1 k0_h3 (k0_off3_inb i d3 v12 k0_hw1 k0_h3)
theorem k0_off2_wordsbf16 : ∀ (i : grid0.Coords) (d3 : Dev nD) (v12 : BitVec 32) (k0_hw1 : k0_chk1 i d3 v12), ∀ (k0_h3 : k0_cond3 i = 1#1), (Rect.unit (s := S8x512x4096) (k0_off2 v12) S1x512x2048.size (k0_off2_inb i d3 v12 k0_hw1 k0_h3)).WholeWords (EltTy.packing .bf16) := fun i d3 v12 k0_hw1 k0_h3 => k0_hw1.1.2.2.2.2.2.2.2.1 k0_h3 (k0_off2_inb i d3 v12 k0_hw1 k0_h3)
theorem k0_off4_inb : ∀ (i : grid0.Coords) (d3 : Dev nD) (v12 : BitVec 32) (k0_hw1 : k0_chk1 i d3 v12), ∀ (k0_h4 : k0_cond4 i = 1#1), ∀ a, (k0_off4 v12) a + S1x512x2048.size a ≤ S8x512x4096.size a := fun i d3 v12 k0_hw1 k0_h4 => k0_hw1.1.2.2.2.2.2.2.2.2.1 k0_h4
theorem k0_off4_packedbf16 : ∀ (i : grid0.Coords) (d3 : Dev nD) (v12 : BitVec 32) (k0_hw1 : k0_chk1 i d3 v12), ∀ (k0_h4 : k0_cond4 i = 1#1), (Rect.unit (s := S8x512x4096) (k0_off4 v12) S1x512x2048.size (k0_off4_inb i d3 v12 k0_hw1 k0_h4)).PackedRows (EltTy.packing .bf16) := fun i d3 v12 k0_hw1 k0_h4 => k0_hw1.1.2.2.2.2.2.2.2.2.2.1 k0_h4 (k0_off4_inb i d3 v12 k0_hw1 k0_h4)
theorem k0_off5_inb : ∀ (i : grid0.Coords) (d3 : Dev nD) (v12 : BitVec 32) (k0_hw1 : k0_chk1 i d3 v12), ∀ (k0_h4 : k0_cond4 i = 1#1), ∀ a, (k0_off5 v12) a + S1x512x2048.size a ≤ S8x512x4096.size a := fun i d3 v12 k0_hw1 k0_h4 => k0_hw1.1.2.2.2.2.2.2.2.2.2.2.1 k0_h4
theorem k0_off6_inb : ∀ (i : grid0.Coords) (d3 : Dev nD) (v12 : BitVec 32) (k0_hw1 : k0_chk1 i d3 v12), ∀ (k0_h4 : k0_cond4 i = 1#1), ∀ a, (k0_off6 v12) a + S1x512x2048.size a ≤ S8x512x4096.size a := fun i d3 v12 k0_hw1 k0_h4 => k0_hw1.1.2.2.2.2.2.2.2.2.2.2.2.1 k0_h4
theorem k0_off6_wordsbf16 : ∀ (i : grid0.Coords) (d3 : Dev nD) (v12 : BitVec 32) (k0_hw1 : k0_chk1 i d3 v12), ∀ (k0_h4 : k0_cond4 i = 1#1), (Rect.unit (s := S8x512x4096) (k0_off6 v12) S1x512x2048.size (k0_off6_inb i d3 v12 k0_hw1 k0_h4)).WholeWords (EltTy.packing .bf16) := fun i d3 v12 k0_hw1 k0_h4 => k0_hw1.1.2.2.2.2.2.2.2.2.2.2.2.2.1 k0_h4 (k0_off6_inb i d3 v12 k0_hw1 k0_h4)
theorem k0_off5_wordsbf16 : ∀ (i : grid0.Coords) (d3 : Dev nD) (v12 : BitVec 32) (k0_hw1 : k0_chk1 i d3 v12), ∀ (k0_h4 : k0_cond4 i = 1#1), (Rect.unit (s := S8x512x4096) (k0_off5 v12) S1x512x2048.size (k0_off5_inb i d3 v12 k0_hw1 k0_h4)).WholeWords (EltTy.packing .bf16) := fun i d3 v12 k0_hw1 k0_h4 => k0_hw1.1.2.2.2.2.2.2.2.2.2.2.2.2.2.1 k0_h4 (k0_off5_inb i d3 v12 k0_hw1 k0_h4)
theorem k0_off7_inb : ∀ (i : grid0.Coords) (d3 : Dev nD) (v12 : BitVec 32) (k0_hw1 : k0_chk1 i d3 v12), ∀ (k0_h5 : k0_cond5 i = 1#1), ∀ a, (k0_off7 v12) a + S1x512x2048.size a ≤ S8x512x4096.size a := fun i d3 v12 k0_hw1 k0_h5 => k0_hw1.1.2.2.2.2.2.2.2.2.2.2.2.2.2.2.1 k0_h5
theorem k0_off8_inb : ∀ (i : grid0.Coords) (d3 : Dev nD) (v12 : BitVec 32) (k0_hw1 : k0_chk1 i d3 v12), ∀ (k0_h5 : k0_cond5 i = 1#1), ∀ a, (k0_off8 v12) a + S1x512x2048.size a ≤ S8x512x4096.size a := fun i d3 v12 k0_hw1 k0_h5 => k0_hw1.1.2.2.2.2.2.2.2.2.2.2.2.2.2.2.2.1 k0_h5
theorem k0_off8_wordsbf16 : ∀ (i : grid0.Coords) (d3 : Dev nD) (v12 : BitVec 32) (k0_hw1 : k0_chk1 i d3 v12), ∀ (k0_h5 : k0_cond5 i = 1#1), (Rect.unit (s := S8x512x4096) (k0_off8 v12) S1x512x2048.size (k0_off8_inb i d3 v12 k0_hw1 k0_h5)).WholeWords (EltTy.packing .bf16) := fun i d3 v12 k0_hw1 k0_h5 => k0_hw1.1.2.2.2.2.2.2.2.2.2.2.2.2.2.2.2.2.1 k0_h5 (k0_off8_inb i d3 v12 k0_hw1 k0_h5)
theorem k0_off7_wordsbf16 : ∀ (i : grid0.Coords) (d3 : Dev nD) (v12 : BitVec 32) (k0_hw1 : k0_chk1 i d3 v12), ∀ (k0_h5 : k0_cond5 i = 1#1), (Rect.unit (s := S8x512x4096) (k0_off7 v12) S1x512x2048.size (k0_off7_inb i d3 v12 k0_hw1 k0_h5)).WholeWords (EltTy.packing .bf16) := fun i d3 v12 k0_hw1 k0_h5 => k0_hw1.1.2.2.2.2.2.2.2.2.2.2.2.2.2.2.2.2.2.1 k0_h5 (k0_off7_inb i d3 v12 k0_hw1 k0_h5)
theorem k0_off9_inb : ∀ (i : grid0.Coords) (d3 : Dev nD) (v12 : BitVec 32) (k0_hw1 : k0_chk1 i d3 v12), ∀ (k0_h5 : k0_cond5 i = 1#1), ∀ a, (k0_off9 v12) a + S1x512x2048.size a ≤ S8x512x4096.size a := fun i d3 v12 k0_hw1 k0_h5 => k0_hw1.1.2.2.2.2.2.2.2.2.2.2.2.2.2.2.2.2.2.2.1 k0_h5
theorem k0_off10_inb : ∀ (i : grid0.Coords) (d3 : Dev nD) (v12 : BitVec 32) (k0_hw1 : k0_chk1 i d3 v12), ∀ (k0_h5 : k0_cond5 i = 1#1), ∀ a, (k0_off10 v12) a + S1x512x2048.size a ≤ S8x512x4096.size a := fun i d3 v12 k0_hw1 k0_h5 => k0_hw1.1.2.2.2.2.2.2.2.2.2.2.2.2.2.2.2.2.2.2.2.1 k0_h5
theorem k0_off10_wordsbf16 : ∀ (i : grid0.Coords) (d3 : Dev nD) (v12 : BitVec 32) (k0_hw1 : k0_chk1 i d3 v12), ∀ (k0_h5 : k0_cond5 i = 1#1), (Rect.unit (s := S8x512x4096) (k0_off10 v12) S1x512x2048.size (k0_off10_inb i d3 v12 k0_hw1 k0_h5)).WholeWords (EltTy.packing .bf16) := fun i d3 v12 k0_hw1 k0_h5 => k0_hw1.1.2.2.2.2.2.2.2.2.2.2.2.2.2.2.2.2.2.2.2.2.1 k0_h5 (k0_off10_inb i d3 v12 k0_hw1 k0_h5)
theorem k0_off9_wordsbf16 : ∀ (i : grid0.Coords) (d3 : Dev nD) (v12 : BitVec 32) (k0_hw1 : k0_chk1 i d3 v12), ∀ (k0_h5 : k0_cond5 i = 1#1), (Rect.unit (s := S8x512x4096) (k0_off9 v12) S1x512x2048.size (k0_off9_inb i d3 v12 k0_hw1 k0_h5)).WholeWords (EltTy.packing .bf16) := fun i d3 v12 k0_hw1 k0_h5 => k0_hw1.1.2.2.2.2.2.2.2.2.2.2.2.2.2.2.2.2.2.2.2.2.2.1 k0_h5 (k0_off9_inb i d3 v12 k0_hw1 k0_h5)
theorem k0_off11_inb : ∀ (i : grid0.Coords) (d3 : Dev nD) (v12 : BitVec 32) (k0_hw1 : k0_chk1 i d3 v12), ∀ (k0_h5 : k0_cond5 i = 1#1), ∀ a, (k0_off11 v12) a + S1x512x4096.size a ≤ S8x512x4096.size a := fun i d3 v12 k0_hw1 k0_h5 => k0_hw1.1.2.2.2.2.2.2.2.2.2.2.2.2.2.2.2.2.2.2.2.2.2.2.1 k0_h5
theorem k0_off12_inb : ∀ (i : grid0.Coords) (d3 : Dev nD) (v12 : BitVec 32) (k0_hw1 : k0_chk1 i d3 v12), ∀ (k0_h5 : k0_cond5 i = 1#1), ∀ a, (k0_off12 v12) a + S1x512x4096.size a ≤ S8x512x4096.size a := fun i d3 v12 k0_hw1 k0_h5 => k0_hw1.1.2.2.2.2.2.2.2.2.2.2.2.2.2.2.2.2.2.2.2.2.2.2.2.1 k0_h5
theorem k0_off11_packedbf16 : ∀ (i : grid0.Coords) (d3 : Dev nD) (v12 : BitVec 32) (k0_hw1 : k0_chk1 i d3 v12), ∀ (k0_h5 : k0_cond5 i = 1#1), (Rect.unit (s := S8x512x4096) (k0_off11 v12) S1x512x4096.size (k0_off11_inb i d3 v12 k0_hw1 k0_h5)).PackedRows (EltTy.packing .bf16) := fun i d3 v12 k0_hw1 k0_h5 => k0_hw1.1.2.2.2.2.2.2.2.2.2.2.2.2.2.2.2.2.2.2.2.2.2.2.2.2.1 k0_h5 (k0_off11_inb i d3 v12 k0_hw1 k0_h5)
theorem k0_off13_inb : ∀ (i : grid0.Coords) (d3 : Dev nD) (v12 : BitVec 32) (k0_hw1 : k0_chk1 i d3 v12), ∀ (k0_h5 : k0_cond5 i = 1#1), ∀ (k0_h6 : k0_cond6 d3 = 1#1), ∀ (r : Fin 3), ∀ a, (k0_off13 v12 (BitVec.ofNat 32 r.val)) a + S1x512x2816.size a ≤ S8x512x4096.size a := fun i d3 v12 k0_hw1 k0_h5 k0_h6 r => k0_hw1.1.2.2.2.2.2.2.2.2.2.2.2.2.2.2.2.2.2.2.2.2.2.2.2.2.2.1 k0_h5 k0_h6 r
theorem k0_off13_wordsbf16 : ∀ (i : grid0.Coords) (d3 : Dev nD) (v12 : BitVec 32) (k0_hw1 : k0_chk1 i d3 v12), ∀ (k0_h5 : k0_cond5 i = 1#1), ∀ (k0_h6 : k0_cond6 d3 = 1#1), ∀ (r : Fin 3), (Rect.unit (s := S8x512x4096) (k0_off13 v12 (BitVec.ofNat 32 r.val)) S1x512x2816.size (k0_off13_inb i d3 v12 k0_hw1 k0_h5 k0_h6 r)).WholeWords (EltTy.packing .bf16) := fun i d3 v12 k0_hw1 k0_h5 k0_h6 r => k0_hw1.1.2.2.2.2.2.2.2.2.2.2.2.2.2.2.2.2.2.2.2.2.2.2.2.2.2.2.1 k0_h5 k0_h6 r (k0_off13_inb i d3 v12 k0_hw1 k0_h5 k0_h6 r)
theorem k0_dev6_lt : ∀ (i : grid0.Coords) (d3 : Dev nD) (v12 : BitVec 32) (k0_hw1 : k0_chk1 i d3 v12), ∀ (k0_h5 : k0_cond5 i = 1#1), ∀ (k0_h6 : k0_cond6 d3 = 1#1), (k0_dev6 d3 v12) < nD := fun i d3 v12 k0_hw1 k0_h5 k0_h6 => k0_hw1.1.2.2.2.2.2.2.2.2.2.2.2.2.2.2.2.2.2.2.2.2.2.2.2.2.2.2.2.1 k0_h5 k0_h6
theorem k0_off14_inb : ∀ (i : grid0.Coords) (d3 : Dev nD) (v12 : BitVec 32) (k0_hw1 : k0_chk1 i d3 v12), ∀ (k0_h5 : k0_cond5 i = 1#1), ∀ (k0_h6 : k0_cond6 d3 = 1#1), ∀ (r : Fin 3), ∀ a, (k0_off14 v12 (BitVec.ofNat 32 r.val)) a + S1x512x2816.size a ≤ S8x512x4096.size a := fun i d3 v12 k0_hw1 k0_h5 k0_h6 r => k0_hw1.1.2.2.2.2.2.2.2.2.2.2.2.2.2.2.2.2.2.2.2.2.2.2.2.2.2.2.2.2.1 k0_h5 k0_h6 r
theorem k0_off14_wordsbf16 : ∀ (i : grid0.Coords) (d3 : Dev nD) (v12 : BitVec 32) (k0_hw1 : k0_chk1 i d3 v12), ∀ (k0_h5 : k0_cond5 i = 1#1), ∀ (k0_h6 : k0_cond6 d3 = 1#1), ∀ (r : Fin 3), (Rect.unit (s := S8x512x4096) (k0_off14 v12 (BitVec.ofNat 32 r.val)) S1x512x2816.size (k0_off14_inb i d3 v12 k0_hw1 k0_h5 k0_h6 r)).WholeWords (EltTy.packing .bf16) := fun i d3 v12 k0_hw1 k0_h5 k0_h6 r => k0_hw1.1.2.2.2.2.2.2.2.2.2.2.2.2.2.2.2.2.2.2.2.2.2.2.2.2.2.2.2.2.2.1 k0_h5 k0_h6 r (k0_off14_inb i d3 v12 k0_hw1 k0_h5 k0_h6 r)
theorem k0_dev7_lt : ∀ (i : grid0.Coords) (d3 : Dev nD) (v12 : BitVec 32) (k0_hw1 : k0_chk1 i d3 v12), ∀ (k0_h5 : k0_cond5 i = 1#1), ∀ (k0_h6 : k0_cond6 d3 = 1#1), (k0_dev7 d3 v12) < nD := fun i d3 v12 k0_hw1 k0_h5 k0_h6 => k0_hw1.1.2.2.2.2.2.2.2.2.2.2.2.2.2.2.2.2.2.2.2.2.2.2.2.2.2.2.2.2.2.2.1 k0_h5 k0_h6
theorem k0_off15_inb : ∀ (i : grid0.Coords) (d3 : Dev nD) (v12 : BitVec 32) (k0_hw1 : k0_chk1 i d3 v12), ∀ (k0_h5 : k0_cond5 i = 1#1), ∀ (k0_h6 : k0_cond6 d3 = 1#1), ∀ a, (k0_off15 v12) a + S1x512x2048.size a ≤ S8x512x4096.size a := fun i d3 v12 k0_hw1 k0_h5 k0_h6 => k0_hw1.1.2.2.2.2.2.2.2.2.2.2.2.2.2.2.2.2.2.2.2.2.2.2.2.2.2.2.2.2.2.2.2 k0_h5 k0_h6
theorem k0_off16_inb : ∀ (i : grid0.Coords) (d3 : Dev nD) (v12 : BitVec 32) (k0_hw1 : k0_chk1 i d3 v12), ∀ (k0_h5 : k0_cond5 i = 1#1), ∀ (k0_h6 : k0_cond6 d3 = 1#1), ∀ a, (k0_off16 v12) a + S512x2048.size a ≤ S4096x4096.size a := fun i d3 v12 k0_hw1 k0_h5 k0_h6 => k0_hw1.2.1.1 k0_h5 k0_h6
theorem k0_off17_inb : ∀ (i : grid0.Coords) (d3 : Dev nD) (v12 : BitVec 32) (k0_hw1 : k0_chk1 i d3 v12), ∀ (k0_h5 : k0_cond5 i = 1#1), ∀ (k0_h6 : k0_cond6 d3 = 1#1), ∀ a, (k0_off17 v12) a + S1x512x2048.size a ≤ S8x512x4096.size a := fun i d3 v12 k0_hw1 k0_h5 k0_h6 => k0_hw1.2.1.2.1 k0_h5 k0_h6
theorem k0_off18_inb : ∀ (i : grid0.Coords) (d3 : Dev nD) (v12 : BitVec 32) (k0_hw1 : k0_chk1 i d3 v12), ∀ (k0_h5 : k0_cond5 i = 1#1), ∀ (k0_h6 : k0_cond6 d3 = 1#1), ∀ a, (k0_off18 v12) a + S512x2048.size a ≤ S4096x4096.size a := fun i d3 v12 k0_hw1 k0_h5 k0_h6 => k0_hw1.2.1.2.2.1 k0_h5 k0_h6
theorem k0_off19_inb : ∀ (i : grid0.Coords) (d3 : Dev nD) (v12 : BitVec 32) (k0_hw1 : k0_chk1 i d3 v12), ∀ (k0_h5 : k0_cond5 i = 1#1), ∀ (k0_h6 : k0_cond6 d3 = 1#1), ∀ (r : Fin 3), ∀ a, (k0_off19 v12 (BitVec.ofNat 32 r.val)) a + S1x512x1280.size a ≤ S8x512x4096.size a := fun i d3 v12 k0_hw1 k0_h5 k0_h6 r => k0_hw1.2.1.2.2.2.1 k0_h5 k0_h6 r
theorem k0_off19_wordsbf16 : ∀ (i : grid0.Coords) (d3 : Dev nD) (v12 : BitVec 32) (k0_hw1 : k0_chk1 i d3 v12), ∀ (k0_h5 : k0_cond5 i = 1#1), ∀ (k0_h6 : k0_cond6 d3 = 1#1), ∀ (r : Fin 3), (Rect.unit (s := S8x512x4096) (k0_off19 v12 (BitVec.ofNat 32 r.val)) S1x512x1280.size (k0_off19_inb i d3 v12 k0_hw1 k0_h5 k0_h6 r)).WholeWords (EltTy.packing .bf16) := fun i d3 v12 k0_hw1 k0_h5 k0_h6 r => k0_hw1.2.1.2.2.2.2.1 k0_h5 k0_h6 r (k0_off19_inb i d3 v12 k0_hw1 k0_h5 k0_h6 r)
theorem k0_off20_inb : ∀ (i : grid0.Coords) (d3 : Dev nD) (v12 : BitVec 32) (k0_hw1 : k0_chk1 i d3 v12), ∀ (k0_h5 : k0_cond5 i = 1#1), ∀ (k0_h6 : k0_cond6 d3 = 1#1), ∀ (r : Fin 3), ∀ a, (k0_off20 v12 (BitVec.ofNat 32 r.val)) a + S1x512x1280.size a ≤ S8x512x4096.size a := fun i d3 v12 k0_hw1 k0_h5 k0_h6 r => k0_hw1.2.1.2.2.2.2.2.1 k0_h5 k0_h6 r
theorem k0_off20_wordsbf16 : ∀ (i : grid0.Coords) (d3 : Dev nD) (v12 : BitVec 32) (k0_hw1 : k0_chk1 i d3 v12), ∀ (k0_h5 : k0_cond5 i = 1#1), ∀ (k0_h6 : k0_cond6 d3 = 1#1), ∀ (r : Fin 3), (Rect.unit (s := S8x512x4096) (k0_off20 v12 (BitVec.ofNat 32 r.val)) S1x512x1280.size (k0_off20_inb i d3 v12 k0_hw1 k0_h5 k0_h6 r)).WholeWords (EltTy.packing .bf16) := fun i d3 v12 k0_hw1 k0_h5 k0_h6 r => k0_hw1.2.1.2.2.2.2.2.2.1 k0_h5 k0_h6 r (k0_off20_inb i d3 v12 k0_hw1 k0_h5 k0_h6 r)
theorem k0_dev10_lt : ∀ (i : grid0.Coords) (d3 : Dev nD) (v12 : BitVec 32) (k0_hw1 : k0_chk1 i d3 v12), ∀ (k0_h5 : k0_cond5 i = 1#1), ∀ (k0_h6 : k0_cond6 d3 = 1#1), (k0_dev10 d3 v12) < nD := fun i d3 v12 k0_hw1 k0_h5 k0_h6 => k0_hw1.2.1.2.2.2.2.2.2.2.1 k0_h5 k0_h6
theorem k0_dev11_lt : ∀ (i : grid0.Coords) (d3 : Dev nD) (v12 : BitVec 32) (k0_hw1 : k0_chk1 i d3 v12), ∀ (k0_h5 : k0_cond5 i = 1#1), ∀ (k0_h6 : k0_cond6 d3 = 1#1), (k0_dev11 d3 v12) < nD := fun i d3 v12 k0_hw1 k0_h5 k0_h6 => k0_hw1.2.1.2.2.2.2.2.2.2.2.1 k0_h5 k0_h6
theorem k0_off21_inb : ∀ (i : grid0.Coords) (d3 : Dev nD) (v12 : BitVec 32) (k0_hw1 : k0_chk1 i d3 v12), ∀ (k0_h5 : k0_cond5 i = 1#1), ∀ (k0_h6 : k0_cond6 d3 = 1#1), ∀ (r : Fin 3), ∀ a, (k0_off21 v12 (BitVec.ofNat 32 (1 + r.val))) a + S1x512x2048.size a ≤ S8x512x4096.size a := fun i d3 v12 k0_hw1 k0_h5 k0_h6 r => k0_hw1.2.1.2.2.2.2.2.2.2.2.2.1 k0_h5 k0_h6 r
theorem k0_off22_inb : ∀ (i : grid0.Coords) (d3 : Dev nD) (v12 : BitVec 32) (k0_hw1 : k0_chk1 i d3 v12), ∀ (k0_h5 : k0_cond5 i = 1#1), ∀ (k0_h6 : k0_cond6 d3 = 1#1), ∀ (r : Fin 3), ∀ a, (k0_off22 v12 (BitVec.ofNat 32 (1 + r.val))) a + S512x2048.size a ≤ S4096x4096.size a := fun i d3 v12 k0_hw1 k0_h5 k0_h6 r => k0_hw1.2.1.2.2.2.2.2.2.2.2.2.2.1 k0_h5 k0_h6 r
theorem k0_off23_inb : ∀ (i : grid0.Coords) (d3 : Dev nD) (v12 : BitVec 32) (k0_hw1 : k0_chk1 i d3 v12), ∀ (k0_h5 : k0_cond5 i = 1#1), ∀ (k0_h6 : k0_cond6 d3 = 1#1), ∀ (r : Fin 3), ∀ a, (k0_off23 v12 (BitVec.ofNat 32 (1 + r.val))) a + S1x512x2048.size a ≤ S8x512x4096.size a := fun i d3 v12 k0_hw1 k0_h5 k0_h6 r => k0_hw1.2.1.2.2.2.2.2.2.2.2.2.2.2.1 k0_h5 k0_h6 r
theorem k0_off24_inb : ∀ (i : grid0.Coords) (d3 : Dev nD) (v12 : BitVec 32) (k0_hw1 : k0_chk1 i d3 v12), ∀ (k0_h5 : k0_cond5 i = 1#1), ∀ (k0_h6 : k0_cond6 d3 = 1#1), ∀ (r : Fin 3), ∀ a, (k0_off24 v12 (BitVec.ofNat 32 (1 + r.val))) a + S512x2048.size a ≤ S4096x4096.size a := fun i d3 v12 k0_hw1 k0_h5 k0_h6 r => k0_hw1.2.1.2.2.2.2.2.2.2.2.2.2.2.2.1 k0_h5 k0_h6 r
theorem k0_off25_inb : ∀ (i : grid0.Coords) (d3 : Dev nD) (v12 : BitVec 32) (k0_hw1 : k0_chk1 i d3 v12), ∀ (k0_h5 : k0_cond5 i = 1#1), ∀ (k0_h6 : k0_cond6 d3 = 1#1), ∀ (r : Fin 4), ∀ a, (k0_off25 v12 (BitVec.ofNat 32 (1 + r.val))) a + S1x512x2048.size a ≤ S8x512x4096.size a := fun i d3 v12 k0_hw1 k0_h5 k0_h6 r => k0_hw1.2.1.2.2.2.2.2.2.2.2.2.2.2.2.2.1 k0_h5 k0_h6 r
theorem k0_off26_inb : ∀ (i : grid0.Coords) (d3 : Dev nD) (v12 : BitVec 32) (k0_hw1 : k0_chk1 i d3 v12), ∀ (k0_h5 : k0_cond5 i = 1#1), ∀ (k0_h6 : k0_cond6 d3 = 1#1), ∀ (r : Fin 4), ∀ a, (k0_off26 v12 (BitVec.ofNat 32 (1 + r.val))) a + S512x2048.size a ≤ S4096x4096.size a := fun i d3 v12 k0_hw1 k0_h5 k0_h6 r => k0_hw1.2.1.2.2.2.2.2.2.2.2.2.2.2.2.2.2.1 k0_h5 k0_h6 r
theorem k0_off27_inb : ∀ (i : grid0.Coords) (d3 : Dev nD) (v12 : BitVec 32) (k0_hw1 : k0_chk1 i d3 v12), ∀ (k0_h5 : k0_cond5 i = 1#1), ∀ (k0_h6 : k0_cond6 d3 = 1#1), ∀ (r : Fin 4), ∀ a, (k0_off27 v12 (BitVec.ofNat 32 (1 + r.val))) a + S1x512x2048.size a ≤ S8x512x4096.size a := fun i d3 v12 k0_hw1 k0_h5 k0_h6 r => k0_hw1.2.1.2.2.2.2.2.2.2.2.2.2.2.2.2.2.2.1 k0_h5 k0_h6 r
theorem k0_off28_inb : ∀ (i : grid0.Coords) (d3 : Dev nD) (v12 : BitVec 32) (k0_hw1 : k0_chk1 i d3 v12), ∀ (k0_h5 : k0_cond5 i = 1#1), ∀ (k0_h6 : k0_cond6 d3 = 1#1), ∀ (r : Fin 4), ∀ a, (k0_off28 v12 (BitVec.ofNat 32 (1 + r.val))) a + S512x2048.size a ≤ S4096x4096.size a := fun i d3 v12 k0_hw1 k0_h5 k0_h6 r => k0_hw1.2.1.2.2.2.2.2.2.2.2.2.2.2.2.2.2.2.2.1 k0_h5 k0_h6 r
theorem k0_dev14_lt : ∀ (i : grid0.Coords) (d3 : Dev nD) (v12 : BitVec 32) (k0_hw1 : k0_chk1 i d3 v12), ∀ (k0_h5 : k0_cond5 i = 1#1), ∀ (k0_h6 : k0_cond6 d3 = 1#1), (k0_dev14 d3 v12) < nD := fun i d3 v12 k0_hw1 k0_h5 k0_h6 => k0_hw1.2.1.2.2.2.2.2.2.2.2.2.2.2.2.2.2.2.2.2.1 k0_h5 k0_h6
theorem k0_dev15_lt : ∀ (i : grid0.Coords) (d3 : Dev nD) (v12 : BitVec 32) (k0_hw1 : k0_chk1 i d3 v12), ∀ (k0_h5 : k0_cond5 i = 1#1), ∀ (k0_h6 : k0_cond6 d3 = 1#1), (k0_dev15 d3 v12) < nD := fun i d3 v12 k0_hw1 k0_h5 k0_h6 => k0_hw1.2.1.2.2.2.2.2.2.2.2.2.2.2.2.2.2.2.2.2.2.1 k0_h5 k0_h6
theorem k0_off29_inb : ∀ (i : grid0.Coords) (d3 : Dev nD) (v12 : BitVec 32) (k0_hw1 : k0_chk1 i d3 v12), ∀ (k0_h5 : k0_cond5 i = 1#1), ∀ (k0_h6 : k0_cond6 d3 = 1#1), ∀ a, (k0_off29 v12) a + S1x512x1408.size a ≤ S8x512x4096.size a := fun i d3 v12 k0_hw1 k0_h5 k0_h6 => k0_hw1.2.1.2.2.2.2.2.2.2.2.2.2.2.2.2.2.2.2.2.2.2.1 k0_h5 k0_h6
theorem k0_off29_wordsbf16 : ∀ (i : grid0.Coords) (d3 : Dev nD) (v12 : BitVec 32) (k0_hw1 : k0_chk1 i d3 v12), ∀ (k0_h5 : k0_cond5 i = 1#1), ∀ (k0_h6 : k0_cond6 d3 = 1#1), (Rect.unit (s := S8x512x4096) (k0_off29 v12) S1x512x1408.size (k0_off29_inb i d3 v12 k0_hw1 k0_h5 k0_h6)).WholeWords (EltTy.packing .bf16) := fun i d3 v12 k0_hw1 k0_h5 k0_h6 => k0_hw1.2.1.2.2.2.2.2.2.2.2.2.2.2.2.2.2.2.2.2.2.2.2.1 k0_h5 k0_h6 (k0_off29_inb i d3 v12 k0_hw1 k0_h5 k0_h6)
theorem k0_dev18_lt : ∀ (i : grid0.Coords) (d3 : Dev nD) (v12 : BitVec 32) (k0_hw1 : k0_chk1 i d3 v12), ∀ (k0_h5 : k0_cond5 i = 1#1), ∀ (k0_h6 : k0_cond6 d3 = 1#1), (k0_dev18 d3 v12) < nD := fun i d3 v12 k0_hw1 k0_h5 k0_h6 => k0_hw1.2.1.2.2.2.2.2.2.2.2.2.2.2.2.2.2.2.2.2.2.2.2.2.1 k0_h5 k0_h6
theorem k0_off30_inb : ∀ (i : grid0.Coords) (d3 : Dev nD) (v12 : BitVec 32) (k0_hw1 : k0_chk1 i d3 v12), ∀ (k0_h5 : k0_cond5 i = 1#1), ∀ (k0_h6 : k0_cond6 d3 = 1#1), ∀ a, (k0_off30 v12) a + S1x512x1408.size a ≤ S8x512x4096.size a := fun i d3 v12 k0_hw1 k0_h5 k0_h6 => k0_hw1.2.1.2.2.2.2.2.2.2.2.2.2.2.2.2.2.2.2.2.2.2.2.2.2.1 k0_h5 k0_h6
theorem k0_off30_wordsbf16 : ∀ (i : grid0.Coords) (d3 : Dev nD) (v12 : BitVec 32) (k0_hw1 : k0_chk1 i d3 v12), ∀ (k0_h5 : k0_cond5 i = 1#1), ∀ (k0_h6 : k0_cond6 d3 = 1#1), (Rect.unit (s := S8x512x4096) (k0_off30 v12) S1x512x1408.size (k0_off30_inb i d3 v12 k0_hw1 k0_h5 k0_h6)).WholeWords (EltTy.packing .bf16) := fun i d3 v12 k0_hw1 k0_h5 k0_h6 => k0_hw1.2.1.2.2.2.2.2.2.2.2.2.2.2.2.2.2.2.2.2.2.2.2.2.2.2.1 k0_h5 k0_h6 (k0_off30_inb i d3 v12 k0_hw1 k0_h5 k0_h6)
theorem k0_dev19_lt : ∀ (i : grid0.Coords) (d3 : Dev nD) (v12 : BitVec 32) (k0_hw1 : k0_chk1 i d3 v12), ∀ (k0_h5 : k0_cond5 i = 1#1), ∀ (k0_h6 : k0_cond6 d3 = 1#1), (k0_dev19 d3 v12) < nD := fun i d3 v12 k0_hw1 k0_h5 k0_h6 => k0_hw1.2.1.2.2.2.2.2.2.2.2.2.2.2.2.2.2.2.2.2.2.2.2.2.2.2.2.1 k0_h5 k0_h6
theorem k0_off31_inb : ∀ (i : grid0.Coords) (d3 : Dev nD) (v12 : BitVec 32) (k0_hw1 : k0_chk1 i d3 v12), ∀ (k0_h5 : k0_cond5 i = 1#1), ∀ (k0_h6 : k0_cond6 d3 = 1#1), ∀ a, (k0_off31 v12) a + S1x512x1280.size a ≤ S8x512x4096.size a := fun i d3 v12 k0_hw1 k0_h5 k0_h6 => k0_hw1.2.1.2.2.2.2.2.2.2.2.2.2.2.2.2.2.2.2.2.2.2.2.2.2.2.2.2.1 k0_h5 k0_h6
theorem k0_off31_wordsbf16 : ∀ (i : grid0.Coords) (d3 : Dev nD) (v12 : BitVec 32) (k0_hw1 : k0_chk1 i d3 v12), ∀ (k0_h5 : k0_cond5 i = 1#1), ∀ (k0_h6 : k0_cond6 d3 = 1#1), (Rect.unit (s := S8x512x4096) (k0_off31 v12) S1x512x1280.size (k0_off31_inb i d3 v12 k0_hw1 k0_h5 k0_h6)).WholeWords (EltTy.packing .bf16) := fun i d3 v12 k0_hw1 k0_h5 k0_h6 => k0_hw1.2.1.2.2.2.2.2.2.2.2.2.2.2.2.2.2.2.2.2.2.2.2.2.2.2.2.2.2.1 k0_h5 k0_h6 (k0_off31_inb i d3 v12 k0_hw1 k0_h5 k0_h6)
theorem k0_off32_inb : ∀ (i : grid0.Coords) (d3 : Dev nD) (v12 : BitVec 32) (k0_hw1 : k0_chk1 i d3 v12), ∀ (k0_h5 : k0_cond5 i = 1#1), ∀ (k0_h7 : k0_cond7 d3 = 1#1), ∀ (r : Fin 3), ∀ a, (k0_off32 v12 (BitVec.ofNat 32 r.val)) a + S1x512x2816.size a ≤ S8x512x4096.size a := fun i d3 v12 k0_hw1 k0_h5 k0_h7 r => k0_hw1.2.1.2.2.2.2.2.2.2.2.2.2.2.2.2.2.2.2.2.2.2.2.2.2.2.2.2.2.2.1 k0_h5 k0_h7 r
theorem k0_off32_wordsbf16 : ∀ (i : grid0.Coords) (d3 : Dev nD) (v12 : BitVec 32) (k0_hw1 : k0_chk1 i d3 v12), ∀ (k0_h5 : k0_cond5 i = 1#1), ∀ (k0_h7 : k0_cond7 d3 = 1#1), ∀ (r : Fin 3), (Rect.unit (s := S8x512x4096) (k0_off32 v12 (BitVec.ofNat 32 r.val)) S1x512x2816.size (k0_off32_inb i d3 v12 k0_hw1 k0_h5 k0_h7 r)).WholeWords (EltTy.packing .bf16) := fun i d3 v12 k0_hw1 k0_h5 k0_h7 r => k0_hw1.2.1.2.2.2.2.2.2.2.2.2.2.2.2.2.2.2.2.2.2.2.2.2.2.2.2.2.2.2.2.1 k0_h5 k0_h7 r (k0_off32_inb i d3 v12 k0_hw1 k0_h5 k0_h7 r)
theorem k0_dev21_lt : ∀ (i : grid0.Coords) (d3 : Dev nD) (v12 : BitVec 32) (k0_hw1 : k0_chk1 i d3 v12), ∀ (k0_h5 : k0_cond5 i = 1#1), ∀ (k0_h7 : k0_cond7 d3 = 1#1), (k0_dev21 d3 v12) < nD := fun i d3 v12 k0_hw1 k0_h5 k0_h7 => k0_hw1.2.1.2.2.2.2.2.2.2.2.2.2.2.2.2.2.2.2.2.2.2.2.2.2.2.2.2.2.2.2.2.1 k0_h5 k0_h7
theorem k0_off33_inb : ∀ (i : grid0.Coords) (d3 : Dev nD) (v12 : BitVec 32) (k0_hw1 : k0_chk1 i d3 v12), ∀ (k0_h5 : k0_cond5 i = 1#1), ∀ (k0_h7 : k0_cond7 d3 = 1#1), ∀ (r : Fin 3), ∀ a, (k0_off33 v12 (BitVec.ofNat 32 r.val)) a + S1x512x2816.size a ≤ S8x512x4096.size a := fun i d3 v12 k0_hw1 k0_h5 k0_h7 r => k0_hw1.2.1.2.2.2.2.2.2.2.2.2.2.2.2.2.2.2.2.2.2.2.2.2.2.2.2.2.2.2.2.2.2.1 k0_h5 k0_h7 r
theorem k0_off33_wordsbf16 : ∀ (i : grid0.Coords) (d3 : Dev nD) (v12 : BitVec 32) (k0_hw1 : k0_chk1 i d3 v12), ∀ (k0_h5 : k0_cond5 i = 1#1), ∀ (k0_h7 : k0_cond7 d3 = 1#1), ∀ (r : Fin 3), (Rect.unit (s := S8x512x4096) (k0_off33 v12 (BitVec.ofNat 32 r.val)) S1x512x2816.size (k0_off33_inb i d3 v12 k0_hw1 k0_h5 k0_h7 r)).WholeWords (EltTy.packing .bf16) := fun i d3 v12 k0_hw1 k0_h5 k0_h7 r => k0_hw1.2.1.2.2.2.2.2.2.2.2.2.2.2.2.2.2.2.2.2.2.2.2.2.2.2.2.2.2.2.2.2.2.2 k0_h5 k0_h7 r (k0_off33_inb i d3 v12 k0_hw1 k0_h5 k0_h7 r)
theorem k0_dev22_lt : ∀ (i : grid0.Coords) (d3 : Dev nD) (v12 : BitVec 32) (k0_hw1 : k0_chk1 i d3 v12), ∀ (k0_h5 : k0_cond5 i = 1#1), ∀ (k0_h7 : k0_cond7 d3 = 1#1), (k0_dev22 d3 v12) < nD := fun i d3 v12 k0_hw1 k0_h5 k0_h7 => k0_hw1.2.2.1 k0_h5 k0_h7
theorem k0_off34_inb : ∀ (i : grid0.Coords) (d3 : Dev nD) (v12 : BitVec 32) (k0_hw1 : k0_chk1 i d3 v12), ∀ (k0_h5 : k0_cond5 i = 1#1), ∀ (k0_h7 : k0_cond7 d3 = 1#1), ∀ a, (k0_off34 v12) a + S1x512x2048.size a ≤ S8x512x4096.size a := fun i d3 v12 k0_hw1 k0_h5 k0_h7 => k0_hw1.2.2.2.1 k0_h5 k0_h7
theorem k0_off35_inb : ∀ (i : grid0.Coords) (d3 : Dev nD) (v12 : BitVec 32) (k0_hw1 : k0_chk1 i d3 v12), ∀ (k0_h5 : k0_cond5 i = 1#1), ∀ (k0_h7 : k0_cond7 d3 = 1#1), ∀ a, (k0_off35 v12) a + S512x2048.size a ≤ S4096x4096.size a := fun i d3 v12 k0_hw1 k0_h5 k0_h7 => k0_hw1.2.2.2.2.1 k0_h5 k0_h7
theorem k0_off36_inb : ∀ (i : grid0.Coords) (d3 : Dev nD) (v12 : BitVec 32) (k0_hw1 : k0_chk1 i d3 v12), ∀ (k0_h5 : k0_cond5 i = 1#1), ∀ (k0_h7 : k0_cond7 d3 = 1#1), ∀ a, (k0_off36 v12) a + S1x512x2048.size a ≤ S8x512x4096.size a := fun i d3 v12 k0_hw1 k0_h5 k0_h7 => k0_hw1.2.2.2.2.2.1 k0_h5 k0_h7
theorem k0_off37_inb : ∀ (i : grid0.Coords) (d3 : Dev nD) (v12 : BitVec 32) (k0_hw1 : k0_chk1 i d3 v12), ∀ (k0_h5 : k0_cond5 i = 1#1), ∀ (k0_h7 : k0_cond7 d3 = 1#1), ∀ a, (k0_off37 v12) a + S512x2048.size a ≤ S4096x4096.size a := fun i d3 v12 k0_hw1 k0_h5 k0_h7 => k0_hw1.2.2.2.2.2.2.1 k0_h5 k0_h7
theorem k0_off38_inb : ∀ (i : grid0.Coords) (d3 : Dev nD) (v12 : BitVec 32) (k0_hw1 : k0_chk1 i d3 v12), ∀ (k0_h5 : k0_cond5 i = 1#1), ∀ (k0_h7 : k0_cond7 d3 = 1#1), ∀ (r : Fin 3), ∀ a, (k0_off38 v12 (BitVec.ofNat 32 r.val)) a + S1x512x1280.size a ≤ S8x512x4096.size a := fun i d3 v12 k0_hw1 k0_h5 k0_h7 r => k0_hw1.2.2.2.2.2.2.2.1 k0_h5 k0_h7 r
theorem k0_off38_wordsbf16 : ∀ (i : grid0.Coords) (d3 : Dev nD) (v12 : BitVec 32) (k0_hw1 : k0_chk1 i d3 v12), ∀ (k0_h5 : k0_cond5 i = 1#1), ∀ (k0_h7 : k0_cond7 d3 = 1#1), ∀ (r : Fin 3), (Rect.unit (s := S8x512x4096) (k0_off38 v12 (BitVec.ofNat 32 r.val)) S1x512x1280.size (k0_off38_inb i d3 v12 k0_hw1 k0_h5 k0_h7 r)).WholeWords (EltTy.packing .bf16) := fun i d3 v12 k0_hw1 k0_h5 k0_h7 r => k0_hw1.2.2.2.2.2.2.2.2.1 k0_h5 k0_h7 r (k0_off38_inb i d3 v12 k0_hw1 k0_h5 k0_h7 r)
theorem k0_off39_inb : ∀ (i : grid0.Coords) (d3 : Dev nD) (v12 : BitVec 32) (k0_hw1 : k0_chk1 i d3 v12), ∀ (k0_h5 : k0_cond5 i = 1#1), ∀ (k0_h7 : k0_cond7 d3 = 1#1), ∀ (r : Fin 3), ∀ a, (k0_off39 v12 (BitVec.ofNat 32 r.val)) a + S1x512x1280.size a ≤ S8x512x4096.size a := fun i d3 v12 k0_hw1 k0_h5 k0_h7 r => k0_hw1.2.2.2.2.2.2.2.2.2.1 k0_h5 k0_h7 r
theorem k0_off39_wordsbf16 : ∀ (i : grid0.Coords) (d3 : Dev nD) (v12 : BitVec 32) (k0_hw1 : k0_chk1 i d3 v12), ∀ (k0_h5 : k0_cond5 i = 1#1), ∀ (k0_h7 : k0_cond7 d3 = 1#1), ∀ (r : Fin 3), (Rect.unit (s := S8x512x4096) (k0_off39 v12 (BitVec.ofNat 32 r.val)) S1x512x1280.size (k0_off39_inb i d3 v12 k0_hw1 k0_h5 k0_h7 r)).WholeWords (EltTy.packing .bf16) := fun i d3 v12 k0_hw1 k0_h5 k0_h7 r => k0_hw1.2.2.2.2.2.2.2.2.2.2.1 k0_h5 k0_h7 r (k0_off39_inb i d3 v12 k0_hw1 k0_h5 k0_h7 r)
theorem k0_dev25_lt : ∀ (i : grid0.Coords) (d3 : Dev nD) (v12 : BitVec 32) (k0_hw1 : k0_chk1 i d3 v12), ∀ (k0_h5 : k0_cond5 i = 1#1), ∀ (k0_h7 : k0_cond7 d3 = 1#1), (k0_dev25 d3 v12) < nD := fun i d3 v12 k0_hw1 k0_h5 k0_h7 => k0_hw1.2.2.2.2.2.2.2.2.2.2.2.1 k0_h5 k0_h7
theorem k0_dev26_lt : ∀ (i : grid0.Coords) (d3 : Dev nD) (v12 : BitVec 32) (k0_hw1 : k0_chk1 i d3 v12), ∀ (k0_h5 : k0_cond5 i = 1#1), ∀ (k0_h7 : k0_cond7 d3 = 1#1), (k0_dev26 d3 v12) < nD := fun i d3 v12 k0_hw1 k0_h5 k0_h7 => k0_hw1.2.2.2.2.2.2.2.2.2.2.2.2.1 k0_h5 k0_h7
theorem k0_off40_inb : ∀ (i : grid0.Coords) (d3 : Dev nD) (v12 : BitVec 32) (k0_hw1 : k0_chk1 i d3 v12), ∀ (k0_h5 : k0_cond5 i = 1#1), ∀ (k0_h7 : k0_cond7 d3 = 1#1), ∀ (r : Fin 3), ∀ a, (k0_off40 v12 (BitVec.ofNat 32 (1 + r.val))) a + S1x512x2048.size a ≤ S8x512x4096.size a := fun i d3 v12 k0_hw1 k0_h5 k0_h7 r => k0_hw1.2.2.2.2.2.2.2.2.2.2.2.2.2.1 k0_h5 k0_h7 r
theorem k0_off41_inb : ∀ (i : grid0.Coords) (d3 : Dev nD) (v12 : BitVec 32) (k0_hw1 : k0_chk1 i d3 v12), ∀ (k0_h5 : k0_cond5 i = 1#1), ∀ (k0_h7 : k0_cond7 d3 = 1#1), ∀ (r : Fin 3), ∀ a, (k0_off41 v12 (BitVec.ofNat 32 (1 + r.val))) a + S512x2048.size a ≤ S4096x4096.size a := fun i d3 v12 k0_hw1 k0_h5 k0_h7 r => k0_hw1.2.2.2.2.2.2.2.2.2.2.2.2.2.2.1 k0_h5 k0_h7 r
theorem k0_off42_inb : ∀ (i : grid0.Coords) (d3 : Dev nD) (v12 : BitVec 32) (k0_hw1 : k0_chk1 i d3 v12), ∀ (k0_h5 : k0_cond5 i = 1#1), ∀ (k0_h7 : k0_cond7 d3 = 1#1), ∀ (r : Fin 3), ∀ a, (k0_off42 v12 (BitVec.ofNat 32 (1 + r.val))) a + S1x512x2048.size a ≤ S8x512x4096.size a := fun i d3 v12 k0_hw1 k0_h5 k0_h7 r => k0_hw1.2.2.2.2.2.2.2.2.2.2.2.2.2.2.2.1 k0_h5 k0_h7 r
theorem k0_off43_inb : ∀ (i : grid0.Coords) (d3 : Dev nD) (v12 : BitVec 32) (k0_hw1 : k0_chk1 i d3 v12), ∀ (k0_h5 : k0_cond5 i = 1#1), ∀ (k0_h7 : k0_cond7 d3 = 1#1), ∀ (r : Fin 3), ∀ a, (k0_off43 v12 (BitVec.ofNat 32 (1 + r.val))) a + S512x2048.size a ≤ S4096x4096.size a := fun i d3 v12 k0_hw1 k0_h5 k0_h7 r => k0_hw1.2.2.2.2.2.2.2.2.2.2.2.2.2.2.2.2.1 k0_h5 k0_h7 r
theorem k0_off44_inb : ∀ (i : grid0.Coords) (d3 : Dev nD) (v12 : BitVec 32) (k0_hw1 : k0_chk1 i d3 v12), ∀ (k0_h5 : k0_cond5 i = 1#1), ∀ (k0_h7 : k0_cond7 d3 = 1#1), ∀ (r : Fin 4), ∀ a, (k0_off44 v12 (BitVec.ofNat 32 (1 + r.val))) a + S1x512x2048.size a ≤ S8x512x4096.size a := fun i d3 v12 k0_hw1 k0_h5 k0_h7 r => k0_hw1.2.2.2.2.2.2.2.2.2.2.2.2.2.2.2.2.2.1 k0_h5 k0_h7 r
theorem k0_off45_inb : ∀ (i : grid0.Coords) (d3 : Dev nD) (v12 : BitVec 32) (k0_hw1 : k0_chk1 i d3 v12), ∀ (k0_h5 : k0_cond5 i = 1#1), ∀ (k0_h7 : k0_cond7 d3 = 1#1), ∀ (r : Fin 4), ∀ a, (k0_off45 v12 (BitVec.ofNat 32 (1 + r.val))) a + S512x2048.size a ≤ S4096x4096.size a := fun i d3 v12 k0_hw1 k0_h5 k0_h7 r => k0_hw1.2.2.2.2.2.2.2.2.2.2.2.2.2.2.2.2.2.2.1 k0_h5 k0_h7 r
theorem k0_off46_inb : ∀ (i : grid0.Coords) (d3 : Dev nD) (v12 : BitVec 32) (k0_hw1 : k0_chk1 i d3 v12), ∀ (k0_h5 : k0_cond5 i = 1#1), ∀ (k0_h7 : k0_cond7 d3 = 1#1), ∀ (r : Fin 4), ∀ a, (k0_off46 v12 (BitVec.ofNat 32 (1 + r.val))) a + S1x512x2048.size a ≤ S8x512x4096.size a := fun i d3 v12 k0_hw1 k0_h5 k0_h7 r => k0_hw1.2.2.2.2.2.2.2.2.2.2.2.2.2.2.2.2.2.2.2.1 k0_h5 k0_h7 r
theorem k0_off47_inb : ∀ (i : grid0.Coords) (d3 : Dev nD) (v12 : BitVec 32) (k0_hw1 : k0_chk1 i d3 v12), ∀ (k0_h5 : k0_cond5 i = 1#1), ∀ (k0_h7 : k0_cond7 d3 = 1#1), ∀ (r : Fin 4), ∀ a, (k0_off47 v12 (BitVec.ofNat 32 (1 + r.val))) a + S512x2048.size a ≤ S4096x4096.size a := fun i d3 v12 k0_hw1 k0_h5 k0_h7 r => k0_hw1.2.2.2.2.2.2.2.2.2.2.2.2.2.2.2.2.2.2.2.2.1 k0_h5 k0_h7 r
theorem k0_dev29_lt : ∀ (i : grid0.Coords) (d3 : Dev nD) (v12 : BitVec 32) (k0_hw1 : k0_chk1 i d3 v12), ∀ (k0_h5 : k0_cond5 i = 1#1), ∀ (k0_h7 : k0_cond7 d3 = 1#1), (k0_dev29 d3 v12) < nD := fun i d3 v12 k0_hw1 k0_h5 k0_h7 => k0_hw1.2.2.2.2.2.2.2.2.2.2.2.2.2.2.2.2.2.2.2.2.2.1 k0_h5 k0_h7
theorem k0_dev30_lt : ∀ (i : grid0.Coords) (d3 : Dev nD) (v12 : BitVec 32) (k0_hw1 : k0_chk1 i d3 v12), ∀ (k0_h5 : k0_cond5 i = 1#1), ∀ (k0_h7 : k0_cond7 d3 = 1#1), (k0_dev30 d3 v12) < nD := fun i d3 v12 k0_hw1 k0_h5 k0_h7 => k0_hw1.2.2.2.2.2.2.2.2.2.2.2.2.2.2.2.2.2.2.2.2.2.2.1 k0_h5 k0_h7
theorem k0_off48_inb : ∀ (i : grid0.Coords) (d3 : Dev nD) (v12 : BitVec 32) (k0_hw1 : k0_chk1 i d3 v12), ∀ (k0_h5 : k0_cond5 i = 1#1), ∀ (k0_h7 : k0_cond7 d3 = 1#1), ∀ a, (k0_off48 v12) a + S1x512x1408.size a ≤ S8x512x4096.size a := fun i d3 v12 k0_hw1 k0_h5 k0_h7 => k0_hw1.2.2.2.2.2.2.2.2.2.2.2.2.2.2.2.2.2.2.2.2.2.2.2.1 k0_h5 k0_h7
theorem k0_off48_wordsbf16 : ∀ (i : grid0.Coords) (d3 : Dev nD) (v12 : BitVec 32) (k0_hw1 : k0_chk1 i d3 v12), ∀ (k0_h5 : k0_cond5 i = 1#1), ∀ (k0_h7 : k0_cond7 d3 = 1#1), (Rect.unit (s := S8x512x4096) (k0_off48 v12) S1x512x1408.size (k0_off48_inb i d3 v12 k0_hw1 k0_h5 k0_h7)).WholeWords (EltTy.packing .bf16) := fun i d3 v12 k0_hw1 k0_h5 k0_h7 => k0_hw1.2.2.2.2.2.2.2.2.2.2.2.2.2.2.2.2.2.2.2.2.2.2.2.2.1 k0_h5 k0_h7 (k0_off48_inb i d3 v12 k0_hw1 k0_h5 k0_h7)
theorem k0_dev33_lt : ∀ (i : grid0.Coords) (d3 : Dev nD) (v12 : BitVec 32) (k0_hw1 : k0_chk1 i d3 v12), ∀ (k0_h5 : k0_cond5 i = 1#1), ∀ (k0_h7 : k0_cond7 d3 = 1#1), (k0_dev33 d3 v12) < nD := fun i d3 v12 k0_hw1 k0_h5 k0_h7 => k0_hw1.2.2.2.2.2.2.2.2.2.2.2.2.2.2.2.2.2.2.2.2.2.2.2.2.2.1 k0_h5 k0_h7
theorem k0_off49_inb : ∀ (i : grid0.Coords) (d3 : Dev nD) (v12 : BitVec 32) (k0_hw1 : k0_chk1 i d3 v12), ∀ (k0_h5 : k0_cond5 i = 1#1), ∀ (k0_h7 : k0_cond7 d3 = 1#1), ∀ a, (k0_off49 v12) a + S1x512x1408.size a ≤ S8x512x4096.size a := fun i d3 v12 k0_hw1 k0_h5 k0_h7 => k0_hw1.2.2.2.2.2.2.2.2.2.2.2.2.2.2.2.2.2.2.2.2.2.2.2.2.2.2.1 k0_h5 k0_h7
theorem k0_off49_wordsbf16 : ∀ (i : grid0.Coords) (d3 : Dev nD) (v12 : BitVec 32) (k0_hw1 : k0_chk1 i d3 v12), ∀ (k0_h5 : k0_cond5 i = 1#1), ∀ (k0_h7 : k0_cond7 d3 = 1#1), (Rect.unit (s := S8x512x4096) (k0_off49 v12) S1x512x1408.size (k0_off49_inb i d3 v12 k0_hw1 k0_h5 k0_h7)).WholeWords (EltTy.packing .bf16) := fun i d3 v12 k0_hw1 k0_h5 k0_h7 => k0_hw1.2.2.2.2.2.2.2.2.2.2.2.2.2.2.2.2.2.2.2.2.2.2.2.2.2.2.2.1 k0_h5 k0_h7 (k0_off49_inb i d3 v12 k0_hw1 k0_h5 k0_h7)
theorem k0_dev34_lt : ∀ (i : grid0.Coords) (d3 : Dev nD) (v12 : BitVec 32) (k0_hw1 : k0_chk1 i d3 v12), ∀ (k0_h5 : k0_cond5 i = 1#1), ∀ (k0_h7 : k0_cond7 d3 = 1#1), (k0_dev34 d3 v12) < nD := fun i d3 v12 k0_hw1 k0_h5 k0_h7 => k0_hw1.2.2.2.2.2.2.2.2.2.2.2.2.2.2.2.2.2.2.2.2.2.2.2.2.2.2.2.2.1 k0_h5 k0_h7
theorem k0_off50_inb : ∀ (i : grid0.Coords) (d3 : Dev nD) (v12 : BitVec 32) (k0_hw1 : k0_chk1 i d3 v12), ∀ (k0_h5 : k0_cond5 i = 1#1), ∀ (k0_h7 : k0_cond7 d3 = 1#1), ∀ a, (k0_off50 v12) a + S1x512x1280.size a ≤ S8x512x4096.size a := fun i d3 v12 k0_hw1 k0_h5 k0_h7 => k0_hw1.2.2.2.2.2.2.2.2.2.2.2.2.2.2.2.2.2.2.2.2.2.2.2.2.2.2.2.2.2.1 k0_h5 k0_h7
theorem k0_off50_wordsbf16 : ∀ (i : grid0.Coords) (d3 : Dev nD) (v12 : BitVec 32) (k0_hw1 : k0_chk1 i d3 v12), ∀ (k0_h5 : k0_cond5 i = 1#1), ∀ (k0_h7 : k0_cond7 d3 = 1#1), (Rect.unit (s := S8x512x4096) (k0_off50 v12) S1x512x1280.size (k0_off50_inb i d3 v12 k0_hw1 k0_h5 k0_h7)).WholeWords (EltTy.packing .bf16) := fun i d3 v12 k0_hw1 k0_h5 k0_h7 => k0_hw1.2.2.2.2.2.2.2.2.2.2.2.2.2.2.2.2.2.2.2.2.2.2.2.2.2.2.2.2.2.2 k0_h5 k0_h7 (k0_off50_inb i d3 v12 k0_hw1 k0_h5 k0_h7)

def k0_dev35 (d3 : Dev nD) : Nat :=
  let c0_i32_794 : BitVec 32 := 0#32
  let v3 : BitVec 32 := Dev.word d3
  let c8_i32 : BitVec 32 := 8#32
  let v4 : BitVec 32 := Scalar.divsi v3 c8_i32
  let c2_i32 : BitVec 32 := 2#32
  let v5 : BitVec 32 := Scalar.remsi v4 c2_i32
  let c8_i32_793 : BitVec 32 := 8#32
  let v1023 : BitVec 32 := Scalar.muli v5 c8_i32_793
  let v1024 : BitVec 32 := Scalar.addi c0_i32_794 v1023
  let c1_i32_33 : BitVec 32 := 1#32
  let v6 : BitVec 32 := Dev.word d3
  let c4_i32 : BitVec 32 := 4#32
  let v7 : BitVec 32 := Scalar.divsi v6 c4_i32
  let c2_i32_0 : BitVec 32 := 2#32
  let v8 : BitVec 32 := Scalar.remsi v7 c2_i32_0
  let v75 : BitVec 32 := Scalar.subi c1_i32_33 v8
  let c4_i32_795 : BitVec 32 := 4#32
  let v1025 : BitVec 32 := Scalar.muli v75 c4_i32_795
  let v1026 : BitVec 32 := Scalar.addi v1024 v1025
  let v9 : BitVec 32 := Dev.word d3
  let c1_i32_2 : BitVec 32 := 1#32
  let v10 : BitVec 32 := Scalar.divsi v9 c1_i32_2
  let c4_i32_1 : BitVec 32 := 4#32
  let v11 : BitVec 32 := Scalar.remsi v10 c4_i32_1
  let c1_i32_796 : BitVec 32 := 1#32
  let v1027 : BitVec 32 := Scalar.muli v11 c1_i32_796
  let v1028 : BitVec 32 := Scalar.addi v1026 v1027
  v1028.toNat
def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S4096x16384 : Shape := ⟨2, ![4096, 16384]⟩
abbrev S16384x4096 : Shape := ⟨2, ![16384, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S4096x16384, .bf16⟩
  | .hbm, ⟨2, _⟩ => ⟨S16384x4096, .bf16⟩
  | .hbm, ⟨3, _⟩ => ⟨S4096x4096, .f32⟩
  | .hbm, ⟨4, _⟩ => ⟨S4096x4096, .bf16⟩
  | .hbm, ⟨5, _⟩ => ⟨S4096x4096, .f32⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Ring.lean ====
module

public import proofs.«01_k».proof.Proof.Gen.KernelIdeal.Skeleton

@[expose] public section

namespace Cert.KernelIdeal.Hand

open Idealize.ShloMosaic Idealize.SL.Sem Cert.KernelIdeal Cert.KernelIdeal.Gen

/-! # The ring of eight strips, on each side of the "y" axis -/

/-- The half of the contraction axis device `c` holds: its coordinate along "y". -/
def yc (c : Dev nD) : Fin 2 := ⟨(c.val / 4) % 2, Nat.mod_lt _ (by decide)⟩
/-- The place of device `c` on its ring: the x=0 devices by "z", then the x=1 devices by "z" backwards. -/
def pos (c : Dev nD) : Fin 8 := ⟨if c.val / 8 = 0 then c.val % 4 else 7 - c.val % 4, by split <;> omega⟩
/-- The device at place `s` of the ring on side `y`. -/
def devAt (y : Fin 2) (s : Fin 8) : Dev nD :=
  ⟨if s.val < 4 then 4 * y.val + s.val else 8 + 4 * y.val + (7 - s.val), by
    have := y.isLt; have := s.isLt; split <;> (show _ < 16; omega)⟩
/-- The next device on the ring. -/
def rt (c : Dev nD) : Dev nD := devAt (yc c) (pos c + 1)
/-- The previous device on the ring. -/
def lf (c : Dev nD) : Dev nD := devAt (yc c) (pos c - 1)
/-- The device at the same place on the other side. -/
def yn (c : Dev nD) : Dev nD := devAt (1 - yc c) (pos c)
/-- The word of the prefetched table: the place. -/
def pw (c : Dev nD) : BitVec 32 := BitVec.ofNat 32 (pos c).val

theorem yc_devAt : ∀ y s, yc (devAt y s) = y := by decide
theorem pos_devAt : ∀ y s, pos (devAt y s) = s := by decide
theorem devAt_self : ∀ c, devAt (yc c) (pos c) = c := by decide
theorem yc_rt (c) : yc (rt c) = yc c := yc_devAt _ _
theorem yc_lf (c) : yc (lf c) = yc c := yc_devAt _ _
theorem yc_yn (c) : yc (yn c) = 1 - yc c := yc_devAt _ _
theorem pos_rt (c) : pos (rt c) = pos c + 1 := pos_devAt _ _
theorem pos_lf (c) : pos (lf c) = pos c - 1 := pos_devAt _ _
theorem pos_yn (c) : pos (yn c) = pos c := pos_devAt _ _
theorem rt_lf : ∀ c, rt (lf c) = c := by decide
theorem lf_rt : ∀ c, lf (rt c) = c := by decide
theorem yn_yn : ∀ c, yn (yn c) = c := by decide

theorem dev1_eq : ∀ c, k0_dev1 c = (yn c).val := by decide
theorem dev2_eq : ∀ c, k0_dev2 c (pw c) = (lf c).val := by decide
theorem dev3_eq : ∀ c, k0_dev3 c (pw c) = (rt c).val := by decide
theorem dev4_eq : ∀ c, k0_dev4 c = (yn c).val := by decide
theorem dev5_eq : ∀ c, k0_dev5 c = (yn c).val := by decide
theorem dev6_eq : ∀ c, k0_dev6 c (pw c) = (rt c).val := by decide
theorem dev7_eq : ∀ c, k0_dev7 c (pw c) = (lf c).val := by decide

theorem cond6_iff : ∀ c, k0_cond6 c = 1#1 ↔ yc c = 0 := by decide
theorem cond7_iff : ∀ c, k0_cond7 c = 1#1 ↔ yc c = 1 := by decide
theorem cond1_iff : ∀ t : Fin 32, k0_cond1 (grid0.coords t) = 1#1 ↔ t.val = 0 := by decide
theorem cond3_iff : ∀ t : Fin 32, k0_cond3 (grid0.coords t) = 1#1 ↔ t.val = 15 := by decide
theorem cond4_iff : ∀ t : Fin 32, k0_cond4 (grid0.coords t) = 1#1 ↔ t.val = 31 := by decide
theorem cond5_iff : ∀ t : Fin 32, k0_cond5 (grid0.coords t) = 1#1 ↔ t.val = 31 := by decide

theorem off1_eq : ∀ c, k0_off1 (pw c) = ![(pos c).val, 0, 0] := by decide
theorem off2_eq : ∀ c, k0_off2 (pw c) = ![(pos c + 4).val, 0, 0] := by decide
theorem off3_eq : ∀ c, k0_off3 (pw c) = ![(pos c).val, 0, 0] := by decide
theorem off4_eq : ∀ c, k0_off4 (pw c) = ![(pos c).val, 0, 2048] := by decide
theorem off5_eq : ∀ c, k0_off5 (pw c) = ![(pos c + 4).val, 0, 2048] := by decide
theorem off6_eq : ∀ c, k0_off6 (pw c) = ![(pos c).val, 0, 2048] := by decide
theorem off7_eq : ∀ c, k0_off7 (pw c) = ![(pos c).val, 0, 0] := by decide
theorem off8_eq : ∀ c, k0_off8 (pw c) = ![(pos c + 4).val, 0, 0] := by decide
theorem off9_eq : ∀ c, k0_off9 (pw c) = ![(pos c).val, 0, 2048] := by decide
theorem off10_eq : ∀ c, k0_off10 (pw c) = ![(pos c + 4).val, 0, 2048] := by decide
theorem off11_eq : ∀ c, k0_off11 (pw c) = ![(pos c).val, 0, 0] := by decide
theorem off12_eq : ∀ c, k0_off12 (pw c) = ![(pos c + 4).val, 0, 0] := by decide

set_option maxRecDepth 10000 in
/-- Every side condition the body checks of its table word holds of a device's place. -/
theorem chk (i : grid0.Coords) (c : Dev nD) : k0_chk1 i c (pw c) := by
  unfold k0_chk1 k0_chk1_0 k0_chk1_1 k0_chk1_2
  repeat' apply And.intro
  all_goals (intro _; revert c; decide)

end Cert.KernelIdeal.Hand
end
-- ==== Proof.Branch.lean ====
module

public import proofs.«01_k».proof.Proof.Ring

@[expose] public section

namespace Cert.KernelIdeal.Hand

open Idealize.ShloMosaic Idealize.SL.Sem Cert.KernelIdeal Cert.KernelIdeal.Gen

variable {F : FTy → Type} [FloatOps F]

/-! # The exchange of the last grid point, as a list of steps

Both sides of the "y" axis run the same steps on different columns. The columns, targets and semaphores are gathered in a
record `Br`; `branch` is the run of the steps over such a record. -/

/-- The copies of the exchange: forward and backward around the ring in four rounds, and seven across. -/
inductive Rc | f (r : Fin 4) | b (r : Fin 4) | g (o : Fin 7)
  deriving DecidableEq

/-- All copies of the exchange. -/
def Rc.all : List Rc := [.f 0, .f 1, .f 2, .f 3, .b 0, .b 1, .b 2, .b 3, .g 0, .g 1, .g 2, .g 3, .g 4, .g 5, .g 6]

instance : Fintype Rc where
  elems := Rc.all.toFinset
  complete := by
    intro i
    rw [List.mem_toFinset]
    cases i with
    | f r => revert r; decide
    | b r => revert r; decide
    | g o => revert o; decide

/-- The number of columns a copy moves. -/
def Rc.wd : Rc → ℕ
  | .f r => if r = 3 then 1408 else 2816
  | .b r => if r = 3 then 1408 else 2816
  | .g _ => 1280

/-- The gathered strips. -/
abbrev gm : Memref sig .tc .vmem S8x512x4096 .bf16 := Memref.whole cc0_scratch1
/-- The two halves staged on their way out. -/
abbrev stg : Memref sig .tc .vmem S2x512x2048 .f32 := Memref.whole cc0_scratch2
/-- The result array. -/
abbrev om : Memref sig .tc .hbm S4096x4096 .f32 := Memref.whole main_v13

theorem sqz (w : ℕ) : (⟨3, ![1, 512, w]⟩ : Shape).Squeezes ⟨2, ![512, w]⟩ := by
  simp [Shape.Squeezes, Shape.dropsOnes]

/-- A run of `w` columns of one slot. -/
abbrev piece (w : ℕ) (off : Fin 3 → ℕ) (h : ∀ a, off a + (⟨3, ![1, 512, w]⟩ : Shape).size a ≤ S8x512x4096.size a) :
    Memref sig .tc .vmem ⟨2, ![512, w]⟩ .bf16 :=
  (gm.slice (Rect.unit (s := S8x512x4096) off _ h) (fun _ => rfl)).squeeze ⟨2, ![512, w]⟩ (sqz w)

/-- Half `h` of the staging buffer. -/
abbrev stgH (h : Fin 2) : Memref sig .tc .vmem S512x2048 .f32 :=
  (stg.slice (Rect.unit (s := S2x512x2048) ![h.val, 0, 0] S1x512x2048.size (by revert h; decide)) (fun _ => rfl)).squeeze S512x2048
    squeezes_S1x512x2048_S512x2048

/-- A block of the result. -/
abbrev outB (off : Fin 2 → ℕ) (h : ∀ a, off a + S512x2048.size a ≤ S4096x4096.size a) : Memref sig .tc .hbm S512x2048 .f32 :=
  om.slice (Rect.unit (s := S4096x4096) off S512x2048.size h) (fun _ => rfl)

/-- What the steps of the exchange are run over. -/
structure Br where
  off : Rc → Fin 3 → ℕ
  tgt : Rc → Dev nD
  eo : Fin 8 → Fin 2 → Fin 3 → ℕ
  wo : Fin 8 → Fin 2 → Fin 2 → ℕ
  hoff : ∀ i a, off i a + (⟨3, ![1, 512, i.wd]⟩ : Shape).size a ≤ S8x512x4096.size a
  hword : ∀ i, (piece i.wd (off i) (hoff i)).view.WordExact
  heo : ∀ e h a, eo e h a + S1x512x2048.size a ≤ S8x512x4096.size a
  hwo : ∀ e h a, wo e h a + S512x2048.size a ≤ S4096x4096.size a

theorem Br.ext' {A B : Br} (h1 : A.off = B.off) (h2 : A.tgt = B.tgt) (h3 : A.eo = B.eo) (h4 : A.wo = B.wo) : A = B := by
  cases A; cases B; cases h1; cases h2; cases h3; cases h4; rfl

/-- The semaphore credited at the sender. -/
abbrev Rc.sS : Rc → DmaSem sig
  | .f r => ((cc0_scratch5.slice (Rect.unit (s := S4) ![r.val] S1.size (by revert r; decide))).squeeze S_ squeezes_S1_S_).sem
  | .b r => ((cc0_scratch7.slice (Rect.unit (s := S4) ![r.val] S1.size (by revert r; decide))).squeeze S_ squeezes_S1_S_).sem
  | .g o => ((cc0_scratch9.slice (Rect.unit (s := S7) ![o.val] S1.size (by revert o; decide))).squeeze S_ squeezes_S1_S_).sem
/-- The semaphore credited at the receiver. -/
abbrev Rc.sR : Rc → DmaSem sig
  | .f r => ((cc0_scratch6.slice (Rect.unit (s := S4) ![r.val] S1.size (by revert r; decide))).squeeze S_ squeezes_S1_S_).sem
  | .b r => ((cc0_scratch8.slice (Rect.unit (s := S4) ![r.val] S1.size (by revert r; decide))).squeeze S_ squeezes_S1_S_).sem
  | .g o => ((cc0_scratch10.slice (Rect.unit (s := S7) ![o.val] S1.size (by revert o; decide))).squeeze S_ squeezes_S1_S_).sem
/-- The semaphore of the copies out of half `h`. -/
abbrev csem (h : Fin 2) : DmaSem sig :=
  ((cc0_scratch11.slice (Rect.unit (s := S2) ![h.val] S1.size (by revert h; decide))).squeeze S_ squeezes_S1_S_).sem

theorem inbStg : ∀ h : Fin 2, ∀ a, (![h.val, 0, 0] : Fin 3 → ℕ) a + S1x512x2048.size a ≤ S2x512x2048.size a := by decide

/-- The steps: start a copy, wait for both its ends, put one half of a strip out, wait for such a copy out. -/
inductive St | send (i : Rc) | waits (i : Rc) | half (e : Fin 8) (h : Fin 2) | cwait (e : Fin 8) (h : Fin 2)

/-- The element a half of a strip becomes on its way out. -/
noncomputable abbrev outPay (v : Vec F S1x512x2048 .bf16) : FVec F S1x512x2048 .f32 := k0_pay4 v

/-- One step, and then `k`. -/
noncomputable def St.run (B : Br) (k : Prog (TpuEff nD τ sig (Elt F) Λ₀ .tc) PUnit) : St → Prog (TpuEff nD τ sig (Elt F) Λ₀ .tc) PUnit
  | .send i => .op (.enqueueDma (piece i.wd (B.off i) (B.hoff i)) (.remote (Dev.tc (B.tgt i)) (piece i.wd (B.off i) (B.hoff i)) (.dma i.sS))
      (.dma i.sR) (B.hword i) (B.hword i) ⟨⟨rfl, Or.inl rfl⟩, trivial⟩) fun _ => k
  | .waits i => .op (.waitDma2 i.sS (piece i.wd (B.off i) (B.hoff i)) (piece i.wd (B.off i) (B.hoff i)) (B.hword i) (B.hword i)) fun _ =>
      .op (.waitDma2 i.sR (piece i.wd (B.off i) (B.hoff i)) (piece i.wd (B.off i) (B.hoff i)) (B.hword i) (B.hword i)) fun _ => k
  | .half e h => .op (.load gm (Rect.unit (s := S8x512x4096) (B.eo e h) S1x512x2048.size (B.heo e h)).toLoadRect (View.loadsAt_vmem h_S1x512x2048)) fun v =>
      .op (.load stg (Rect.unit (s := S2x512x2048) ![h.val, 0, 0] S1x512x2048.size (inbStg h)).toLoadRect (View.loadsAt_vmem h_S1x512x2048)) fun _ =>
      .op (.store stg (Rect.unit (s := S2x512x2048) ![h.val, 0, 0] S1x512x2048.size (inbStg h)) (outPay v) Finset.univ
        (View.stores_vmem_bits_univ h_S1x512x2048 rfl) (.inl rfl)) fun _ =>
      .op (.enqueueDma (stgH h) (.here (outB (B.wo e h) (B.hwo e h))) (.dma (csem h)) ((View.wordExact_bits rfl).reshape _ _) (View.wordExact_bits rfl)
        ⟨Or.inl rfl, trivial⟩) fun _ => k
  | .cwait e h => .op (.waitDma2 (csem h) (stgH h) (outB (B.wo e h) (B.hwo e h)) ((View.wordExact_bits rfl).reshape _ _) (View.wordExact_bits rfl)) fun _ => k

/-- The order of the steps. -/
def steps : List St :=
  [.send (.f 0), .send (.b 0), .half 0 0, .half 0 1, .waits (.f 0), .waits (.b 0), .send (.g 0), .send (.g 1),
   .send (.f 1), .send (.b 1), .waits (.g 0), .waits (.g 1), .cwait 0 0, .half 1 0, .cwait 0 1, .half 1 1, .cwait 1 0, .half 2 0, .cwait 1 1, .half 2 1,
   .waits (.f 1), .waits (.b 1), .send (.g 2), .send (.g 3),
   .send (.f 2), .send (.b 2), .waits (.g 2), .waits (.g 3), .cwait 2 0, .half 3 0, .cwait 2 1, .half 3 1, .cwait 3 0, .half 4 0, .cwait 3 1, .half 4 1,
   .waits (.f 2), .waits (.b 2), .send (.g 4), .send (.g 5),
   .send (.f 3), .send (.b 3), .waits (.g 4), .waits (.g 5), .cwait 4 0, .half 5 0, .cwait 4 1, .half 5 1, .cwait 5 0, .half 6 0, .cwait 5 1, .half 6 1,
   .waits (.f 3), .waits (.b 3), .send (.g 6), .waits (.g 6), .cwait 6 0, .half 7 0, .cwait 6 1, .half 7 1, .cwait 7 0, .cwait 7 1]

/-- The steps run in order, and then `k`. -/
noncomputable def branch (B : Br) (k : Prog (TpuEff nD τ sig (Elt F) Λ₀ .tc) PUnit) : Prog (TpuEff nD τ sig (Elt F) Λ₀ .tc) PUnit :=
  steps.foldr (fun s k => s.run B k) k

/-- Columns, targets and blocks of the side y = 0, as the body computes them. -/
def br0off (v : BitVec 32) : Rc → Fin 3 → ℕ
  | .f 0 => k0_off13 v 0#32
  | .f 1 => k0_off13 v 1#32
  | .f 2 => k0_off13 v 2#32
  | .f 3 => k0_off29 v
  | .b 0 => k0_off14 v 0#32
  | .b 1 => k0_off14 v 1#32
  | .b 2 => k0_off14 v 2#32
  | .b 3 => k0_off30 v
  | .g 0 => k0_off19 v 0#32
  | .g 1 => k0_off20 v 0#32
  | .g 2 => k0_off19 v 1#32
  | .g 3 => k0_off20 v 1#32
  | .g 4 => k0_off19 v 2#32
  | .g 5 => k0_off20 v 2#32
  | .g 6 => k0_off31 v
def br0dev (c : Dev nD) (v : BitVec 32) : Rc → ℕ
  | .f 0 => k0_dev6 c v
  | .b 0 => k0_dev7 c v
  | .g 0 => k0_dev8 c
  | .g 1 => k0_dev9 c
  | .f 1 => k0_dev10 c v
  | .b 1 => k0_dev11 c v
  | .g 2 => k0_dev12 c
  | .g 3 => k0_dev13 c
  | .f 2 => k0_dev14 c v
  | .b 2 => k0_dev15 c v
  | .g 4 => k0_dev16 c
  | .g 5 => k0_dev17 c
  | .f 3 => k0_dev18 c v
  | .b 3 => k0_dev19 c v
  | .g 6 => k0_dev20 c
def br0eo (v : BitVec 32) : Fin 8 → Fin 2 → Fin 3 → ℕ
  | 0, 0 => k0_off15 v
  | 0, 1 => k0_off17 v
  | 1, 0 => k0_off21 v 1#32
  | 1, 1 => k0_off23 v 1#32
  | 2, 0 => k0_off25 v 1#32
  | 2, 1 => k0_off27 v 1#32
  | 3, 0 => k0_off21 v 2#32
  | 3, 1 => k0_off23 v 2#32
  | 4, 0 => k0_off25 v 2#32
  | 4, 1 => k0_off27 v 2#32
  | 5, 0 => k0_off21 v 3#32
  | 5, 1 => k0_off23 v 3#32
  | 6, 0 => k0_off25 v 3#32
  | 6, 1 => k0_off27 v 3#32
  | 7, 0 => k0_off25 v 4#32
  | 7, 1 => k0_off27 v 4#32
def br0wo (v : BitVec 32) : Fin 8 → Fin 2 → Fin 2 → ℕ
  | 0, 0 => k0_off16 v
  | 0, 1 => k0_off18 v
  | 1, 0 => k0_off22 v 1#32
  | 1, 1 => k0_off24 v 1#32
  | 2, 0 => k0_off26 v 1#32
  | 2, 1 => k0_off28 v 1#32
  | 3, 0 => k0_off22 v 2#32
  | 3, 1 => k0_off24 v 2#32
  | 4, 0 => k0_off26 v 2#32
  | 4, 1 => k0_off28 v 2#32
  | 5, 0 => k0_off22 v 3#32
  | 5, 1 => k0_off24 v 3#32
  | 6, 0 => k0_off26 v 3#32
  | 6, 1 => k0_off28 v 3#32
  | 7, 0 => k0_off26 v 4#32
  | 7, 1 => k0_off28 v 4#32
/-- The record of the side y = 0. -/
def br0 (i : grid0.Coords) (c : Dev nD) (v : BitVec 32) (hw : k0_chk1 i c v) (h5 : k0_cond5 i = 1#1) (hy : k0_cond6 c = 1#1) : Br where
  off := br0off v
  tgt j := ⟨br0dev c v j, match j with
    | .f 0 => k0_dev6_lt i c v hw h5 hy
    | .b 0 => k0_dev7_lt i c v hw h5 hy
    | .g 0 => k0_dev8_lt i c h5 hy
    | .g 1 => k0_dev9_lt i c h5 hy
    | .f 1 => k0_dev10_lt i c v hw h5 hy
    | .b 1 => k0_dev11_lt i c v hw h5 hy
    | .g 2 => k0_dev12_lt i c h5 hy
    | .g 3 => k0_dev13_lt i c h5 hy
    | .f 2 => k0_dev14_lt i c v hw h5 hy
    | .b 2 => k0_dev15_lt i c v hw h5 hy
    | .g 4 => k0_dev16_lt i c h5 hy
    | .g 5 => k0_dev17_lt i c h5 hy
    | .f 3 => k0_dev18_lt i c v hw h5 hy
    | .b 3 => k0_dev19_lt i c v hw h5 hy
    | .g 6 => k0_dev20_lt i c h5 hy⟩
  eo := br0eo v
  wo := br0wo v
  hoff
    | .f 0 => k0_off13_inb i c v hw h5 hy 0
    | .f 1 => k0_off13_inb i c v hw h5 hy 1
    | .f 2 => k0_off13_inb i c v hw h5 hy 2
    | .f 3 => k0_off29_inb i c v hw h5 hy
    | .b 0 => k0_off14_inb i c v hw h5 hy 0
    | .b 1 => k0_off14_inb i c v hw h5 hy 1
    | .b 2 => k0_off14_inb i c v hw h5 hy 2
    | .b 3 => k0_off30_inb i c v hw h5 hy
    | .g 0 => k0_off19_inb i c v hw h5 hy 0
    | .g 1 => k0_off20_inb i c v hw h5 hy 0
    | .g 2 => k0_off19_inb i c v hw h5 hy 1
    | .g 3 => k0_off20_inb i c v hw h5 hy 1
    | .g 4 => k0_off19_inb i c v hw h5 hy 2
    | .g 5 => k0_off20_inb i c v hw h5 hy 2
    | .g 6 => k0_off31_inb i c v hw h5 hy
  hword
    | .f 0 => ((Memref.isWhole_whole _).wordExact_slice rfl _ (k0_off13_wordsbf16 i c v hw h5 hy 0)).reshape _ _
    | .f 1 => ((Memref.isWhole_whole _).wordExact_slice rfl _ (k0_off13_wordsbf16 i c v hw h5 hy 1)).reshape _ _
    | .f 2 => ((Memref.isWhole_whole _).wordExact_slice rfl _ (k0_off13_wordsbf16 i c v hw h5 hy 2)).reshape _ _
    | .f 3 => ((Memref.isWhole_whole _).wordExact_slice rfl _ (k0_off29_wordsbf16 i c v hw h5 hy)).reshape _ _
    | .b 0 => ((Memref.isWhole_whole _).wordExact_slice rfl _ (k0_off14_wordsbf16 i c v hw h5 hy 0)).reshape _ _
    | .b 1 => ((Memref.isWhole_whole _).wordExact_slice rfl _ (k0_off14_wordsbf16 i c v hw h5 hy 1)).reshape _ _
    | .b 2 => ((Memref.isWhole_whole _).wordExact_slice rfl _ (k0_off14_wordsbf16 i c v hw h5 hy 2)).reshape _ _
    | .b 3 => ((Memref.isWhole_whole _).wordExact_slice rfl _ (k0_off30_wordsbf16 i c v hw h5 hy)).reshape _ _
    | .g 0 => ((Memref.isWhole_whole _).wordExact_slice rfl _ (k0_off19_wordsbf16 i c v hw h5 hy 0)).reshape _ _
    | .g 1 => ((Memref.isWhole_whole _).wordExact_slice rfl _ (k0_off20_wordsbf16 i c v hw h5 hy 0)).reshape _ _
    | .g 2 => ((Memref.isWhole_whole _).wordExact_slice rfl _ (k0_off19_wordsbf16 i c v hw h5 hy 1)).reshape _ _
    | .g 3 => ((Memref.isWhole_whole _).wordExact_slice rfl _ (k0_off20_wordsbf16 i c v hw h5 hy 1)).reshape _ _
    | .g 4 => ((Memref.isWhole_whole _).wordExact_slice rfl _ (k0_off19_wordsbf16 i c v hw h5 hy 2)).reshape _ _
    | .g 5 => ((Memref.isWhole_whole _).wordExact_slice rfl _ (k0_off20_wordsbf16 i c v hw h5 hy 2)).reshape _ _
    | .g 6 => ((Memref.isWhole_whole _).wordExact_slice rfl _ (k0_off31_wordsbf16 i c v hw h5 hy)).reshape _ _
  heo
    | 0, 0 => k0_off15_inb i c v hw h5 hy
    | 0, 1 => k0_off17_inb i c v hw h5 hy
    | 1, 0 => k0_off21_inb i c v hw h5 hy 0
    | 1, 1 => k0_off23_inb i c v hw h5 hy 0
    | 2, 0 => k0_off25_inb i c v hw h5 hy 0
    | 2, 1 => k0_off27_inb i c v hw h5 hy 0
    | 3, 0 => k0_off21_inb i c v hw h5 hy 1
    | 3, 1 => k0_off23_inb i c v hw h5 hy 1
    | 4, 0 => k0_off25_inb i c v hw h5 hy 1
    | 4, 1 => k0_off27_inb i c v hw h5 hy 1
    | 5, 0 => k0_off21_inb i c v hw h5 hy 2
    | 5, 1 => k0_off23_inb i c v hw h5 hy 2
    | 6, 0 => k0_off25_inb i c v hw h5 hy 2
    | 6, 1 => k0_off27_inb i c v hw h5 hy 2
    | 7, 0 => k0_off25_inb i c v hw h5 hy 3
    | 7, 1 => k0_off27_inb i c v hw h5 hy 3
  hwo
    | 0, 0 => k0_off16_inb i c v hw h5 hy
    | 0, 1 => k0_off18_inb i c v hw h5 hy
    | 1, 0 => k0_off22_inb i c v hw h5 hy 0
    | 1, 1 => k0_off24_inb i c v hw h5 hy 0
    | 2, 0 => k0_off26_inb i c v hw h5 hy 0
    | 2, 1 => k0_off28_inb i c v hw h5 hy 0
    | 3, 0 => k0_off22_inb i c v hw h5 hy 1
    | 3, 1 => k0_off24_inb i c v hw h5 hy 1
    | 4, 0 => k0_off26_inb i c v hw h5 hy 1
    | 4, 1 => k0_off28_inb i c v hw h5 hy 1
    | 5, 0 => k0_off22_inb i c v hw h5 hy 2
    | 5, 1 => k0_off24_inb i c v hw h5 hy 2
    | 6, 0 => k0_off26_inb i c v hw h5 hy 2
    | 6, 1 => k0_off28_inb i c v hw h5 hy 2
    | 7, 0 => k0_off26_inb i c v hw h5 hy 3
    | 7, 1 => k0_off28_inb i c v hw h5 hy 3

/-- Columns, targets and blocks of the side y = 1, as the body computes them. -/
def br1off (v : BitVec 32) : Rc → Fin 3 → ℕ
  | .f 0 => k0_off32 v 0#32
  | .f 1 => k0_off32 v 1#32
  | .f 2 => k0_off32 v 2#32
  | .f 3 => k0_off48 v
  | .b 0 => k0_off33 v 0#32
  | .b 1 => k0_off33 v 1#32
  | .b 2 => k0_off33 v 2#32
  | .b 3 => k0_off49 v
  | .g 0 => k0_off38 v 0#32
  | .g 1 => k0_off39 v 0#32
  | .g 2 => k0_off38 v 1#32
  | .g 3 => k0_off39 v 1#32
  | .g 4 => k0_off38 v 2#32
  | .g 5 => k0_off39 v 2#32
  | .g 6 => k0_off50 v
def br1dev (c : Dev nD) (v : BitVec 32) : Rc → ℕ
  | .f 0 => k0_dev21 c v
  | .b 0 => k0_dev22 c v
  | .g 0 => k0_dev23 c
  | .g 1 => k0_dev24 c
  | .f 1 => k0_dev25 c v
  | .b 1 => k0_dev26 c v
  | .g 2 => k0_dev27 c
  | .g 3 => k0_dev28 c
  | .f 2 => k0_dev29 c v
  | .b 2 => k0_dev30 c v
  | .g 4 => k0_dev31 c
  | .g 5 => k0_dev32 c
  | .f 3 => k0_dev33 c v
  | .b 3 => k0_dev34 c v
  | .g 6 => k0_dev35 c
def br1eo (v : BitVec 32) : Fin 8 → Fin 2 → Fin 3 → ℕ
  | 0, 0 => k0_off34 v
  | 0, 1 => k0_off36 v
  | 1, 0 => k0_off40 v 1#32
  | 1, 1 => k0_off42 v 1#32
  | 2, 0 => k0_off44 v 1#32
  | 2, 1 => k0_off46 v 1#32
  | 3, 0 => k0_off40 v 2#32
  | 3, 1 => k0_off42 v 2#32
  | 4, 0 => k0_off44 v 2#32
  | 4, 1 => k0_off46 v 2#32
  | 5, 0 => k0_off40 v 3#32
  | 5, 1 => k0_off42 v 3#32
  | 6, 0 => k0_off44 v 3#32
  | 6, 1 => k0_off46 v 3#32
  | 7, 0 => k0_off44 v 4#32
  | 7, 1 => k0_off46 v 4#32
def br1wo (v : BitVec 32) : Fin 8 → Fin 2 → Fin 2 → ℕ
  | 0, 0 => k0_off35 v
  | 0, 1 => k0_off37 v
  | 1, 0 => k0_off41 v 1#32
  | 1, 1 => k0_off43 v 1#32
  | 2, 0 => k0_off45 v 1#32
  | 2, 1 => k0_off47 v 1#32
  | 3, 0 => k0_off41 v 2#32
  | 3, 1 => k0_off43 v 2#32
  | 4, 0 => k0_off45 v 2#32
  | 4, 1 => k0_off47 v 2#32
  | 5, 0 => k0_off41 v 3#32
  | 5, 1 => k0_off43 v 3#32
  | 6, 0 => k0_off45 v 3#32
  | 6, 1 => k0_off47 v 3#32
  | 7, 0 => k0_off45 v 4#32
  | 7, 1 => k0_off47 v 4#32
/-- The record of the side y = 1. -/
def br1 (i : grid0.Coords) (c : Dev nD) (v : BitVec 32) (hw : k0_chk1 i c v) (h5 : k0_cond5 i = 1#1) (hy : k0_cond7 c = 1#1) : Br where
  off := br1off v
  tgt j := ⟨br1dev c v j, match j with
    | .f 0 => k0_dev21_lt i c v hw h5 hy
    | .b 0 => k0_dev22_lt i c v hw h5 hy
    | .g 0 => k0_dev23_lt i c h5 hy
    | .g 1 => k0_dev24_lt i c h5 hy
    | .f 1 => k0_dev25_lt i c v hw h5 hy
    | .b 1 => k0_dev26_lt i c v hw h5 hy
    | .g 2 => k0_dev27_lt i c h5 hy
    | .g 3 => k0_dev28_lt i c h5 hy
    | .f 2 => k0_dev29_lt i c v hw h5 hy
    | .b 2 => k0_dev30_lt i c v hw h5 hy
    | .g 4 => k0_dev31_lt i c h5 hy
    | .g 5 => k0_dev32_lt i c h5 hy
    | .f 3 => k0_dev33_lt i c v hw h5 hy
    | .b 3 => k0_dev34_lt i c v hw h5 hy
    | .g 6 => k0_dev35_lt i c h5 hy⟩
  eo := br1eo v
  wo := br1wo v
  hoff
    | .f 0 => k0_off32_inb i c v hw h5 hy 0
    | .f 1 => k0_off32_inb i c v hw h5 hy 1
    | .f 2 => k0_off32_inb i c v hw h5 hy 2
    | .f 3 => k0_off48_inb i c v hw h5 hy
    | .b 0 => k0_off33_inb i c v hw h5 hy 0
    | .b 1 => k0_off33_inb i c v hw h5 hy 1
    | .b 2 => k0_off33_inb i c v hw h5 hy 2
    | .b 3 => k0_off49_inb i c v hw h5 hy
    | .g 0 => k0_off38_inb i c v hw h5 hy 0
    | .g 1 => k0_off39_inb i c v hw h5 hy 0
    | .g 2 => k0_off38_inb i c v hw h5 hy 1
    | .g 3 => k0_off39_inb i c v hw h5 hy 1
    | .g 4 => k0_off38_inb i c v hw h5 hy 2
    | .g 5 => k0_off39_inb i c v hw h5 hy 2
    | .g 6 => k0_off50_inb i c v hw h5 hy
  hword
    | .f 0 => ((Memref.isWhole_whole _).wordExact_slice rfl _ (k0_off32_wordsbf16 i c v hw h5 hy 0)).reshape _ _
    | .f 1 => ((Memref.isWhole_whole _).wordExact_slice rfl _ (k0_off32_wordsbf16 i c v hw h5 hy 1)).reshape _ _
    | .f 2 => ((Memref.isWhole_whole _).wordExact_slice rfl _ (k0_off32_wordsbf16 i c v hw h5 hy 2)).reshape _ _
    | .f 3 => ((Memref.isWhole_whole _).wordExact_slice rfl _ (k0_off48_wordsbf16 i c v hw h5 hy)).reshape _ _
    | .b 0 => ((Memref.isWhole_whole _).wordExact_slice rfl _ (k0_off33_wordsbf16 i c v hw h5 hy 0)).reshape _ _
    | .b 1 => ((Memref.isWhole_whole _).wordExact_slice rfl _ (k0_off33_wordsbf16 i c v hw h5 hy 1)).reshape _ _
    | .b 2 => ((Memref.isWhole_whole _).wordExact_slice rfl _ (k0_off33_wordsbf16 i c v hw h5 hy 2)).reshape _ _
    | .b 3 => ((Memref.isWhole_whole _).wordExact_slice rfl _ (k0_off49_wordsbf16 i c v hw h5 hy)).reshape _ _
    | .g 0 => ((Memref.isWhole_whole _).wordExact_slice rfl _ (k0_off38_wordsbf16 i c v hw h5 hy 0)).reshape _ _
    | .g 1 => ((Memref.isWhole_whole _).wordExact_slice rfl _ (k0_off39_wordsbf16 i c v hw h5 hy 0)).reshape _ _
    | .g 2 => ((Memref.isWhole_whole _).wordExact_slice rfl _ (k0_off38_wordsbf16 i c v hw h5 hy 1)).reshape _ _
    | .g 3 => ((Memref.isWhole_whole _).wordExact_slice rfl _ (k0_off39_wordsbf16 i c v hw h5 hy 1)).reshape _ _
    | .g 4 => ((Memref.isWhole_whole _).wordExact_slice rfl _ (k0_off38_wordsbf16 i c v hw h5 hy 2)).reshape _ _
    | .g 5 => ((Memref.isWhole_whole _).wordExact_slice rfl _ (k0_off39_wordsbf16 i c v hw h5 hy 2)).reshape _ _
    | .g 6 => ((Memref.isWhole_whole _).wordExact_slice rfl _ (k0_off50_wordsbf16 i c v hw h5 hy)).reshape _ _
  heo
    | 0, 0 => k0_off34_inb i c v hw h5 hy
    | 0, 1 => k0_off36_inb i c v hw h5 hy
    | 1, 0 => k0_off40_inb i c v hw h5 hy 0
    | 1, 1 => k0_off42_inb i c v hw h5 hy 0
    | 2, 0 => k0_off44_inb i c v hw h5 hy 0
    | 2, 1 => k0_off46_inb i c v hw h5 hy 0
    | 3, 0 => k0_off40_inb i c v hw h5 hy 1
    | 3, 1 => k0_off42_inb i c v hw h5 hy 1
    | 4, 0 => k0_off44_inb i c v hw h5 hy 1
    | 4, 1 => k0_off46_inb i c v hw h5 hy 1
    | 5, 0 => k0_off40_inb i c v hw h5 hy 2
    | 5, 1 => k0_off42_inb i c v hw h5 hy 2
    | 6, 0 => k0_off44_inb i c v hw h5 hy 2
    | 6, 1 => k0_off46_inb i c v hw h5 hy 2
    | 7, 0 => k0_off44_inb i c v hw h5 hy 3
    | 7, 1 => k0_off46_inb i c v hw h5 hy 3
  hwo
    | 0, 0 => k0_off35_inb i c v hw h5 hy
    | 0, 1 => k0_off37_inb i c v hw h5 hy
    | 1, 0 => k0_off41_inb i c v hw h5 hy 0
    | 1, 1 => k0_off43_inb i c v hw h5 hy 0
    | 2, 0 => k0_off45_inb i c v hw h5 hy 0
    | 2, 1 => k0_off47_inb i c v hw h5 hy 0
    | 3, 0 => k0_off41_inb i c v hw h5 hy 1
    | 3, 1 => k0_off43_inb i c v hw h5 hy 1
    | 4, 0 => k0_off45_inb i c v hw h5 hy 1
    | 4, 1 => k0_off47_inb i c v hw h5 hy 1
    | 5, 0 => k0_off41_inb i c v hw h5 hy 2
    | 5, 1 => k0_off43_inb i c v hw h5 hy 2
    | 6, 0 => k0_off45_inb i c v hw h5 hy 2
    | 6, 1 => k0_off47_inb i c v hw h5 hy 2
    | 7, 0 => k0_off45_inb i c v hw h5 hy 3
    | 7, 1 => k0_off47_inb i c v hw h5 hy 3

set_option maxRecDepth 100000 in
theorem part30_eq (i : grid0.Coords) (c : Dev nD) (v : BitVec 32) (hw : k0_chk1 i c v) (h5 : k0_cond5 i = 1#1) (hy : k0_cond6 c = 1#1)
  (arg2 : Memref sig .tc .smem S1 .i32) (harg2 : arg2.IsWhole) (arg3 : Memref sig .tc .vmem S512x512 .bf16) (harg3 : arg3.IsWhole) (arg4 : Memref sig .tc .vmem S2048x512 .bf16) (harg4 : arg4.IsWhole) (arg6 : Memref sig .tc .vmem S512x2048 .f32) (harg6 : arg6.IsWhole) (arg9 arg10 : DmaSems sig S2) (v5 v8 v11 v40 v43 v71 v74 v75 v86 : BitVec 32) :
  (do
      k0_part30 (F := F) i arg2 harg2 arg3 harg3 arg4 harg4 om (Memref.isWhole_whole _) arg6 harg6 gm (Memref.isWhole_whole _) stg (Memref.isWhole_whole _) arg9 arg10 cc0_scratch5 cc0_scratch6 cc0_scratch7 cc0_scratch8 cc0_scratch9 cc0_scratch10 cc0_scratch11 c v5 v8 v11 v hw v40 v43 v71 v74 v75 v86 h5 hy
      (Prog.lift (.waitDma2 (csem 0) (stgH 0) (outB (k0_off26 v 4#32) (k0_off26_inb i c v hw h5 hy 3)) ((View.wordExact_bits rfl).reshape _ _) (View.wordExact_bits rfl)))
      (Prog.lift (.waitDma2 (csem 1) (stgH 1) (outB (k0_off28 v 4#32) (k0_off28_inb i c v hw h5 hy 3)) ((View.wordExact_bits rfl).reshape _ _) (View.wordExact_bits rfl)))
      pure ⟨⟩) = branch (br0 i c v hw h5 hy) (.ret ⟨⟩) := rfl

set_option maxRecDepth 100000 in
theorem part60_eq (i : grid0.Coords) (c : Dev nD) (v : BitVec 32) (hw : k0_chk1 i c v) (h5 : k0_cond5 i = 1#1) (hy : k0_cond7 c = 1#1)
  (arg2 : Memref sig .tc .smem S1 .i32) (harg2 : arg2.IsWhole) (arg3 : Memref sig .tc .vmem S512x512 .bf16) (harg3 : arg3.IsWhole) (arg4 : Memref sig .tc .vmem S2048x512 .bf16) (harg4 : arg4.IsWhole) (arg6 : Memref sig .tc .vmem S512x2048 .f32) (harg6 : arg6.IsWhole) (arg9 arg10 : DmaSems sig S2) (v5 v8 v11 v40 v43 v71 v74 v75 v86 : BitVec 32) :
  (do
      k0_part60 (F := F) i arg2 harg2 arg3 harg3 arg4 harg4 om (Memref.isWhole_whole _) arg6 harg6 gm (Memref.isWhole_whole _) stg (Memref.isWhole_whole _) arg9 arg10 cc0_scratch5 cc0_scratch6 cc0_scratch7 cc0_scratch8 cc0_scratch9 cc0_scratch10 cc0_scratch11 c v5 v8 v11 v hw v40 v43 v71 v74 v75 v86 h5 hy
      (Prog.lift (.waitDma2 (csem 0) (stgH 0) (outB (k0_off45 v 4#32) (k0_off45_inb i c v hw h5 hy 3)) ((View.wordExact_bits rfl).reshape _ _) (View.wordExact_bits rfl)))
      (Prog.lift (.waitDma2 (csem 1) (stgH 1) (outB (k0_off47 v 4#32) (k0_off47_inb i c v hw h5 hy 3)) ((View.wordExact_bits rfl).reshape _ _) (View.wordExact_bits rfl)))
      pure ⟨⟩) = branch (br1 i c v hw h5 hy) (.ret ⟨⟩) := rfl

/-! ## Both records are one -/

/-- The first of the columns the ring copies move. -/
def ro (c : Dev nD) : ℕ := 1280 * (yc c).val
/-- The first of the columns the copies across move. -/
def rs (c : Dev nD) : ℕ := 2816 * (yc c).val

/-- The slot a copy of device `c` moves. -/
def Rc.slot (c : Dev nD) : Rc → Fin 8
  | .f r => pos c - ⟨r.val, by omega⟩
  | .b r => pos c + ⟨r.val, by omega⟩
  | .g o => if o.val % 2 = 0 then pos c - ⟨1 + o.val / 2, by omega⟩ else pos c + ⟨1 + o.val / 2, by omega⟩
/-- The first column a copy of device `c` moves. -/
def Rc.col (c : Dev nD) : Rc → ℕ
  | .f _ => ro c
  | .b r => if r = 3 then ro c + 1408 else ro c
  | .g _ => rs c
/-- Whom a copy of device `c` goes to. -/
def Rc.to (c : Dev nD) : Rc → Dev nD
  | .f _ => rt c
  | .b _ => lf c
  | .g _ => yn c
/-- The order in which device `c` puts the strips out. -/
def outSlot (c : Dev nD) : Fin 8 → Fin 8
  | 0 => pos c | 1 => pos c - 1 | 2 => pos c + 1 | 3 => pos c - 2 | 4 => pos c + 2 | 5 => pos c - 3 | 6 => pos c + 3 | 7 => pos c + 4

theorem Rc.col_le : ∀ (c : Dev nD) (i : Rc), i.col c + i.wd ≤ 4096 := by decide

/-- A run of columns lies in its slot. -/
theorem inbPiece (s : Fin 8) (a w : ℕ) (h : a + w ≤ 4096) : ∀ x, (![s.val, 0, a] : Fin 3 → ℕ) x + (⟨3, ![1, 512, w]⟩ : Shape).size x ≤ S8x512x4096.size x := by
  intro x
  match x with
  | ⟨0, _⟩ => have := s.isLt; show s.val + 1 ≤ 8; omega
  | ⟨1, _⟩ => show 0 + 512 ≤ 512; omega
  | ⟨2, _⟩ => exact h

theorem inbE (s : Fin 8) (h : Fin 2) : ∀ x, (![s.val, 0, 2048 * h.val] : Fin 3 → ℕ) x + S1x512x2048.size x ≤ S8x512x4096.size x :=
  inbPiece s (2048 * h.val) 2048 (by omega)

theorem inbW (s : Fin 8) (h : Fin 2) : ∀ x, (![512 * s.val, 2048 * h.val] : Fin 2 → ℕ) x + S512x2048.size x ≤ S4096x4096.size x := by
  intro x
  match x with
  | ⟨0, _⟩ => show 512 * s.val + 512 ≤ 4096; omega
  | ⟨1, _⟩ => show 2048 * h.val + 2048 ≤ 4096; omega

theorem wordsCanon : ∀ (c : Dev nD) (i : Rc),
    (Rect.unit (s := S8x512x4096) ![(i.slot c).val, 0, i.col c] (⟨3, ![1, 512, i.wd]⟩ : Shape).size (inbPiece _ _ _ (i.col_le c))).WholeWords (EltTy.bf16).packing := by
  decide

/-- The record of device `c`, on either side. -/
def canon (c : Dev nD) : Br where
  off i := ![(i.slot c).val, 0, i.col c]
  tgt i := i.to c
  eo e h := ![(outSlot c e).val, 0, 2048 * h.val]
  wo e h := ![512 * (outSlot c e).val, 2048 * h.val]
  hoff i := inbPiece _ _ _ (i.col_le c)
  hword i := ((Memref.isWhole_whole _).wordExact_slice rfl _ (wordsCanon c i)).reshape _ _
  heo e h := inbE _ _
  hwo e h := inbW _ _

theorem br0off_eq : ∀ c, yc c = 0 → ∀ i, br0off (pw c) i = ![(i.slot c).val, 0, i.col c] := by decide
theorem br1off_eq : ∀ c, yc c = 1 → ∀ i, br1off (pw c) i = ![(i.slot c).val, 0, i.col c] := by decide
theorem br0dev_eq : ∀ c, yc c = 0 → ∀ i, br0dev c (pw c) i = (i.to c).val := by decide
theorem br1dev_eq : ∀ c, yc c = 1 → ∀ i, br1dev c (pw c) i = (i.to c).val := by decide
theorem br0eo_eq : ∀ c, yc c = 0 → ∀ e h, br0eo (pw c) e h = ![(outSlot c e).val, 0, 2048 * h.val] := by decide
theorem br1eo_eq : ∀ c, yc c = 1 → ∀ e h, br1eo (pw c) e h = ![(outSlot c e).val, 0, 2048 * h.val] := by decide
theorem br0wo_eq : ∀ c, yc c = 0 → ∀ e h, br0wo (pw c) e h = ![512 * (outSlot c e).val, 2048 * h.val] := by decide
theorem br1wo_eq : ∀ c, yc c = 1 → ∀ e h, br1wo (pw c) e h = ![512 * (outSlot c e).val, 2048 * h.val] := by decide

theorem br0_eq (i : grid0.Coords) (c : Dev nD) (hw h5 hy) : br0 i c (pw c) hw h5 hy = canon c :=
  have h := (cond6_iff c).1 hy
  Br.ext' (funext fun i => br0off_eq c h i) (funext fun i => Fin.ext (br0dev_eq c h i)) (funext fun e => funext fun k => br0eo_eq c h e k)
    (funext fun e => funext fun k => br0wo_eq c h e k)
theorem br1_eq (i : grid0.Coords) (c : Dev nD) (hw h5 hy) : br1 i c (pw c) hw h5 hy = canon c :=
  have h := (cond7_iff c).1 hy
  Br.ext' (funext fun i => br1off_eq c h i) (funext fun i => Fin.ext (br1dev_eq c h i)) (funext fun e => funext fun k => br1eo_eq c h e k)
    (funext fun e => funext fun k => br1wo_eq c h e k)

end Cert.KernelIdeal.Hand
end
-- ==== Proof.Body.lean ====
module

public import proofs.«01_k».proof.Proof.Branch

@[expose] public section

namespace Cert.KernelIdeal.Hand

open Idealize.ShloMosaic Idealize.SL.Sem Cert.KernelIdeal Cert.KernelIdeal.Gen

variable {F : FTy → Type} [FloatOps F]

/-! # The body of a grid point, cut into its segments -/

/-- The accumulator. -/
abbrev am : Memref sig .tc .vmem S512x2048 .f32 := Memref.whole cc0_scratch0
/-- The barrier semaphore. -/
abbrev barS : Sem sig := (SemArray.scalar (sig.barrier 0 rfl) : Sems sig S_).sem
/-- The sender's and the receiver's semaphore of the exchange of half `h` of a partial strip. -/
abbrev yS (h : Fin 2) : DmaSem sig :=
  ((cc0_scratch3.slice (Rect.unit (s := S2) ![h.val] S1.size (by revert h; decide))).squeeze S_ squeezes_S1_S_).sem
abbrev yR (h : Fin 2) : DmaSem sig :=
  ((cc0_scratch4.slice (Rect.unit (s := S2) ![h.val] S1.size (by revert h; decide))).squeeze S_ squeezes_S1_S_).sem

variable (F) in
/-- A program of the body without a value. -/
abbrev P1 := Prog (TpuEff nD τ sig (Elt F) Λ₀ .tc) PUnit

/-- The first point's barrier: tell the three partners, and wait for all three. -/
noncomputable def segBar (i : grid0.Coords) (c : Dev nD) (v : BitVec 32) (hw : k0_chk1 i c v) (k : P1 F) : P1 F := do
  if h : k0_cond1 i = 1#1 then do
    semSignalWord (⟨k0_dev1 c, k0_dev1_lt i c h⟩ : Dev nD) barS 1#32
    semSignalWord (⟨k0_dev2 c v, k0_dev2_lt i c v hw h⟩ : Dev nD) barS 1#32
    semSignalWord (⟨k0_dev3 c v, k0_dev3_lt i c v hw h⟩ : Dev nD) barS 1#32
    semWaitWord barS 3#32
    k
  else k

/-- The accumulator is cleared where a block of columns begins. -/
noncomputable def segZero (i : grid0.Coords) (k : P1 F) : P1 F := do
  if _h : Scalar.cmpi .ne (Scalar.extui (Scalar.cmpi .eq (BitVec.ofNat 32 (i 1).val) 0#32) : BitVec 32) 0#32 = 1#1 then do
    let _ ← Prog.lift (.load am (Rect.unit (s := S512x2048) ![0, 0] S512x2048.size inb_S512x2048_S512x2048_0_0).toLoadRect (View.loadsAt_vmem h_S512x2048))
    Prog.lift (.store am (Rect.unit (s := S512x2048) ![0, 0] S512x2048.size inb_S512x2048_S512x2048_0_0) (k0_pay42 (F := F)) Finset.univ (View.stores_vmem_bits_univ h_S512x2048 rfl) (.inl rfl))
    k
  else k

/-- One block product is added to the accumulator. -/
noncomputable def segMac (arg3 : Memref sig .tc .vmem S512x512 .bf16) (arg4 : Memref sig .tc .vmem S2048x512 .bf16) (k : P1 F) : P1 F := do
  let a ← Prog.lift (.load arg3 (Rect.unit (s := S512x512) ![0, 0] S512x512.size inb_S512x512_S512x512_0_0).toLoadRect (View.loadsAt_vmem h_S512x512))
  let b ← Prog.lift (.load arg4 (Rect.unit (s := S2048x512) ![0, 0] S2048x512.size inb_S2048x512_S2048x512_0_0).toLoadRect (View.loadsAt_vmem h_S2048x512))
  let x ← Prog.lift (.load am (Rect.unit (s := S512x2048) ![0, 0] S512x2048.size inb_S512x2048_S512x2048_0_0).toLoadRect (View.loadsAt_vmem h_S512x2048))
  let _ ← Prog.lift (.load am (Rect.unit (s := S512x2048) ![0, 0] S512x2048.size inb_S512x2048_S512x2048_0_0).toLoadRect (View.loadsAt_vmem h_S512x2048))
  Prog.lift (.store am (Rect.unit (s := S512x2048) ![0, 0] S512x2048.size inb_S512x2048_S512x2048_0_0) (k0_pay43 a b x) Finset.univ (View.stores_vmem_bits_univ h_S512x2048 rfl) (.inl rfl))
  k

/-- The accumulator becomes half `h` of the partial strip, and a copy of it to the other side is started. -/
noncomputable def segY (h : Fin 2) (pay : Vec F S512x2048 .f32 → FVec F S1x512x2048 .bf16) (oA oD oS : Fin 3 → ℕ)
    (hA : ∀ a, oA a + S1x512x2048.size a ≤ S8x512x4096.size a)
    (hD : ∀ a, oD a + S1x512x2048.size a ≤ S8x512x4096.size a) (hS : ∀ a, oS a + S1x512x2048.size a ≤ S8x512x4096.size a)
    (kA : (gm.access (Rect.unit (s := S8x512x4096) oA S1x512x2048.size hA)).Stores Finset.univ)
    (wD : (piece 2048 oD hD).view.WordExact) (wS : (piece 2048 oS hS).view.WordExact) (tgt : Dev nD) (k : P1 F) : P1 F := do
  let x ← Prog.lift (.load am (Rect.unit (s := S512x2048) ![0, 0] S512x2048.size inb_S512x2048_S512x2048_0_0).toLoadRect (View.loadsAt_vmem h_S512x2048))
  let _ ← Prog.lift (.load gm (Rect.unit (s := S8x512x4096) oA S1x512x2048.size hA).toLoadRect (View.loadsAt_vmem h_S1x512x2048))
  Prog.lift (.store gm (Rect.unit (s := S8x512x4096) oA S1x512x2048.size hA) (pay x) Finset.univ kA (.inl rfl))
  Prog.lift (.enqueueDma (piece 2048 oS hS) (.remote (Dev.tc tgt) (piece 2048 oD hD) (.dma (yS h))) (.dma (yR h)) wS wD ⟨⟨rfl, Or.inl rfl⟩, trivial⟩)
  k

/-- Both halves of the exchange are waited for and the two partial strips are added. -/
noncomputable def segSum (o7 o8 o9 o10 o11 o12 : Fin 3 → ℕ)
    (h7 : ∀ a, o7 a + S1x512x2048.size a ≤ S8x512x4096.size a) (h8 : ∀ a, o8 a + S1x512x2048.size a ≤ S8x512x4096.size a)
    (h9 : ∀ a, o9 a + S1x512x2048.size a ≤ S8x512x4096.size a) (h10 : ∀ a, o10 a + S1x512x2048.size a ≤ S8x512x4096.size a)
    (h11 : ∀ a, o11 a + S1x512x4096.size a ≤ S8x512x4096.size a) (h12 : ∀ a, o12 a + S1x512x4096.size a ≤ S8x512x4096.size a)
    (w7 : (piece 2048 o7 h7).view.WordExact) (w8 : (piece 2048 o8 h8).view.WordExact)
    (w9 : (piece 2048 o9 h9).view.WordExact) (w10 : (piece 2048 o10 h10).view.WordExact)
    (kA : (gm.access (Rect.unit (s := S8x512x4096) o11 S1x512x4096.size h11)).Stores Finset.univ) (k : P1 F) : P1 F := do
  Prog.lift (.waitDma2 (yS 0) (piece 2048 o8 h8) (piece 2048 o7 h7) w8 w7)
  Prog.lift (.waitDma2 (yR 0) (piece 2048 o7 h7) (piece 2048 o8 h8) w7 w8)
  Prog.lift (.waitDma2 (yS 1) (piece 2048 o10 h10) (piece 2048 o9 h9) w10 w9)
  Prog.lift (.waitDma2 (yR 1) (piece 2048 o9 h9) (piece 2048 o10 h10) w9 w10)
  let a ← Prog.lift (.load gm (Rect.unit (s := S8x512x4096) o11 S1x512x4096.size h11).toLoadRect (View.loadsAt_vmem h_S1x512x4096))
  let b ← Prog.lift (.load gm (Rect.unit (s := S8x512x4096) o12 S1x512x4096.size h12).toLoadRect (View.loadsAt_vmem h_S1x512x4096))
  let _ ← Prog.lift (.load gm (Rect.unit (s := S8x512x4096) o11 S1x512x4096.size h11).toLoadRect (View.loadsAt_vmem h_S1x512x4096))
  Prog.lift (.store gm (Rect.unit (s := S8x512x4096) o11 S1x512x4096.size h11) (k0_pay3 a b) Finset.univ kA (.inl rfl))
  k

section Printed
variable (i : grid0.Coords) (c : Dev nD) (v : BitVec 32) (hw : k0_chk1 i c v)

noncomputable def segY0 (k : P1 F) : P1 F :=
  if h : k0_cond3 i = 1#1 then
    segY 0 k0_pay1 (k0_off1 v) (k0_off2 v) (k0_off3 v) (k0_off1_inb i c v hw h) (k0_off2_inb i c v hw h) (k0_off3_inb i c v hw h)
      (View.stores_vmem h_S1x512x2048 ((Memref.isWhole_whole _).storeExact_slice rfl _ (k0_off1_packedbf16 i c v hw h)) (fun _ => rfl))
      (((Memref.isWhole_whole _).wordExact_slice rfl _ (k0_off2_wordsbf16 i c v hw h)).reshape _ _)
      (((Memref.isWhole_whole _).wordExact_slice rfl _ (k0_off3_wordsbf16 i c v hw h)).reshape _ _) ⟨k0_dev4 c, k0_dev4_lt i c h⟩ k
  else k

noncomputable def segY1 (k : P1 F) : P1 F :=
  if h : k0_cond4 i = 1#1 then
    segY 1 k0_pay2 (k0_off4 v) (k0_off5 v) (k0_off6 v) (k0_off4_inb i c v hw h) (k0_off5_inb i c v hw h) (k0_off6_inb i c v hw h)
      (View.stores_vmem h_S1x512x2048 ((Memref.isWhole_whole _).storeExact_slice rfl _ (k0_off4_packedbf16 i c v hw h)) (fun _ => rfl))
      (((Memref.isWhole_whole _).wordExact_slice rfl _ (k0_off5_wordsbf16 i c v hw h)).reshape _ _)
      (((Memref.isWhole_whole _).wordExact_slice rfl _ (k0_off6_wordsbf16 i c v hw h)).reshape _ _) ⟨k0_dev5 c, k0_dev5_lt i c h⟩ k
  else k

/-- The exchange on the side y = 1. -/
noncomputable def segSide1 (h : k0_cond5 i = 1#1) (k : P1 F) : P1 F := if h7 : k0_cond7 c = 1#1 then branch (br1 i c v hw h h7) k else k

noncomputable def segLast (k : P1 F) : P1 F :=
  if h : k0_cond5 i = 1#1 then
    segSum (k0_off7 v) (k0_off8 v) (k0_off9 v) (k0_off10 v) (k0_off11 v) (k0_off12 v)
      (k0_off7_inb i c v hw h) (k0_off8_inb i c v hw h) (k0_off9_inb i c v hw h) (k0_off10_inb i c v hw h) (k0_off11_inb i c v hw h) (k0_off12_inb i c v hw h)
      (((Memref.isWhole_whole _).wordExact_slice rfl _ (k0_off7_wordsbf16 i c v hw h)).reshape _ _)
      (((Memref.isWhole_whole _).wordExact_slice rfl _ (k0_off8_wordsbf16 i c v hw h)).reshape _ _)
      (((Memref.isWhole_whole _).wordExact_slice rfl _ (k0_off9_wordsbf16 i c v hw h)).reshape _ _)
      (((Memref.isWhole_whole _).wordExact_slice rfl _ (k0_off10_wordsbf16 i c v hw h)).reshape _ _)
      (View.stores_vmem h_S1x512x4096 ((Memref.isWhole_whole _).storeExact_slice rfl _ (k0_off11_packedbf16 i c v hw h)) (fun _ => rfl))
    (if h6 : k0_cond6 c = 1#1 then branch (br0 i c v hw h h6) (segSide1 i c v hw h k) else segSide1 i c v hw h k)
  else k

end Printed

/-- The body after its checks. -/
noncomputable def segs (i : grid0.Coords) (c : Dev nD) (v : BitVec 32) (hw : k0_chk1 i c v) (arg3 : Memref sig .tc .vmem S512x512 .bf16)
    (arg4 : Memref sig .tc .vmem S2048x512 .bf16) : P1 F :=
  segBar i c v hw <| segZero i <| segMac arg3 arg4 <| segY0 i c v hw <| segY1 i c v hw <| segLast i c v hw <| .ret ⟨⟩

/-- The part before the exchange is its three segments, whatever scalars it passes on. -/
theorem part64_eq (i : grid0.Coords) (arg2 : Memref sig .tc .smem S1 .i32) (harg2 : arg2.IsWhole) (arg3 : Memref sig .tc .vmem S512x512 .bf16) (harg3 : arg3.IsWhole)
    (arg4 : Memref sig .tc .vmem S2048x512 .bf16) (harg4 : arg4.IsWhole) (c : Dev nD) (v5 v8 v11 v v40 v43 v71 v74 : BitVec 32) (hw : k0_chk1 i c v) :
    ∀ k : _ → P1 F, Prog.bind (k0_part64 (F := F) i arg2 harg2 arg3 harg3 arg4 harg4 om (Memref.isWhole_whole _) am (Memref.isWhole_whole _)
      gm (Memref.isWhole_whole _) stg (Memref.isWhole_whole _) cc0_scratch3 cc0_scratch4 cc0_scratch5 cc0_scratch6 cc0_scratch7 cc0_scratch8 cc0_scratch9
      cc0_scratch10 cc0_scratch11 (BitVec.ofNat 32 (i 0).val) (BitVec.ofNat 32 (i 1).val) c v5 v8 v11 v hw v40 v43 v71 v74) k
      = segBar i c v hw (segZero i (segMac arg3 arg4 (k ⟨Scalar.subi 1#32 v8, Scalar.select (Scalar.andi (Scalar.xori (Scalar.cmpi .slt (Scalar.remsi (Scalar.addi v 4#32) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (Scalar.addi v 4#32) (Scalar.select (Scalar.cmpi .eq 8#32 0#32) 1#32 8#32)) 0#32)) (Scalar.addi (Scalar.remsi (Scalar.addi v 4#32) (Scalar.select (Scalar.cmpi .eq 8#32 0#32) 1#32 8#32)) (Scalar.select (Scalar.cmpi .eq 8#32 0#32) 1#32 8#32)) (Scalar.remsi (Scalar.addi v 4#32) (Scalar.select (Scalar.cmpi .eq 8#32 0#32) 1#32 8#32)),
        Scalar.andi (Scalar.cmpi .eq (BitVec.ofNat 32 (i 0).val) 0#32) (Scalar.cmpi .eq (BitVec.ofNat 32 (i 1).val) 15#32)⟩))) := by
  rw [k0_part64_eq_skeleton]
  unfold k0_part64_skel segBar segZero
  intro k
  by_cases h1 : k0_cond1 i = 1#1 <;>
    by_cases h2 : Scalar.cmpi .ne (Scalar.extui (Scalar.cmpi .eq (BitVec.ofNat 32 (i 1).val) 0#32) : BitVec 32) 0#32 = 1#1 <;>
    simp only [h1, h2, ↓reduceDIte] <;> rfl

set_option maxRecDepth 100000 in
/-- The printed body is its segments. -/
theorem body_eq (i : grid0.Coords) (arg3 : Memref sig .tc .vmem S512x512 .bf16) (harg3 : arg3.IsWhole) (arg4 : Memref sig .tc .vmem S2048x512 .bf16)
    (harg4 : arg4.IsWhole) :
    cc0__body (F := F) i (Memref.whole main_v12) (Memref.isWhole_whole _) arg3 harg3 arg4 harg4 om (Memref.isWhole_whole _) am (Memref.isWhole_whole _)
      gm (Memref.isWhole_whole _) stg (Memref.isWhole_whole _) cc0_scratch3 cc0_scratch4 cc0_scratch5 cc0_scratch6 cc0_scratch7 cc0_scratch8 cc0_scratch9
      cc0_scratch10 cc0_scratch11 =
    (do
      let c ← Prog.lift .deviceId
      let v ← smemLoad (Memref.whole main_v12) (Rect.unit (s := S1) ![0] S1.size inb_S1_S1_0) numel1_S1 rfl
      let hw ← Prog.lift (TpuEff.assume (k0_chk1 i c v) (k0_chk1.dec i c v))
      segs i c v hw.down arg3 arg4) := by
  refine congrArg (Prog.op _) (funext fun c => ?_)
  refine congrArg (Prog.op _) (funext fun v => ?_)
  refine congrArg (Prog.op _) (funext fun hw => ?_)
  show Prog.bind (k0_part64 (F := F) i _ _ _ _ _ _ _ _ _ _ _ _ _ _ _ _ _ _ _ _ _ _ _ _ _ _ _ _ _ _ _ _ _ _ _) _ = _
  refine ((part64_eq (F := F) i _ _ _ harg3 _ harg4 c _ _ _ _ _ _ _ _ hw.down) _).trans ?_
  rfl

end Cert.KernelIdeal.Hand
end
-- ==== Proof.Blocks.lean ====
module

public import proofs.«01_k».proof.Proof.Body
public import proofs.«01_k».proof.Proof.Gen.KernelIdeal.Launch
public import Idealize.ShloMosaic.Lib.ViewIndex
public import Idealize.ShloMosaic.Lib.ValueLayout
public import Idealize.ShloMosaic.Lib.Rounds
public import Idealize.ShloMosaic.Lib.Transfers
public import Idealize.ShloMosaic.Lib.Tactic

@[expose] public section

namespace Cert.KernelIdeal.Hand

open Idealize.ShloMosaic Idealize.ShloMosaic.TcCoe Idealize.SL.Sem Cert.KernelIdeal Cert.KernelIdeal.Gen

variable {F : FTy → Type}

/-! # The pieces of the buffers, as sets of indices -/

/-- Columns `a` up to `b` of slot `s` of the gathered strips. -/
def blk (s : Fin 8) (a b : ℕ) : Finset S8x512x4096.Idx :=
  Finset.univ.filter fun i => (i 0).val = s.val ∧ a ≤ (i 2).val ∧ (i 2).val < b

theorem mem_blk {s : Fin 8} {a b : ℕ} {i : S8x512x4096.Idx} : i ∈ blk s a b ↔ (i 0).val = s.val ∧ a ≤ (i 2).val ∧ (i 2).val < b := by
  simp [blk]

theorem blk_slot {s : Fin 8} {a b : ℕ} {i : S8x512x4096.Idx} (h : i ∈ blk s a b) : (i 0 : Fin 8) = s := Fin.ext (mem_blk.1 h).1

theorem blk_union (s : Fin 8) {a b d : ℕ} (h1 : a ≤ b) (h2 : b ≤ d) : blk s a d = blk s a b ∪ blk s b d := by
  ext i; rw [Finset.mem_union, mem_blk, mem_blk, mem_blk]; omega

theorem blk_disjoint (s : Fin 8) {a b b' d : ℕ} (h : b ≤ b') : Disjoint (blk s a b) (blk s b' d) :=
  Finset.disjoint_left.2 fun i h1 h2 => by rw [mem_blk] at h1 h2; omega

theorem blk_disjoint_slot {s s' : Fin 8} (h : s ≠ s') (a b a' b' : ℕ) : Disjoint (blk s a b) (blk s' a' b') :=
  Finset.disjoint_left.2 fun i h1 h2 => h ((blk_slot h1).symm.trans (blk_slot h2))

theorem blk_empty (s : Fin 8) (a : ℕ) : blk s a a = ∅ := by
  ext i; rw [mem_blk]; simp only [Finset.notMem_empty, iff_false]; omega

theorem blk_subset (s : Fin 8) {a b a' b' : ℕ} (h1 : a' ≤ a) (h2 : b ≤ b') : blk s a b ⊆ blk s a' b' := fun i h => by
  rw [mem_blk] at *; omega

/-- The slots together are the buffer. -/
theorem blk_univ : (Finset.univ : Finset S8x512x4096.Idx) = Finset.univ.biUnion fun s : Fin 8 => blk s 0 4096 := by
  ext i
  simp only [Finset.mem_univ, Finset.mem_biUnion, true_and, true_iff]
  exact ⟨i 0, mem_blk.2 ⟨rfl, Nat.zero_le _, (i 2).isLt⟩⟩

theorem set_rect (s : Fin 8) (a w : ℕ) (h) :
    (Rect.unit (s := S8x512x4096) ![s.val, 0, a] (⟨3, ![1, 512, w]⟩ : Shape).size h).set = blk s a (a + w) := by
  ext i
  rw [Rect.mem_set_unit, mem_blk]
  constructor
  · intro H
    have h0 : s.val ≤ (i 0).val ∧ (i 0).val < s.val + 1 := H 0
    have h2 : a ≤ (i 2).val ∧ (i 2).val < a + w := H 2
    omega
  · intro H x
    match x with
    | ⟨0, _⟩ => exact (by omega : s.val ≤ (i 0).val ∧ (i 0).val < s.val + 1)
    | ⟨1, _⟩ => exact ⟨Nat.zero_le _, by have : (i 1).val < 512 := (i 1).isLt; show (i 1).val < 0 + 512; omega⟩
    | ⟨2, _⟩ => exact (by omega : a ≤ (i 2).val ∧ (i 2).val < a + w)

/-- A run of columns, as a set. -/
theorem piece_set (w : ℕ) (s : Fin 8) (a : ℕ) (h) : (piece w ![s.val, 0, a] h).view.set = blk s a (a + w) := by
  refine (View.set_reshape ..).trans ?_
  refine (View.set_slice_whole _ _).trans (set_rect s a w h)

theorem access_set (w : ℕ) (s : Fin 8) (a : ℕ) (h) :
    (gm.access (Rect.unit (s := S8x512x4096) ![s.val, 0, a] (⟨3, ![1, 512, w]⟩ : Shape).size h)).set = blk s a (a + w) :=
  (View.set_slice_whole _ _).trans (set_rect s a w h)

/-- Rows and columns of block (`s`, `h`) of the result. -/
def ob (s : Fin 8) (h : Fin 2) : Finset S4096x4096.Idx :=
  Finset.univ.filter fun i => (i 0).val / 512 = s.val ∧ (i 1).val / 2048 = h.val

theorem mem_ob {s : Fin 8} {h : Fin 2} {i : S4096x4096.Idx} : i ∈ ob s h ↔ (i 0).val / 512 = s.val ∧ (i 1).val / 2048 = h.val := by
  simp [ob]

theorem ob_disjoint {k k' : Fin 8 × Fin 2} (h : k ≠ k') : Disjoint (ob k.1 k.2) (ob k'.1 k'.2) :=
  Finset.disjoint_left.2 fun i h1 h2 => h (by
    rw [mem_ob] at h1 h2
    exact Prod.ext (Fin.ext (h1.1.symm.trans h2.1)) (Fin.ext (h1.2.symm.trans h2.2)))

theorem ob_univ : (Finset.univ : Finset S4096x4096.Idx) = Finset.univ.biUnion fun k : Fin 8 × Fin 2 => ob k.1 k.2 := by
  ext i
  simp only [Finset.mem_univ, Finset.mem_biUnion, true_and, true_iff]
  have h0 : (i 0).val < 4096 := (i 0).isLt
  have h1 : (i 1).val < 4096 := (i 1).isLt
  exact ⟨(⟨(i 0).val / 512, by omega⟩, ⟨(i 1).val / 2048, by omega⟩), mem_ob.2 ⟨rfl, rfl⟩⟩

theorem outB_set (s : Fin 8) (h : Fin 2) (hi) : (outB ![512 * s.val, 2048 * h.val] hi).view.set = ob s h := by
  refine (View.set_slice_whole _ _).trans ?_
  ext i
  rw [Rect.mem_set_unit, mem_ob]
  constructor
  · intro H
    have h0 : 512 * s.val ≤ (i 0).val ∧ (i 0).val < 512 * s.val + 512 := H 0
    have h1 : 2048 * h.val ≤ (i 1).val ∧ (i 1).val < 2048 * h.val + 2048 := H 1
    omega
  · intro H x
    match x with
    | ⟨0, _⟩ => exact (by omega : 512 * s.val ≤ (i 0).val ∧ (i 0).val < 512 * s.val + 512)
    | ⟨1, _⟩ => exact (by omega : 2048 * h.val ≤ (i 1).val ∧ (i 1).val < 2048 * h.val + 2048)

/-- Half `h` of the staging buffer. -/
def sb (h : Fin 2) : Finset S2x512x2048.Idx := Finset.univ.filter fun i => (i 0).val = h.val

theorem mem_sb {h : Fin 2} {i : S2x512x2048.Idx} : i ∈ sb h ↔ (i 0).val = h.val := by simp [sb]

theorem sb_rect (h : Fin 2) (hi) : (Rect.unit (s := S2x512x2048) ![h.val, 0, 0] S1x512x2048.size hi).set = sb h := by
  ext i
  rw [Rect.mem_set_unit, mem_sb]
  constructor
  · intro H
    have h0 : h.val ≤ (i 0).val ∧ (i 0).val < h.val + 1 := H 0
    omega
  · intro H x
    match x with
    | ⟨0, _⟩ => exact (by omega : h.val ≤ (i 0).val ∧ (i 0).val < h.val + 1)
    | ⟨1, _⟩ => exact ⟨Nat.zero_le _, by have : (i 1).val < 512 := (i 1).isLt; show (i 1).val < 0 + 512; omega⟩
    | ⟨2, _⟩ => exact ⟨Nat.zero_le _, by have : (i 2).val < 2048 := (i 2).isLt; show (i 2).val < 0 + 2048; omega⟩

theorem stgH_set (h : Fin 2) : (stgH h).view.set = sb h :=
  (View.set_reshape ..).trans ((View.set_slice_whole _ _).trans (sb_rect h _))

theorem stg_access_set (h : Fin 2) (hi) : (stg.access (Rect.unit (s := S2x512x2048) ![h.val, 0, 0] S1x512x2048.size hi)).set = sb h :=
  (View.set_slice_whole _ _).trans (sb_rect h _)

theorem sb_univ : (Finset.univ : Finset S2x512x2048.Idx) = sb 0 ∪ sb 1 := by
  ext i
  simp only [Finset.mem_univ, Finset.mem_union, mem_sb, true_iff]
  have h0 : (i 0).val < 2 := (i 0).isLt
  show (i 0).val = 0 ∨ (i 0).val = 1
  omega

theorem sb_disjoint : Disjoint (sb 0) (sb 1) :=
  Finset.disjoint_left.2 fun i h1 h2 => by rw [mem_sb] at h1 h2; exact absurd (h1.symm.trans h2) (by decide)

/-! ## What a view's own write leaves at its elements -/

/-- A view written with what it reads of `f` holds `f` on its elements. -/
theorem write_read_self {sp : Space} {s : Shape} {e : EltTy} (M : Memref sig .tc sp s e) (fd fs : M.view.ty.Contents (Elt F)) :
    ∀ i ∈ M.view.set, M.view.write (Elt F) fd (M.view.read (Elt F) fs) Finset.univ i = fs i := by
  intro i hi
  obtain ⟨x, -, rfl⟩ := Finset.mem_map.mp hi
  rw [View.write_emb_of_mem _ _ (Finset.mem_univ _), View.read_apply]
  simp

theorem piece_emb (w : ℕ) (off : Fin 3 → ℕ) (h) (x) (a : Fin 3) :
    ((piece w off h).view.emb x a : ℕ) = off a + 1 * ((Shape.reshapeEquiv (sqz w).numel_eq x : (⟨3, ![1, 512, w]⟩ : Shape).Idx) a : ℕ) := rfl

/-- One slot's columns written with another's. -/
theorem write_read_slot (w : ℕ) (s s' : Fin 8) (a : ℕ) (h h') (fd fs g : S8x512x4096.Idx → Elt F .bf16)
    (hg : ∀ i j : S8x512x4096.Idx, (i 0 : Fin 8) = s → (j 0 : Fin 8) = s' → i 1 = j 1 → i 2 = j 2 → fs i = g j) :
    ∀ j ∈ (piece w ![s'.val, 0, a] h').view.set,
      (piece w ![s'.val, 0, a] h').view.write (Elt F) fd ((piece w ![s.val, 0, a] h).view.read (Elt F) fs) Finset.univ j = g j := by
  intro j hj
  have hs : (j 0 : Fin 8) = s' := blk_slot ((piece_set w s' a h') ▸ hj)
  obtain ⟨x, -, rfl⟩ := Finset.mem_map.mp hj
  rw [View.write_emb_of_mem _ _ (Finset.mem_univ _), View.read_apply]
  refine (by simp : _ = fs ((piece w ![s.val, 0, a] h).view.emb x)).trans (hg _ _ ?_ hs ?_ ?_)
  · have : (piece w ![s.val, 0, a] h).view.emb x ∈ (piece w ![s.val, 0, a] h).view.set := Finset.mem_map_of_mem _ (Finset.mem_univ _)
    exact blk_slot ((piece_set w s a h) ▸ this)
  · exact Fin.ext rfl
  · exact Fin.ext rfl

end Cert.KernelIdeal.Hand
end
-- ==== Proof.Contents.lean ====
module

public import proofs.«01_k».proof.Proof.Blocks

@[expose] public section

namespace Cert.KernelIdeal.Hand

open Idealize.ShloMosaic Idealize.ShloMosaic.ValueIdx Idealize.ShloMosaic.TcCoe Idealize.SL.Sem Cert.KernelIdeal Cert.KernelIdeal.Gen

variable {F : FTy → Type} [FloatOps F]

/-! # What the buffers hold

`ab c t` are the two operand blocks device `c` works on at grid point `t`; all contents are functions of them. -/

variable (F) in
/-- The operand blocks of every device and grid point. -/
abbrev Blocks := Dev nD → ℕ → Vec F S512x512 .bf16 × Vec F S2048x512 .bf16

variable (ab : Blocks F)

/-- The accumulator before grid point `t`. -/
noncomputable def accv (c : Dev nD) : ℕ → Vec F S512x2048 .f32
  | 0 => k0_pay42
  | t + 1 => k0_pay43 (ab c t).1 (ab c t).2 (if t % 16 = 0 then k0_pay42 else accv c t)

/-- Half `h` of device `c`'s partial strip. -/
noncomputable def halfv (c : Dev nD) (h : Fin 2) : FVec F S1x512x2048 .bf16 := k0_pay1 (accv ab c (16 * h.val + 16))

/-- Device `c`'s partial strip, read at whichever slot it lies in. -/
noncomputable def ypart (c : Dev nD) : S8x512x4096.Idx → Elt F .bf16 := fun i =>
  halfv ab c ⟨(i 2).val / 2048, by have : (i 2).val < 4096 := (i 2).isLt; omega⟩
    (ix3 (0 : Fin 1) (i 1 : Fin 512) (⟨(i 2).val % 2048, Nat.mod_lt _ (by decide)⟩ : Fin 2048))

/-- One slot as a vector. -/
def rowv (f : S8x512x4096.Idx → Elt F .bf16) (s : Fin 8) : Vec F S1x512x4096 .bf16 := fun j => f (ix3 s (j 1 : Fin 512) (j 2 : Fin 4096))

/-- The strip device `q` has after the exchange with the other side: its own part and the other's, added. -/
noncomputable def tot (q : Dev nD) : FVec F S1x512x4096 .bf16 := k0_pay3 (rowv (ypart ab q) 0) (rowv (ypart ab (yn q)) 0)

/-- Whose sum device `c` ends with at an element of the gathered strips: its own ring's in its own slot and in the columns its
ring moves, the other ring's elsewhere. -/
def owner (c : Dev nD) (s : Fin 8) (j : ℕ) : Dev nD :=
  devAt (if s = pos c ∨ (ro c ≤ j ∧ j < ro c + 2816) then yc c else 1 - yc c) s

/-- The gathered strips at the end. -/
noncomputable def gfin (c : Dev nD) : S8x512x4096.Idx → Elt F .bf16 := fun i =>
  tot ab (owner c (i 0) (i 2).val) (ix3 (0 : Fin 1) (i 1 : Fin 512) (i 2 : Fin 4096))

/-- Half `h` of slot `s` as a vector. -/
def halfrow (f : S8x512x4096.Idx → Elt F .bf16) (s : Fin 8) (h : Fin 2) : Vec F S1x512x2048 .bf16 := fun j =>
  f (ix3 s (j 1 : Fin 512) (⟨2048 * h.val + (j 2).val, by have : (j 2).val < 2048 := (j 2).isLt; omega⟩ : Fin 4096))

/-- The result. -/
noncomputable def ofin (c : Dev nD) : S4096x4096.Idx → Elt F .f32 := fun i =>
  outPay (halfrow (gfin ab c) ⟨(i 0).val / 512, by have : (i 0).val < 4096 := (i 0).isLt; omega⟩
      ⟨(i 1).val / 2048, by have : (i 1).val < 4096 := (i 1).isLt; omega⟩)
    (ix3 (0 : Fin 1) (⟨(i 0).val % 512, Nat.mod_lt _ (by decide)⟩ : Fin 512) (⟨(i 1).val % 2048, Nat.mod_lt _ (by decide)⟩ : Fin 2048))

theorem accv_succ (c : Dev nD) (t : ℕ) :
    accv ab c (t + 1) = k0_pay43 (ab c t).1 (ab c t).2 (if t % 16 = 0 then k0_pay42 else accv ab c t) := rfl

/-! ## The columns of each side -/

theorem owner_own (c : Dev nD) (j : ℕ) : owner c (pos c) j = c := by
  unfold owner; rw [if_pos (.inl rfl)]; exact devAt_self c

theorem yc_cases : ∀ y : Fin 2, y = 0 ∨ y = 1 := by decide

theorem owner_ring (c : Dev nD) (s : Fin 8) (j : ℕ) (h : ro c ≤ j ∧ j < ro c + 2816) : owner c s j = devAt (yc c) s := by
  unfold owner; rw [if_pos (.inr h)]

theorem yc2 : ∀ y : Fin 2, 1 - (1 - y) = y := by decide

theorem owner_across (c : Dev nD) (s : Fin 8) (j : ℕ) (hs : s ≠ pos c) (h : rs c ≤ j ∧ j < rs c + 1280) : owner (yn c) s j = devAt (yc c) s := by
  unfold owner
  rw [if_neg, yc_yn, yc2]
  rintro (h' | h')
  · exact hs (h'.trans (pos_yn c))
  · unfold ro at h'; unfold rs at h; rw [yc_yn] at h'
    rcases yc_cases (yc c) with e | e <;> rw [e] at h h'
    · have h2 : 1280 * 1 ≤ j := h'.1
      have h1 : j < 2816 * 0 + 1280 := h.2
      omega
    · have h2 : j < 1280 * 0 + 2816 := h'.2
      have h1 : 2816 * 1 ≤ j := h.1
      omega

/-- The columns a copy moves are among those its sender's ring moves. -/
theorem col_ring : ∀ (c : Dev nD) (i : Rc), ro c ≤ i.col c ∧ i.col c + i.wd ≤ ro c + 2816 := by decide

theorem g_slot_ne : ∀ (c : Dev nD) (o : Fin 7), (Rc.g o).slot c ≠ pos c := by decide

theorem ro_rt (c : Dev nD) : ro (rt c) = ro c := by unfold ro; rw [yc_rt]
theorem ro_lf (c : Dev nD) : ro (lf c) = ro c := by unfold ro; rw [yc_lf]

/-- A copy's source and its landing place hold the same at the end. -/
theorem gfin_agree (c : Dev nD) (i : Rc) : ∀ k ∈ blk (i.slot c) (i.col c) (i.col c + i.wd), gfin ab c k = gfin ab (i.to c) k := by
  intro k hk
  have hs := blk_slot hk
  have hr := col_ring c i
  obtain ⟨-, h1, h2⟩ := mem_blk.1 hk
  have e1 : owner c (k 0) (k 2).val = devAt (yc c) (k 0) := owner_ring c _ _ ⟨hr.1.trans h1, lt_of_lt_of_le h2 hr.2⟩
  have e2 : owner (i.to c) (k 0) (k 2).val = devAt (yc c) (k 0) := by
    cases i with
    | f r => exact (owner_ring (rt c) _ _ (by rw [ro_rt]; exact ⟨hr.1.trans h1, lt_of_lt_of_le h2 hr.2⟩)).trans (by rw [yc_rt])
    | b r => exact (owner_ring (lf c) _ _ (by rw [ro_lf]; exact ⟨hr.1.trans h1, lt_of_lt_of_le h2 hr.2⟩)).trans (by rw [yc_lf])
    | g o => exact owner_across c _ _ (fun e => g_slot_ne c o (hs.symm.trans e)) ⟨h1, h2⟩
  exact congrArg (fun q => tot ab q (ix3 (0 : Fin 1) (k 1 : Fin 512) (k 2 : Fin 4096))) (e1.trans e2.symm)

/-! ## Loads and stores -/

theorem read_row (f : S8x512x4096.Idx → Elt F .bf16) (s : Fin 8) (h) :
    (gm.access (Rect.unit (s := S8x512x4096) ![s.val, 0, 0] S1x512x4096.size h)).read (Elt F) f = rowv f s := by
  funext j
  rw [View.read_apply]
  refine (by simp : _ = f ((gm.access (Rect.unit (s := S8x512x4096) ![s.val, 0, 0] S1x512x4096.size h)).emb j)).trans ?_
  refine congrArg f (Shape.idx3_ext ?_ ?_ ?_)
  · have : (j 0).val < 1 := (j 0).isLt
    show s.val + 1 * (j 0).val = s.val; omega
  · show 0 + 1 * (j 1).val = (j 1).val; omega
  · show 0 + 1 * (j 2).val = (j 2).val; omega

theorem read_half (f : S8x512x4096.Idx → Elt F .bf16) (s : Fin 8) (k : Fin 2) (h) :
    (gm.access (Rect.unit (s := S8x512x4096) ![s.val, 0, 2048 * k.val] S1x512x2048.size h)).read (Elt F) f = halfrow f s k := by
  funext j
  rw [View.read_apply]
  refine (by simp : _ = f ((gm.access (Rect.unit (s := S8x512x4096) ![s.val, 0, 2048 * k.val] S1x512x2048.size h)).emb j)).trans ?_
  refine congrArg f (Shape.idx3_ext ?_ ?_ ?_)
  · have : (j 0).val < 1 := (j 0).isLt
    show s.val + 1 * (j 0).val = s.val; omega
  · show 0 + 1 * (j 1).val = (j 1).val; omega
  · show 2048 * k.val + 1 * (j 2).val = 2048 * k.val + (j 2).val; omega

/-- Half `k` of the strip stored into a slot. -/
theorem write_half (f : S8x512x4096.Idx → Elt F .bf16) (c : Dev nD) (s : Fin 8) (k : Fin 2)
    (h : ∀ x, (![s.val, 0, 2048 * k.val] : Fin 3 → ℕ) x + S1x512x2048.size x ≤ S8x512x4096.size x) :
    ∀ i ∈ blk s (2048 * k.val) (2048 * k.val + 2048),
      (gm.access (Rect.unit (s := S8x512x4096) ![s.val, 0, 2048 * k.val] S1x512x2048.size h)).write (Elt F) f (halfv ab c k) Finset.univ i = ypart ab c i := by
  intro i hi
  rw [← access_set 2048 s (2048 * k.val) h] at hi
  obtain ⟨j, -, hj⟩ := Finset.mem_map.mp hi
  have j0 : (j 0).val < 1 := (j 0).isLt
  have j2 : (j 2).val < 2048 := (j 2).isLt
  have e1 : (i 1).val = 0 + 1 * (j 1).val := by rw [← hj]; rfl
  have e2 : (i 2).val = 2048 * k.val + 1 * (j 2).val := by rw [← hj]; rfl
  have hk : ∀ p, (⟨(i 2).val / 2048, p⟩ : Fin 2) = k := fun p => Fin.ext (by show (i 2).val / 2048 = _; omega)
  have e : ypart ab c i = halfv ab c k j := by
    unfold ypart
    rw [hk]
    refine congrArg (halfv ab c k) (Shape.idx3_ext ?_ ?_ ?_)
    · show 0 = (j 0).val; omega
    · show (i 1).val = (j 1).val; omega
    · show (i 2).val % 2048 = (j 2).val; omega
  rw [e, ← hj, View.write_emb_of_mem _ _ (Finset.mem_univ _)]
  simp

/-- The sum stored into the own slot. -/
theorem write_sum (f : S8x512x4096.Idx → Elt F .bf16) (c : Dev nD) (h) :
    ∀ i ∈ blk (pos c) 0 4096,
      (gm.access (Rect.unit (s := S8x512x4096) ![(pos c).val, 0, 0] S1x512x4096.size h)).write (Elt F) f (tot ab c) Finset.univ i = gfin ab c i := by
  intro i hi
  have hs := blk_slot hi
  rw [show blk (pos c) 0 4096 = blk (pos c) 0 (0 + 4096) from rfl, ← access_set 4096 (pos c) 0 h] at hi
  obtain ⟨j, -, rfl⟩ := Finset.mem_map.mp hi
  rw [View.write_emb_of_mem _ _ (Finset.mem_univ _)]
  refine (by simp : _ = tot ab c j).trans ?_
  unfold gfin
  rw [hs, owner_own]
  refine congrArg (tot ab c) (Shape.idx3_ext ?_ ?_ ?_)
  · have : (j 0).val < 1 := (j 0).isLt
    show (j 0).val = 0; omega
  · show (j 1).val = 0 + 1 * (j 1).val; omega
  · show (j 2).val = 0 + 1 * (j 2).val; omega

/-- A partial strip reads the same at every slot. -/
theorem ypart_slot (c : Dev nD) (i j : S8x512x4096.Idx) (h1 : i 1 = j 1) (h2 : i 2 = j 2) : ypart ab c i = ypart ab c j := by
  unfold ypart; simp only [h1, h2]

theorem rowv_ypart (c : Dev nD) (s s' : Fin 8) : rowv (ypart ab c) s = rowv (ypart ab c) s' :=
  funext fun _ => ypart_slot ab c _ _ rfl rfl

/-- What one half of a strip is on its way out. -/
theorem stage_read (fs : S2x512x2048.Idx → Elt F .f32) (k : Fin 2) (h) (v : FVec F S1x512x2048 .f32) :
    (stgH k).view.read (Elt F) ((stg.access (Rect.unit (s := S2x512x2048) ![k.val, 0, 0] S1x512x2048.size h)).write (Elt F) fs v Finset.univ)
      = fun x => v (Shape.reshapeEquiv squeezes_S1x512x2048_S512x2048.numel_eq x) := by
  funext x
  rw [View.read_apply]
  have e : (stgH k).view.emb x = (stg.access (Rect.unit (s := S2x512x2048) ![k.val, 0, 0] S1x512x2048.size h)).emb
      (Shape.reshapeEquiv squeezes_S1x512x2048_S512x2048.numel_eq x) := rfl
  rw [e, View.write_emb_of_mem _ _ (Finset.mem_univ _)]
  simp

theorem out_write (fo : S4096x4096.Idx → Elt F .f32) (c : Dev nD) (s : Fin 8) (k : Fin 2) (h) :
    ∀ i ∈ ob s k, (outB ![512 * s.val, 2048 * k.val] h).view.write (Elt F) fo
      (fun x => outPay (halfrow (gfin ab c) s k) (Shape.reshapeEquiv squeezes_S1x512x2048_S512x2048.numel_eq x)) Finset.univ i = ofin ab c i := by
  intro i hi
  obtain ⟨hi0, hi1⟩ := mem_ob.1 hi
  rw [← outB_set s k h] at hi
  obtain ⟨x, -, rfl⟩ := Finset.mem_map.mp hi
  rw [View.write_emb_of_mem _ _ (Finset.mem_univ _)]
  refine (by simp : _ = outPay (halfrow (gfin ab c) s k) (Shape.reshapeEquiv squeezes_S1x512x2048_S512x2048.numel_eq x)).trans ?_
  have x0 : (x 0).val < 512 := (x 0).isLt
  have x1 : (x 1).val < 2048 := (x 1).isLt
  have e0 : ((outB ![512 * s.val, 2048 * k.val] h).view.emb x 0).val = 512 * s.val + 1 * (x 0).val := rfl
  have e1 : ((outB ![512 * s.val, 2048 * k.val] h).view.emb x 1).val = 2048 * k.val + 1 * (x 1).val := rfl
  unfold ofin
  have hs : (⟨((outB ![512 * s.val, 2048 * k.val] h).view.emb x 0).val / 512, by omega⟩ : Fin 8) = s := Fin.ext hi0
  have hk : (⟨((outB ![512 * s.val, 2048 * k.val] h).view.emb x 1).val / 2048, by omega⟩ : Fin 2) = k := Fin.ext hi1
  rw [hs, hk]
  refine congrArg (outPay (halfrow (gfin ab c) s k)) ?_
  have ex : x = ix2 (⟨(x 0).val, x0⟩ : Fin 512) (⟨(x 1).val, x1⟩ : Fin 2048) := by
    funext a; match a with
    | ⟨0, _⟩ => rfl
    | ⟨1, _⟩ => rfl
  refine (congrArg (Shape.reshapeEquiv squeezes_S1x512x2048_S512x2048.numel_eq) ex).trans ((reshapeEquiv_ix2_1ab _ _ _).trans ?_)
  refine Shape.idx3_ext rfl ?_ ?_
  · show (x 0).val = _ % 512; omega
  · show (x 1).val = _ % 2048; omega

end Cert.KernelIdeal.Hand
end
-- ==== Proof.Protocol.lean ====
module

public import proofs.«01_k».proof.Proof.Contents
public import proofs.«01_k».proof.Proof.Body
public import Idealize.ShloMosaic.Lib.Pipeline.RegionTalk
public import Idealize.ShloMosaic.Lib.Rounds.Family
public import Idealize.ShloMosaic.Lib.Transfers

@[expose] public section

noncomputable section

namespace Cert.KernelIdeal.Hand

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! # Who waits for whom, and what is handed over -/

/-- The resources: the launch's rounds, the exchange's rounds and the counters of the local copies. -/
abbrev UX : Type := URounds (GSem nD τ sig) (Fin 3)
abbrev UB : Type := UX × Counters
abbrev UU : Type := UR sig nD τ × UB

local notation "𝕄" => MT nD τ sig Unit (Elt F) ℕ UU ℕ

abbrev EP : Emb (UR sig nD τ) (MT nD τ sig Unit (Elt F) ℕ UU ℕ) := embL
/-- Where the exchange's rounds lie. -/
def ER : Emb UX (MT nD τ sig Unit (Elt F) ℕ UU ℕ) :=
  ((Emb.inl : Emb UX UB).trans (Emb.inr : Emb UB UU)).trans
    (uEmb (nD := nD) (τ := τ) (sig := sig) (Ix := Unit) (Val := Elt F) (Name := ℕ) (U := UU) (Lvl := ℕ)).toEmb
instance : Emb.LandsIn (ER (F := F)) (upEmb : UEmb _ 𝕄) := by unfold ER; infer_instance
abbrev EC : UEmb Counters (MT nD τ sig Unit (Elt F) ℕ UU ℕ) := countersEmb

abbrev 𝒱₀ : Variants := Variants.none

/-- One part of a separating product, the rest dropped. -/
theorem bigSep_at {M I : Type} [URA M] [DecidableEq I] {S : Finset I} {i : I} (h : i ∈ S) {Φ : I → sProp M} : (bigSep S Φ : sProp M) ⊢ Φ i :=
  bigSep_elim h

/-! ## The copies between devices -/

/-- The copies a device sends: the two halves of its partial strip, and those of the exchange of the last grid point. -/
abbrev Ch : Type := Fin 2 ⊕ Rc

/-- The semaphores of a copy at its sender and at its receiver. -/
def Ch.snd : Ch → DmaSem sig | .inl h => yS h | .inr i => i.sS
def Ch.rcv : Ch → DmaSem sig | .inl h => yR h | .inr i => i.sR
/-- Whom device `c` sends to. -/
def Ch.to (c : Dev nD) : Ch → Dev nD | .inl _ => yn c | .inr i => i.to c
/-- Whom device `c` receives from. -/
def Rc.frm (c : Dev nD) : Rc → Dev nD | .f _ => lf c | .b _ => rt c | .g _ => yn c
def Ch.frm (c : Dev nD) : Ch → Dev nD | .inl _ => yn c | .inr i => i.frm c
def Ch.wd : Ch → ℕ | .inl _ => 2048 | .inr i => i.wd

theorem Rc.frm_to : ∀ (c : Dev nD) (i : Rc), i.frm (i.to c) = c := by decide
theorem Rc.to_frm : ∀ (c : Dev nD) (i : Rc), i.to (i.frm c) = c := by decide
theorem Ch.frm_to (c : Dev nD) (ch : Ch) : ch.frm (ch.to c) = c := by
  cases ch with
  | inl h => exact yn_yn c
  | inr i => exact i.frm_to c
theorem Ch.to_frm (c : Dev nD) (ch : Ch) : ch.to (ch.frm c) = c := by
  cases ch with
  | inl h => exact yn_yn c
  | inr i => exact i.to_frm c

/-- The units a copy pays at each end. -/
def Ch.amt (ch : Ch) : ℕ := (cc0_scratch1 : Ref sig .tc).dmaCredit ⟨2, ![512, ch.wd]⟩ .bf16
theorem Ch.amt_pos (ch : Ch) : 0 < ch.amt := by
  cases ch with
  | inl h => exact (View.dmaCredit_pos (piece 2048 ![0, 0, 0] (by decide)).view (by show 0 < Shape.numel _; decide) : _)
  | inr i => cases i with
    | f r => exact (View.dmaCredit_pos (piece (Rc.f r).wd ![0, 0, 0] (by revert r; decide)).view (by revert r; decide))
    | b r => exact (View.dmaCredit_pos (piece (Rc.b r).wd ![0, 0, 0] (by revert r; decide)).view (by revert r; decide))
    | g r => exact (View.dmaCredit_pos (piece (Rc.g r).wd ![0, 0, 0] (by revert r; decide)).view (by revert r; decide))

/-- Which copy a semaphore belongs to, and at which end (`true`: the receiver's). -/
def chOf (s : DmaSem sig) : Option (Bool × Ch) :=
  let n := s.val
  if n < 4 then none
  else if n < 6 then some (false, .inl (if n = 4 then 0 else 1))
  else if n < 8 then some (true, .inl (if n = 6 then 0 else 1))
  else if n < 12 then some (false, .inr (.f ⟨(n - 8) % 4, Nat.mod_lt _ (by decide)⟩))
  else if n < 16 then some (true, .inr (.f ⟨(n - 12) % 4, Nat.mod_lt _ (by decide)⟩))
  else if n < 20 then some (false, .inr (.b ⟨(n - 16) % 4, Nat.mod_lt _ (by decide)⟩))
  else if n < 24 then some (true, .inr (.b ⟨(n - 20) % 4, Nat.mod_lt _ (by decide)⟩))
  else if n < 31 then some (false, .inr (.g ⟨(n - 24) % 7, Nat.mod_lt _ (by decide)⟩))
  else if n < 38 then some (true, .inr (.g ⟨(n - 31) % 7, Nat.mod_lt _ (by decide)⟩))
  else none

theorem chOf_snd : ∀ ch : Ch, chOf ch.snd = some (false, ch) := by decide
theorem chOf_rcv : ∀ ch : Ch, chOf ch.rcv = some (true, ch) := by decide

/-! ## The cells -/

abbrev bc (c : Dev nD) : GSem nD τ sig := ((c : Thread nD τ), .reg barS)
abbrev sc (ch : Ch) (c : Dev nD) : GSem nD τ sig := ((c : Thread nD τ), .dma ch.snd)
abbrev rc (ch : Ch) (c : Dev nD) : GSem nD τ sig := ((c : Thread nD τ), .dma ch.rcv)

/-! ## The chunks -/

abbrev gl (c : Dev nD) : Loc nD τ sig := (c : Thread nD τ).loc cc0_scratch1
abbrev qL : PosShare TreeShare := (fullShare : PosShare TreeShare).left
abbrev qR : PosShare TreeShare := (fullShare : PosShare TreeShare).right

variable (ab : Blocks F)

/-- Elements of the gathered strips of device `c` at what they hold at the end. -/
def G (c : Dev nD) (q : PosShare TreeShare) (S : Finset S8x512x4096.Idx) : sProp 𝕄 := gl c ↦[S]{q} gfin ab c
variable (F) in
/-- Elements of the gathered strips of device `c`, to be written. -/
def A (c : Dev nD) (S : Finset S8x512x4096.Idx) : sProp 𝕄 := iprop(∃ f : S8x512x4096.Idx → Elt F .bf16, gl c ↦[S]{fullShare} f)
/-- Elements of the gathered strips of device `c` holding device `d`'s partial strip. -/
def Y (d c : Dev nD) (S : Finset S8x512x4096.Idx) : sProp 𝕄 := gl c ↦[S]{fullShare} ypart ab d

omit [FloatOps F] in
instance A_storable (c : Dev nD) (S) : BI.Storable (upEmb : UEmb _ 𝕄) (A F c S) := by unfold A; infer_instance
instance G_storable (c : Dev nD) (q S) : BI.Storable (upEmb : UEmb _ 𝕄) (G ab c q S) := by unfold G; infer_instance
instance Y_storable (d c : Dev nD) (S) : BI.Storable (upEmb : UEmb _ 𝕄) (Y ab d c S) := by unfold Y; infer_instance

/-- What a copy of device `c` reads, and where it lands. -/
def Rc.reg (c : Dev nD) (i : Rc) : Finset S8x512x4096.Idx := blk (i.slot c) (i.col c) (i.col c + i.wd)
/-- Half `h` of a slot. -/
def hf (s : Fin 8) (h : Fin 2) : Finset S8x512x4096.Idx := blk s (2048 * h.val) (2048 * h.val + 2048)

/-- The share a copy reads its source at. -/
def Rc.qs : Rc → PosShare TreeShare
  | .f r => if r = 0 then qR.left else qR
  | .b r => if r = 0 then qR.right else qR
  | .g _ => qL

variable (F) in
/-- The landing place of a copy of device `c`. -/
def dst (i : Rc) (c : Dev nD) : sProp 𝕄 := A F (i.to c) (i.reg c)

variable (F) in
/-- The first copy of each kind also hands over columns of the slot across the ring from its sender's. -/
def extra (c : Dev nD) : Rc → sProp 𝕄
  | .f r => if r = 0 then A F c (blk (pos c + 4) (ro c + 1408) (ro c + 2816)) else iprop(emp)
  | .b r => if r = 0 then A F c (blk (pos c + 4) (ro c) (ro c + 1408)) else iprop(emp)
  | .g o => if o = 0 then A F c (blk (pos c + 4) (rs (yn c)) (rs (yn c) + 1280)) else iprop(emp)

instance extra_storable (c : Dev nD) (i : Rc) : BI.Storable (upEmb : UEmb _ 𝕄) (extra F c i) := by
  cases i <;> (unfold extra; dsimp only; split <;> infer_instance)

/-- What the sender gets back. -/
def payS (c : Dev nD) : Ch → sProp 𝕄
  | .inl h => Y ab c c (hf (pos c) h)
  | .inr i => G ab c i.qs (i.reg c)
/-- What device `c` receives. -/
def payR (c : Dev nD) : Ch → sProp 𝕄
  | .inl h => Y ab (yn c) c (hf (pos c + 4) h)
  | .inr i => iprop(G ab c fullShare (i.reg (i.frm c)) ∗ extra F (i.frm c) i)

instance payS_storable (c : Dev nD) (i : Ch) : BI.Storable (upEmb : UEmb _ 𝕄) (payS ab c i) := by
  cases i <;> (unfold payS; infer_instance)
instance payR_storable (c : Dev nD) (i : Ch) : BI.Storable (upEmb : UEmb _ 𝕄) (payR ab c i) := by
  cases i <;> (unfold payR; infer_instance)

variable (F) in
/-- Every cell device `d` receives on is open. -/
def ups (d : Dev nD) : sProp 𝕄 := bigSep (Finset.univ : Finset Ch) fun ch => reached ER (rc ch d) 0

instance ups_persistent (d : Dev nD) : BI.Persistent (ups F d) := by unfold ups; infer_instance
instance ups_storable (d : Dev nD) : BI.Storable (upEmb : UEmb _ 𝕄) (ups F d) := by unfold ups; infer_instance

variable (F) in
/-- What device `c` is handed at the barrier: the landing places of all it sends, by the device they are on. -/
def barPay (c : Dev nD) (d : Fin 3) : sProp 𝕄 :=
  if d = 0 then iprop(ups F (yn c) ∗ A F (yn c) (hf (pos c + 4) 0) ∗ A F (yn c) (hf (pos c + 4) 1)
      ∗ dst F (.g 0) c ∗ dst F (.g 1) c ∗ dst F (.g 2) c ∗ dst F (.g 3) c ∗ dst F (.g 4) c ∗ dst F (.g 5) c)
  else if d = 1 then iprop(ups F (lf c) ∗ dst F (.b 0) c ∗ dst F (.b 1) c ∗ dst F (.b 2) c)
  else iprop(ups F (rt c) ∗ dst F (.f 0) c ∗ dst F (.f 1) c ∗ dst F (.f 2) c)

instance dst_storable (i : Rc) (c : Dev nD) : BI.Storable (upEmb : UEmb _ 𝕄) (dst F i c) := by unfold dst; infer_instance
instance barPay_storable (c : Dev nD) (d) : BI.Storable (upEmb : UEmb _ 𝕄) (barPay F c d) := by
  unfold barPay; (repeat' split) <;> infer_instance

/-! ## The schedule -/

/-- One round: three payments at a barrier, one copy at every other cell. -/
def Rd : Rounds.Schedule (GSem nD τ sig) (Fin 3) 𝕄 where
  duties g r := if r = 0 ∧ g.1.2 = .tc then
      (match g.2 with
      | .reg s => if s = barS then Finset.univ else ∅
      | .dma s => match chOf s with | some _ => {0} | none => ∅)
    else ∅
  unitless _ := False
  amount g _ _ := match g.2 with
    | .reg _ => 1
    | .dma s => match chOf s with | some x => x.2.amt | none => 1
  payload g _ d := match g.2 with
    | .reg _ => barPay F g.1.1 d
    | .dma s => match chOf s with
      | some (false, ch) => payS ab g.1.1 ch
      | some (true, ch) => payR ab g.1.1 ch
      | none => iprop(emp)
  amount_pos g _ d _ := by
    rcases g with ⟨t, s | s⟩
    · exact Nat.one_pos
    · dsimp only; split
      · exact Ch.amt_pos _
      · exact Nat.one_pos

instance Rd_storable (g : GSem nD τ sig) (r : ℕ) (d : Fin 3) :
    BI.Storable (upEmb : UEmb _ 𝕄) ((Rd ab).payload g r d) := by
  rcases g with ⟨t, s | s⟩
  · show BI.Storable upEmb (barPay F t.1 d); infer_instance
  · show BI.Storable upEmb (match chOf s with
      | some (false, ch) => payS ab t.1 ch
      | some (true, ch) => payR ab t.1 ch
      | none => iprop(emp))
    split <;> infer_instance

section Sched

variable (c : Dev nD) (ch : Ch) (d : Fin 3)

theorem duties_bar : (Rd ab).duties (bc c) 0 = Finset.univ := by dsimp only [Rd]; rw [if_pos ⟨rfl, rfl⟩, if_pos rfl]
theorem duties_snd : (Rd ab).duties (sc ch c) 0 = {0} := by dsimp only [Rd]; rw [if_pos ⟨rfl, rfl⟩, chOf_snd]
theorem duties_rcv : (Rd ab).duties (rc ch c) 0 = {0} := by dsimp only [Rd]; rw [if_pos ⟨rfl, rfl⟩, chOf_rcv]
theorem duties_later (g : GSem nD τ sig) : ∀ r, 1 ≤ r → (Rd ab).duties g r = ∅ :=
  fun r hr => by dsimp only [Rd]; rw [if_neg (fun h => by omega)]

theorem amount_bar : (Rd ab).amount (bc c) 0 d = 1 := rfl
theorem amount_snd : (Rd ab).amount (sc ch c) 0 d = ch.amt := by dsimp only [Rd]; rw [chOf_snd]
theorem amount_rcv : (Rd ab).amount (rc ch c) 0 d = ch.amt := by dsimp only [Rd]; rw [chOf_rcv]

theorem expect_bar : (Rd ab).expect (bc c) 0 = 3 := by
  unfold Schedule.expect Schedule.amountOf; rw [duties_bar]; rfl
theorem expect_snd : (Rd ab).expect (sc ch c) 0 = ch.amt := by
  unfold Schedule.expect Schedule.amountOf; rw [duties_snd, Finset.sum_singleton, amount_snd]
theorem expect_rcv : (Rd ab).expect (rc ch c) 0 = ch.amt := by
  unfold Schedule.expect Schedule.amountOf; rw [duties_rcv, Finset.sum_singleton, amount_rcv]

theorem payload_bar : (Rd ab).payload (bc c) 0 d = barPay F c d := rfl
theorem payload_snd : (Rd ab).payload (sc ch c) 0 d = payS ab c ch := by dsimp only [Rd]; rw [chOf_snd]
theorem payload_rcv : (Rd ab).payload (rc ch c) 0 d = payR ab c ch := by dsimp only [Rd]; rw [chOf_rcv]

theorem rest_bar : bigSep ((Rd ab).duties (bc c) 0 \ ∅) (fun u => (Rd ab).payload (bc c) 0 u)
    = iprop(barPay F c 0 ∗ barPay F c 1 ∗ barPay F c 2) := by
  rw [Finset.sdiff_empty, duties_bar, show (Finset.univ : Finset (Fin 3)) = insert 0 (insert 1 {2}) from rfl,
    bigSep_insert (by decide), bigSep_insert (by decide), bigSep_singleton]
  rfl
theorem rest_snd : bigSep ((Rd ab).duties (sc ch c) 0 \ ∅) (fun u => (Rd ab).payload (sc ch c) 0 u) = payS ab c ch := by
  rw [Finset.sdiff_empty, duties_snd, bigSep_singleton, payload_snd]
theorem rest_rcv : bigSep ((Rd ab).duties (rc ch c) 0 \ ∅) (fun u => (Rd ab).payload (rc ch c) 0 u) = payR ab c ch := by
  rw [Finset.sdiff_empty, duties_rcv, bigSep_singleton, payload_rcv]

end Sched

/-! ## What is owed, and the levels -/

/-- The copies in the order they start. -/
def order : List Ch := [.inl 0, .inl 1, .inr (.f 0), .inr (.b 0), .inr (.g 0), .inr (.g 1), .inr (.f 1), .inr (.b 1), .inr (.g 2), .inr (.g 3),
  .inr (.f 2), .inr (.b 2), .inr (.g 4), .inr (.g 5), .inr (.f 3), .inr (.b 3), .inr (.g 6)]

/-- What device `c` owes for the copies of a list. -/
def tl (c : Dev nD) : List Ch → CellTallies nD τ sig Unit
  | [] => 0
  | ch :: l => tl c l + tallyAt (rc ch (ch.to c)) () ch.amt

/-- What device `c` owes at launch. -/
def O₀ (c : Dev nD) : CellTallies nD τ sig Unit :=
  ((tl c order + tallyAt (bc (rt c)) () 1) + tallyAt (bc (lf c)) () 1) + tallyAt (bc (yn c)) () 1

def L (g : GSem nD τ sig) : Finset Unit := if g.1.2 = .tc then {()} else ∅

/-- The level of a receiver's cell. -/
def Ch.lev : Ch → ℕ
  | .inl _ => 2
  | .inr (.f r) => 3 + 2 * r.val
  | .inr (.b r) => 3 + 2 * r.val
  | .inr (.g o) => 4 + 2 * (o.val / 2)

/-- The barrier at 1, the receivers' cells above it in the order of the copies, all others at 0. -/
def lv (g : GSem nD τ sig) (_ : Unit) : ℕ := match g.2 with
  | .reg _ => 1
  | .dma s => match chOf s with | some (true, ch) => ch.lev | _ => 0

theorem L_tc (c : Dev nD) (sm : SemLoc sig) : L ((c : Thread nD τ), sm) = {()} := if_pos rfl
theorem lv_rc (ch : Ch) (c : Dev nD) : lv (rc ch c) () = ch.lev := by dsimp only [lv]; rw [chOf_rcv]
theorem lv_sc (ch : Ch) (c : Dev nD) : lv (sc ch c) () = 0 := by dsimp only [lv]; rw [chOf_snd]

theorem tl_pos {c : Dev nD} {l : List Ch} {g : GSem nD τ sig} {u : Unit} (h : 0 < tl c l g u) : ∃ ch ∈ l, g = rc ch (ch.to c) := by
  induction l with
  | nil => exact absurd h (Nat.lt_irrefl 0)
  | cons ch l ih =>
    rw [tl, Pi.add_apply, Finsupp.add_apply, tallyAt_apply] at h
    by_cases e : g = rc ch (ch.to c) ∧ u = ()
    · exact ⟨ch, List.mem_cons_self, e.1⟩
    · rw [if_neg e, add_zero] at h
      obtain ⟨x, hx, hg⟩ := ih h
      exact ⟨x, List.mem_cons_of_mem _ hx, hg⟩

/-- A wait below all that is still owed. -/
theorem mayWait_tl (c : Dev nD) (sm : SemLoc sig) (l : List Ch) (h : ∀ ch ∈ l, lv ((c : Thread nD τ), sm) () < ch.lev) :
    (levAts L lv : sProp 𝕄) ⊢ MayWait (c : Thread nD τ) sm () (tl c l) :=
  MayOwe.of_cut (L := L) (lev := lv) (lv ((c : Thread nD τ), sm) ())
    (fun p hp => by rw [Finset.mem_singleton.mp hp, L_tc]; exact Finset.mem_singleton_self _)
    (fun g u hg => by obtain ⟨ch, -, rfl⟩ := tl_pos hg; rw [L_tc]; exact Finset.mem_singleton_self _)
    (fun p hp => by rw [Finset.mem_singleton.mp hp])
    (fun g u hg => by obtain ⟨ch, hc, rfl⟩ := tl_pos hg; rw [lv_rc]; exact h ch hc)

/-! ## What is passed along -/

/-- All invariants, at the names `K`. -/
def records (K : GSem nD τ sig → ℕ) : sProp 𝕄 :=
  iprop((bigSep (Finset.univ : Finset (Dev nD)) fun c => cellInv ER (Rd ab) (K (bc c)) (bc c))
    ∗ (bigSep (Finset.univ : Finset (Dev nD × Ch)) fun x => cellInv ER (Rd ab) (K (sc x.2 x.1)) (sc x.2 x.1))
    ∗ (bigSep (Finset.univ : Finset (Dev nD × Ch)) fun x => cellInv ER (Rd ab) (K (rc x.2 x.1)) (rc x.2 x.1)))

instance records_persistent (K : GSem nD τ sig → ℕ) : BI.Persistent (records ab K) := by unfold records; infer_instance

theorem records_bar (K : GSem nD τ sig → ℕ) (c : Dev nD) : records ab K ⊢ cellInv ER (Rd ab) (K (bc c)) (bc c) := by
  unfold records
  iintro ⟨H, -, -⟩
  iapply (bigSep_at (Finset.mem_univ c) (Φ := fun c => cellInv ER (Rd ab) (K (bc c)) (bc c))); iexact H
theorem records_snd (K : GSem nD τ sig → ℕ) (ch : Ch) (c : Dev nD) : records ab K ⊢ cellInv ER (Rd ab) (K (sc ch c)) (sc ch c) := by
  unfold records
  iintro ⟨-, H, -⟩
  iapply (show (bigSep (Finset.univ : Finset (Dev nD × Ch)) fun x => cellInv ER (Rd ab) (K (sc x.2 x.1)) (sc x.2 x.1)) ⊢ cellInv ER (Rd ab) (K (sc ch c)) (sc ch c)
    from bigSep_at (i := (c, ch)) (Finset.mem_univ _)); iexact H
theorem records_rcv (K : GSem nD τ sig → ℕ) (ch : Ch) (c : Dev nD) : records ab K ⊢ cellInv ER (Rd ab) (K (rc ch c)) (rc ch c) := by
  unfold records
  iintro ⟨-, -, H⟩
  iapply (show (bigSep (Finset.univ : Finset (Dev nD × Ch)) fun x => cellInv ER (Rd ab) (K (rc x.2 x.1)) (rc x.2 x.1)) ⊢ cellInv ER (Rd ab) (K (rc ch c)) (rc ch c)
    from bigSep_at (i := (c, ch)) (Finset.mem_univ _)); iexact H

variable (F) in
/-- What device `c` owes for the copies of `l`, whatever it has waited for. -/
def ow (c : Dev nD) (l : List Ch) : sProp 𝕄 := iprop(∃ W, owes (c : Thread nD τ) (tl c l) W)

variable (F) in
/-- A copy before it is started: the tokens of its two ends, the own positions, the credit of the one to come. -/
def Pre (ch : Ch) (c : Dev nD) : sProp 𝕄 :=
  iprop(dutyTok ER (sc ch c) 0 (0 : Fin 3) ∗ dutyTok ER (rc ch (ch.to c)) 0 (0 : Fin 3) ∗ atPos ER (sc ch c) 0 (∅ : Finset (Fin 3)) 0 ∗ atPos ER (rc ch c) 0 (∅ : Finset (Fin 3)) 0
    ∗ cred (tallyAt (rc ch c) () ch.amt))
variable (F) in
/-- A copy on its way. -/
def Mid (ch : Ch) (c : Dev nD) : sProp 𝕄 :=
  iprop(atPos ER (sc ch c) 0 (∅ : Finset (Fin 3)) 0 ∗ cred (tallyAt (sc ch c) () ch.amt) ∗ atPos ER (rc ch c) 0 (∅ : Finset (Fin 3)) 0
    ∗ cred (tallyAt (rc ch c) () ch.amt))
variable (F) in
/-- A copy waited for at both its ends. -/
def Fin' (ch : Ch) (c : Dev nD) : sProp 𝕄 :=
  iprop(atPos ER (sc ch c) 1 (∅ : Finset (Fin 3)) 0 ∗ atPos ER (rc ch c) 1 (∅ : Finset (Fin 3)) 0)

variable (F) in
/-- Every cell device `d` sends on is open. -/
def upsS (d : Dev nD) : sProp 𝕄 := bigSep (Finset.univ : Finset Ch) fun ch => reached ER (sc ch d) 0
instance upsS_persistent (d : Dev nD) : BI.Persistent (upsS F d) := by unfold upsS; infer_instance

theorem ups_at (ch : Ch) (d : Dev nD) : ups F d ⊢ reached ER (rc ch d) 0 :=
  bigSep_at (Finset.mem_univ ch)
theorem upsS_at (ch : Ch) (d : Dev nD) : upsS F d ⊢ reached ER (sc ch d) 0 :=
  bigSep_at (Finset.mem_univ ch)

/-- What is known throughout once the barrier has been passed. -/
def Env (K : GSem nD τ sig → ℕ) (c : Dev nD) : sProp 𝕄 :=
  iprop(records ab K ∗ levAts L lv ∗ upsS F c ∗ ups F (yn c) ∗ ups F (lf c) ∗ ups F (rt c))
instance Env_persistent (K c) : BI.Persistent (Env ab K c) := by unfold Env; infer_instance

theorem Env_up (K : GSem nD τ sig → ℕ) (ch : Ch) (c : Dev nD) : Env ab K c ⊢ reached ER (rc ch (ch.to c)) 0 := by
  unfold Env
  iintro ⟨-, -, -, #Hy, #Hl, #Hr⟩
  cases ch with
  | inl h => iapply (ups_at (.inl h) (yn c)); iexact Hy
  | inr i => cases i with
    | f r => iapply (ups_at (.inr (.f r)) (rt c)); iexact Hr
    | b r => iapply (ups_at (.inr (.b r)) (lf c)); iexact Hl
    | g r => iapply (ups_at (.inr (.g r)) (yn c)); iexact Hy

end Cert.KernelIdeal.Hand
end
-- ==== Proof.Steps.lean ====
module

public import proofs.«01_k».proof.Proof.Protocol

@[expose] public section

noncomputable section

namespace Cert.KernelIdeal.Hand

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # The steps of the exchange, one by one -/

/-- What the rest of the body is proved from, on device `c`. -/
abbrev WP (c : Dev nD) (p : P1 F) (Q : PUnit → sProp (MT nD τ sig Unit (Elt F) ℕ UU ℕ)) : sProp (MT nD τ sig Unit (Elt F) ℕ UU ℕ) :=
  wp frame (wpE (defs₀ (F := F)) 𝒱₀ (c : Thread nD τ) none) Set.univ p Q

variable (ab : Blocks F)

/-- A copy's source, as its view names it. -/
theorem src_eq (c : Dev nD) (q : PosShare TreeShare) (s : Fin 8) (a w : ℕ) (h) (f : S8x512x4096.Idx → Elt F .bf16) :
    ((piece w ![s.val, 0, a] h).view.loc (c : Thread nD τ) ↦[(piece w ![s.val, 0, a] h).view.set]{q} f : sProp 𝕄)
      = (gl c ↦[blk s a (a + w)]{q} f) := by
  rw [piece_set]

variable (K : GSem nD τ sig → ℕ) (c : Dev nD) (k : P1 F) (Q : PUnit → sProp (MT nD τ sig Unit (Elt F) ℕ UU ℕ))

/-- A copy of the exchange is started. -/
theorem send_step (i : Rc) (l : List Ch) :
    iprop(Env ab K c ∗ Pre F (.inr i) c ∗ G ab c i.qs (i.reg c) ∗ dst F i c ∗ extra F c i ∗ ow F c (.inr i :: l))
      ⊢ iprop((iprop(Mid F (.inr i) c ∗ ow F c l) -∗ WP c k Q) -∗ WP c (St.run (canon c) k (.send i)) Q) := by
  unfold Pre dst A ow Mid
  iintro ⟨#HE, ⟨HtS, HtR, HaS, HaR, HcR⟩, HG, ⟨%fd, Hd⟩, Hx, ⟨%W, HO⟩⟩ Hk
  ihave #HrR := (Env_up ab K (.inr i) c) $$ HE
  unfold Env
  icases HE with ⟨#HR, -, #HuS, -⟩
  ihave #HiS := (records_snd ab K (.inr i) c) $$ HR
  ihave #HiR := (records_rcv ab K (.inr i) (i.to c)) $$ HR
  ihave #HrS := (upsS_at (.inr i) c) $$ HuS
  iapply (Rounds.wp_send_pointsTo_with 𝒱₀ ER (Rd ab) (c : Thread nD τ) none (c' := (i.to c : Thread nD τ))
      (src := piece i.wd ((canon c).off i) ((canon c).hoff i)) (dst := piece i.wd ((canon c).off i) ((canon c).hoff i))
      (sS := .dma i.sS) (sem := .dma i.sR) (q := i.qs) (fs := gfin ab c) (fd := fd) (F := extra F c i)
      (κ₁ := K (sc (.inr i) c)) (κ₂ := K (rc (.inr i) (i.to c)))
      (r₁ := 0) (r₂ := 0) (d₁ := (0 : Fin 3)) (d₂ := (0 : Fin 3))
      (by rw [show (((c : Thread nD τ), SemLoc.dma i.sS) : GSem nD τ sig) = sc (.inr i) c from rfl, duties_snd]; exact Finset.mem_singleton_self _)
      (by rw [show (((i.to c : Thread nD τ), SemLoc.dma i.sR) : GSem nD τ sig) = rc (.inr i) (i.to c) from rfl, duties_rcv]; exact Finset.mem_singleton_self _)
      () () (Ch.amt (.inr i)) rfl (amount_snd ab c (.inr i) 0) (amount_rcv ab (i.to c) (.inr i) 0) (tl c l) rfl (W := W)
      (by
        rw [show (Rd ab).payload ((c : Thread nD τ), SemLoc.dma i.sS) 0 0 = payS ab c (.inr i) from payload_snd ab c (.inr i) 0]
        exact Entails.of_eq (src_eq c i.qs (i.slot c) (i.col c) i.wd _ (gfin ab c)))
      (by
        rw [show (Rd ab).payload ((i.to c : Thread nD τ), SemLoc.dma i.sR) 0 0 = payR ab (i.to c) (.inr i) from payload_rcv ab (i.to c) (.inr i) 0]
        unfold payR; dsimp only; rw [Rc.frm_to]
        refine sep_mono_left ?_
        refine Entails.of_eq ((src_eq (i.to c) fullShare (i.slot c) (i.col c) i.wd _ _).trans ?_)
        refine pointsTo_congr fun k hk => ?_
        refine (write_read_self (piece i.wd ((canon c).off i) ((canon c).hoff i)) fd (gfin ab c) k ?_).trans (gfin_agree ab c i k hk)
        exact (Finset.ext_iff.mp (piece_set i.wd (i.slot c) (i.col c) ((canon c).hoff i)) k).2 hk)) $$ [HG Hd Hx HO HtS HtR]
  · isplitr; · iexact HiS
    isplitr; · iexact HiR
    isplitl [HG]
    · iapply (show G ab c i.qs (i.reg c) ⊢ _ from Entails.of_eq (src_eq c i.qs (i.slot c) (i.col c) i.wd _ (gfin ab c)).symm); iexact HG
    isplitl [Hd Hx]
    · isplitl [Hd]
      · unfold Rc.reg; iapply (Entails.of_eq (src_eq (i.to c) fullShare (i.slot c) (i.col c) i.wd _ fd).symm); iexact Hd
      iexact Hx
    isplitl [HO]; · iexact HO
    isplitl [HtS]; · iexact HtS
    isplitr; · iexact HrS
    isplitl [HtR]; · iexact HtR
    iexact HrR
  iintro ⟨HcS, HO⟩
  iapply Hk
  isplitl [HaS HaR HcS HcR]
  · isplitl [HaS]; · iexact HaS
    isplitl [HcS]; · iexact HcS
    isplitl [HaR] <;> iassumption
  iexists W; iexact HO

/-- A wait at the sender's end. -/
theorem wait_snd {sp sp' : Space} {s' : Shape} {e' : EltTy} {s : Shape} {e : EltTy} (ch : Ch) (l : List Ch)
    {srcw : Memref sig .tc sp' s' e'} {dstw : Memref sig .tc sp s e} {hsrc : srcw.view.WordExact} {hdst : dstw.view.WordExact}
    (hN : dstw.view.dmaCredit = ch.amt) (hl : ∀ x ∈ l, 0 < x.lev) :
    iprop(records ab K ∗ levAts L lv ∗ atPos ER (sc ch c) 0 (∅ : Finset (Fin 3)) 0 ∗ cred (tallyAt (sc ch c) () ch.amt) ∗ ow F c l)
      ⊢ iprop((iprop(atPos ER (sc ch c) 1 (∅ : Finset (Fin 3)) 0 ∗ payS ab c ch ∗ ow F c l) -∗ WP c k Q)
        -∗ WP c (.op (.waitDma2 ch.snd srcw dstw hsrc hdst) fun _ => k) Q) := by
  unfold ow
  iintro ⟨#HR, #Hlev, Hat, Hc, ⟨%W, HO⟩⟩ Hk
  iapply (Rounds.wp_wait_rest_token 𝒱₀ ER (Rd ab) (c : Thread nD τ) none (κ := K (sc ch c))
      (wpE_waitDma2_eq (src := srcw) (dst := dstw) 𝒱₀ (c : Thread nD τ) none Set.univ) (Set.mem_univ _) () (O := tl c l) (W := W) (R := 0) (m := 0) (T := ∅)
      ((Nat.zero_add _).trans (hN.trans (expect_snd ab c ch).symm))) $$ [Hat Hc HO]
  · isplitr; · iapply (records_snd ab K ch c); iexact HR
    isplitl [Hc]; · rw [hN]; iexact Hc
    isplitl [HO]; · iexact HO
    isplitr
    · iapply (mayWait_tl c (.dma ch.snd) l (by intro x hx; exact (lv_sc ch c).trans_lt (hl x hx))); iexact Hlev
    iexact Hat
  iintro ⟨HO, Hat, -, Hpay⟩
  ihave Hp := (Entails.of_eq (rest_snd ab c ch)) $$ Hpay
  iapply Hk
  isplitl [Hat]; · iexact Hat
  isplitl [Hp]; · iexact Hp
  iexists _; iexact HO

/-- A wait at the receiver's end. -/
theorem wait_rcv {sp sp' : Space} {s' : Shape} {e' : EltTy} {s : Shape} {e : EltTy} (ch : Ch) (l : List Ch)
    {srcw : Memref sig .tc sp' s' e'} {dstw : Memref sig .tc sp s e} {hsrc : srcw.view.WordExact} {hdst : dstw.view.WordExact}
    (hN : dstw.view.dmaCredit = ch.amt) (hl : ∀ x ∈ l, ch.lev < x.lev) :
    iprop(records ab K ∗ levAts L lv ∗ atPos ER (rc ch c) 0 (∅ : Finset (Fin 3)) 0 ∗ cred (tallyAt (rc ch c) () ch.amt) ∗ ow F c l)
      ⊢ iprop((iprop(atPos ER (rc ch c) 1 (∅ : Finset (Fin 3)) 0 ∗ payR ab c ch ∗ ow F c l) -∗ WP c k Q)
        -∗ WP c (.op (.waitDma2 ch.rcv srcw dstw hsrc hdst) fun _ => k) Q) := by
  unfold ow
  iintro ⟨#HR, #Hlev, Hat, Hc, ⟨%W, HO⟩⟩ Hk
  iapply (Rounds.wp_wait_rest_token 𝒱₀ ER (Rd ab) (c : Thread nD τ) none (κ := K (rc ch c))
      (wpE_waitDma2_eq (src := srcw) (dst := dstw) 𝒱₀ (c : Thread nD τ) none Set.univ) (Set.mem_univ _) () (O := tl c l) (W := W) (R := 0) (m := 0) (T := ∅)
      ((Nat.zero_add _).trans (hN.trans (expect_rcv ab c ch).symm))) $$ [Hat Hc HO]
  · isplitr; · iapply (records_rcv ab K ch c); iexact HR
    isplitl [Hc]; · rw [hN]; iexact Hc
    isplitl [HO]; · iexact HO
    isplitr
    · iapply (mayWait_tl c (.dma ch.rcv) l (by intro x hx; exact (lv_rc ch c).trans_lt (hl x hx))); iexact Hlev
    iexact Hat
  iintro ⟨HO, Hat, -, Hpay⟩
  ihave Hp := (Entails.of_eq (rest_rcv ab c ch)) $$ Hpay
  iapply Hk
  isplitl [Hat]; · iexact Hat
  isplitl [Hp]; · iexact Hp
  iexists _; iexact HO

/-- Both ends of a copy of the exchange are waited for. -/
theorem waits_step (i : Rc) (l : List Ch) (hl : ∀ x ∈ l, Ch.lev (.inr i) < x.lev) :
    iprop(Env ab K c ∗ Mid F (.inr i) c ∗ ow F c l)
      ⊢ iprop((iprop(Fin' F (.inr i) c ∗ payS ab c (.inr i) ∗ payR ab c (.inr i) ∗ ow F c l) -∗ WP c k Q)
        -∗ WP c (St.run (canon c) k (.waits i)) Q) := by
  unfold Env Mid Fin'
  iintro ⟨⟨#HR, #Hlev, -⟩, ⟨HaS, HcS, HaR, HcR⟩, HO⟩ Hk
  iapply (wait_snd ab K c _ Q (.inr i) l (dstw := piece i.wd ((canon c).off i) ((canon c).hoff i)) rfl (fun x hx => (Nat.zero_le _).trans_lt (hl x hx))) $$ [HaS HcS HO]
  · isplitr; · iexact HR
    isplitr; · iexact Hlev
    isplitl [HaS]; · iexact HaS
    isplitl [HcS] <;> iassumption
  iintro ⟨HaS, HpS, HO⟩
  iapply (wait_rcv ab K c k Q (.inr i) l (dstw := piece i.wd ((canon c).off i) ((canon c).hoff i)) rfl hl) $$ [HaR HcR HO]
  · isplitr; · iexact HR
    isplitr; · iexact Hlev
    isplitl [HaR]; · iexact HaR
    isplitl [HcR] <;> iassumption
  iintro ⟨HaR, HpR, HO⟩
  iapply Hk
  isplitl [HaS HaR]; · isplitl [HaS] <;> iassumption
  isplitl [HpS]; · iexact HpS
  isplitl [HpR] <;> iassumption

/-! ## The way out -/

abbrev ol : Loc nD τ sig := (c : Thread nD τ).loc main_v13
abbrev tlc : Loc nD τ sig := (c : Thread nD τ).loc cc0_scratch2
variable (F) in
/-- A block of the result, to be written. -/
def OA (s : Fin 8) (h : Fin 2) : sProp 𝕄 := iprop(∃ f : S4096x4096.Idx → Elt F .f32, ol c ↦[ob s h]{fullShare} f)
/-- A block of the result at the end. -/
def OF (s : Fin 8) (h : Fin 2) : sProp 𝕄 := ol c ↦[ob s h]{fullShare} ofin ab c
variable (F) in
/-- A half of the staging buffer. -/
def SA (h : Fin 2) : sProp 𝕄 := iprop(∃ f : S2x512x2048.Idx → Elt F .f32, tlc c ↦[sb h]{fullShare} f)
/-- The units a copy out pays. -/
def oamt : ℕ := (main_v13 : Ref sig .tc).dmaCredit S512x2048 .f32
/-- A copy out on its way. -/
def Fl (s : Fin 8) (h : Fin 2) : sProp 𝕄 := Transfers.Flight EC (c : Thread nD τ) (.dma (csem h)) () oamt iprop(OF ab c s h ∗ SA F c h)
variable (F) in
/-- The semaphore of the copies out of a half, at rest. -/
def Cz (h : Fin 2) : sProp 𝕄 := semVal (((c : Thread nD τ), .dma (csem h)) : GSem nD τ sig) 0

/-- One half of a strip is put into the staging buffer and its copy out is started. -/
theorem half_step (q : PosShare TreeShare) (e : Fin 8) (h : Fin 2) :
    iprop(G ab c q (blk (outSlot c e) 0 4096) ∗ SA F c h ∗ OA F c (outSlot c e) h ∗ Cz F c h)
      ⊢ iprop((iprop(G ab c q (blk (outSlot c e) 0 4096) ∗ Fl ab c (outSlot c e) h) -∗ WP c k Q) -∗ WP c (St.run (canon c) k (.half e h)) Q) := by
  unfold SA OA Cz
  iintro ⟨HG, ⟨%fs, Hs⟩, ⟨%fo, Ho⟩, Hz⟩ Hk
  unfold G
  iapply (wp_load_rect 𝒱₀ (c : Thread nD τ) none Set.univ (m := gm) (r := (Rect.unit (s := S8x512x4096) ((canon c).eo e h) S1x512x2048.size ((canon c).heo e h))) (S := blk (outSlot c e) 0 4096) (q := q) (f := gfin ab c)
    (by
      refine (Finset.Subset.antisymm_iff.1 (access_set 2048 (outSlot c e) (2048 * h.val) ((canon c).heo e h))).1.trans ?_
      have := h.isLt
      exact blk_subset _ (Nat.zero_le _) (by omega))) $$ HG
  iintro HG
  rw [show ((gm.access (Rect.unit (s := S8x512x4096) ((canon c).eo e h) S1x512x2048.size ((canon c).heo e h))).read (Elt F) (gfin ab c))
    = halfrow (gfin ab c) (outSlot c e) h from read_half (gfin ab c) (outSlot c e) h _]
  iapply (wp_load_rect 𝒱₀ (c : Thread nD τ) none Set.univ (m := stg) (r := (Rect.unit (s := S2x512x2048) ![h.val, 0, 0] S1x512x2048.size (inbStg h))) (S := sb h) (q := fullShare) (f := fs)
    (Finset.Subset.antisymm_iff.1 (stg_access_set h _)).1) $$ Hs
  iintro Hs
  iapply (wp_store 𝒱₀ (c : Thread nD τ) none Set.univ (m := stg) (r := Rect.unit (s := S2x512x2048) ![h.val, 0, 0] S1x512x2048.size (inbStg h)) (S := sb h) (f := fs)
    (by rw [View.setOn_univ]; exact (Finset.Subset.antisymm_iff.1 (stg_access_set h _)).1)) $$ Hs
  iintro Hs
  iapply (Transfers.wp_dmaLocal EC 𝒱₀ (c : Thread nD τ) none (src := stgH h) (via := .same) (dst := outB ((canon c).wo e h) ((canon c).hwo e h)) (sm := .dma (csem h))
      (q := fullShare) (Sd := ob (outSlot c e) h) (fd := fo)
      (fs := (stg.access (Rect.unit (s := S2x512x2048) ![h.val, 0, 0] S1x512x2048.size (inbStg h))).write (Elt F) fs
        (outPay (halfrow (gfin ab c) (outSlot c e) h)) Finset.univ) () oamt rfl (View.dmaCredit_pos (outB ((canon c).wo e h) ((canon c).hwo e h)).view (by decide))
      (Finset.Subset.antisymm_iff.1 (outB_set (outSlot c e) h ((canon c).hwo e h))).1) $$ [Hs Ho Hz]
  · isplitl [Hs]
    · rw [stgH_set]; iexact Hs
    isplitl [Ho] <;> iassumption
  iintro Hf
  iapply Hk
  isplitl [HG]; · iexact HG
  unfold Fl
  iapply (Transfers.Flight_mono EC (c : Thread nD τ) (by
    refine BIClass.sep_mono ?_ ?_
    · unfold OF
      refine Entails.of_eq (pointsTo_congr fun i hi => ?_)
      refine Eq.trans ?_ (out_write ab fo c (outSlot c e) h ((canon c).hwo e h) i hi)
      refine congrFun (congrArg (fun v => (outB ((canon c).wo e h) ((canon c).hwo e h)).view.write (Elt F) fo v Finset.univ) ?_) i
      exact stage_read fs h _ _
    · unfold SA
      rw [stgH_set]
      iintro H; iexists _; iexact H)) $$ Hf

/-- A copy out is waited for. -/
theorem cwait_step (e : Fin 8) (h : Fin 2) (s : Fin 8) (l : List Ch) (hl : ∀ x ∈ l, 0 < x.lev) :
    iprop(Env ab K c ∗ Fl ab c s h ∗ ow F c l)
      ⊢ iprop((iprop(OF ab c s h ∗ SA F c h ∗ Cz F c h ∗ ow F c l) -∗ WP c k Q) -∗ WP c (St.run (canon c) k (.cwait e h)) Q) := by
  unfold ow Fl Cz Env
  iintro ⟨⟨-, #Hlev, -⟩, Hf, ⟨%W, HO⟩⟩ Hk
  iapply (Transfers.wp_waitLocalO EC 𝒱₀ (c : Thread nD τ) none (dstw := outB ((canon c).wo e h) ((canon c).hwo e h)) () (N := oamt) rfl
    (D := iprop(OF ab c s h ∗ SA F c h)) (O := tl c l) (W := W)) $$ [Hf HO]
  · isplitl [Hf]; · iexact Hf
    isplitl [HO]; · iexact HO
    iapply (mayWait_tl c (.dma (csem h)) l (by
      intro x hx
      refine lt_of_le_of_lt ?_ (hl x hx)
      revert h; intro h; clear hl hx; revert h; show ∀ h : Fin 2, (match chOf (csem h) with | some (true, ch) => ch.lev | _ => 0) ≤ 0; decide)); iexact Hlev
  iintro ⟨⟨Ho, Hs⟩, Hz, HO⟩
  iapply Hk
  isplitl [Ho]; · iexact Ho
  isplitl [Hs]; · iexact Hs
  isplitl [Hz]; · iexact Hz
  iexists _; iexact HO

end Cert.KernelIdeal.Hand
end
-- ==== Proof.Exchange.lean ====
module

public import proofs.«01_k».proof.Proof.Steps

@[expose] public section

noncomputable section

namespace Cert.KernelIdeal.Hand

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # The exchange, run -/

variable (ab : Blocks F) (c : Dev nD)

/-! ## Cutting chunks -/

theorem G_share (q : PosShare TreeShare) (S : Finset S8x512x4096.Idx) : G ab c q S ⊣⊢ iprop(G ab c q.left S ∗ G ab c q.right S) :=
  pointsTo_share (PosShare.mem_left_op_right q)
theorem G_union (q : PosShare TreeShare) {S T : Finset S8x512x4096.Idx} (h : Disjoint S T) : G ab c q (S ∪ T) ⊣⊢ iprop(G ab c q S ∗ G ab c q T) :=
  pointsTo_union h
theorem G_cols (q : PosShare TreeShare) (s : Fin 8) {a b d : ℕ} (h1 : a ≤ b) (h2 : b ≤ d) :
    G ab c q (blk s a d) ⊣⊢ iprop(G ab c q (blk s a b) ∗ G ab c q (blk s b d)) := by
  rw [blk_union s h1 h2]; exact G_union ab c q (blk_disjoint s le_rfl)

/-- The columns of a slot the own ring moves, those it passes across, the others of its, and those that come from across. -/
abbrev ring (s : Fin 8) : Finset S8x512x4096.Idx := blk s (ro c) (ro c + 2816)
abbrev gp (s : Fin 8) : Finset S8x512x4096.Idx := blk s (rs c) (rs c + 1280)
abbrev mid (s : Fin 8) : Finset S8x512x4096.Idx := blk s 1280 2816
abbrev oth (s : Fin 8) : Finset S8x512x4096.Idx := blk s (rs (yn c)) (rs (yn c) + 1280)
abbrev row (s : Fin 8) : Finset S8x512x4096.Idx := blk s 0 4096

theorem cols_cases : (ro c = 0 ∧ rs c = 0 ∧ rs (yn c) = 2816) ∨ (ro c = 1280 ∧ rs c = 2816 ∧ rs (yn c) = 0) := by revert c; decide

theorem ring_split (q : PosShare TreeShare) (s : Fin 8) : G ab c q (ring c s) ⊣⊢ iprop(G ab c q (gp c s) ∗ G ab c q (mid s)) := by
  unfold ring gp mid
  rcases cols_cases c with ⟨h1, h2, -⟩ | ⟨h1, h2, -⟩ <;> rw [h1, h2]
  · exact G_cols ab c q s (by omega) (by omega)
  · have h := G_cols ab c q s (a := 1280) (b := 2816) (d := 4096) (by omega) (by omega)
    exact ⟨h.1.trans sep_comm.1, sep_comm.1.trans h.2⟩

theorem row_split (q : PosShare TreeShare) (s : Fin 8) : G ab c q (row s) ⊣⊢ iprop(G ab c q (ring c s) ∗ G ab c q (oth c s)) := by
  unfold ring oth row
  rcases cols_cases c with ⟨h1, -, h2⟩ | ⟨h1, -, h2⟩ <;> rw [h1, h2]
  · exact G_cols ab c q s (by omega) (by omega)
  · have h := G_cols ab c q s (a := 0) (b := 1280) (d := 4096) (by omega) (by omega)
    exact ⟨h.1.trans sep_comm.1, sep_comm.1.trans h.2⟩

/-! ## The rounds -/

def gA (r : Fin 3) : Fin 7 := ⟨2 * r.val, by omega⟩
def gB (r : Fin 3) : Fin 7 := ⟨2 * r.val + 1, by omega⟩
def e0 (r : Fin 3) : Fin 8 := ⟨2 * r.val, by omega⟩
def eA (r : Fin 3) : Fin 8 := ⟨2 * r.val + 1, by omega⟩
def eB (r : Fin 3) : Fin 8 := ⟨2 * r.val + 2, by omega⟩
/-- The slots that become complete in round `r`. -/
abbrev sA (r : Fin 3) : Fin 8 := outSlot c (eA r)
abbrev sB (r : Fin 3) : Fin 8 := outSlot c (eB r)

/-- The copies not yet started before round `r`. -/
def rem (r : Fin 4) : List Ch := order.drop (4 + 4 * r.val)
theorem rem_step : ∀ r : Fin 3, rem r.castSucc = .inr (.g (gA r)) :: .inr (.g (gB r)) :: .inr (.f r.succ) :: .inr (.b r.succ) :: rem r.succ := by decide
theorem rem_lev_f : ∀ r : Fin 3, ∀ x ∈ rem r.castSucc, Ch.lev (.inr (.f r.castSucc)) < x.lev := by decide
theorem rem_lev_b : ∀ r : Fin 3, ∀ x ∈ rem r.castSucc, Ch.lev (.inr (.b r.castSucc)) < x.lev := by decide
theorem rem_lev_gA : ∀ r : Fin 3, ∀ x ∈ rem r.succ, Ch.lev (.inr (.g (gA r))) < x.lev := by decide
theorem rem_lev_gB : ∀ r : Fin 3, ∀ x ∈ rem r.succ, Ch.lev (.inr (.g (gB r))) < x.lev := by decide
theorem rem_lev_0 : ∀ r : Fin 4, ∀ x ∈ rem r, 0 < x.lev := by decide

theorem slot_gA : ∀ (c : Dev nD) (r : Fin 3), (Rc.g (gA r)).slot c = sA c r := by decide
theorem slot_gB : ∀ (c : Dev nD) (r : Fin 3), (Rc.g (gB r)).slot c = sB c r := by decide
theorem slot_gA' : ∀ (c : Dev nD) (r : Fin 3), (Rc.g (gA r)).slot (yn c) = sA c r := by decide
theorem slot_gB' : ∀ (c : Dev nD) (r : Fin 3), (Rc.g (gB r)).slot (yn c) = sB c r := by decide
theorem slot_f : ∀ (c : Dev nD) (r : Fin 3), (Rc.f r.succ).slot c = sA c r := by decide
theorem slot_b : ∀ (c : Dev nD) (r : Fin 3), (Rc.b r.succ).slot c = sB c r := by decide
theorem slot_f' : ∀ (c : Dev nD) (r : Fin 3), (Rc.f r.castSucc).slot (lf c) = sA c r := by decide
theorem slot_b' : ∀ (c : Dev nD) (r : Fin 3), (Rc.b r.castSucc).slot (rt c) = sB c r := by decide

theorem wd_f : ∀ r : Fin 3, (Rc.f r.castSucc).wd = 2816 := by decide
theorem wd_b : ∀ r : Fin 3, (Rc.b r.castSucc).wd = 2816 := by decide
theorem col_b : ∀ (c : Dev nD) (r : Fin 3), (Rc.b r.castSucc).col c = ro c := by decide
theorem end_b : ∀ (c : Dev nD) (r : Fin 3), (Rc.b r.succ).col c + (Rc.b r.succ).wd = ro c + 2816 := by decide
theorem col_b_le : ∀ (c : Dev nD) (r : Fin 3), ro c ≤ (Rc.b r.succ).col c ∧ (Rc.b r.succ).col c ≤ ro c + 2816 := by decide
theorem wd_f_le : ∀ r : Fin 3, (Rc.f r.succ).wd ≤ 2816 := by decide

/-- The columns the next copies around do not move. -/
def restA (r : Fin 3) : Finset S8x512x4096.Idx := blk (sA c r) (ro c + (Rc.f r.succ).wd) (ro c + 2816)
def restB (r : Fin 3) : Finset S8x512x4096.Idx := blk (sB c r) (ro c) ((Rc.b r.succ).col c)

theorem reg_gA (r : Fin 3) : (Rc.g (gA r)).reg c = gp c (sA c r) := by unfold Rc.reg; rw [slot_gA]; rfl
theorem reg_gB (r : Fin 3) : (Rc.g (gB r)).reg c = gp c (sB c r) := by unfold Rc.reg; rw [slot_gB]; rfl
theorem reg_gA' (r : Fin 3) : (Rc.g (gA r)).reg (yn c) = oth c (sA c r) := by unfold Rc.reg; rw [slot_gA']; rfl
theorem reg_gB' (r : Fin 3) : (Rc.g (gB r)).reg (yn c) = oth c (sB c r) := by unfold Rc.reg; rw [slot_gB']; rfl
theorem reg_f' (r : Fin 3) : (Rc.f r.castSucc).reg (lf c) = ring c (sA c r) := by
  unfold Rc.reg; rw [slot_f', wd_f]; show blk _ (ro (lf c)) (ro (lf c) + 2816) = _; rw [ro_lf]
theorem reg_b' (r : Fin 3) : (Rc.b r.castSucc).reg (rt c) = ring c (sB c r) := by
  unfold Rc.reg; rw [slot_b', wd_b, col_b, ro_rt]
theorem reg_f (r : Fin 3) : (Rc.f r.succ).reg c = blk (sA c r) (ro c) (ro c + (Rc.f r.succ).wd) := by unfold Rc.reg; rw [slot_f]; rfl
theorem reg_b (r : Fin 3) : (Rc.b r.succ).reg c = blk (sB c r) ((Rc.b r.succ).col c) (ro c + 2816) := by unfold Rc.reg; rw [slot_b, end_b]

theorem qs_f (r : Fin 3) : (Rc.f r.succ).qs = qR := by unfold Rc.qs; exact if_neg (Fin.succ_ne_zero r)
theorem qs_b (r : Fin 3) : (Rc.b r.succ).qs = qR := by unfold Rc.qs; exact if_neg (Fin.succ_ne_zero r)
theorem extra_f (d : Dev nD) (r : Fin 3) : extra F d (.f r.succ) = iprop(emp) := by unfold extra; exact if_neg (Fin.succ_ne_zero r)
theorem extra_b (d : Dev nD) (r : Fin 3) : extra F d (.b r.succ) = iprop(emp) := by unfold extra; exact if_neg (Fin.succ_ne_zero r)
theorem gB_ne : ∀ r : Fin 3, gB r ≠ 0 := by decide
theorem extra_gB (d : Dev nD) (r : Fin 3) : extra F d (.g (gB r)) = iprop(emp) := by unfold extra; exact if_neg (gB_ne r)

/-- What comes from behind: a part to pass across, a part to pass on, and what stays. -/
theorem recvA (r : Fin 3) : payR ab c (.inr (.f r.castSucc))
    ⊢ iprop(G ab c (Rc.g (gA r)).qs ((Rc.g (gA r)).reg c) ∗ G ab c qL (mid (sA c r)) ∗ G ab c (Rc.f r.succ).qs ((Rc.f r.succ).reg c)
      ∗ G ab c qR (restA c r) ∗ extra F (lf c) (.f r.castSucc)) := by
  rw [reg_gA, reg_f, qs_f]
  unfold payR; dsimp only
  rw [show (Rc.f r.castSucc).frm c = lf c from rfl, reg_f']
  iintro ⟨H, Hx⟩
  ihave H := (G_share ab c fullShare _).1 $$ H
  icases H with ⟨HL, HR⟩
  ihave HL := (ring_split ab c qL _).1 $$ HL
  icases HL with ⟨Hg, Hm⟩
  have hw := wd_f_le r
  ihave HR := (G_cols ab c qR (sA c r) (a := ro c) (b := ro c + (Rc.f r.succ).wd) (d := ro c + 2816) (by omega) (by omega)).1 $$ HR
  icases HR with ⟨Hf, Hr⟩
  isplitl [Hg]; · iexact Hg
  isplitl [Hm]; · iexact Hm
  isplitl [Hf]; · iexact Hf
  isplitl [Hr]; · unfold restA; iexact Hr
  iexact Hx

/-- What comes from ahead. -/
theorem recvB (r : Fin 3) : payR ab c (.inr (.b r.castSucc))
    ⊢ iprop(G ab c (Rc.g (gB r)).qs ((Rc.g (gB r)).reg c) ∗ G ab c qL (mid (sB c r)) ∗ G ab c (Rc.b r.succ).qs ((Rc.b r.succ).reg c)
      ∗ G ab c qR (restB c r) ∗ extra F (rt c) (.b r.castSucc)) := by
  rw [reg_gB, reg_b, qs_b]
  unfold payR; dsimp only
  rw [show (Rc.b r.castSucc).frm c = rt c from rfl, reg_b']
  iintro ⟨H, Hx⟩
  ihave H := (G_share ab c fullShare _).1 $$ H
  icases H with ⟨HL, HR⟩
  ihave HL := (ring_split ab c qL _).1 $$ HL
  icases HL with ⟨Hg, Hm⟩
  have hw := col_b_le c r
  ihave HR := (G_cols ab c qR (sB c r) (a := ro c) (b := (Rc.b r.succ).col c) (d := ro c + 2816) hw.1 hw.2).1 $$ HR
  icases HR with ⟨Hr, Hf⟩
  isplitl [Hg]; · iexact Hg
  isplitl [Hm]; · iexact Hm
  isplitl [Hf]; · iexact Hf
  isplitl [Hr]; · unfold restB; iexact Hr
  iexact Hx

/-- A slot is complete once the columns from across have come. -/
theorem joinRow (s : Fin 8) : iprop(G ab c qL (gp c s) ∗ G ab c qL (mid s) ∗ G ab c fullShare (oth c s))
    ⊢ iprop(G ab c qL (row s) ∗ G ab c qR (oth c s)) := by
  iintro ⟨Hg, Hm, Ho⟩
  ihave Ho := (G_share ab c fullShare _).1 $$ Ho
  icases Ho with ⟨HoL, HoR⟩
  isplitr [HoR]
  · iapply (row_split ab c qL s).2
    isplitr [HoL]
    · iapply (ring_split ab c qL s).2
      isplitl [Hg] <;> iassumption
    iexact HoL
  iexact HoR

theorem rowA (r : Fin 3) : iprop(payS ab c (.inr (.g (gA r))) ∗ G ab c qL (mid (sA c r)) ∗ payR ab c (.inr (.g (gA r))))
    ⊢ iprop(G ab c qL (row (sA c r)) ∗ G ab c qR (oth c (sA c r)) ∗ extra F (yn c) (.g (gA r))) := by
  unfold payS payR; dsimp only
  rw [reg_gA, show (Rc.g (gA r)).frm c = yn c from rfl, reg_gA']
  iintro ⟨Hg, Hm, Ho, Hx⟩
  ihave H := (joinRow ab c (sA c r)) $$ [Hg Hm Ho]
  · isplitl [Hg]; · iexact Hg
    isplitl [Hm] <;> iassumption
  icases H with ⟨H1, H2⟩
  isplitl [H1]; · iexact H1
  isplitl [H2] <;> iassumption

theorem rowB (r : Fin 3) : iprop(payS ab c (.inr (.g (gB r))) ∗ G ab c qL (mid (sB c r)) ∗ payR ab c (.inr (.g (gB r))))
    ⊢ iprop(G ab c qL (row (sB c r)) ∗ G ab c qR (oth c (sB c r))) := by
  unfold payS payR; dsimp only
  rw [reg_gB, show (Rc.g (gB r)).frm c = yn c from rfl, reg_gB', extra_gB]
  iintro ⟨Hg, Hm, Ho, -⟩
  iapply (joinRow ab c (sB c r))
  isplitl [Hg]; · iexact Hg
  isplitl [Hm] <;> iassumption

/-- The steps of round `r`. -/
def rnd (r : Fin 3) : List St :=
  [.waits (.f r.castSucc), .waits (.b r.castSucc), .send (.g (gA r)), .send (.g (gB r)), .send (.f r.succ), .send (.b r.succ),
   .waits (.g (gA r)), .waits (.g (gB r)), .cwait (e0 r) 0, .half (eA r) 0, .cwait (e0 r) 1, .half (eA r) 1,
   .cwait (eA r) 0, .half (eB r) 0, .cwait (eA r) 1, .half (eB r) 1]

variable (K : GSem nD τ sig → ℕ)

variable (F) in
/-- The copies of round `r`, before they are started. -/
def PreR (r : Fin 3) : sProp 𝕄 :=
  iprop(Pre F (.inr (.g (gA r))) c ∗ Pre F (.inr (.g (gB r))) c ∗ Pre F (.inr (.f r.succ)) c ∗ Pre F (.inr (.b r.succ)) c
    ∗ dst F (.g (gA r)) c ∗ dst F (.g (gB r)) c ∗ dst F (.f r.succ) c ∗ dst F (.b r.succ) c ∗ extra F c (.g (gA r)))
variable (F) in
/-- The copies around that are on their way at the start of round `r`. -/
def MidR (r : Fin 4) : sProp 𝕄 := iprop(Mid F (.inr (.f r)) c ∗ Mid F (.inr (.b r)) c)
variable (F) in
/-- The two output blocks of a strip, to be written. -/
def OA2 (s : Fin 8) : sProp 𝕄 := iprop(OA F c s 0 ∗ OA F c s 1)
def OF2 (s : Fin 8) : sProp 𝕄 := iprop(OF ab c s 0 ∗ OF ab c s 1)
def Fl2 (s : Fin 8) : sProp 𝕄 := iprop(Fl ab c s 0 ∗ Fl ab c s 1)
/-- What round `r` leaves that later rounds do not touch. -/
def Done (r : Fin 3) : sProp 𝕄 :=
  iprop(Fin' F (.inr (.f r.castSucc)) c ∗ Fin' F (.inr (.b r.castSucc)) c ∗ Fin' F (.inr (.g (gA r))) c ∗ Fin' F (.inr (.g (gB r))) c
    ∗ G ab c (Rc.f r.castSucc).qs ((Rc.f r.castSucc).reg c) ∗ G ab c (Rc.b r.castSucc).qs ((Rc.b r.castSucc).reg c)
    ∗ G ab c qL (row (sA c r)) ∗ G ab c qR (oth c (sA c r)) ∗ G ab c qR (restA c r)
    ∗ G ab c qL (row (sB c r)) ∗ G ab c qR (oth c (sB c r)) ∗ G ab c qR (restB c r)
    ∗ OF2 ab c (outSlot c (e0 r)) ∗ OF2 ab c (sA c r))

set_option maxHeartbeats 1000000 in
/-- One round. -/
theorem round_step (r : Fin 3) (k : P1 F) (Q : PUnit → sProp (MT nD τ sig Unit (Elt F) ℕ UU ℕ)) :
    iprop(Env ab K c ∗ MidR F c r.castSucc ∗ PreR F c r ∗ ow F c (rem r.castSucc) ∗ Fl2 ab c (outSlot c (e0 r)) ∗ OA2 F c (sA c r) ∗ OA2 F c (sB c r))
      ⊢ iprop((iprop(MidR F c r.succ ∗ Done ab c r ∗ ow F c (rem r.succ) ∗ Fl2 ab c (sB c r)
            ∗ extra F (lf c) (.f r.castSucc) ∗ extra F (rt c) (.b r.castSucc) ∗ extra F (yn c) (.g (gA r))) -∗ WP c k Q)
        -∗ WP c ((rnd r).foldr (fun s k => s.run (canon c) k) k) Q) := by
  unfold MidR PreR Fl2 OA2
  iintro ⟨#HE, ⟨Hmf, Hmb⟩, ⟨HpgA, HpgB, Hpf, Hpb, HdgA, HdgB, Hdf, Hdb, HxgA⟩, HO, ⟨Hf0, Hf1⟩, ⟨HA0, HA1⟩, ⟨HB0, HB1⟩⟩ Hk
  unfold rnd
  simp only [List.foldr_cons, List.foldr_nil]
  iapply (waits_step ab K c _ Q (.f r.castSucc) (rem r.castSucc) (rem_lev_f r)) $$ [Hmf HO]
  · isplitr; · iexact HE
    isplitl [Hmf] <;> iassumption
  iintro ⟨HFf, HSf, HRf, HO⟩
  iapply (waits_step ab K c _ Q (.b r.castSucc) (rem r.castSucc) (rem_lev_b r)) $$ [Hmb HO]
  · isplitr; · iexact HE
    isplitl [Hmb] <;> iassumption
  iintro ⟨HFb, HSb, HRb, HO⟩
  ihave HRf := (recvA ab c r) $$ HRf
  icases HRf with ⟨HgA, HmA, Hnf, HrA, Hxf⟩
  ihave HRb := (recvB ab c r) $$ HRb
  icases HRb with ⟨HgB, HmB, Hnb, HrB, Hxb⟩
  rw [rem_step]
  iapply (send_step ab K c _ Q (.g (gA r)) _) $$ [HpgA HgA HdgA HxgA HO]
  · isplitr; · iexact HE
    isplitl [HpgA]; · iexact HpgA
    isplitl [HgA]; · iexact HgA
    isplitl [HdgA]; · iexact HdgA
    isplitl [HxgA] <;> iassumption
  iintro ⟨HmgA, HO⟩
  iapply (send_step ab K c _ Q (.g (gB r)) _) $$ [HpgB HgB HdgB HO]
  · isplitr; · iexact HE
    isplitl [HpgB]; · iexact HpgB
    isplitl [HgB]; · iexact HgB
    isplitl [HdgB]; · iexact HdgB
    isplitr; · rw [extra_gB]; iempintro
    iexact HO
  iintro ⟨HmgB, HO⟩
  iapply (send_step ab K c _ Q (.f r.succ) _) $$ [Hpf Hnf Hdf HO]
  · isplitr; · iexact HE
    isplitl [Hpf]; · iexact Hpf
    isplitl [Hnf]; · iexact Hnf
    isplitl [Hdf]; · iexact Hdf
    isplitr; · rw [extra_f]; iempintro
    iexact HO
  iintro ⟨Hmf, HO⟩
  iapply (send_step ab K c _ Q (.b r.succ) _) $$ [Hpb Hnb Hdb HO]
  · isplitr; · iexact HE
    isplitl [Hpb]; · iexact Hpb
    isplitl [Hnb]; · iexact Hnb
    isplitl [Hdb]; · iexact Hdb
    isplitr; · rw [extra_b]; iempintro
    iexact HO
  iintro ⟨Hmb, HO⟩
  iapply (waits_step ab K c _ Q (.g (gA r)) (rem r.succ) (rem_lev_gA r)) $$ [HmgA HO]
  · isplitr; · iexact HE
    isplitl [HmgA] <;> iassumption
  iintro ⟨HFgA, HSg, HRg, HO⟩
  ihave HrowA := (rowA ab c r) $$ [HSg HmA HRg]
  · isplitl [HSg]; · iexact HSg
    isplitl [HmA] <;> iassumption
  icases HrowA with ⟨HrowA, HothA, HxgA⟩
  iapply (waits_step ab K c _ Q (.g (gB r)) (rem r.succ) (rem_lev_gB r)) $$ [HmgB HO]
  · isplitr; · iexact HE
    isplitl [HmgB] <;> iassumption
  iintro ⟨HFgB, HSg, HRg, HO⟩
  ihave HrowB := (rowB ab c r) $$ [HSg HmB HRg]
  · isplitl [HSg]; · iexact HSg
    isplitl [HmB] <;> iassumption
  icases HrowB with ⟨HrowB, HothB⟩
  have h0 := rem_lev_0 r.succ
  iapply (cwait_step ab K c _ Q (e0 r) 0 (outSlot c (e0 r)) (rem r.succ) h0) $$ [Hf0 HO]
  · isplitr; · iexact HE
    isplitl [Hf0] <;> iassumption
  iintro ⟨HF00, HS0, HC0, HO⟩
  iapply (half_step ab c _ Q qL (eA r) 0) $$ [HrowA HS0 HA0 HC0]
  · isplitl [HrowA]; · iexact HrowA
    isplitl [HS0]; · iexact HS0
    isplitl [HA0] <;> iassumption
  iintro ⟨HrowA, Hf0⟩
  iapply (cwait_step ab K c _ Q (e0 r) 1 (outSlot c (e0 r)) (rem r.succ) h0) $$ [Hf1 HO]
  · isplitr; · iexact HE
    isplitl [Hf1] <;> iassumption
  iintro ⟨HF01, HS1, HC1, HO⟩
  iapply (half_step ab c _ Q qL (eA r) 1) $$ [HrowA HS1 HA1 HC1]
  · isplitl [HrowA]; · iexact HrowA
    isplitl [HS1]; · iexact HS1
    isplitl [HA1] <;> iassumption
  iintro ⟨HrowA, Hf1⟩
  iapply (cwait_step ab K c _ Q (eA r) 0 (outSlot c (eA r)) (rem r.succ) h0) $$ [Hf0 HO]
  · isplitr; · iexact HE
    isplitl [Hf0] <;> iassumption
  iintro ⟨HFA0, HS0, HC0, HO⟩
  iapply (half_step ab c _ Q qL (eB r) 0) $$ [HrowB HS0 HB0 HC0]
  · isplitl [HrowB]; · iexact HrowB
    isplitl [HS0]; · iexact HS0
    isplitl [HB0] <;> iassumption
  iintro ⟨HrowB, Hf0⟩
  iapply (cwait_step ab K c _ Q (eA r) 1 (outSlot c (eA r)) (rem r.succ) h0) $$ [Hf1 HO]
  · isplitr; · iexact HE
    isplitl [Hf1] <;> iassumption
  iintro ⟨HFA1, HS1, HC1, HO⟩
  iapply (half_step ab c _ Q qL (eB r) 1) $$ [HrowB HS1 HB1 HC1]
  · isplitl [HrowB]; · iexact HrowB
    isplitl [HS1]; · iexact HS1
    isplitl [HB1] <;> iassumption
  iintro ⟨HrowB, Hf1⟩
  iapply Hk
  isplitl [Hmf Hmb]; · isplitl [Hmf] <;> iassumption
  isplitr [HO Hf0 Hf1 Hxf Hxb HxgA]
  · unfold Done OF2
    isplitl [HFf]; · iexact HFf
    isplitl [HFb]; · iexact HFb
    isplitl [HFgA]; · iexact HFgA
    isplitl [HFgB]; · iexact HFgB
    isplitl [HSf]; · unfold payS; iexact HSf
    isplitl [HSb]; · unfold payS; iexact HSb
    isplitl [HrowA]; · iexact HrowA
    isplitl [HothA]; · iexact HothA
    isplitl [HrA]; · iexact HrA
    isplitl [HrowB]; · iexact HrowB
    isplitl [HothB]; · iexact HothB
    isplitl [HrB]; · iexact HrB
    isplitl [HF00 HF01]; · isplitl [HF00] <;> iassumption
    isplitl [HFA0] <;> iassumption
  isplitl [HO]; · iexact HO
  isplitl [Hf0 Hf1]; · isplitl [Hf0] <;> iassumption
  isplitl [Hxf]; · iexact Hxf
  isplitl [Hxb] <;> iassumption

end Cert.KernelIdeal.Hand
end
-- ==== Proof.Ends.lean ====
module

public import proofs.«01_k».proof.Proof.Exchange

@[expose] public section

noncomputable section

namespace Cert.KernelIdeal.Hand

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # The whole exchange: its first steps, three rounds, its last steps -/

variable (ab : Blocks F) (c : Dev nD) (K : GSem nD τ sig → ℕ)

theorem A_cols (s : Fin 8) {a b d : ℕ} (h1 : a ≤ b) (h2 : b ≤ d) : A F c (blk s a d) ⊢ iprop(A F c (blk s a b) ∗ A F c (blk s b d)) := by
  unfold A
  iintro ⟨%f, H⟩
  ihave H := (show (gl c ↦[blk s a d]{fullShare} f : sProp 𝕄) ⊢ iprop((gl c ↦[blk s a b]{fullShare} f) ∗ (gl c ↦[blk s b d]{fullShare} f)) by
    rw [blk_union s h1 h2]; exact (pointsTo_union (blk_disjoint s le_rfl)).1) $$ H
  icases H with ⟨H1, H2⟩
  isplitl [H1]
  · iexists f; iexact H1
  · iexists f; iexact H2

/-- The slot across, cut for whoever sends into it last. -/
theorem anti_split : A F c (row (pos c + 4)) ⊢ iprop(extra F c (.f 0) ∗ extra F c (.b 0) ∗ extra F c (.g 0)) := by
  unfold extra; dsimp only
  rw [if_pos rfl, if_pos rfl, if_pos rfl]
  unfold row
  rcases cols_cases c with ⟨h1, -, h2⟩ | ⟨h1, -, h2⟩ <;> rw [h1, h2]
  · iintro H
    ihave H := (A_cols c (pos c + 4) (a := 0) (b := 1408) (d := 4096) (by omega) (by omega)) $$ H
    icases H with ⟨H1, H⟩
    ihave H := (A_cols c (pos c + 4) (a := 1408) (b := 2816) (d := 4096) (by omega) (by omega)) $$ H
    icases H with ⟨H2, H3⟩
    isplitl [H2]; · iexact H2
    isplitl [H1]; · iexact H1
    iexact H3
  · iintro H
    ihave H := (A_cols c (pos c + 4) (a := 0) (b := 1280) (d := 4096) (by omega) (by omega)) $$ H
    icases H with ⟨H3, H⟩
    ihave H := (A_cols c (pos c + 4) (a := 1280) (b := 2688) (d := 4096) (by omega) (by omega)) $$ H
    icases H with ⟨H1, H2⟩
    isplitl [H2]; · iexact H2
    isplitl [H1]; · iexact H1
    iexact H3

theorem slot_f3 : ∀ c : Dev nD, (Rc.f 3).slot c = pos (rt c) + 4 := by decide
theorem slot_b3 : ∀ c : Dev nD, (Rc.b 3).slot c = pos (lf c) + 4 := by decide
theorem slot_g6 : ∀ c : Dev nD, (Rc.g 6).slot c = pos (yn c) + 4 := by decide

theorem extra_dst_f (c : Dev nD) : extra F (rt c) (.b 0) = dst F (.f 3) c := by
  unfold extra dst Rc.reg; dsimp only; rw [if_pos rfl, slot_f3, ro_rt]; rfl
theorem extra_dst_b (c : Dev nD) : extra F (lf c) (.f 0) = dst F (.b 3) c := by
  unfold extra dst Rc.reg; dsimp only; rw [if_pos rfl, slot_b3, ro_lf]; rfl
theorem extra_dst_g (c : Dev nD) : extra F (yn c) (.g 0) = dst F (.g 6) c := by
  unfold extra dst Rc.reg; dsimp only; rw [if_pos rfl, slot_g6, yn_yn]; rfl
theorem extra_g6 (d : Dev nD) : extra F d (.g 6) = iprop(emp) := by unfold extra; exact if_neg (by decide)

theorem reg_f0 (c : Dev nD) : (Rc.f 0).reg c = ring c (pos c) := by
  unfold Rc.reg; rw [show (Rc.f 0).slot c = pos c from by revert c; decide]; rfl
theorem reg_b0 (c : Dev nD) : (Rc.b 0).reg c = ring c (pos c) := by
  unfold Rc.reg; rw [show (Rc.b 0).slot c = pos c from by revert c; decide]; rfl
theorem reg_f3' (c : Dev nD) : (Rc.f 3).reg (lf c) = blk (pos c + 4) (ro c) (ro c + 1408) := by
  unfold Rc.reg; rw [slot_f3, rt_lf]; show blk _ (ro (lf c)) (ro (lf c) + 1408) = _; rw [ro_lf]
theorem reg_b3' (c : Dev nD) : (Rc.b 3).reg (rt c) = blk (pos c + 4) (ro c + 1408) (ro c + 2816) := by
  unfold Rc.reg; rw [slot_b3, lf_rt]; show blk _ (ro (rt c) + 1408) (ro (rt c) + 1408 + 1408) = _; rw [ro_rt]
theorem reg_g6 (c : Dev nD) : (Rc.g 6).reg c = gp c (pos c + 4) := by
  unfold Rc.reg; rw [slot_g6, pos_yn]; rfl
theorem reg_g6' (c : Dev nD) : (Rc.g 6).reg (yn c) = oth c (pos c + 4) := by
  unfold Rc.reg; rw [slot_g6, yn_yn]; rfl

/-- The own slot, cut for the first copies around and for the way out. -/
theorem own_split : G ab c fullShare (row (pos c)) ⊢ iprop(G ab c qL (row (pos c)) ∗ G ab c (Rc.f 0).qs ((Rc.f 0).reg c)
    ∗ G ab c (Rc.b 0).qs ((Rc.b 0).reg c) ∗ G ab c qR (oth c (pos c))) := by
  rw [reg_f0, reg_b0, show (Rc.f 0).qs = qR.left from rfl, show (Rc.b 0).qs = qR.right from rfl]
  iintro H
  ihave H := (G_share ab c fullShare _).1 $$ H
  icases H with ⟨HL, HR⟩
  ihave HR := (row_split ab c qR _).1 $$ HR
  icases HR with ⟨HR, Ho⟩
  ihave HR := (G_share ab c qR _).1 $$ HR
  icases HR with ⟨H1, H2⟩
  isplitl [HL]; · iexact HL
  isplitl [H1]; · iexact H1
  isplitl [H2] <;> iassumption
theorem own_join : iprop(G ab c qL (row (pos c)) ∗ G ab c (Rc.f 0).qs ((Rc.f 0).reg c)
    ∗ G ab c (Rc.b 0).qs ((Rc.b 0).reg c) ∗ G ab c qR (oth c (pos c))) ⊢ G ab c fullShare (row (pos c)) := by
  rw [reg_f0, reg_b0, show (Rc.f 0).qs = qR.left from rfl, show (Rc.b 0).qs = qR.right from rfl]
  iintro ⟨HL, H1, H2, Ho⟩
  iapply (G_share ab c fullShare _).2
  isplitl [HL]; · iexact HL
  iapply (row_split ab c qR _).2
  isplitr [Ho]
  · iapply (G_share ab c qR _).2
    isplitl [H1] <;> iassumption
  iexact Ho
/-- A slot with the rest of its ring columns back. -/
theorem slot_join (s : Fin 8) : iprop(G ab c qL (row s) ∗ G ab c qR (oth c s) ∗ G ab c qR (ring c s)) ⊢ G ab c fullShare (row s) := by
  iintro ⟨HL, Ho, HR⟩
  iapply (G_share ab c fullShare _).2
  isplitl [HL]; · iexact HL
  iapply (row_split ab c qR _).2
  isplitl [HR] <;> iassumption
theorem slotA_join (r : Fin 3) : iprop(G ab c qL (row (sA c r)) ∗ G ab c qR (oth c (sA c r)) ∗ G ab c qR (restA c r)
    ∗ G ab c (Rc.f r.succ).qs ((Rc.f r.succ).reg c)) ⊢ G ab c fullShare (row (sA c r)) := by
  rw [reg_f, qs_f]; unfold restA
  iintro ⟨HL, Ho, Hr, Hf⟩
  iapply (slot_join ab c _)
  isplitl [HL]; · iexact HL
  isplitl [Ho]; · iexact Ho
  have hw := wd_f_le r
  iapply (G_cols ab c qR (sA c r) (a := ro c) (b := ro c + (Rc.f r.succ).wd) (d := ro c + 2816) (by omega) (by omega)).2
  isplitl [Hf] <;> iassumption
theorem slotB_join (r : Fin 3) : iprop(G ab c qL (row (sB c r)) ∗ G ab c qR (oth c (sB c r)) ∗ G ab c qR (restB c r)
    ∗ G ab c (Rc.b r.succ).qs ((Rc.b r.succ).reg c)) ⊢ G ab c fullShare (row (sB c r)) := by
  rw [reg_b, qs_b]; unfold restB
  iintro ⟨HL, Ho, Hr, Hf⟩
  iapply (slot_join ab c _)
  isplitl [HL]; · iexact HL
  isplitl [Ho]; · iexact Ho
  have hw := col_b_le c r
  iapply (G_cols ab c qR (sB c r) (a := ro c) (b := (Rc.b r.succ).col c) (d := ro c + 2816) hw.1 hw.2).2
  isplitl [Hr] <;> iassumption

/-! ## The first steps -/

def pre : List St := [.send (.f 0), .send (.b 0), .half 0 0, .half 0 1]

variable (F) in
/-- What the first steps start from, beside the own slot. -/
def PreF : sProp 𝕄 :=
  iprop(Pre F (.inr (.f 0)) c ∗ Pre F (.inr (.b 0)) c ∗ dst F (.f 0) c ∗ dst F (.b 0) c ∗ extra F c (.f 0) ∗ extra F c (.b 0))
variable (F) in
/-- The staging buffer and the semaphores of the copies out. -/
def Stg : sProp 𝕄 := iprop(SA F c 0 ∗ SA F c 1 ∗ Cz F c 0 ∗ Cz F c 1)

theorem pre_step (k : P1 F) (Q : PUnit → sProp (MT nD τ sig Unit (Elt F) ℕ UU ℕ)) :
    iprop(Env ab K c ∗ PreF F c ∗ G ab c fullShare (row (pos c)) ∗ ow F c (.inr (.f 0) :: .inr (.b 0) :: rem 0) ∗ Stg F c ∗ OA2 F c (outSlot c 0))
      ⊢ iprop((iprop(MidR F c 0 ∗ ow F c (rem 0) ∗ Fl2 ab c (outSlot c 0) ∗ G ab c qL (row (pos c)) ∗ G ab c qR (oth c (pos c))) -∗ WP c k Q)
        -∗ WP c (pre.foldr (fun s k => s.run (canon c) k) k) Q) := by
  unfold PreF Stg OA2 MidR Fl2
  iintro ⟨#HE, ⟨Hpf, Hpb, Hdf, Hdb, Hxf, Hxb⟩, Hrow, HO, ⟨HS0, HS1, HC0, HC1⟩, ⟨HA0, HA1⟩⟩ Hk
  ihave Hrow := (own_split ab c) $$ Hrow
  icases Hrow with ⟨Hrow, Hf, Hb, Ho⟩
  unfold pre
  simp only [List.foldr_cons, List.foldr_nil]
  iapply (send_step ab K c _ Q (.f 0) _) $$ [Hpf Hf Hdf Hxf HO]
  · isplitr; · iexact HE
    isplitl [Hpf]; · iexact Hpf
    isplitl [Hf]; · iexact Hf
    isplitl [Hdf]; · iexact Hdf
    isplitl [Hxf] <;> iassumption
  iintro ⟨Hmf, HO⟩
  iapply (send_step ab K c _ Q (.b 0) _) $$ [Hpb Hb Hdb Hxb HO]
  · isplitr; · iexact HE
    isplitl [Hpb]; · iexact Hpb
    isplitl [Hb]; · iexact Hb
    isplitl [Hdb]; · iexact Hdb
    isplitl [Hxb] <;> iassumption
  iintro ⟨Hmb, HO⟩
  iapply (half_step ab c _ Q qL 0 0) $$ [Hrow HS0 HA0 HC0]
  · isplitl [Hrow]; · iexact Hrow
    isplitl [HS0]; · iexact HS0
    isplitl [HA0] <;> iassumption
  iintro ⟨Hrow, Hf0⟩
  iapply (half_step ab c _ Q qL 0 1) $$ [Hrow HS1 HA1 HC1]
  · isplitl [Hrow]; · iexact Hrow
    isplitl [HS1]; · iexact HS1
    isplitl [HA1] <;> iassumption
  iintro ⟨Hrow, Hf1⟩
  iapply Hk
  isplitl [Hmf Hmb]; · isplitl [Hmf] <;> iassumption
  isplitl [HO]; · iexact HO
  isplitl [Hf0 Hf1]; · isplitl [Hf0] <;> iassumption
  isplitl [Hrow]; · iexact Hrow
  iexact Ho

/-! ## The last steps -/

def suf : List St := [.waits (.f 3), .waits (.b 3), .send (.g 6), .waits (.g 6), .cwait 6 0, .half 7 0, .cwait 6 1, .half 7 1, .cwait 7 0, .cwait 7 1]

/-- What the last steps leave. -/
def DoneL : sProp 𝕄 :=
  iprop(Fin' F (.inr (.f 3)) c ∗ Fin' F (.inr (.b 3)) c ∗ Fin' F (.inr (.g 6)) c
    ∗ G ab c (Rc.f 3).qs ((Rc.f 3).reg c) ∗ G ab c (Rc.b 3).qs ((Rc.b 3).reg c) ∗ G ab c fullShare (row (outSlot c 7))
    ∗ OF2 ab c (outSlot c 6) ∗ OF2 ab c (outSlot c 7))

set_option maxHeartbeats 1000000 in
theorem suf_step (k : P1 F) (Q : PUnit → sProp (MT nD τ sig Unit (Elt F) ℕ UU ℕ)) :
    iprop(Env ab K c ∗ MidR F c 3 ∗ Pre F (.inr (.g 6)) c ∗ dst F (.g 6) c ∗ ow F c (rem 3) ∗ Fl2 ab c (outSlot c 6) ∗ OA2 F c (outSlot c 7))
      ⊢ iprop((iprop(DoneL ab c ∗ ow F c [] ∗ Stg F c) -∗ WP c k Q) -∗ WP c (suf.foldr (fun s k => s.run (canon c) k) k) Q) := by
  unfold MidR Fl2 OA2 Stg
  iintro ⟨#HE, ⟨Hmf, Hmb⟩, Hpg, Hdg, HO, ⟨Hf0, Hf1⟩, ⟨HA0, HA1⟩⟩ Hk
  unfold suf
  simp only [List.foldr_cons, List.foldr_nil]
  iapply (waits_step ab K c _ Q (.f 3) (rem 3) (by decide)) $$ [Hmf HO]
  · isplitr; · iexact HE
    isplitl [Hmf] <;> iassumption
  iintro ⟨HFf, HSf, HRf, HO⟩
  iapply (waits_step ab K c _ Q (.b 3) (rem 3) (by decide)) $$ [Hmb HO]
  · isplitr; · iexact HE
    isplitl [Hmb] <;> iassumption
  iintro ⟨HFb, HSb, HRb, HO⟩
  ihave HRf := (show payR ab c (.inr (.f 3)) ⊢ G ab c fullShare (blk (pos c + 4) (ro c) (ro c + 1408)) by
    unfold payR; dsimp only; rw [show (Rc.f 3).frm c = lf c from rfl, reg_f3']; iintro ⟨H, -⟩; iexact H) $$ HRf
  ihave HRb := (show payR ab c (.inr (.b 3)) ⊢ G ab c fullShare (blk (pos c + 4) (ro c + 1408) (ro c + 2816)) by
    unfold payR; dsimp only; rw [show (Rc.b 3).frm c = rt c from rfl, reg_b3']; iintro ⟨H, -⟩; iexact H) $$ HRb
  ihave H := (G_cols ab c fullShare (pos c + 4) (a := ro c) (b := ro c + 1408) (d := ro c + 2816) (by omega) (by omega)).2 $$ [HRf HRb]
  · isplitl [HRf] <;> iassumption
  ihave H := (G_share ab c fullShare _).1 $$ H
  icases H with ⟨HL, HR⟩
  ihave HL := (ring_split ab c qL _).1 $$ HL
  icases HL with ⟨Hg, Hm⟩
  rw [show rem 3 = [.inr (.g 6)] from rfl]
  iapply (send_step ab K c _ Q (.g 6) []) $$ [Hpg Hg Hdg HO]
  · isplitr; · iexact HE
    isplitl [Hpg]; · iexact Hpg
    isplitl [Hg]; · rw [reg_g6]; iexact Hg
    isplitl [Hdg]; · iexact Hdg
    isplitr; · rw [extra_g6]; iempintro
    iexact HO
  iintro ⟨Hmg, HO⟩
  iapply (waits_step ab K c _ Q (.g 6) [] (by decide)) $$ [Hmg HO]
  · isplitr; · iexact HE
    isplitl [Hmg] <;> iassumption
  iintro ⟨HFg, HSg, HRg, HO⟩
  ihave HSg := (show payS ab c (.inr (.g 6)) ⊢ G ab c qL (gp c (pos c + 4)) by unfold payS; dsimp only; rw [reg_g6]; exact .rfl) $$ HSg
  ihave HRg := (show payR ab c (.inr (.g 6)) ⊢ G ab c fullShare (oth c (pos c + 4)) by
    unfold payR; dsimp only; rw [show (Rc.g 6).frm c = yn c from rfl, reg_g6']; iintro ⟨H, -⟩; iexact H) $$ HRg
  ihave H := (joinRow ab c (pos c + 4)) $$ [HSg Hm HRg]
  · isplitl [HSg]; · iexact HSg
    isplitl [Hm] <;> iassumption
  icases H with ⟨Hrow, Hoth⟩
  iapply (cwait_step ab K c _ Q 6 0 (outSlot c 6) [] (by decide)) $$ [Hf0 HO]
  · isplitr; · iexact HE
    isplitl [Hf0] <;> iassumption
  iintro ⟨HF00, HS0, HC0, HO⟩
  iapply (half_step ab c _ Q qL 7 0) $$ [Hrow HS0 HA0 HC0]
  · isplitl [Hrow]; · iexact Hrow
    isplitl [HS0]; · iexact HS0
    isplitl [HA0] <;> iassumption
  iintro ⟨Hrow, Hf0⟩
  iapply (cwait_step ab K c _ Q 6 1 (outSlot c 6) [] (by decide)) $$ [Hf1 HO]
  · isplitr; · iexact HE
    isplitl [Hf1] <;> iassumption
  iintro ⟨HF01, HS1, HC1, HO⟩
  iapply (half_step ab c _ Q qL 7 1) $$ [Hrow HS1 HA1 HC1]
  · isplitl [Hrow]; · iexact Hrow
    isplitl [HS1]; · iexact HS1
    isplitl [HA1] <;> iassumption
  iintro ⟨Hrow, Hf1⟩
  iapply (cwait_step ab K c _ Q 7 0 (outSlot c 7) [] (by decide)) $$ [Hf0 HO]
  · isplitr; · iexact HE
    isplitl [Hf0] <;> iassumption
  iintro ⟨HF10, HS0, HC0, HO⟩
  iapply (cwait_step ab K c _ Q 7 1 (outSlot c 7) [] (by decide)) $$ [Hf1 HO]
  · isplitr; · iexact HE
    isplitl [Hf1] <;> iassumption
  iintro ⟨HF11, HS1, HC1, HO⟩
  iapply Hk
  isplitr [HO HS0 HS1 HC0 HC1]
  · unfold DoneL OF2
    isplitl [HFf]; · iexact HFf
    isplitl [HFb]; · iexact HFb
    isplitl [HFg]; · iexact HFg
    isplitl [HSf]; · unfold payS; iexact HSf
    isplitl [HSb]; · unfold payS; iexact HSb
    isplitl [Hrow Hoth HR]
    · iapply (slot_join ab c (outSlot c 7))
      isplitl [Hrow]; · iexact Hrow
      isplitl [Hoth]; · iexact Hoth
      iexact HR
    isplitl [HF00 HF01]; · isplitl [HF00] <;> iassumption
    isplitl [HF10] <;> iassumption
  isplitl [HO]; · iexact HO
  isplitl [HS0]; · iexact HS0
  isplitl [HS1]; · iexact HS1
  isplitl [HC0] <;> iassumption

end Cert.KernelIdeal.Hand
end
-- ==== Proof.Whole.lean ====
module

public import proofs.«01_k».proof.Proof.Ends

@[expose] public section

noncomputable section

namespace Cert.KernelIdeal.Hand

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # The exchange from its start to its end -/

variable (ab : Blocks F) (c : Dev nD) (K : GSem nD τ sig → ℕ)

/-- A product over the copies of the exchange, written out. -/
theorem bigSep_rc (Φ : Rc → sProp 𝕄) : bigSep (Finset.univ : Finset Rc) Φ
    = iprop(Φ (.f 0) ∗ Φ (.b 0) ∗ Φ (.g 0) ∗ Φ (.g 1) ∗ Φ (.f 1) ∗ Φ (.b 1) ∗ Φ (.g 2) ∗ Φ (.g 3) ∗ Φ (.f 2) ∗ Φ (.b 2) ∗ Φ (.g 4) ∗ Φ (.g 5) ∗ Φ (.f 3) ∗ Φ (.b 3) ∗ Φ (.g 6)) := by
  rw [show (Finset.univ : Finset Rc) = {.f 0, .b 0, .g 0, .g 1, .f 1, .b 1, .g 2, .g 3, .f 2, .b 2, .g 4, .g 5, .f 3, .b 3, .g 6} from by decide]
  iterate 14 rw [bigSep_insert (by decide)]
  rw [bigSep_singleton]
  rfl
/-- A product over eight, written out. -/
theorem bigSep_8 (Φ : Fin 8 → sProp 𝕄) : bigSep (Finset.univ : Finset (Fin 8)) Φ
    = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide]
  iterate 7 rw [bigSep_insert (by decide)]
  rw [bigSep_singleton]
  rfl

theorem outSlot_inj : ∀ (c : Dev nD) (e e' : Fin 8), e ≠ e' → outSlot c e ≠ outSlot c e' := by decide
theorem outSlot_surj : ∀ (c : Dev nD) (s : Fin 8), ∃ e, outSlot c e = s := by decide

theorem gather_slots : (Finset.univ : Finset S8x512x4096.Idx) = Finset.univ.biUnion fun e : Fin 8 => row (outSlot c e) := by
  ext i
  simp only [Finset.mem_univ, Finset.mem_biUnion, true_and, true_iff]
  obtain ⟨e, he⟩ := outSlot_surj c (i 0)
  exact ⟨e, mem_blk.2 ⟨congrArg Fin.val he.symm, Nat.zero_le _, (i 2).isLt⟩⟩

theorem out_slots : (Finset.univ : Finset S4096x4096.Idx) = Finset.univ.biUnion fun e : Fin 8 => (ob (outSlot c e) 0 ∪ ob (outSlot c e) 1) := by
  ext i
  simp only [Finset.mem_univ, Finset.mem_biUnion, true_and, true_iff]
  have h0 : (i 0).val < 4096 := (i 0).isLt
  have h1 : (i 1).val < 4096 := (i 1).isLt
  obtain ⟨e, he⟩ := outSlot_surj c ⟨(i 0).val / 512, by omega⟩
  refine ⟨e, Finset.mem_union.2 ?_⟩
  by_cases h : (i 1).val < 2048
  · exact .inl (mem_ob.2 ⟨congrArg Fin.val he.symm, by show (i 1).val / 2048 = 0; omega⟩)
  · exact .inr (mem_ob.2 ⟨congrArg Fin.val he.symm, by show (i 1).val / 2048 = 1; omega⟩)

theorem ob2_disjoint {s s' : Fin 8} (h : s ≠ s') : Disjoint (ob s 0 ∪ ob s 1) (ob s' 0 ∪ ob s' 1) :=
  Finset.disjoint_left.2 fun i h1 h2 => h (by
    have a : (i 0).val / 512 = s.val := (Finset.mem_union.1 h1).elim (fun x => (mem_ob.1 x).1) (fun x => (mem_ob.1 x).1)
    have b : (i 0).val / 512 = s'.val := (Finset.mem_union.1 h2).elim (fun x => (mem_ob.1 x).1) (fun x => (mem_ob.1 x).1)
    exact Fin.ext (a.symm.trans b))

theorem ob_halves (s : Fin 8) : Disjoint (ob s 0) (ob s 1) :=
  Finset.disjoint_left.2 fun i h1 h2 => by
    have := (mem_ob.1 h1).2.symm.trans (mem_ob.1 h2).2; exact absurd this (by decide)

theorem gather_rows (q : PosShare TreeShare) (f : S8x512x4096.Idx → Elt F .bf16) :
    ((gl c ↦{q} f : sProp 𝕄)) = bigSep (Finset.univ : Finset (Fin 8)) fun e => (gl c ↦[row (outSlot c e)]{q} f) := by
  rw [show (gl c ↦{q} f : sProp 𝕄) = (gl c ↦[Finset.univ.biUnion fun e : Fin 8 => row (outSlot c e)]{q} f) from by
    exact congrArg (fun S => (gl c ↦[S]{q} f : sProp 𝕄)) (gather_slots c)]
  exact pointsTo_biUnion _ _ fun e _ e' _ h => blk_disjoint_slot (outSlot_inj c e e' h) _ _ _ _

theorem out_blocks (f : S4096x4096.Idx → Elt F .f32) :
    ((ol c ↦{fullShare} f : sProp 𝕄)) = bigSep (Finset.univ : Finset (Fin 8)) fun e => iprop((ol c ↦[ob (outSlot c e) 0]{fullShare} f) ∗ (ol c ↦[ob (outSlot c e) 1]{fullShare} f)) := by
  rw [show (ol c ↦{fullShare} f : sProp 𝕄) = (ol c ↦[Finset.univ.biUnion fun e : Fin 8 => (ob (outSlot c e) 0 ∪ ob (outSlot c e) 1)]{fullShare} f) from by
    exact congrArg (fun S => (ol c ↦[S]{fullShare} f : sProp 𝕄)) (out_slots c)]
  rw [pointsTo_biUnion _ _ fun e _ e' _ h => ob2_disjoint (outSlot_inj c e e' h)]
  exact bigSep_congr fun e _ => Entails.antisymm (pointsTo_union (ob_halves _)).1 (pointsTo_union (ob_halves _)).2

/-- The gathered strips from their slots. -/
theorem gather_join : iprop(G ab c fullShare (row (outSlot c 0)) ∗ G ab c fullShare (row (outSlot c 1)) ∗ G ab c fullShare (row (outSlot c 2))
    ∗ G ab c fullShare (row (outSlot c 3)) ∗ G ab c fullShare (row (outSlot c 4)) ∗ G ab c fullShare (row (outSlot c 5))
    ∗ G ab c fullShare (row (outSlot c 6)) ∗ G ab c fullShare (row (outSlot c 7))) ⊢ (gl c ↦{fullShare} gfin ab c : sProp 𝕄) := by
  rw [gather_rows, bigSep_8]; exact .rfl

/-- The result from its blocks. -/
theorem out_join : iprop(OF2 ab c (outSlot c 0) ∗ OF2 ab c (outSlot c 1) ∗ OF2 ab c (outSlot c 2) ∗ OF2 ab c (outSlot c 3)
    ∗ OF2 ab c (outSlot c 4) ∗ OF2 ab c (outSlot c 5) ∗ OF2 ab c (outSlot c 6) ∗ OF2 ab c (outSlot c 7)) ⊢ (ol c ↦{fullShare} ofin ab c : sProp 𝕄) := by
  rw [out_blocks, bigSep_8]; exact .rfl

/-- The result's blocks, before they are written. -/
theorem out_cut (f : S4096x4096.Idx → Elt F .f32) : (ol c ↦{fullShare} f : sProp 𝕄) ⊢ iprop(OA2 F c (outSlot c 0) ∗ OA2 F c (outSlot c 1) ∗ OA2 F c (outSlot c 2) ∗ OA2 F c (outSlot c 3)
    ∗ OA2 F c (outSlot c 4) ∗ OA2 F c (outSlot c 5) ∗ OA2 F c (outSlot c 6) ∗ OA2 F c (outSlot c 7)) := by
  rw [out_blocks, ← bigSep_8 (fun e => OA2 F c (outSlot c e))]
  refine bigSep_mono fun e _ => ?_
  unfold OA2 OA
  show iprop((ol c ↦[ob (outSlot c e) 0]{fullShare} f) ∗ (ol c ↦[ob (outSlot c e) 1]{fullShare} f)) ⊢ (_ : sProp 𝕄)
  iintro ⟨H0, H1⟩
  isplitl [H0]
  · iexists f; iexact H0
  · iexists f; iexact H1

/-! ## The run -/

theorem branch_eq (B : Br) (k : P1 F) : branch B k = pre.foldr (fun s k => s.run B k) ((rnd 0).foldr (fun s k => s.run B k)
    ((rnd 1).foldr (fun s k => s.run B k) ((rnd 2).foldr (fun s k => s.run B k) (suf.foldr (fun s k => s.run B k) k)))) := rfl

variable (F) in
/-- The landing places known since the barrier. -/
def Dsts : sProp 𝕄 :=
  iprop((dst F (.f 0) c ∗ dst F (.f 1) c ∗ dst F (.f 2) c) ∗ (dst F (.b 0) c ∗ dst F (.b 1) c ∗ dst F (.b 2) c)
    ∗ (dst F (.g 0) c ∗ dst F (.g 1) c ∗ dst F (.g 2) c ∗ dst F (.g 3) c ∗ dst F (.g 4) c ∗ dst F (.g 5) c))

set_option maxHeartbeats 2000000 in
/-- The exchange. -/
theorem branch_run (f : S4096x4096.Idx → Elt F .f32) (k : P1 F) (Q : PUnit → sProp (MT nD τ sig Unit (Elt F) ℕ UU ℕ)) :
    iprop(Env ab K c ∗ (bigSep (Finset.univ : Finset Rc) fun i => Pre F (.inr i) c) ∗ Dsts F c ∗ G ab c fullShare (row (pos c)) ∗ A F c (row (pos c + 4))
        ∗ ow F c (.inr (.f 0) :: .inr (.b 0) :: rem 0) ∗ Stg F c ∗ (ol c ↦{fullShare} f))
      ⊢ iprop((iprop((bigSep (Finset.univ : Finset Rc) fun i => Fin' F (.inr i) c) ∗ (gl c ↦{fullShare} gfin ab c) ∗ (ol c ↦{fullShare} ofin ab c)
            ∗ ow F c [] ∗ Stg F c) -∗ WP c k Q)
        -∗ WP c (branch (canon c) k) Q) := by
  rw [bigSep_rc, bigSep_rc, branch_eq]
  unfold Dsts
  iintro ⟨#HE, ⟨Pf0, Pb0, Pg0, Pg1, Pf1, Pb1, Pg2, Pg3, Pf2, Pb2, Pg4, Pg5, Pf3, Pb3, Pg6⟩, ⟨⟨Df0, Df1, Df2⟩, ⟨Db0, Db1, Db2⟩, ⟨Dg0, Dg1, Dg2, Dg3, Dg4, Dg5⟩⟩, Hrow, Hanti, HO, HSt, Hout⟩ Hk
  ihave Hanti := (anti_split c) $$ Hanti
  icases Hanti with ⟨Xf, Xb, Xg⟩
  ihave Hout := (out_cut c f) $$ Hout
  icases Hout with ⟨O0, O1, O2, O3, O4, O5, O6, O7⟩
  iapply (pre_step ab c K _ Q) $$ [Pf0 Pb0 Df0 Db0 Xf Xb Hrow HO HSt O0]
  · isplitr; · iexact HE
    isplitl [Pf0 Pb0 Df0 Db0 Xf Xb]
    · unfold PreF
      isplitl [Pf0]; · iexact Pf0
      isplitl [Pb0]; · iexact Pb0
      isplitl [Df0]; · iexact Df0
      isplitl [Db0]; · iexact Db0
      isplitl [Xf] <;> iassumption
    isplitl [Hrow]; · iexact Hrow
    isplitl [HO]; · iexact HO
    isplitl [HSt] <;> iassumption
  iintro ⟨HM, HO, HF, HrowL, HothR⟩
  iapply (round_step ab c K 0 _ Q) $$ [HM Pg0 Pg1 Pf1 Pb1 Dg0 Dg1 Df1 Db1 Xg HO HF O1 O2]
  · isplitr; · iexact HE
    isplitl [HM]; · iexact HM
    isplitl [Pg0 Pg1 Pf1 Pb1 Dg0 Dg1 Df1 Db1 Xg]
    · unfold PreR
      isplitl [Pg0]; · iexact Pg0
      isplitl [Pg1]; · iexact Pg1
      isplitl [Pf1]; · iexact Pf1
      isplitl [Pb1]; · iexact Pb1
      isplitl [Dg0]; · iexact Dg0
      isplitl [Dg1]; · iexact Dg1
      isplitl [Df1]; · iexact Df1
      isplitl [Db1]; · iexact Db1
      iexact Xg
    isplitl [HO]; · iexact HO
    isplitl [HF]; · iexact HF
    isplitl [O1]; · iexact O1
    iexact O2
  iintro ⟨HM, HD0, HO, HF, Y1, Y2, Y3⟩
  ihave Db3 := (show extra F (lf c) (.f (Fin.castSucc 0)) ⊢ dst F (.b 3) c from Entails.of_eq (extra_dst_b c)) $$ Y1
  ihave Df3 := (show extra F (rt c) (.b (Fin.castSucc 0)) ⊢ dst F (.f 3) c from Entails.of_eq (extra_dst_f c)) $$ Y2
  ihave Dg6 := (show extra F (yn c) (.g (gA 0)) ⊢ dst F (.g 6) c from Entails.of_eq (extra_dst_g c)) $$ Y3
  iapply (round_step ab c K 1 _ Q) $$ [HM Pg2 Pg3 Pf2 Pb2 Dg2 Dg3 Df2 Db2 HO HF O3 O4]
  · isplitr; · iexact HE
    isplitl [HM]; · iexact HM
    isplitl [Pg2 Pg3 Pf2 Pb2 Dg2 Dg3 Df2 Db2]
    · unfold PreR
      isplitl [Pg2]; · iexact Pg2
      isplitl [Pg3]; · iexact Pg3
      isplitl [Pf2]; · iexact Pf2
      isplitl [Pb2]; · iexact Pb2
      isplitl [Dg2]; · iexact Dg2
      isplitl [Dg3]; · iexact Dg3
      isplitl [Df2]; · iexact Df2
      isplitl [Db2]; · iexact Db2
      rw [show extra F c (.g (gA 1)) = iprop(emp) from by unfold extra; exact if_neg (by decide)]; iempintro
    isplitl [HO]; · iexact HO
    isplitl [HF]; · iexact HF
    isplitl [O3]; · iexact O3
    iexact O4
  iintro ⟨HM, HD1, HO, HF, -, -, -⟩
  iapply (round_step ab c K 2 _ Q) $$ [HM Pg4 Pg5 Pf3 Pb3 Dg4 Dg5 Df3 Db3 HO HF O5 O6]
  · isplitr; · iexact HE
    isplitl [HM]; · iexact HM
    isplitl [Pg4 Pg5 Pf3 Pb3 Dg4 Dg5 Df3 Db3]
    · unfold PreR
      isplitl [Pg4]; · iexact Pg4
      isplitl [Pg5]; · iexact Pg5
      isplitl [Pf3]; · iexact Pf3
      isplitl [Pb3]; · iexact Pb3
      isplitl [Dg4]; · iexact Dg4
      isplitl [Dg5]; · iexact Dg5
      isplitl [Df3]; · iexact Df3
      isplitl [Db3]; · iexact Db3
      rw [show extra F c (.g (gA 2)) = iprop(emp) from by unfold extra; exact if_neg (by decide)]; iempintro
    isplitl [HO]; · iexact HO
    isplitl [HF]; · iexact HF
    isplitl [O5]; · iexact O5
    iexact O6
  iintro ⟨HM, HD2, HO, HF, -, -, -⟩
  iapply (suf_step ab c K _ Q) $$ [HM Pg6 Dg6 HO HF O7]
  · isplitr; · iexact HE
    isplitl [HM]; · iexact HM
    isplitl [Pg6]; · iexact Pg6
    isplitl [Dg6]; · iexact Dg6
    isplitl [HO]; · iexact HO
    isplitl [HF]; · iexact HF
    iexact O7
  iintro ⟨HDL, HO, HSt⟩
  iapply Hk
  unfold Done DoneL
  icases HD0 with ⟨Ff0, Fb0, Fg0, Fg1, Sf0, Sb0, RA0, TA0, UA0, RB0, TB0, UB0, W0, W1⟩
  icases HD1 with ⟨Ff1, Fb1, Fg2, Fg3, Sf1, Sb1, RA1, TA1, UA1, RB1, TB1, UB1, W2, W3⟩
  icases HD2 with ⟨Ff2, Fb2, Fg4, Fg5, Sf2, Sb2, RA2, TA2, UA2, RB2, TB2, UB2, W4, W5⟩
  icases HDL with ⟨Ff3, Fb3, Fg6, Sf3, Sb3, R7, W6, W7⟩
  isplitl [Ff0 Fb0 Fg0 Fg1 Ff1 Fb1 Fg2 Fg3 Ff2 Fb2 Fg4 Fg5 Ff3 Fb3 Fg6]
  · isplitl [Ff0]; · iexact Ff0
    isplitl [Fb0]; · iexact Fb0
    isplitl [Fg0]; · iexact Fg0
    isplitl [Fg1]; · iexact Fg1
    isplitl [Ff1]; · iexact Ff1
    isplitl [Fb1]; · iexact Fb1
    isplitl [Fg2]; · iexact Fg2
    isplitl [Fg3]; · iexact Fg3
    isplitl [Ff2]; · iexact Ff2
    isplitl [Fb2]; · iexact Fb2
    isplitl [Fg4]; · iexact Fg4
    isplitl [Fg5]; · iexact Fg5
    isplitl [Ff3]; · iexact Ff3
    isplitl [Fb3]; · iexact Fb3
    iexact Fg6
  isplitl [HrowL HothR Sf0 Sb0 RA0 TA0 UA0 RB0 TB0 UB0 Sf1 Sb1 RA1 TA1 UA1 RB1 TB1 UB1 Sf2 Sb2 RA2 TA2 UA2 RB2 TB2 UB2 Sf3 Sb3 R7]
  · iapply (gather_join ab c)
    isplitl [HrowL HothR Sf0 Sb0]
    · iapply (own_join ab c)
      isplitl [HrowL]; · iexact HrowL
      isplitl [Sf0]; · iexact Sf0
      isplitl [Sb0]; · iexact Sb0
      iexact HothR
    isplitl [RA0 TA0 UA0 Sf1]
    · iapply (slotA_join ab c 0)
      isplitl [RA0]; · iexact RA0
      isplitl [TA0]; · iexact TA0
      isplitl [UA0]; · iexact UA0
      iexact Sf1
    isplitl [RB0 TB0 UB0 Sb1]
    · iapply (slotB_join ab c 0)
      isplitl [RB0]; · iexact RB0
      isplitl [TB0]; · iexact TB0
      isplitl [UB0]; · iexact UB0
      iexact Sb1
    isplitl [RA1 TA1 UA1 Sf2]
    · iapply (slotA_join ab c 1)
      isplitl [RA1]; · iexact RA1
      isplitl [TA1]; · iexact TA1
      isplitl [UA1]; · iexact UA1
      iexact Sf2
    isplitl [RB1 TB1 UB1 Sb2]
    · iapply (slotB_join ab c 1)
      isplitl [RB1]; · iexact RB1
      isplitl [TB1]; · iexact TB1
      isplitl [UB1]; · iexact UB1
      iexact Sb2
    isplitl [RA2 TA2 UA2 Sf3]
    · iapply (slotA_join ab c 2)
      isplitl [RA2]; · iexact RA2
      isplitl [TA2]; · iexact TA2
      isplitl [UA2]; · iexact UA2
      iexact Sf3
    isplitl [RB2 TB2 UB2 Sb3]
    · iapply (slotB_join ab c 2)
      isplitl [RB2]; · iexact RB2
      isplitl [TB2]; · iexact TB2
      isplitl [UB2]; · iexact UB2
      iexact Sb3
    iexact R7
  isplitl [W0 W1 W2 W3 W4 W5 W6 W7]
  · iapply (out_join ab c)
    isplitl [W0]; · iexact W0
    isplitl [W1]; · iexact W1
    isplitl [W2]; · iexact W2
    isplitl [W3]; · iexact W3
    isplitl [W4]; · iexact W4
    isplitl [W5]; · iexact W5
    isplitl [W6]; · iexact W6
    iexact W7
  isplitl [HO] <;> iassumption

end Cert.KernelIdeal.Hand
end
-- ==== Proof.Start.lean ====
module

public import proofs.«01_k».proof.Proof.Whole

@[expose] public section

noncomputable section

namespace Cert.KernelIdeal.Hand

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # The start: the barrier, and the landing places handed over -/

variable (ab : Blocks F) (c : Dev nD) (K : GSem nD τ sig → ℕ)

theorem A_row_split (s : Fin 8) : A F c (row s) ⊢ iprop(A F c (ring c s) ∗ A F c (oth c s)) := by
  unfold row ring oth
  rcases cols_cases c with ⟨h1, -, h2⟩ | ⟨h1, -, h2⟩ <;> rw [h1, h2]
  · exact A_cols c s (a := 0) (b := 2816) (d := 4096) (by omega) (by omega)
  · exact (A_cols c s (a := 0) (b := 1280) (d := 4096) (by omega) (by omega)).trans sep_comm.1

theorem A_halves (s : Fin 8) : A F c (row s) ⊢ iprop(A F c (hf s 0) ∗ A F c (hf s 1)) :=
  A_cols c s (a := 0) (b := 2048) (d := 4096) (by omega) (by omega)

theorem dst_f' (r : Fin 3) : dst F (.f r.castSucc) (lf c) = A F c (ring c (sA c r)) := by
  unfold dst; rw [reg_f']; exact congrArg (fun d => A F d (ring c (sA c r))) (rt_lf c)
theorem dst_b' (r : Fin 3) : dst F (.b r.castSucc) (rt c) = A F c (ring c (sB c r)) := by
  unfold dst; rw [reg_b']; exact congrArg (fun d => A F d (ring c (sB c r))) (lf_rt c)
theorem dst_gA' (r : Fin 3) : dst F (.g (gA r)) (yn c) = A F c (oth c (sA c r)) := by
  unfold dst; rw [reg_gA']; exact congrArg (fun d => A F d (oth c (sA c r))) (yn_yn c)
theorem dst_gB' (r : Fin 3) : dst F (.g (gB r)) (yn c) = A F c (oth c (sB c r)) := by
  unfold dst; rw [reg_gB']; exact congrArg (fun d => A F d (oth c (sB c r))) (yn_yn c)

/-- The two rows the ring fills in round `r`, cut for their senders. -/
theorem rowA_cut (r : Fin 3) : A F c (row (sA c r)) ⊢ iprop(dst F (.f r.castSucc) (lf c) ∗ dst F (.g (gA r)) (yn c)) := by
  rw [dst_f', dst_gA']; exact A_row_split c _
theorem rowB_cut (r : Fin 3) : A F c (row (sB c r)) ⊢ iprop(dst F (.b r.castSucc) (rt c) ∗ dst F (.g (gB r)) (yn c)) := by
  rw [dst_b', dst_gB']; exact A_row_split c _

theorem rows_any (f : S8x512x4096.Idx → Elt F .bf16) : (gl c ↦{fullShare} f : sProp 𝕄) ⊢ iprop(A F c (row (outSlot c 0)) ∗ A F c (row (outSlot c 1))
    ∗ A F c (row (outSlot c 2)) ∗ A F c (row (outSlot c 3)) ∗ A F c (row (outSlot c 4)) ∗ A F c (row (outSlot c 5)) ∗ A F c (row (outSlot c 6))
    ∗ A F c (row (outSlot c 7))) := by
  rw [gather_rows, ← bigSep_8 (fun e => A F c (row (outSlot c e)))]
  refine bigSep_mono fun e _ => ?_
  unfold A
  show (gl c ↦[row (outSlot c e)]{fullShare} f : sProp 𝕄) ⊢ _
  iintro H
  iexists f; iexact H

/-- The whole buffer, cut: the own slot, and what each partner is handed. -/
theorem gather_cut (f : S8x512x4096.Idx → Elt F .bf16) : (gl c ↦{fullShare} f : sProp 𝕄) ⊢ iprop(A F c (row (pos c))
    ∗ (A F c (hf (pos c + 4) 0) ∗ A F c (hf (pos c + 4) 1) ∗ dst F (.g 0) (yn c) ∗ dst F (.g 1) (yn c) ∗ dst F (.g 2) (yn c) ∗ dst F (.g 3) (yn c)
      ∗ dst F (.g 4) (yn c) ∗ dst F (.g 5) (yn c))
    ∗ (dst F (.f 0) (lf c) ∗ dst F (.f 1) (lf c) ∗ dst F (.f 2) (lf c))
    ∗ (dst F (.b 0) (rt c) ∗ dst F (.b 1) (rt c) ∗ dst F (.b 2) (rt c))) := by
  iintro H
  ihave H := (rows_any c f) $$ H
  icases H with ⟨R0, R1, R2, R3, R4, R5, R6, R7⟩
  ihave R1 := (show A F c (row (outSlot c 1)) ⊢ iprop(dst F (.f 0) (lf c) ∗ dst F (.g 0) (yn c)) from rowA_cut c 0) $$ R1
  icases R1 with ⟨F0, G0⟩
  ihave R2 := (show A F c (row (outSlot c 2)) ⊢ iprop(dst F (.b 0) (rt c) ∗ dst F (.g 1) (yn c)) from rowB_cut c 0) $$ R2
  icases R2 with ⟨B0, G1⟩
  ihave R3 := (show A F c (row (outSlot c 3)) ⊢ iprop(dst F (.f 1) (lf c) ∗ dst F (.g 2) (yn c)) from rowA_cut c 1) $$ R3
  icases R3 with ⟨F1, G2⟩
  ihave R4 := (show A F c (row (outSlot c 4)) ⊢ iprop(dst F (.b 1) (rt c) ∗ dst F (.g 3) (yn c)) from rowB_cut c 1) $$ R4
  icases R4 with ⟨B1, G3⟩
  ihave R5 := (show A F c (row (outSlot c 5)) ⊢ iprop(dst F (.f 2) (lf c) ∗ dst F (.g 4) (yn c)) from rowA_cut c 2) $$ R5
  icases R5 with ⟨F2, G4⟩
  ihave R6 := (show A F c (row (outSlot c 6)) ⊢ iprop(dst F (.b 2) (rt c) ∗ dst F (.g 5) (yn c)) from rowB_cut c 2) $$ R6
  icases R6 with ⟨B2, G5⟩
  ihave R7 := (show A F c (row (outSlot c 7)) ⊢ iprop(A F c (hf (pos c + 4) 0) ∗ A F c (hf (pos c + 4) 1)) from A_halves c _) $$ R7
  icases R7 with ⟨H0, H1⟩
  isplitl [R0]; · iapply (show A F c (row (outSlot c 0)) ⊢ A F c (row (pos c)) from .rfl); iexact R0
  isplitl [H0 H1 G0 G1 G2 G3 G4 G5]
  · isplitl [H0]; · iexact H0
    isplitl [H1]; · iexact H1
    isplitl [G0]; · iexact G0
    isplitl [G1]; · iexact G1
    isplitl [G2]; · iexact G2
    isplitl [G3]; · iexact G3
    isplitl [G4]; · iexact G4
    iexact G5
  isplitl [F0 F1 F2]
  · isplitl [F0]; · iexact F0
    isplitl [F1]; · iexact F1
    iexact F2
  isplitl [B0]; · iexact B0
  isplitl [B1]; · iexact B1
  iexact B2

theorem barPay_yn : barPay F (yn c) 0 = iprop(ups F c ∗ A F c (hf (pos c + 4) 0) ∗ A F c (hf (pos c + 4) 1) ∗ dst F (.g 0) (yn c) ∗ dst F (.g 1) (yn c)
    ∗ dst F (.g 2) (yn c) ∗ dst F (.g 3) (yn c) ∗ dst F (.g 4) (yn c) ∗ dst F (.g 5) (yn c)) := by
  unfold barPay; rw [if_pos rfl, yn_yn, pos_yn]
theorem barPay_lf : barPay F (lf c) 2 = iprop(ups F c ∗ dst F (.f 0) (lf c) ∗ dst F (.f 1) (lf c) ∗ dst F (.f 2) (lf c)) := by
  unfold barPay; rw [if_neg (by decide), if_neg (by decide), rt_lf]
theorem barPay_rt : barPay F (rt c) 1 = iprop(ups F c ∗ dst F (.b 0) (rt c) ∗ dst F (.b 1) (rt c) ∗ dst F (.b 2) (rt c)) := by
  unfold barPay; rw [if_neg (by decide), if_pos rfl, lf_rt]

variable (F) in
/-- What a device holds of the barriers before it has passed its own. -/
def BarPre : sProp 𝕄 :=
  iprop((dutyTok ER (bc (yn c)) 0 (0 : Fin 3) ∗ dutyTok ER (bc (lf c)) 0 (2 : Fin 3) ∗ dutyTok ER (bc (rt c)) 0 (1 : Fin 3))
    ∗ (reached ER (bc (yn c)) 0 ∗ reached ER (bc (lf c)) 0 ∗ reached ER (bc (rt c)) 0)
    ∗ atPos ER (bc c) 0 (∅ : Finset (Fin 3)) 0 ∗ cred (tallyAt (bc c) () 3))

variable (F) in
/-- Where the two halves of the own partial strip go. -/
def YDst : sProp 𝕄 := iprop(A F (yn c) (hf (pos c + 4) 0) ∗ A F (yn c) (hf (pos c + 4) 1))

theorem order_lev : ∀ x ∈ order, 1 < x.lev := by decide

/-- The barrier of the first grid point. -/
theorem bar_step (i : grid0.Coords) (hw) (h1 : k0_cond1 i = 1#1) (f : S8x512x4096.Idx → Elt F .bf16) (W) (k : P1 F)
    (Q : PUnit → sProp (MT nD τ sig Unit (Elt F) ℕ UU ℕ)) :
    iprop(records ab K ∗ levAts L lv ∗ upsS F c ∗ ups F c ∗ BarPre F c ∗ (gl c ↦{fullShare} f) ∗ owes (c : Thread nD τ) (O₀ c) W)
      ⊢ iprop((iprop(Env ab K c ∗ atPos ER (bc c) 1 (∅ : Finset (Fin 3)) 0 ∗ Dsts F c ∗ YDst F c ∗ A F c (row (pos c)) ∗ ow F c order) -∗ WP c k Q)
        -∗ WP c (segBar i c (pw c) hw k) Q) := by
  unfold BarPre Env Dsts YDst ow
  iintro ⟨#HR, #Hlev, #HuS, #Hu, ⟨⟨Ty, Tl, Tr⟩, ⟨#Ry, #Rl, #Rr⟩, Hat, Hcr⟩, Hg, HO⟩ Hk
  ihave Hg := (gather_cut c f) $$ Hg
  icases Hg with ⟨Hrow, Py, Pl, Pr⟩
  ihave #HIy := (records_bar ab K (yn c)) $$ HR
  ihave #HIl := (records_bar ab K (lf c)) $$ HR
  ihave #HIr := (records_bar ab K (rt c)) $$ HR
  ihave #HIc := (records_bar ab K c) $$ HR
  unfold segBar
  rw [dif_pos h1]
  have e1 : (⟨k0_dev1 c, k0_dev1_lt i c h1⟩ : Dev nD) = yn c := Fin.ext (dev1_eq c)
  have e2 : (⟨k0_dev2 c (pw c), k0_dev2_lt i c (pw c) hw h1⟩ : Dev nD) = lf c := Fin.ext (dev2_eq c)
  have e3 : (⟨k0_dev3 c (pw c), k0_dev3_lt i c (pw c) hw h1⟩ : Dev nD) = rt c := Fin.ext (dev3_eq c)
  rw [e1, e2, e3]
  simp only [semSignalWord, semWaitWord, Prog.lift, Prog.bind_op, Prog.bind_ret, Prog.pure_eq_ret, Prog.bind_assoc]
  iapply (Rounds.wp_signal 𝒱₀ ER (Rd ab) (c : Thread nD τ) none (dst := (yn c : Thread nD τ)) (sem := barS) (r := 0) (d := (0 : Fin 3)) (κ := K (bc (yn c)))
      (by rw [duties_bar]; exact Finset.mem_univ _) (amount_bar ab (yn c) 0) ()
      ((tl c order + tallyAt (bc (rt c)) () 1) + tallyAt (bc (lf c)) () 1) rfl) $$ [HO Ty Py]
  · isplitr; · iexact HIy
    isplitl [HO]; · iexact HO
    isplitl [Ty]; · iexact Ty
    isplitl [Py]
    · rw [payload_bar, barPay_yn]
      isplitr; · iexact Hu
      iexact Py
    iexact Ry
  iintro HO
  iapply (Rounds.wp_signal 𝒱₀ ER (Rd ab) (c : Thread nD τ) none (dst := (lf c : Thread nD τ)) (sem := barS) (r := 0) (d := (2 : Fin 3)) (κ := K (bc (lf c)))
      (by rw [duties_bar]; exact Finset.mem_univ _) (amount_bar ab (lf c) 2) ()
      (tl c order + tallyAt (bc (rt c)) () 1) rfl) $$ [HO Tl Pl]
  · isplitr; · iexact HIl
    isplitl [HO]; · iexact HO
    isplitl [Tl]; · iexact Tl
    isplitl [Pl]
    · rw [payload_bar, barPay_lf]
      isplitr; · iexact Hu
      iexact Pl
    iexact Rl
  iintro HO
  iapply (Rounds.wp_signal 𝒱₀ ER (Rd ab) (c : Thread nD τ) none (dst := (rt c : Thread nD τ)) (sem := barS) (r := 0) (d := (1 : Fin 3)) (κ := K (bc (rt c)))
      (by rw [duties_bar]; exact Finset.mem_univ _) (amount_bar ab (rt c) 1) ()
      (tl c order) rfl) $$ [HO Tr Pr]
  · isplitr; · iexact HIr
    isplitl [HO]; · iexact HO
    isplitl [Tr]; · iexact Tr
    isplitl [Pr]
    · rw [payload_bar, barPay_rt]
      isplitr; · iexact Hu
      iexact Pr
    iexact Rr
  iintro HO
  iapply (Rounds.wp_wait_rest_token 𝒱₀ ER (Rd ab) (c : Thread nD τ) none (κ := K (bc c))
      (wpE_semWait_eq 𝒱₀ (c : Thread nD τ) none Set.univ) (Set.mem_univ _) () (O := tl c order) (W := W) (R := 0) (m := 0) (T := ∅)
      ((Nat.zero_add 3).trans (expect_bar ab c).symm)) $$ [Hcr HO Hat]
  · isplitr; · iexact HIc
    isplitl [Hcr]; · iexact Hcr
    isplitl [HO]; · iexact HO
    isplitr
    · iapply (mayWait_tl c (.reg barS) order order_lev); iexact Hlev
    iexact Hat
  iintro ⟨HO, Hat, -, Hpay⟩
  ihave Hp := (Entails.of_eq (rest_bar ab c)) $$ Hpay
  unfold barPay
  rw [if_pos rfl, if_neg (show ¬((1 : Fin 3) = 0) by decide), if_pos rfl, if_neg (show ¬((2 : Fin 3) = 0) by decide), if_neg (show ¬((2 : Fin 3) = 1) by decide)]
  icases Hp with ⟨⟨#Uy, Y0, Y1, G0, G1, G2, G3, G4, G5⟩, ⟨#Ul, B⟩, ⟨#Ur, Fd⟩⟩
  iapply Hk
  isplitr
  · isplitr; · iexact HR
    isplitr; · iexact Hlev
    isplitr; · iexact HuS
    isplitr; · iexact Uy
    isplitr; · iexact Ul
    iexact Ur
  isplitl [Hat]; · iexact Hat
  isplitl [Fd B G0 G1 G2 G3 G4 G5]
  · isplitl [Fd]; · iexact Fd
    isplitl [B]; · iexact B
    isplitl [G0]; · iexact G0
    isplitl [G1]; · iexact G1
    isplitl [G2]; · iexact G2
    isplitl [G3]; · iexact G3
    isplitl [G4] <;> iassumption
  isplitl [Y0 Y1]; · isplitl [Y0] <;> iassumption
  isplitl [Hrow]; · iexact Hrow
  iexists _; iexact HO

end Cert.KernelIdeal.Hand
end
-- ==== Proof.Point.lean ====
module

public import proofs.«01_k».proof.Proof.Start

@[expose] public section

noncomputable section

namespace Cert.KernelIdeal.Hand

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # The other parts of a grid point -/

variable (ab : Blocks F) (c : Dev nD) (K : GSem nD τ sig → ℕ)

abbrev al : Loc nD τ sig := (c : Thread nD τ).loc cc0_scratch0

theorem zero_iff : ∀ t : Fin 32, (Scalar.cmpi .ne (Scalar.extui (Scalar.cmpi .eq (BitVec.ofNat 32 ((grid0.coords t) 1).val) 0#32) : BitVec 32) 0#32 = 1#1) ↔ t.val % 16 = 0 := by
  decide

/-- A whole-shape access of a memref reads what the memref reads. -/
theorem read_access_zero {sp : Space} {a b : ℕ} {e : EltTy} (m : Memref sig .tc sp ⟨2, ![a, b]⟩ e) (h) (f : m.view.ty.Contents (Elt F)) :
    (m.access (Rect.unit (s := ⟨2, ![a, b]⟩) ![0, 0] (⟨2, ![a, b]⟩ : Shape).size h)).read (Elt F) f = m.view.read (Elt F) f := by
  funext x
  rw [View.read_apply, View.read_apply]
  have e1 : (m.access (Rect.unit (s := ⟨2, ![a, b]⟩) ![0, 0] (⟨2, ![a, b]⟩ : Shape).size h)).emb x = m.view.emb x := by
    refine congrArg m.view.emb (funext fun i => Fin.ext ?_)
    match i with
    | ⟨0, _⟩ => show 0 + 1 * (x 0).val = (x 0).val; omega
    | ⟨1, _⟩ => show 0 + 1 * (x 1).val = (x 1).val; omega
  rw [← e1]

/-- A whole-shape load of an owned memref. -/
theorem load_owned {a b : ℕ} {e : EltTy} {cs : CoreSpace} (m : Memref sig .tc cs ⟨2, ![a, b]⟩ e) (h) (hl) (q : PosShare TreeShare) (X : (⟨2, ![a, b]⟩ : Shape).Idx → Elt F e)
    (k : ((⟨2, ![a, b]⟩ : Shape).Idx → Elt F e) → P1 F) (Q : PUnit → sProp (MT nD τ sig Unit (Elt F) ℕ UU ℕ)) :
    owns (c : Thread nD τ) m q X ⊢ iprop((owns (c : Thread nD τ) m q X -∗ WP c (k X) Q)
      -∗ WP c (.op (.load m (Rect.unit (s := ⟨2, ![a, b]⟩) ![0, 0] (⟨2, ![a, b]⟩ : Shape).size h).toLoadRect hl) k) Q) := by
  unfold owns
  iintro ⟨%f, %hf, H⟩ Hk
  iapply (wp_load_rect 𝒱₀ (c : Thread nD τ) none Set.univ (m := m) (r := Rect.unit (s := ⟨2, ![a, b]⟩) ![0, 0] (⟨2, ![a, b]⟩ : Shape).size h)
    (S := m.view.set) (q := q) (f := f) (View.set_slice_subset _ _)) $$ H
  iintro H
  rw [read_access_zero m h f, hf]
  iapply Hk
  iexists f
  isplitr; · ipureintro; exact hf
  iexact H

/-- The accumulator before grid point `t`: unused where a block of columns begins. -/
def Acc (t : ℕ) : sProp 𝕄 := iprop(∃ f : S512x2048.Idx → Elt F .f32, ⌜t % 16 ≠ 0 → f = accv ab c t⌝ ∗ (al c ↦{fullShare} f))

theorem zz2 : (![0, 0] : Fin 2 → ℕ) = fun _ => 0 := by decide

theorem mac_run (t : ℕ) (x) (arg3 : Memref sig .tc .vmem S512x512 .bf16) (arg4 : Memref sig .tc .vmem S2048x512 .bf16) (k : P1 F)
    (Q : PUnit → sProp (MT nD τ sig Unit (Elt F) ℕ UU ℕ)) :
    iprop(owns (c : Thread nD τ) arg3 fullShare (ab c t).1 ∗ owns (c : Thread nD τ) arg4 fullShare (ab c t).2 ∗ (al c ↦{fullShare} x))
      ⊢ iprop((iprop(owns (c : Thread nD τ) arg3 fullShare (ab c t).1 ∗ owns (c : Thread nD τ) arg4 fullShare (ab c t).2
          ∗ (al c ↦{fullShare} k0_pay43 (ab c t).1 (ab c t).2 x)) -∗ WP c k Q) -∗ WP c (segMac arg3 arg4 k) Q) := by
  iintro ⟨H3, H4, Ha⟩ Hk
  unfold segMac
  simp only [Prog.lift, Prog.bind_op, Prog.bind_ret, Prog.pure_eq_ret, Prog.bind_assoc]
  iapply (load_owned c arg3 _ _ fullShare (ab c t).1 _ Q) $$ H3
  iintro H3
  iapply (load_owned c arg4 _ _ fullShare (ab c t).2 _ Q) $$ H4
  iintro H4
  iapply (wp_load_rect 𝒱₀ (c : Thread nD τ) none Set.univ (m := am) (r := Rect.unit (s := S512x2048) ![0, 0] S512x2048.size inb_S512x2048_S512x2048_0_0)
    (S := Finset.univ) (q := fullShare) (f := x) (Finset.subset_univ _)) $$ Ha
  iintro Ha
  iapply (wp_load_rect 𝒱₀ (c : Thread nD τ) none Set.univ (m := am) (r := Rect.unit (s := S512x2048) ![0, 0] S512x2048.size inb_S512x2048_S512x2048_0_0)
    (S := Finset.univ) (q := fullShare) (f := x) (Finset.subset_univ _)) $$ Ha
  iintro Ha
  iapply (wp_store 𝒱₀ (c : Thread nD τ) none Set.univ (m := am) (r := Rect.unit (s := S512x2048) ![0, 0] S512x2048.size inb_S512x2048_S512x2048_0_0)
    (S := Finset.univ) (f := x) (Finset.subset_univ _)) $$ Ha
  iintro Ha
  rw [show (am.access (Rect.unit (s := S512x2048) ![0, 0] S512x2048.size inb_S512x2048_S512x2048_0_0)).read (Elt F) x = x from
    Memref.read_access_unit_zero (Elt F) cc0_scratch0 zz2 _ x]
  rw [show ∀ y, (am.access (Rect.unit (s := S512x2048) ![0, 0] S512x2048.size inb_S512x2048_S512x2048_0_0)).write (Elt F) x y Finset.univ = y from
    fun y => Memref.write_access_unit_zero_univ (Elt F) cc0_scratch0 zz2 _ x y]
  iapply Hk
  isplitl [H3]; · iexact H3
  isplitl [H4] <;> iassumption

/-- One block product into the accumulator. -/
theorem mac_step (t : Fin 32) (arg3 : Memref sig .tc .vmem S512x512 .bf16) (arg4 : Memref sig .tc .vmem S2048x512 .bf16) (k : P1 F)
    (Q : PUnit → sProp (MT nD τ sig Unit (Elt F) ℕ UU ℕ)) :
    iprop(owns (c : Thread nD τ) arg3 fullShare (ab c t).1 ∗ owns (c : Thread nD τ) arg4 fullShare (ab c t).2 ∗ Acc ab c t)
      ⊢ iprop((iprop(owns (c : Thread nD τ) arg3 fullShare (ab c t).1 ∗ owns (c : Thread nD τ) arg4 fullShare (ab c t).2
          ∗ (al c ↦{fullShare} accv ab c (t.val + 1))) -∗ WP c k Q) -∗ WP c (segZero (grid0.coords t) (segMac arg3 arg4 k)) Q) := by
  unfold Acc
  iintro ⟨H3, H4, ⟨%x, %hx, Ha⟩⟩ Hk
  rw [accv_succ]
  unfold segZero
  by_cases h : t.val % 16 = 0
  · rw [dif_pos ((zero_iff t).2 h), if_pos h]
    simp only [Prog.lift, Prog.bind_op, Prog.bind_ret, Prog.pure_eq_ret, Prog.bind_assoc]
    iapply (wp_load_rect 𝒱₀ (c : Thread nD τ) none Set.univ (m := am) (r := Rect.unit (s := S512x2048) ![0, 0] S512x2048.size inb_S512x2048_S512x2048_0_0)
      (S := Finset.univ) (q := fullShare) (f := x) (Finset.subset_univ _)) $$ Ha
    iintro Ha
    iapply (wp_store 𝒱₀ (c : Thread nD τ) none Set.univ (m := am) (r := Rect.unit (s := S512x2048) ![0, 0] S512x2048.size inb_S512x2048_S512x2048_0_0)
      (S := Finset.univ) (f := x) (Finset.subset_univ _)) $$ Ha
    iintro Ha
    rw [show (am.access (Rect.unit (s := S512x2048) ![0, 0] S512x2048.size inb_S512x2048_S512x2048_0_0)).write (Elt F) x k0_pay42 Finset.univ = k0_pay42 from
      Memref.write_access_unit_zero_univ (Elt F) cc0_scratch0 zz2 _ x _]
    iapply (mac_run ab c t k0_pay42 arg3 arg4 k Q) $$ [H3 H4 Ha]
    · isplitl [H3]; · iexact H3
      isplitl [H4] <;> iassumption
    iexact Hk
  · rw [dif_neg (fun e => h ((zero_iff t).1 e)), if_neg h]
    obtain rfl := hx h
    iapply (mac_run ab c t (accv ab c t.val) arg3 arg4 k Q) $$ [H3 H4 Ha]
    · isplitl [H3]; · iexact H3
      isplitl [H4] <;> iassumption
    iexact Hk

end Cert.KernelIdeal.Hand
end
-- ==== Proof.Halves.lean ====
module

public import proofs.«01_k».proof.Proof.Point

@[expose] public section

noncomputable section

namespace Cert.KernelIdeal.Hand

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # The exchange of the partial strips -/

variable (ab : Blocks F) (c : Dev nD) (K : GSem nD τ sig → ℕ)

theorem hf_access (s : Fin 8) (h : Fin 2) (hi) :
    (gm.access (Rect.unit (s := S8x512x4096) ![s.val, 0, 2048 * h.val] S1x512x2048.size hi)).set = hf s h := access_set 2048 s (2048 * h.val) hi

/-- Half `h` of the partial strip is put into the own slot, and its copy to the other side is started. -/
theorem y_step (h : Fin 2) (l : List Ch) (pay : Vec F S512x2048 .f32 → FVec F S1x512x2048 .bf16) (hp : pay (accv ab c (16 * h.val + 16)) = halfv ab c h)
    (oA oD oS : Fin 3 → ℕ) (eA : oA = ![(pos c).val, 0, 2048 * h.val]) (eD : oD = ![(pos c + 4).val, 0, 2048 * h.val]) (eS : oS = ![(pos c).val, 0, 2048 * h.val])
    (hA hD hS kA wD wS) (tgt : Dev nD) (et : tgt = yn c) (k : P1 F) (Q : PUnit → sProp (MT nD τ sig Unit (Elt F) ℕ UU ℕ)) :
    iprop(Env ab K c ∗ Pre F (.inl h) c ∗ A F c (hf (pos c) h) ∗ A F (yn c) (hf (pos c + 4) h) ∗ (al c ↦{fullShare} accv ab c (16 * h.val + 16))
        ∗ ow F c (.inl h :: l))
      ⊢ iprop((iprop(Mid F (.inl h) c ∗ (al c ↦{fullShare} accv ab c (16 * h.val + 16)) ∗ ow F c l) -∗ WP c k Q)
        -∗ WP c (segY h pay oA oD oS hA hD hS kA wD wS tgt k) Q) := by
  subst eA eD eS et
  unfold Pre A ow Mid
  iintro ⟨#HE, ⟨HtS, HtR, HaS, HaR, HcR⟩, ⟨%f, Hg⟩, ⟨%fd, Hd⟩, Ha, ⟨%W, HO⟩⟩ Hk
  ihave #HrR := (Env_up ab K (.inl h) c) $$ HE
  unfold Env
  icases HE with ⟨#HR, -, #HuS, -⟩
  ihave #HiS := (records_snd ab K (.inl h) c) $$ HR
  ihave #HiR := (records_rcv ab K (.inl h) (yn c)) $$ HR
  ihave #HrS := (upsS_at (.inl h) c) $$ HuS
  unfold segY
  simp only [Prog.lift, Prog.bind_op, Prog.bind_ret, Prog.pure_eq_ret, Prog.bind_assoc]
  iapply (wp_load_rect 𝒱₀ (c : Thread nD τ) none Set.univ (m := am) (r := Rect.unit (s := S512x2048) ![0, 0] S512x2048.size inb_S512x2048_S512x2048_0_0)
    (S := Finset.univ) (q := fullShare) (f := accv ab c (16 * h.val + 16)) (Finset.subset_univ _)) $$ Ha
  iintro Ha
  iapply (wp_load_rect 𝒱₀ (c : Thread nD τ) none Set.univ (m := gm) (r := Rect.unit (s := S8x512x4096) ![(pos c).val, 0, 2048 * h.val] S1x512x2048.size hA)
    (S := hf (pos c) h) (q := fullShare) (f := f) (Finset.Subset.antisymm_iff.1 (hf_access (pos c) h hA)).1) $$ Hg
  iintro Hg
  iapply (wp_store 𝒱₀ (c : Thread nD τ) none Set.univ (m := gm) (r := Rect.unit (s := S8x512x4096) ![(pos c).val, 0, 2048 * h.val] S1x512x2048.size hA)
    (S := hf (pos c) h) (f := f) (by rw [View.setOn_univ]; exact (Finset.Subset.antisymm_iff.1 (hf_access (pos c) h hA)).1)) $$ Hg
  iintro Hg
  rw [show (am.access (Rect.unit (s := S512x2048) ![0, 0] S512x2048.size inb_S512x2048_S512x2048_0_0)).read (Elt F) (accv ab c (16 * h.val + 16)) = accv ab c (16 * h.val + 16) from
    Memref.read_access_unit_zero (Elt F) cc0_scratch0 zz2 _ _, hp]
  ihave Hg := (show ((gm.access (Rect.unit (s := S8x512x4096) ![(pos c).val, 0, 2048 * h.val] S1x512x2048.size hA)).loc (c : Thread nD τ) ↦[hf (pos c) h]{fullShare}
      ((gm.access (Rect.unit (s := S8x512x4096) ![(pos c).val, 0, 2048 * h.val] S1x512x2048.size hA)).write (Elt F) f (halfv ab c h) Finset.univ) : sProp 𝕄)
      ⊢ ((piece 2048 ![(pos c).val, 0, 2048 * h.val] hS).view.loc (c : Thread nD τ) ↦[(piece 2048 ![(pos c).val, 0, 2048 * h.val] hS).view.set]{fullShare} ypart ab c) from
    Entails.of_eq ((pointsTo_congr (write_half ab f c (pos c) h hA)).trans (src_eq c fullShare (pos c) (2048 * h.val) 2048 hS (ypart ab c)).symm)) $$ Hg
  iapply (Rounds.wp_send_pointsTo 𝒱₀ ER (Rd ab) (c : Thread nD τ) none (c' := (yn c : Thread nD τ))
      (src := piece 2048 ![(pos c).val, 0, 2048 * h.val] hS) (dst := piece 2048 ![(pos c + 4).val, 0, 2048 * h.val] hD)
      (sS := .dma (yS h)) (sem := .dma (yR h)) (q := fullShare) (fs := ypart ab c) (fd := fd)
      (κ₁ := K (sc (.inl h) c)) (κ₂ := K (rc (.inl h) (yn c)))
      (r₁ := 0) (r₂ := 0) (d₁ := (0 : Fin 3)) (d₂ := (0 : Fin 3))
      (by rw [show (((c : Thread nD τ), SemLoc.dma (yS h)) : GSem nD τ sig) = sc (.inl h) c from rfl, duties_snd]; exact Finset.mem_singleton_self _)
      (by rw [show (((yn c : Thread nD τ), SemLoc.dma (yR h)) : GSem nD τ sig) = rc (.inl h) (yn c) from rfl, duties_rcv]; exact Finset.mem_singleton_self _)
      () () (Ch.amt (.inl h)) rfl (amount_snd ab c (.inl h) 0) (amount_rcv ab (yn c) (.inl h) 0) (tl c l) rfl (W := W)
      (by
        rw [show (Rd ab).payload ((c : Thread nD τ), SemLoc.dma (yS h)) 0 0 = payS ab c (.inl h) from payload_snd ab c (.inl h) 0]
        exact Entails.of_eq (src_eq c fullShare (pos c) (2048 * h.val) 2048 hS (ypart ab c)))
      (by
        rw [show (Rd ab).payload ((yn c : Thread nD τ), SemLoc.dma (yR h)) 0 0 = payR ab (yn c) (.inl h) from payload_rcv ab (yn c) (.inl h) 0]
        unfold payR; dsimp only; rw [yn_yn, pos_yn]; unfold Y
        refine Entails.of_eq ((src_eq (yn c) fullShare (pos c + 4) (2048 * h.val) 2048 hD _).trans (pointsTo_congr fun k hk => ?_))
        exact write_read_slot 2048 (pos c) (pos c + 4) (2048 * h.val) hS hD fd (ypart ab c) (ypart ab c)
          (fun i j _ _ h1 h2 => ypart_slot ab c i j h1 h2) k ((Finset.ext_iff.mp (piece_set 2048 (pos c + 4) (2048 * h.val) hD) k).2 hk))) $$ [Hg Hd HO HtS HtR]
  · isplitr; · iexact HiS
    isplitr; · iexact HiR
    isplitl [Hg]; · iexact Hg
    isplitl [Hd]; · iapply (Entails.of_eq (src_eq (yn c) fullShare (pos c + 4) (2048 * h.val) 2048 hD fd).symm); iexact Hd
    isplitl [HO]; · iexact HO
    isplitl [HtS]; · iexact HtS
    isplitr; · iexact HrS
    isplitl [HtR]; · iexact HtR
    iexact HrR
  iintro ⟨HcS, HO⟩
  iapply Hk
  isplitl [HaS HaR HcS HcR]
  · isplitl [HaS]; · iexact HaS
    isplitl [HcS]; · iexact HcS
    isplitl [HaR] <;> iassumption
  isplitl [Ha]; · iexact Ha
  iexists W; iexact HO

/-! ## The sum -/

theorem Y_join (d : Dev nD) (s : Fin 8) : iprop(Y ab d c (hf s 0) ∗ Y ab d c (hf s 1)) ⊢ (gl c ↦[row s]{fullShare} ypart ab d : sProp 𝕄) := by
  unfold Y row
  rw [blk_union s (a := 0) (b := 2048) (d := 4096) (by omega) (by omega)]
  exact (pointsTo_union (blk_disjoint s le_rfl)).2

theorem row_access (s : Fin 8) (hi) :
    (gm.access (Rect.unit (s := S8x512x4096) ![s.val, 0, 0] S1x512x4096.size hi)).set = row s := access_set 4096 s 0 hi

/-- The copies after the partial strips'. -/
theorem lev_y : ∀ x ∈ order.drop 2, 2 < x.lev := by decide

theorem sum_step (o7 o8 o9 o10 o11 o12 : Fin 3 → ℕ) (e11 : o11 = ![(pos c).val, 0, 0]) (e12 : o12 = ![(pos c + 4).val, 0, 0])
    (h7 h8 h9 h10 h11 h12 w7 w8 w9 w10 kA) (k : P1 F) (Q : PUnit → sProp (MT nD τ sig Unit (Elt F) ℕ UU ℕ)) :
    iprop(Env ab K c ∗ Mid F (.inl 0) c ∗ Mid F (.inl 1) c ∗ ow F c (order.drop 2))
      ⊢ iprop((iprop(Fin' F (.inl 0) c ∗ Fin' F (.inl 1) c ∗ G ab c fullShare (row (pos c)) ∗ A F c (row (pos c + 4)) ∗ ow F c (order.drop 2)) -∗ WP c k Q)
        -∗ WP c (segSum o7 o8 o9 o10 o11 o12 h7 h8 h9 h10 h11 h12 w7 w8 w9 w10 kA k) Q) := by
  subst e11 e12
  unfold Env Mid Fin'
  iintro ⟨⟨#HR, #Hlev, -⟩, ⟨Sa, Sc, Ra, Rc⟩, ⟨Sa', Sc', Ra', Rc'⟩, HO⟩ Hk
  unfold segSum
  simp only [Prog.lift, Prog.bind_op, Prog.bind_ret, Prog.pure_eq_ret, Prog.bind_assoc]
  iapply (wait_snd ab K c _ Q (.inl 0) (order.drop 2) (dstw := piece 2048 o7 h7) rfl (fun x hx => (Nat.zero_lt_two).trans (lev_y x hx))) $$ [Sa Sc HO]
  · isplitr; · iexact HR
    isplitr; · iexact Hlev
    isplitl [Sa]; · iexact Sa
    isplitl [Sc] <;> iassumption
  iintro ⟨Sa, P0, HO⟩
  iapply (wait_rcv ab K c _ Q (.inl 0) (order.drop 2) (dstw := piece 2048 o8 h8) rfl lev_y) $$ [Ra Rc HO]
  · isplitr; · iexact HR
    isplitr; · iexact Hlev
    isplitl [Ra]; · iexact Ra
    isplitl [Rc] <;> iassumption
  iintro ⟨Ra, R0, HO⟩
  iapply (wait_snd ab K c _ Q (.inl 1) (order.drop 2) (dstw := piece 2048 o9 h9) rfl (fun x hx => (Nat.zero_lt_two).trans (lev_y x hx))) $$ [Sa' Sc' HO]
  · isplitr; · iexact HR
    isplitr; · iexact Hlev
    isplitl [Sa']; · iexact Sa'
    isplitl [Sc'] <;> iassumption
  iintro ⟨Sa', P1, HO⟩
  iapply (wait_rcv ab K c _ Q (.inl 1) (order.drop 2) (dstw := piece 2048 o10 h10) rfl lev_y) $$ [Ra' Rc' HO]
  · isplitr; · iexact HR
    isplitr; · iexact Hlev
    isplitl [Ra']; · iexact Ra'
    isplitl [Rc'] <;> iassumption
  iintro ⟨Ra', R1, HO⟩
  unfold payS payR
  dsimp only
  ihave Hg := (Y_join ab c c (pos c)) $$ [P0 P1]
  · isplitl [P0] <;> iassumption
  ihave Ho := (Y_join ab c (yn c) (pos c + 4)) $$ [R0 R1]
  · isplitl [R0] <;> iassumption
  iapply (wp_load_rect 𝒱₀ (c : Thread nD τ) none Set.univ (m := gm) (r := Rect.unit (s := S8x512x4096) ![(pos c).val, 0, 0] S1x512x4096.size h11)
    (S := row (pos c)) (q := fullShare) (f := ypart ab c) (Finset.Subset.antisymm_iff.1 (row_access (pos c) h11)).1) $$ Hg
  iintro Hg
  iapply (wp_load_rect 𝒱₀ (c : Thread nD τ) none Set.univ (m := gm) (r := Rect.unit (s := S8x512x4096) ![(pos c + 4).val, 0, 0] S1x512x4096.size h12)
    (S := row (pos c + 4)) (q := fullShare) (f := ypart ab (yn c)) (Finset.Subset.antisymm_iff.1 (row_access (pos c + 4) h12)).1) $$ Ho
  iintro Ho
  iapply (wp_load_rect 𝒱₀ (c : Thread nD τ) none Set.univ (m := gm) (r := Rect.unit (s := S8x512x4096) ![(pos c).val, 0, 0] S1x512x4096.size h11)
    (S := row (pos c)) (q := fullShare) (f := ypart ab c) (Finset.Subset.antisymm_iff.1 (row_access (pos c) h11)).1) $$ Hg
  iintro Hg
  iapply (wp_store 𝒱₀ (c : Thread nD τ) none Set.univ (m := gm) (r := Rect.unit (s := S8x512x4096) ![(pos c).val, 0, 0] S1x512x4096.size h11)
    (S := row (pos c)) (f := ypart ab c) (by rw [View.setOn_univ]; exact (Finset.Subset.antisymm_iff.1 (row_access (pos c) h11)).1)) $$ Hg
  iintro Hg
  rw [show (gm.access (Rect.unit (s := S8x512x4096) ![(pos c).val, 0, 0] S1x512x4096.size h11)).read (Elt F) (ypart ab c) = rowv (ypart ab c) 0 from
      (read_row (ypart ab c) (pos c) h11).trans (rowv_ypart ab c _ 0),
    show (gm.access (Rect.unit (s := S8x512x4096) ![(pos c + 4).val, 0, 0] S1x512x4096.size h12)).read (Elt F) (ypart ab (yn c)) = rowv (ypart ab (yn c)) 0 from
      (read_row (ypart ab (yn c)) (pos c + 4) h12).trans (rowv_ypart ab (yn c) _ 0)]
  ihave Hg := (show ((gm.access (Rect.unit (s := S8x512x4096) ![(pos c).val, 0, 0] S1x512x4096.size h11)).loc (c : Thread nD τ) ↦[row (pos c)]{fullShare}
      ((gm.access (Rect.unit (s := S8x512x4096) ![(pos c).val, 0, 0] S1x512x4096.size h11)).write (Elt F) (ypart ab c)
        (k0_pay3 (rowv (ypart ab c) 0) (rowv (ypart ab (yn c)) 0)) Finset.univ) : sProp 𝕄) ⊢ G ab c fullShare (row (pos c)) from
    Entails.of_eq (pointsTo_congr (write_sum ab (ypart ab c) c h11))) $$ Hg
  iapply Hk
  isplitl [Sa Ra]; · isplitl [Sa] <;> iassumption
  isplitl [Sa' Ra']; · isplitl [Sa'] <;> iassumption
  isplitl [Hg]; · iexact Hg
  isplitl [Ho]; · unfold A; iexists _; iexact Ho
  iexact HO

end Cert.KernelIdeal.Hand
end
-- ==== Proof.Run.lean ====
module

public import proofs.«01_k».proof.Proof.Halves

@[expose] public section

noncomputable section

namespace Cert.KernelIdeal.Hand

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # A grid point as a whole -/

variable (ab : Blocks F) (c : Dev nD)

/-- Where the table of ring places lies. -/
abbrev tb : Loc nD τ sig := (c : Thread nD τ).loc main_v12

variable (F) in
/-- The table of ring places, the staging halves of the result, and the result before it is written. -/
def Keep : sProp 𝕄 := iprop((∃ f : S4096x4096.Idx → Elt F .f32, ol c ↦{fullShare} f) ∗ Stg F c ∗ (tb c ↦{fullShare} (fun _ => pw c : Buf (Elt F) (tb c))))

/-- Before the first point. -/
def St0 : sProp 𝕄 :=
  iprop(∃ K, records ab K ∗ levAts L lv ∗ upsS F c ∗ ups F c ∗ BarPre F c ∗ Pre F (.inl 0) c ∗ Pre F (.inl 1) c
    ∗ (bigSep (Finset.univ : Finset Rc) fun i => Pre F (.inr i) c) ∗ (∃ f : S8x512x4096.Idx → Elt F .bf16, gl c ↦{fullShare} f) ∗ Acc ab c 0 ∗ Keep F c)

/-- After the barrier, before the first half of the partial strip is sent. -/
def St1 (n : ℕ) : sProp 𝕄 :=
  iprop(∃ K, Env ab K c ∗ atPos ER (bc c) 1 (∅ : Finset (Fin 3)) 0 ∗ Pre F (.inl 0) c ∗ Pre F (.inl 1) c
    ∗ (bigSep (Finset.univ : Finset Rc) fun i => Pre F (.inr i) c) ∗ Dsts F c ∗ YDst F c ∗ A F c (row (pos c)) ∗ Acc ab c n ∗ Keep F c)

/-- Before the second half of the partial strip is sent. -/
def St2 (n : ℕ) : sProp 𝕄 :=
  iprop(∃ K, Env ab K c ∗ atPos ER (bc c) 1 (∅ : Finset (Fin 3)) 0 ∗ Mid F (.inl 0) c ∗ Pre F (.inl 1) c
    ∗ (bigSep (Finset.univ : Finset Rc) fun i => Pre F (.inr i) c) ∗ Dsts F c ∗ A F (yn c) (hf (pos c + 4) 1) ∗ A F c (hf (pos c) 1) ∗ Acc ab c n ∗ Keep F c)

/-- After the last point. -/
def St3 : sProp 𝕄 :=
  iprop(∃ K, Env ab K c ∗ atPos ER (bc c) 1 (∅ : Finset (Fin 3)) 0 ∗ Fin' F (.inl 0) c ∗ Fin' F (.inl 1) c
    ∗ (bigSep (Finset.univ : Finset Rc) fun i => Fin' F (.inr i) c) ∗ (gl c ↦{fullShare} gfin ab c) ∗ (ol c ↦{fullShare} ofin ab c)
    ∗ (al c ↦{fullShare} accv ab c 32) ∗ Stg F c ∗ (tb c ↦{fullShare} (fun _ => pw c : Buf (Elt F) (tb c))))

/-- What holds between the points. -/
def Sn (n : ℕ) : sProp 𝕄 := if n = 0 then St0 ab c else if n < 16 then St1 ab c n else if n < 32 then St2 ab c n else St3 ab c

/-- What the device owes between the points. -/
def owd (n : ℕ) : CellTallies nD τ sig Unit := if n = 0 then O₀ c else if n < 16 then tl c order else if n < 32 then tl c (order.drop 1) else tl c []

variable (F) in
def Ow (n : ℕ) : sProp 𝕄 := iprop(∃ W, owes (c : Thread nD τ) (owd c n) W)

variable (t : Fin 32) (hw : k0_chk1 (grid0.coords t) c (pw c)) (arg3 : Memref sig .tc .vmem S512x512 .bf16) (arg4 : Memref sig .tc .vmem S2048x512 .bf16)
variable (Q : PUnit → sProp (MT nD τ sig Unit (Elt F) ℕ UU ℕ))

/-- The two blocks of a point. -/
def Win : sProp 𝕄 := iprop(owns (c : Thread nD τ) arg3 fullShare (ab c t).1 ∗ owns (c : Thread nD τ) arg4 fullShare (ab c t).2)

/-- A point's work after its block product. -/
def rest : P1 F := segY0 (grid0.coords t) c (pw c) hw <| segY1 (grid0.coords t) c (pw c) hw <| segLast (grid0.coords t) c (pw c) hw <| .ret ⟨⟩

theorem rest_plain (h15 : t.val ≠ 15) (h31 : t.val ≠ 31) : rest (F := F) c t hw = .ret ⟨⟩ := by
  unfold rest segY0 segY1 segLast
  rw [dif_neg (fun h => h15 ((cond3_iff t).1 h)), dif_neg (fun h => h31 ((cond4_iff t).1 h)), dif_neg (fun h => h31 ((cond5_iff t).1 h))]

theorem bar_plain (h : t.val ≠ 0) (k : P1 F) : segBar (grid0.coords t) c (pw c) hw k = k := by
  unfold segBar
  rw [dif_neg (fun h' => h ((cond1_iff t).1 h'))]

theorem ret_run {P : sProp 𝕄} (h : P ⊢ Q ⟨⟩) : P ⊢ WP c (.ret ⟨⟩) Q := by
  unfold WP
  rw [wp_ret]
  exact h.trans (by iintro H; imodintro; iexact H)

/-- The block product of a point. -/
theorem mac_run' (k : P1 F) :
    iprop(Win ab c t arg3 arg4 ∗ Acc ab c t)
      ⊢ iprop((iprop(Win ab c t arg3 arg4 ∗ (al c ↦{fullShare} accv ab c (t.val + 1))) -∗ WP c k Q) -∗ WP c (segZero (grid0.coords t) (segMac arg3 arg4 k)) Q) := by
  unfold Win
  iintro ⟨⟨H3, H4⟩, HA⟩ Hk
  iapply (mac_step ab c t arg3 arg4 k Q) $$ [H3 H4 HA]
  · isplitl [H3]; · iexact H3
    isplitl [H4] <;> iassumption
  iintro ⟨H3, H4, HA⟩
  iapply Hk
  isplitl [H3 H4]
  · isplitl [H3] <;> iassumption
  iexact HA

theorem acc_next (n : ℕ) : (al c ↦{fullShare} accv ab c n : sProp 𝕄) ⊢ Acc ab c n := by
  unfold Acc
  iintro H
  iexists accv ab c n
  isplitr; · ipureintro; exact fun _ => rfl
  iexact H

/-- The first point. -/
theorem run_first (h0 : t.val = 0) :
    iprop(St0 ab c ∗ (∃ W, owes (c : Thread nD τ) (O₀ c) W) ∗ Win ab c t arg3 arg4)
      ⊢ iprop((iprop(St1 ab c 1 ∗ ow F c order ∗ Win ab c t arg3 arg4) -∗ Q ⟨⟩)
        -∗ WP c (segs (grid0.coords t) c (pw c) hw arg3 arg4) Q) := by
  unfold St0 St1
  iintro ⟨⟨%K, #HR, #Hlev, #HuS, #Hu, HB, P0, P1, PR, ⟨%f, Hg⟩, HA, HK⟩, ⟨%W, HO⟩, HW⟩ Hk
  unfold segs
  iapply (bar_step ab c K (grid0.coords t) hw ((cond1_iff t).2 h0) f W _ Q) $$ [HB Hg HO]
  · isplitr; · iexact HR
    isplitr; · iexact Hlev
    isplitr; · iexact HuS
    isplitr; · iexact Hu
    isplitl [HB]; · iexact HB
    isplitl [Hg] <;> iassumption
  iintro ⟨#HE, Hat, HD, HY, Hrow, HO⟩
  iapply (mac_run' ab c t arg3 arg4 Q _) $$ [HW HA]
  · isplitl [HW]; · iexact HW
    rw [h0]; iexact HA
  iintro ⟨HW, HA⟩
  rw [show (segY0 (grid0.coords t) c (pw c) hw <| segY1 (grid0.coords t) c (pw c) hw <| segLast (grid0.coords t) c (pw c) hw <| .ret ⟨⟩) = (.ret ⟨⟩ : P1 F) from
    rest_plain c t hw (by omega) (by omega)]
  ihave HA := (acc_next ab c (t.val + 1)) $$ HA
  rw [h0]
  unfold WP
  rw [wp_ret]
  imodintro
  iapply Hk
  isplitr [HO HW]
  · iexists K
    isplitr; · iexact HE
    isplitl [Hat]; · iexact Hat
    isplitl [P0]; · iexact P0
    isplitl [P1]; · iexact P1
    isplitl [PR]; · iexact PR
    isplitl [HD]; · iexact HD
    isplitl [HY]; · iexact HY
    isplitl [Hrow]; · iexact Hrow
    isplitl [HA] <;> iassumption
  isplitl [HO] <;> iassumption

/-- A point of the first column block, but the first and the last. -/
theorem run_one (h0 : t.val ≠ 0) (h15 : t.val < 15) :
    iprop(St1 ab c t ∗ ow F c order ∗ Win ab c t arg3 arg4)
      ⊢ iprop((iprop(St1 ab c (t.val + 1) ∗ ow F c order ∗ Win ab c t arg3 arg4) -∗ Q ⟨⟩)
        -∗ WP c (segs (grid0.coords t) c (pw c) hw arg3 arg4) Q) := by
  unfold St1
  iintro ⟨⟨%K, #HE, Hat, P0, P1, PR, HD, HY, Hrow, HA, HK⟩, HO, HW⟩ Hk
  unfold segs
  rw [bar_plain c t hw h0]
  iapply (mac_run' ab c t arg3 arg4 Q _) $$ [HW HA]
  · isplitl [HW] <;> iassumption
  iintro ⟨HW, HA⟩
  rw [show (segY0 (grid0.coords t) c (pw c) hw <| segY1 (grid0.coords t) c (pw c) hw <| segLast (grid0.coords t) c (pw c) hw <| .ret ⟨⟩) = (.ret ⟨⟩ : P1 F) from
    rest_plain c t hw (by omega) (by omega)]
  ihave HA := (acc_next ab c (t.val + 1)) $$ HA
  unfold WP
  rw [wp_ret]
  imodintro
  iapply Hk
  isplitr [HO HW]
  · iexists K
    isplitr; · iexact HE
    isplitl [Hat]; · iexact Hat
    isplitl [P0]; · iexact P0
    isplitl [P1]; · iexact P1
    isplitl [PR]; · iexact PR
    isplitl [HD]; · iexact HD
    isplitl [HY]; · iexact HY
    isplitl [Hrow]; · iexact Hrow
    isplitl [HA] <;> iassumption
  isplitl [HO] <;> iassumption

/-- The last point of the first column block: the first half of the partial strip is sent. -/
theorem run_half (h15 : t.val = 15) :
    iprop(St1 ab c t ∗ ow F c order ∗ Win ab c t arg3 arg4)
      ⊢ iprop((iprop(St2 ab c (t.val + 1) ∗ ow F c (order.drop 1) ∗ Win ab c t arg3 arg4) -∗ Q ⟨⟩)
        -∗ WP c (segs (grid0.coords t) c (pw c) hw arg3 arg4) Q) := by
  unfold St1 St2 YDst
  iintro ⟨⟨%K, #HE, Hat, P0, P1, PR, HD, ⟨HY0, HY1⟩, Hrow, HA, HK⟩, HO, HW⟩ Hk
  unfold segs
  rw [bar_plain c t hw (by omega)]
  iapply (mac_run' ab c t arg3 arg4 Q _) $$ [HW HA]
  · isplitl [HW] <;> iassumption
  iintro ⟨HW, HA⟩
  ihave Hrow := (A_halves c (pos c)) $$ Hrow
  icases Hrow with ⟨Hr0, Hr1⟩
  unfold segY0
  rw [dif_pos ((cond3_iff t).2 h15)]
  iapply (y_step ab c K 0 (order.drop 1) k0_pay1 rfl _ _ _ (off1_eq c) (off2_eq c) (off3_eq c) _ _ _ _ _ _ _ (Fin.ext (dev4_eq c)) _ Q) $$ [P0 Hr0 HY0 HA HO]
  · isplitr; · iexact HE
    isplitl [P0]; · iexact P0
    isplitl [Hr0]; · iexact Hr0
    isplitl [HY0]; · iexact HY0
    isplitl [HA]
    · rw [h15]; iexact HA
    iexact HO
  iintro ⟨P0, HA, HO⟩
  unfold segY1 segLast
  rw [dif_neg (fun h => absurd ((cond4_iff t).1 h) (by omega)), dif_neg (fun h => absurd ((cond5_iff t).1 h) (by omega))]
  ihave HA := (acc_next ab c 16) $$ HA
  rw [h15]
  unfold WP
  rw [wp_ret]
  imodintro
  iapply Hk
  isplitr [HO HW]
  · iexists K
    isplitr; · iexact HE
    isplitl [Hat]; · iexact Hat
    isplitl [P0]; · iexact P0
    isplitl [P1]; · iexact P1
    isplitl [PR]; · iexact PR
    isplitl [HD]; · iexact HD
    isplitl [HY1]; · iexact HY1
    isplitl [Hr1]; · iexact Hr1
    isplitl [HA] <;> iassumption
  isplitl [HO] <;> iassumption

/-- A point of the second column block, but the last. -/
theorem run_two (h16 : 16 ≤ t.val) (h31 : t.val < 31) :
    iprop(St2 ab c t ∗ ow F c (order.drop 1) ∗ Win ab c t arg3 arg4)
      ⊢ iprop((iprop(St2 ab c (t.val + 1) ∗ ow F c (order.drop 1) ∗ Win ab c t arg3 arg4) -∗ Q ⟨⟩)
        -∗ WP c (segs (grid0.coords t) c (pw c) hw arg3 arg4) Q) := by
  unfold St2
  iintro ⟨⟨%K, #HE, Hat, P0, P1, PR, HD, HY, Hrow, HA, HK⟩, HO, HW⟩ Hk
  unfold segs
  rw [bar_plain c t hw (by omega)]
  iapply (mac_run' ab c t arg3 arg4 Q _) $$ [HW HA]
  · isplitl [HW] <;> iassumption
  iintro ⟨HW, HA⟩
  rw [show (segY0 (grid0.coords t) c (pw c) hw <| segY1 (grid0.coords t) c (pw c) hw <| segLast (grid0.coords t) c (pw c) hw <| .ret ⟨⟩) = (.ret ⟨⟩ : P1 F) from
    rest_plain c t hw (by omega) (by omega)]
  ihave HA := (acc_next ab c (t.val + 1)) $$ HA
  unfold WP
  rw [wp_ret]
  imodintro
  iapply Hk
  isplitr [HO HW]
  · iexists K
    isplitr; · iexact HE
    isplitl [Hat]; · iexact Hat
    isplitl [P0]; · iexact P0
    isplitl [P1]; · iexact P1
    isplitl [PR]; · iexact PR
    isplitl [HD]; · iexact HD
    isplitl [HY]; · iexact HY
    isplitl [Hrow]; · iexact Hrow
    isplitl [HA] <;> iassumption
  isplitl [HO] <;> iassumption

/-- The exchange, whichever side the device is on. -/
theorem sides (i : grid0.Coords) (hw) (h5 : k0_cond5 i = 1#1) (k : P1 F) :
    (if h6 : k0_cond6 c = 1#1 then branch (br0 i c (pw c) hw h5 h6) (segSide1 i c (pw c) hw h5 k) else segSide1 i c (pw c) hw h5 k) = branch (canon c) k := by
  unfold segSide1
  rcases yc_cases (yc c) with h | h
  · rw [dif_pos ((cond6_iff c).2 h), br0_eq, dif_neg (fun h' => absurd (h.symm.trans ((cond7_iff c).1 h') : (0 : Fin 2) = 1) (by decide))]
  · rw [dif_neg (fun h' => absurd (h.symm.trans ((cond6_iff c).1 h') : (1 : Fin 2) = 0) (by decide)), dif_pos ((cond7_iff c).2 h), br1_eq]

/-- The last point: the second half is sent, both halves are waited for and added, and the exchange runs. -/
theorem run_last (h31 : t.val = 31) :
    iprop(St2 ab c t ∗ ow F c (order.drop 1) ∗ Win ab c t arg3 arg4)
      ⊢ iprop((iprop(St3 ab c ∗ ow F c [] ∗ Win ab c t arg3 arg4) -∗ Q ⟨⟩)
        -∗ WP c (segs (grid0.coords t) c (pw c) hw arg3 arg4) Q) := by
  unfold St2 St3 Keep
  iintro ⟨⟨%K, #HE, Hat, P0, P1, PR, HD, HY, Hrow, HA, ⟨%f, Hout⟩, HS, HT⟩, HO, HW⟩ Hk
  unfold segs
  rw [bar_plain c t hw (by omega)]
  iapply (mac_run' ab c t arg3 arg4 Q _) $$ [HW HA]
  · isplitl [HW] <;> iassumption
  iintro ⟨HW, HA⟩
  unfold segY0 segY1
  rw [dif_neg (fun h => absurd ((cond3_iff t).1 h) (by omega)), dif_pos ((cond4_iff t).2 h31)]
  iapply (y_step ab c K 1 (order.drop 2) k0_pay2 rfl _ _ _ (off4_eq c) (off5_eq c) (off6_eq c) _ _ _ _ _ _ _ (Fin.ext (dev5_eq c)) _ Q) $$ [P1 Hrow HY HA HO]
  · isplitr; · iexact HE
    isplitl [P1]; · iexact P1
    isplitl [Hrow]; · iexact Hrow
    isplitl [HY]; · iexact HY
    isplitl [HA]
    · rw [h31]; iexact HA
    iexact HO
  iintro ⟨P1, HA, HO⟩
  unfold segLast
  rw [dif_pos ((cond5_iff t).2 h31)]
  iapply (sum_step ab c K _ _ _ _ _ _ (off11_eq c) (off12_eq c) _ _ _ _ _ _ _ _ _ _ _ _ Q) $$ [P0 P1 HO]
  · isplitr; · iexact HE
    isplitl [P0]; · iexact P0
    isplitl [P1] <;> iassumption
  iintro ⟨P0, P1, Hrow, Hanti, HO⟩
  rw [sides c (grid0.coords t) hw _ _]
  iapply (branch_run ab c K f _ Q) $$ [PR HD Hrow Hanti HO HS Hout]
  · isplitr; · iexact HE
    isplitl [PR]; · iexact PR
    isplitl [HD]; · iexact HD
    isplitl [Hrow]; · iexact Hrow
    isplitl [Hanti]; · iexact Hanti
    isplitl [HO]; · iexact HO
    isplitl [HS] <;> iassumption
  iintro ⟨PR, Hg, Hout, HO, HS⟩
  unfold WP
  rw [wp_ret]
  imodintro
  iapply Hk
  isplitr [HO HW]
  · iexists K
    isplitr; · iexact HE
    isplitl [Hat]; · iexact Hat
    isplitl [P0]; · iexact P0
    isplitl [P1]; · iexact P1
    isplitl [PR]; · iexact PR
    isplitl [Hg]; · iexact Hg
    isplitl [Hout]; · iexact Hout
    isplitl [HA]; · iexact HA
    isplitl [HS] <;> iassumption
  isplitl [HO] <;> iassumption

end Cert.KernelIdeal.Hand
end
-- ==== Proof.Data.lean ====
module

public import proofs.«01_k».proof.Proof.Run

@[expose] public section

noncomputable section

namespace Cert.KernelIdeal.Hand

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # The body at a grid point, as the pipeline calls it -/

section
variable (ab : Blocks F) (c : Dev nD)

theorem Sn_one (n : ℕ) (h0 : n ≠ 0) (h : n < 16) : Sn ab c n = St1 ab c n := by unfold Sn; rw [if_neg h0, if_pos h]
theorem Sn_two (n : ℕ) (h : 16 ≤ n) (h' : n < 32) : Sn ab c n = St2 ab c n := by
  unfold Sn; rw [if_neg (by omega), if_neg (by omega), if_pos h']
theorem Ow_one (n : ℕ) (h0 : n ≠ 0) (h : n < 16) : Ow F c n = ow F c order := by unfold Ow owd ow; rw [if_neg h0, if_pos h]
theorem Ow_two (n : ℕ) (h : 16 ≤ n) (h' : n < 32) : Ow F c n = ow F c (order.drop 1) := by
  unfold Ow owd ow; rw [if_neg (by omega), if_neg (by omega), if_pos h']

/-- A point's run of the segments, whichever point. -/
theorem segs_run (t : Fin 32) (hw) (arg3 : Memref sig .tc .vmem S512x512 .bf16) (arg4 : Memref sig .tc .vmem S2048x512 .bf16)
    (Q : PUnit → sProp (MT nD τ sig Unit (Elt F) ℕ UU ℕ)) :
    iprop(Sn ab c t.val ∗ Ow F c t.val ∗ Win ab c t arg3 arg4)
      ⊢ iprop((iprop(Sn ab c (t.val + 1) ∗ Ow F c (t.val + 1) ∗ Win ab c t arg3 arg4) -∗ Q ⟨⟩) -∗ WP c (segs (grid0.coords t) c (pw c) hw arg3 arg4) Q) := by
  have ht := t.isLt
  by_cases h0 : t.val = 0
  · have := run_first ab c t hw arg3 arg4 Q h0
    rw [Sn_one ab c (t.val + 1) (by omega) (by omega), Ow_one c (t.val + 1) (by omega) (by omega), h0]
    exact this
  by_cases h15 : t.val < 15
  · rw [Sn_one ab c (t.val + 1) (by omega) (by omega), Ow_one c (t.val + 1) (by omega) (by omega), Sn_one ab c t.val h0 (by omega), Ow_one c t.val h0 (by omega)]
    exact run_one ab c t hw arg3 arg4 Q h0 h15
  by_cases h15' : t.val = 15
  · rw [Sn_two ab c (t.val + 1) (by omega) (by omega), Ow_two c (t.val + 1) (by omega) (by omega), Sn_one ab c t.val h0 (by omega), Ow_one c t.val h0 (by omega)]
    exact run_half ab c t hw arg3 arg4 Q h15'
  rw [Sn_two ab c t.val (by omega) ht, Ow_two c t.val (by omega) ht]
  by_cases h31 : t.val < 31
  · rw [Sn_two ab c (t.val + 1) (by omega) (by omega), Ow_two c (t.val + 1) (by omega) (by omega)]
    exact run_two ab c t hw arg3 arg4 Q (by omega) h31
  · have e : t.val = 31 := by omega
    have := run_last ab c t hw arg3 arg4 Q e
    rw [show Sn ab c (t.val + 1) = St3 ab c from by rw [e]; rfl, show Ow F c (t.val + 1) = ow F c [] from by rw [e]; rfl]
    exact this

variable (F) in
/-- What the kernel reads off the table. -/
theorem tbl_read (x) : ((Memref.whole main_v12).access (Rect.unit (s := S1) ![0] S1.size inb_S1_S1_0)).read (Elt F) (fun _ => pw c : Buf (Elt F) (tb c)) x = pw c := rfl

/-- The stages' table apart. -/
theorem Sn_tbl (n : ℕ) : Sn ab c n ⊢ iprop((tb c ↦{fullShare} (fun _ => pw c : Buf (Elt F) (tb c))) ∗ ((tb c ↦{fullShare} (fun _ => pw c : Buf (Elt F) (tb c))) -∗ Sn ab c n)) := by
  unfold Sn St0 St1 St2 St3 Keep
  split
  · iintro ⟨%K, #H1, #H2, #H3, #H4, H5, H6, H7, H8, H9, H10, H11, H12, HT⟩
    isplitl [HT]; · iexact HT
    iintro HT
    iexists K
    isplitr; · iexact H1
    isplitr; · iexact H2
    isplitr; · iexact H3
    isplitr; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12] <;> iassumption
  split
  · iintro ⟨%K, #H1, H2, H3, H4, H5, H6, H7, H8, H9, H10, H11, HT⟩
    isplitl [HT]; · iexact HT
    iintro HT
    iexists K
    isplitr; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11] <;> iassumption
  split
  · iintro ⟨%K, #H1, H2, H3, H4, H5, H6, H7, H8, H9, H10, H11, HT⟩
    isplitl [HT]; · iexact HT
    iintro HT
    iexists K
    isplitr; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11] <;> iassumption
  · iintro ⟨%K, #H1, H2, H3, H4, H5, H6, H7, H8, H9, HT⟩
    isplitl [HT]; · iexact HT
    iintro HT
    iexists K
    isplitr; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9] <;> iassumption

/-- The printed body at a point. -/
theorem point_run (t : Fin 32) (arg3 : Memref sig .tc .vmem S512x512 .bf16) (h3 : arg3.IsWhole) (arg4 : Memref sig .tc .vmem S2048x512 .bf16) (h4 : arg4.IsWhole)
    (Q : PUnit → sProp (MT nD τ sig Unit (Elt F) ℕ UU ℕ)) :
    iprop(Sn ab c t.val ∗ Ow F c t.val ∗ Win ab c t arg3 arg4)
      ⊢ iprop((iprop(Sn ab c (t.val + 1) ∗ Ow F c (t.val + 1) ∗ Win ab c t arg3 arg4) -∗ Q ⟨⟩)
        -∗ WP c (cc0__body (F := F) (grid0.coords t) (Memref.whole main_v12) (Memref.isWhole_whole _) arg3 h3 arg4 h4 om (Memref.isWhole_whole _) am (Memref.isWhole_whole _)
      gm (Memref.isWhole_whole _) stg (Memref.isWhole_whole _) cc0_scratch3 cc0_scratch4 cc0_scratch5 cc0_scratch6 cc0_scratch7 cc0_scratch8 cc0_scratch9
      cc0_scratch10 cc0_scratch11) Q) := by
  rw [body_eq]
  unfold smemLoad smemLoadElt
  simp only [Prog.lift, Prog.bind_op, Prog.bind_ret, Prog.pure_eq_ret, Prog.bind_assoc]
  unfold WP
  rw [wp_deviceId]
  iintro ⟨HS, HO, HW⟩ Hk
  ihave HS := (Sn_tbl ab c t.val) $$ HS
  icases HS with ⟨HT, HS⟩
  iapply (wp_load_rect 𝒱₀ (c : Thread nD τ) none Set.univ (m := Memref.whole main_v12) (r := Rect.unit (s := S1) ![0] S1.size inb_S1_S1_0)
    (S := Finset.univ) (q := fullShare) (f := (fun _ => pw c : Buf (Elt F) (tb c))) (Finset.subset_univ _)) $$ HT
  iintro HT
  rw [tbl_read, wp_assume_of 𝒱₀ (c : Thread nD τ) none Set.univ (chk (grid0.coords t) c)]
  ispecialize HS $$ HT
  iapply (segs_run ab c t (chk (grid0.coords t) c) arg3 arg4 Q) $$ [HS HO HW]
  · isplitl [HS]; · iexact HS
    isplitl [HO] <;> iassumption
  iexact Hk

end

end Cert.KernelIdeal.Hand
end
-- ==== Proof.Close.lean ====
module

public import proofs.«01_k».proof.Proof.Data

@[expose] public section

noncomputable section

namespace Cert.KernelIdeal.Hand

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # The end of the last point: the cells are closed -/

/-- The kernel's own semaphores. -/
abbrev osem : Ch ⊕ Ch ⊕ Fin 2 → SemLoc sig
  | .inl ch => .dma ch.snd
  | .inr (.inl ch) => .dma ch.rcv
  | .inr (.inr h) => .dma (csem h)

theorem osem_facts : Pipeline.OwnSemFacts spec0 osem := by decide

section
variable (ab : Blocks F) (c : Dev nD)

variable (F) in
theorem ownSems_eq : (Pipeline.ownSems0 osem c : sProp 𝕄)
    = iprop((bigSep Finset.univ fun ch : Ch => semVal (sc ch c) 0) ∗ (bigSep Finset.univ fun ch : Ch => semVal (rc ch c) 0) ∗ Cz F c 0 ∗ Cz F c 1) := by
  unfold Pipeline.ownSems0
  refine (bigSep_univ_sum _).trans (congrArg (fun P : sProp 𝕄 => iprop((bigSep Finset.univ fun ch : Ch => semVal (sc ch c) 0) ∗ P)) ?_)
  refine (bigSep_univ_sum _).trans (congrArg (fun P : sProp 𝕄 => iprop((bigSep Finset.univ fun ch : Ch => semVal (rc ch c) 0) ∗ P)) ?_)
  rw [show (Finset.univ : Finset (Fin 2)) = insert 0 {1} from rfl, bigSep_insert (by decide), bigSep_singleton]
  rfl

theorem sb_disj : Disjoint (sb 0) (sb 1) := by
  rw [Finset.disjoint_left]
  intro i h0 h1
  rw [mem_sb] at h0 h1
  exact absurd (h0.symm.trans h1) (by decide)

theorem sb_union : sb 0 ∪ sb 1 = Finset.univ := by
  ext i
  have h : (i 0).val < 2 := (i 0).isLt
  simp only [Finset.mem_union, mem_sb, Finset.mem_univ, iff_true]
  show (i 0).val = 0 ∨ (i 0).val = 1
  omega

variable (F) in
theorem stg_cut : iprop(∃ f : Buf (Elt F) (tlc c), tlc c ↦{fullShare} f) ⊢ iprop(SA F c 0 ∗ SA F c 1) := by
  unfold SA
  iintro ⟨%f, H⟩
  ihave H := (show (tlc c ↦{fullShare} f) ⊢ iprop((tlc c ↦[sb 0]{fullShare} f) ∗ (tlc c ↦[sb 1]{fullShare} f)) from by
    rw [← sb_union]; exact (pointsTo_union sb_disj).1) $$ H
  icases H with ⟨H0, H1⟩
  isplitl [H0]
  · iexists f; iexact H0
  · iexists f; iexact H1

variable (F) in
theorem stg_join : iprop(SA F c 0 ∗ SA F c 1) ⊢ iprop(∃ f : Buf (Elt F) (tlc c), tlc c ↦{fullShare} f) := by
  unfold SA
  iintro ⟨⟨%f, H0⟩, ⟨%g, H1⟩⟩
  iexists (fun i => if i ∈ sb 0 then f i else g i : S2x512x2048.Idx → Elt F .f32)
  have e0 : (tlc c ↦[sb 0]{fullShare} f : sProp 𝕄) = (tlc c ↦[sb 0]{fullShare} (fun i => if i ∈ sb 0 then f i else g i : S2x512x2048.Idx → Elt F .f32)) :=
    pointsTo_congr fun i hi => (if_pos hi).symm
  have e1 : (tlc c ↦[sb 1]{fullShare} g : sProp 𝕄) = (tlc c ↦[sb 1]{fullShare} (fun i => if i ∈ sb 0 then f i else g i : S2x512x2048.Idx → Elt F .f32)) :=
    pointsTo_congr fun i hi => (if_neg (Finset.disjoint_right.mp sb_disj hi)).symm
  iapply (show iprop((tlc c ↦[sb 0]{fullShare} f) ∗ (tlc c ↦[sb 1]{fullShare} g))
      ⊢ (tlc c ↦{fullShare} (fun i => if i ∈ sb 0 then f i else g i : S2x512x2048.Idx → Elt F .f32) : sProp 𝕄) from by
    rw [e0, e1, ← sb_union]; exact (pointsTo_union sb_disj).2)
  isplitl [H0] <;> iassumption

/-- What the kernel leaves: the result, the table, and all its semaphores at zero. -/
def End : sProp 𝕄 :=
  iprop((semVal (bc c) 0 ∗ (ol c ↦{fullShare} ofin ab c) ∗ (tb c ↦{fullShare} (fun _ => pw c : Buf (Elt F) (tb c))))
    ∗ Pipeline.ownSems0 osem c ∗ Pipeline.scopedRest spec0 c)

theorem close_ch (K : GSem nD τ sig → ℕ) :
    iprop(records ab K ∗ (bigSep Finset.univ fun ch : Ch => Fin' F ch c)) ⊢ (iprop(|={Set.univ}=> ((bigSep Finset.univ fun ch : Ch => semVal (sc ch c) 0)
      ∗ (bigSep Finset.univ fun ch : Ch => semVal (rc ch c) 0))) : sProp 𝕄) := by
  unfold Fin'
  rw [bigSep_sep']
  iintro ⟨#HR, H0, H1⟩
  imod (show iprop(records ab K ∗ (bigSep Finset.univ fun ch : Ch => atPos ER (sc ch c) 1 (∅ : Finset (Fin 3)) 0)) ⊢
      (iprop(|={Set.univ}=> bigSep Finset.univ fun ch : Ch => semVal (sc ch c) 0) : sProp 𝕄) from
    (bigSep_with_persistent (R := records ab K) fun ch _ => BIClass.sep_mono (records_snd ab K ch c) .rfl).trans
      (Rounds.cells_close ER (Rd ab) Finset.univ (fun ch : Ch => sc ch c) (fun ch => K (sc ch c)) (fun _ _ => Set.mem_univ _) (fun _ _ h => h) (fun _ => 1)
        (fun _ _ => duties_later ab _))) $$ [H0] with H0
  · isplitr; · iexact HR
    iexact H0
  imod (show iprop(records ab K ∗ (bigSep Finset.univ fun ch : Ch => atPos ER (rc ch c) 1 (∅ : Finset (Fin 3)) 0)) ⊢
      (iprop(|={Set.univ}=> bigSep Finset.univ fun ch : Ch => semVal (rc ch c) 0) : sProp 𝕄) from
    (bigSep_with_persistent (R := records ab K) fun ch _ => BIClass.sep_mono (records_rcv ab K ch c) .rfl).trans
      (Rounds.cells_close ER (Rd ab) Finset.univ (fun ch : Ch => rc ch c) (fun ch => K (rc ch c)) (fun _ _ => Set.mem_univ _) (fun _ _ h => h) (fun _ => 1)
        (fun _ _ => duties_later ab _))) $$ [H1] with H1
  · isplitr; · iexact HR
    iexact H1
  imodintro
  isplitl [H0] <;> iassumption

variable (F) in
theorem bigSep_ch (Φ : Ch → sProp 𝕄) : (bigSep Finset.univ Φ : sProp 𝕄)
    = iprop((Φ (.inl 0) ∗ Φ (.inl 1)) ∗ bigSep (Finset.univ : Finset Rc) fun i => Φ (.inr i)) := by
  refine (bigSep_univ_sum _).trans (congrArg (fun P : sProp 𝕄 => iprop(P ∗ bigSep (Finset.univ : Finset Rc) fun i => Φ (.inr i))) ?_)
  rw [show (Finset.univ : Finset (Fin 2)) = insert 0 {1} from rfl, bigSep_insert (by decide), bigSep_singleton]
  rfl

theorem close_all : St3 ab c ⊢ iprop(|={Set.univ}=> End ab c) := by
  unfold St3 End
  rw [ownSems_eq, scopedRest0_eq]
  iintro ⟨%K, #HE, Hb, F0, F1, FR, Hg, Ho, Ha, Hs, Ht⟩
  unfold Env
  icases HE with ⟨#HR, -⟩
  imod (close_ch ab c K) $$ [F0 F1 FR] with ⟨HS, HC⟩
  · rw [bigSep_ch]
    isplitr; · iexact HR
    isplitr [FR]
    · isplitl [F0] <;> iassumption
    iexact FR
  ihave #HI := (records_bar ab K c) $$ HR
  imod (Rounds.cell_close ER (Rd ab) (g := bc c) (κ := K (bc c)) (Set.mem_univ _) (fun h => h) (R := 1) (duties_later ab _)) $$ [Hb] with Hb
  · isplitr; · iexact HI
    iexact Hb
  unfold Stg
  icases Hs with ⟨S0, S1, C0, C1⟩
  imodintro
  isplitl [Hb Ho Ht]
  · isplitl [Hb]; · iexact Hb
    isplitl [Ho] <;> iassumption
  isplitl [HS HC C0 C1]
  · isplitl [HS]; · iexact HS
    isplitl [HC]; · iexact HC
    isplitl [C0] <;> iassumption
  isplitl [Ha]
  · iexists _; iexact Ha
  isplitl [Hg]
  · iexists _; iexact Hg
  iapply (stg_join F c)
  isplitl [S0] <;> iassumption

/-- What holds between the points, the cells closed after the last. -/
def Ph (n : ℕ) : sProp 𝕄 := if n = 32 then End ab c else Sn ab c n

theorem Ph_out (n : ℕ) (h : n < 32) : Ph ab c n = Sn ab c n := if_neg (by omega)

theorem Ph_in (n : ℕ) (h : n ≤ 32) : Sn ab c n ⊢ iprop(|={Set.univ}=> Ph ab c n) := by
  unfold Ph
  split
  · next h => subst h; exact close_all ab c
  · exact fupd_intro

end

end Cert.KernelIdeal.Hand
end
-- ==== Proof.Dats.lean ====
module

public import proofs.«01_k».proof.Proof.Close
public import proofs.«01_k».proof.Proof.Gen.KernelIdeal.Regions

@[expose] public section

noncomputable section

namespace Cert.KernelIdeal.Hand

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # The pipeline's proof data -/

section
variable (F) in
/-- The table of ring places as device `c` holds it. -/
def tblOf (c : Dev nD) : pre0.Contents (Elt F) := fun | 0 => (fun _ => pw c : Buf (Elt F) (tb c)) | ⟨_ + 1, h⟩ => absurd h (Nat.not_lt.2 (Nat.le_add_left _ _))

theorem tblOf_at (c : Dev nD) (i : grid0.Coords) : cc0_transform_0 inb_S1_S1_0 numel1_S1 (tblOf F c) i = ![(pos c).val, (i 1).val] := by
  have h1 : (pw c).toNat = (pos c).val := (by decide : ∀ c : Dev nD, (pw c).toNat = (pos c).val) c
  have h2 : (BitVec.ofNat 32 (i 1).val).toNat = (i 1).val := by
    have h : (i 1).val < 16 := (i 1).isLt
    rw [BitVec.toNat_ofNat]; omega
  show ![(pw c).toNat, (BitVec.ofNat 32 (i 1).val).toNat] = _
  rw [h1, h2]

theorem tblOf_ok (c : Dev nD) : ok0 (tblOf F c) := by
  intro i
  rw [tblOf_at]
  have h1 : (pos c).val < 8 := (pos c).isLt
  have h2 : (i 1).val < 16 := (i 1).isLt
  refine ⟨fun a => ?_, .inr (Affine.block_words_dvd (of_decide_eq_true rfl) (by decide))⟩
  match a with
  | ⟨0, _⟩ => show ((pos c).val + 1) * 512 ≤ 4096; omega
  | ⟨1, _⟩ => show ((i 1).val + 1) * 512 ≤ 8192; omega

variable (F) in
/-- The tables of all devices. -/
def adm (c : Dev nD) : (p : Fin 1) → (pcfgs (F := F) p).Adm := fun _ => ⟨tblOf F c, tblOf_ok c⟩

variable (m : (ℓ : Loc nD τ sig) → Buf (Elt F) ℓ)

/-- The blocks each device multiplies, off its two arguments. -/
def blks : Blocks F := fun c t =>
  (fun j => (m ((c : Thread nD τ).loc main_arg0) : S4096x8192.Idx → Elt F .bf16) (ValueIdx.ix2 (⟨512 * (pos c).val + (j 0).val, by
      have := (pos c).isLt; have h : (j 0).val < 512 := (j 0).isLt; omega⟩ : Fin 4096)
      (⟨512 * (t % 16) + (j 1).val, by have h : (j 1).val < 512 := (j 1).isLt; omega⟩ : Fin 8192)),
   fun j => (m ((c : Thread nD τ).loc main_arg1) : S4096x8192.Idx → Elt F .bf16) (ValueIdx.ix2 (⟨2048 * (t / 16 % 2) + (j 0).val, by
      have h : (j 0).val < 2048 := (j 0).isLt; omega⟩ : Fin 4096)
      (⟨512 * (t % 16) + (j 1).val, by have h : (j 1).val < 512 := (j 1).isLt; omega⟩ : Fin 8192)))

/-- The pipeline's data: the arguments as they are, the blocks left as found, the stages between the points. -/
def dats : (p : Fin 1) → (c : Dev nD) → Pipeline.Dat τ (Elt F) Unit ℕ UU ℕ (Pipeline.pinD pcfgs (adm F) c p) c := fun _ c =>
  { A := fun | 0 => m ((c : Thread nD τ).loc main_arg0) | 1 => m ((c : Thread nD τ).loc main_arg1)
             | ⟨_ + 2, h⟩ => absurd h (Nat.not_lt.2 (Nat.le_add_left _ _))
    after := fun | 0 => fun t => (blks m c t.val).1 | 1 => fun t => (blks m c t.val).2
                 | ⟨_ + 2, h⟩ => absurd h (Nat.not_lt.2 (Nat.le_add_left _ _))
    Φ := fun t => Ph (blks m) c t.val
    q := fun _ => fullShare
    owed := fun t => owd c t.val }

end

section
variable (m : (ℓ : Loc nD τ sig) → Buf (Elt F) ℓ)

theorem coords_eq : ∀ t : Fin 32, (grid0.coords t 0).val = t.val / 16 % 2 ∧ (grid0.coords t 1).val = t.val % 16 := by decide +kernel

theorem win0_index (c : Dev nD) (t : Fin 32) :
    ((Pipeline.pinD pcfgs (adm F) c 0).win 0).index t = ![(pos c).val, t.val % 16] := by
  show cc0_transform_0 inb_S1_S1_0 numel1_S1 (tblOf F c) (grid0.coords t) = _
  rw [tblOf_at, (coords_eq t).2]

theorem win1_index (c : Dev nD) (t : Fin 32) :
    ((Pipeline.pinD pcfgs (adm F) c 0).win 1).index t = ![t.val / 16 % 2, t.val % 16] := by
  show ![(BitVec.ofNat 32 (grid0.coords t 0).val).toNat, (BitVec.ofNat 32 (grid0.coords t 1).val).toNat] = _
  rw [(coords_eq t).1, (coords_eq t).2, BitVec.toNat_ofNat, BitVec.toNat_ofNat, Nat.mod_eq_of_lt (show t.val / 16 % 2 < 2 ^ 32 by omega), Nat.mod_eq_of_lt (show t.val % 16 < 2 ^ 32 by omega)]

omit [FloatOps F] in
theorem fetch_of {G : Pipeline.Grid} (w : Pipeline.Window sig G) (t : Fin G.N) (ho : w.isOut = false)
    (h : ∀ hp : 0 < t.val, w.index t ≠ w.index ⟨t.val - 1, by omega⟩) : w.fetch t = true := by
  unfold Pipeline.Window.fetch
  rw [ho]
  by_cases h0 : t.val = 0
  · simp [h0]
  · have hp := Nat.pos_of_ne_zero h0
    simp only [Bool.not_false, Bool.true_and, Bool.or_eq_true, decide_eq_true_eq]
    exact .inr ⟨hp, h hp⟩

theorem win0_fetch (c : Dev nD) (t : Fin 32) : ((Pipeline.pinD pcfgs (adm F) c 0).win 0).fetch t = true :=
  fetch_of _ _ rfl fun hp e => by
    have h : t.val % 16 = (t.val - 1) % 16 :=
      congrFun ((win0_index (F := F) c t).symm.trans (e.trans (win0_index (F := F) c ⟨t.val - 1, lt_of_le_of_lt (Nat.sub_le _ _) t.isLt⟩))) 1
    have : 0 < t.val := hp
    omega

theorem win1_fetch (c : Dev nD) (t : Fin 32) : ((Pipeline.pinD pcfgs (adm F) c 0).win 1).fetch t = true :=
  fetch_of _ _ rfl fun hp e => by
    have h : t.val % 16 = (t.val - 1) % 16 :=
      congrFun ((win1_index (F := F) c t).symm.trans (e.trans (win1_index (F := F) c ⟨t.val - 1, lt_of_le_of_lt (Nat.sub_le _ _) t.isLt⟩))) 1
    have : 0 < t.val := hp
    omega

theorem block0 (c : Dev nD) (t : Fin 32) : (dats m 0 c).blockOf 0 t = (blks m c t.val).1 := by
  refine funext fun (j : S512x512.Idx) => ?_
  have hi : ∀ a : Fin 2, (((Pipeline.pinD pcfgs (adm F) c 0).win 0).index t : Fin 2 → ℕ) a = (![(pos c).val, t.val % 16] : Fin 2 → ℕ) a :=
    fun a => congrFun (win0_index (F := F) c t) a
  refine congrArg (m ((c : Thread nD τ).loc main_arg0) : S4096x8192.Idx → Elt F .bf16) (funext fun (a : Fin 2) => Fin.ext ?_)
  match a with
  | ⟨0, _⟩ =>
    refine (congrArg (fun x => x * 512 + 1 * (j 0).val) (hi 0)).trans ?_
    show (pos c).val * 512 + 1 * (j 0).val = 512 * ((pos c).val) + (j 0).val
    omega
  | ⟨1, _⟩ =>
    refine (congrArg (fun x => x * 512 + 1 * (j 1).val) (hi 1)).trans ?_
    show t.val % 16 * 512 + 1 * (j 1).val = 512 * (t.val % 16) + (j 1).val
    omega

theorem block1 (c : Dev nD) (t : Fin 32) : (dats m 0 c).blockOf 1 t = (blks m c t.val).2 := by
  refine funext fun (j : S2048x512.Idx) => ?_
  have hi : ∀ a : Fin 2, (((Pipeline.pinD pcfgs (adm F) c 0).win 1).index t : Fin 2 → ℕ) a = (![t.val / 16 % 2, t.val % 16] : Fin 2 → ℕ) a :=
    fun a => congrFun (win1_index (F := F) c t) a
  refine congrArg (m ((c : Thread nD τ).loc main_arg1) : S4096x8192.Idx → Elt F .bf16) (funext fun (a : Fin 2) => Fin.ext ?_)
  match a with
  | ⟨0, _⟩ =>
    refine (congrArg (fun x => x * 2048 + 1 * (j 0).val) (hi 0)).trans ?_
    show t.val / 16 % 2 * 2048 + 1 * (j 0).val = 2048 * (t.val / 16 % 2) + (j 0).val
    omega
  | ⟨1, _⟩ =>
    refine (congrArg (fun x => x * 512 + 1 * (j 1).val) (hi 1)).trans ?_
    show t.val % 16 * 512 + 1 * (j 1).val = 512 * (t.val % 16) + (j 1).val
    omega

theorem before0 (c : Dev nD) (t : Fin 32) (d) : (dats m 0 c).before 0 t d = (blks m c t.val).1 := by
  unfold Pipeline.Dat.before; rw [if_pos (win0_fetch c t)]; exact block0 m c t

theorem before1 (c : Dev nD) (t : Fin 32) (d) : (dats m 0 c).before 1 t d = (blks m c t.val).2 := by
  unfold Pipeline.Dat.before; rw [if_pos (win1_fetch c t)]; exact block1 m c t

end

end Cert.KernelIdeal.Hand
end
-- ==== Proof.Oblig.lean ====
module

public import proofs.«01_k».proof.Proof.Dats

@[expose] public section

noncomputable section

namespace Cert.KernelIdeal.Hand

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # The body's obligation at each point, and the waits of the pipeline -/

section
variable (m : (ℓ : Loc nD τ sig) → Buf (Elt F) ℓ)

theorem owes_out (c : Dev nD) (t : Fin 33) : (dats m 0 c).owesAt () t ⊢ Ow F c t.val := by
  unfold Pipeline.Dat.owesAt Pipeline.owesWithin Ow
  iintro ⟨%W, -, HO⟩
  iexists W
  iexact HO

theorem owes_in (c : Dev nD) (t : Fin 33) : Ow F c t.val ⊢ (dats m 0 c).owesAt () t := by
  unfold Pipeline.Dat.owesAt Pipeline.owesWithin Pipeline.Dat.bound Ow
  iintro ⟨%W, HO⟩
  iexists W
  isplitr
  · ipureintro; exact fun _ _ => Or.inl trivial
  iexact HO

theorem body_obligation (c : Dev nD) : Pipeline.BodyObligationLoose (dats m 0 c) (defs₀ (F := F)) 𝒱₀ () Set.univ := by
  intro (t : Fin 32)
  rw [bigSep_W0, bigSep_W0]
  show iprop(Ph (blks m) c t.val ∗ (dats m 0 c).owesAt () (t.castSucc : Fin 33) ∗ (∃ d, owns c (spec0_0.stage (((Pipeline.pinD pcfgs (adm F) c 0).slots t) 0)) fullShare ((dats m 0 c).before 0 t d))
      ∗ (∃ d, owns c (spec0_1.stage (((Pipeline.pinD pcfgs (adm F) c 0).slots t) 1)) fullShare ((dats m 0 c).before 1 t d)))
    ⊢ WP c (cc0__body (F := F) (grid0.coords t) (Memref.whole main_v12) (Memref.isWhole_whole _) (spec0_0.stage (((Pipeline.pinD pcfgs (adm F) c 0).slots t) 0)) _
      (spec0_1.stage (((Pipeline.pinD pcfgs (adm F) c 0).slots t) 1)) _ om (Memref.isWhole_whole _) am (Memref.isWhole_whole _)
      gm (Memref.isWhole_whole _) stg (Memref.isWhole_whole _) cc0_scratch3 cc0_scratch4 cc0_scratch5 cc0_scratch6 cc0_scratch7 cc0_scratch8 cc0_scratch9
      cc0_scratch10 cc0_scratch11) fun _ => iprop(Ph (blks m) c (t.val + 1) ∗ (dats m 0 c).owesAt () (t.succ : Fin 33)
      ∗ owns c (spec0_0.stage (((Pipeline.pinD pcfgs (adm F) c 0).slots t) 0)) fullShare (blks m c t.val).1
      ∗ owns c (spec0_1.stage (((Pipeline.pinD pcfgs (adm F) c 0).slots t) 1)) fullShare (blks m c t.val).2)
  rw [Ph_out (blks m) c t.val t.isLt]
  unfold WP
  refine BIBase.Entails.trans ?_ (wp_fupd frame _ Set.univ _ _)
  iintro ⟨HS, HO, ⟨%d0, H0⟩, ⟨%d1, H1⟩⟩
  rw [before0, before1]
  ihave HO := (show (dats m 0 c).owesAt () (t.castSucc : Fin 33) ⊢ Ow F c t.val from owes_out m c t.castSucc) $$ HO
  iapply (point_run (blks m) c t _ _ _ _ _) $$ [HS HO H0 H1]
  · unfold Win
    isplitl [HS]; · iexact HS
    isplitl [HO]; · iexact HO
    isplitl [H0] <;> iassumption
  unfold Win
  iintro ⟨HS, HO, H0, H1⟩
  imod (Ph_in (blks m) c (t.val + 1) t.isLt) $$ HS with HS
  imodintro
  isplitl [HS]; · iexact HS
  isplitl [HO]
  · iapply (show Ow F c (t.val + 1) ⊢ (dats m 0 c).owesAt () (t.succ : Fin 33) from owes_in m c t.succ)
    iexact HO
  isplitl [H0] <;> iassumption

/-- Everything a device owes sits above the pipeline's own cells. -/
theorem owd_pos (c : Dev nD) (n : ℕ) {g : GSem nD τ sig} {u : Unit} (h : 0 < owd c n g u) : g.1.2 = .tc ∧ 0 < lv g u := by
  have htl : ∀ l, 0 < tl c l g u → g.1.2 = .tc ∧ 0 < lv g u := fun l h => by
    obtain ⟨ch, -, rfl⟩ := tl_pos h
    rw [lv_rc]
    exact ⟨rfl, (by decide : ∀ ch : Ch, 0 < ch.lev) ch⟩
  have hb : ∀ d, 0 < tallyAt (bc d) () 1 g u → g.1.2 = .tc ∧ 0 < lv g u := fun d h => by
    obtain ⟨rfl, -⟩ := Pipeline.tallyAt_pos h
    exact ⟨rfl, Nat.one_pos⟩
  unfold owd O₀ at h
  split at h
  · simp only [Pi.add_apply, Finsupp.add_apply] at h
    rcases Nat.eq_zero_or_pos (tl c order g u) with h0 | h0
    · rcases Nat.eq_zero_or_pos (tallyAt (bc (rt c)) () 1 g u) with h1 | h1
      · rcases Nat.eq_zero_or_pos (tallyAt (bc (lf c)) () 1 g u) with h2 | h2
        · exact hb (yn c) (by omega)
        · exact hb _ h2
      · exact hb _ h1
    · exact htl _ h0
  · split at h
    · exact htl _ h
    · split at h <;> exact htl _ h

theorem stage_low : (∀ s : Fin 2, lv (((0 : Dev nD) : Thread nD τ), .dma (spec0_0.sem s)) () = 0) ∧ ∀ s : Fin 2, lv (((0 : Dev nD) : Thread nD τ), .dma (spec0_1.sem s)) () = 0 := by
  decide

theorem waits (c : Dev nD) : (levAts L lv : sProp 𝕄) ⊢ Pipeline.PerCore.cellsWaits (Pipeline.pinD pcfgs (adm F)) (dats m) () 0 c := by
  refine Pipeline.PerCore.cellsWaits_intro _ (dats m) () 0 c fun w s t => ?_
  have hl : lv ((c : Thread nD τ), .dma (((Pipeline.pinD pcfgs (adm F) c 0).win w).sem s)) () = 0 := by
    revert s
    match w with
    | ⟨0, _⟩ => exact fun s => stage_low.1 s
    | ⟨1, _⟩ => exact fun s => stage_low.2 s
  refine MayOwe.of_cut (L := L) (lev := lv) 0 (fun p hp => ?_) (fun g u hg => ?_) (fun p hp => ?_) (fun g u hg => ?_)
  · rw [Finset.mem_singleton.mp hp, L_tc]; exact Finset.mem_singleton_self _
  · unfold L; rw [if_pos (owd_pos c t.val hg).1]; exact Finset.mem_singleton_self _
  · rw [Finset.mem_singleton.mp hp]; exact le_of_eq hl
  · exact (owd_pos c t.val hg).2

end

end Cert.KernelIdeal.Hand
end
-- ==== Proof.Table.lean ====
module

public import proofs.«01_k».proof.Proof.Dats
public import Idealize.ShloMosaic.Lib.StableHlo.ReadAt

@[expose] public section

noncomputable section

namespace Cert.KernelIdeal.Hand

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # The table of ring places, as the host computes it -/

/-- The mesh coordinates of a device, off its number, and its place on the ring. -/
theorem place_word : ∀ c : Dev nD, Scalar.select (IntOp.cmpi CmpIPredicate.eq (IntOp.remui .host (IntOp.divui .host c.word 8#32) 2#32) 0#32)
      (IntOp.remui .host (IntOp.divui .host c.word 1#32) 4#32)
      (IntOp.subi 7#32 (IntOp.remui .host (IntOp.divui .host c.word 1#32) 4#32)) = pw c := by decide

section
variable (m : (ℓ : Loc nD τ sig) → Buf (Elt F) ℓ)

theorem table_eq (c : Dev nD) : (V3 m c main_v12 : Buf (Elt F) (tb c)) = fun _ => pw c := by
  funext i
  simp only [V3, V2, V1]
  after_reads_at
  exact place_word c

end

end Cert.KernelIdeal.Hand
end
-- ==== Proof.Region.lean ====
module

public import proofs.«01_k».proof.Proof.Oblig
public import proofs.«01_k».proof.Proof.Table

@[expose] public section

noncomputable section

namespace Cert.KernelIdeal.Hand

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # The kernel's region of the program -/

section
variable (m : (ℓ : Loc nD τ sig) → Buf (Elt F) ℓ)

variable (F) in
/-- A copy before its cells are open: its tokens and the credit of the one to come. -/
def Tok (ch : Ch) (c : Dev nD) : sProp 𝕄 :=
  iprop(dutyTok ER (sc ch c) 0 (0 : Fin 3) ∗ dutyTok ER (rc ch (ch.to c)) 0 (0 : Fin 3) ∗ cred (tallyAt (rc ch c) () ch.amt))

/-- What the launch deals a device. -/
def Seed (c : Dev nD) : sProp 𝕄 :=
  iprop(∃ K, records (blks m) K ∗ levAts L lv ∗ (bigSep Finset.univ fun ch : Ch => openTok ER (sc ch c)) ∗ (bigSep Finset.univ fun ch : Ch => openTok ER (rc ch c))
    ∗ BarPre F c ∗ bigSep Finset.univ fun ch : Ch => Tok F ch c)

/-- What rides along the host's operations. -/
def Ride (c : Dev nD) : sProp 𝕄 := iprop(Seed m c ∗ ∃ W, owes (c : Thread nD τ) (O₀ c) W)

/-- What enters the kernel. -/
def Into (c : Dev nD) : sProp 𝕄 :=
  iprop(∃ K, records (blks m) K ∗ levAts L lv ∗ upsS F c ∗ ups F c ∗ BarPre F c ∗ (bigSep Finset.univ fun ch : Ch => Pre F ch c) ∗ Cz F c 0 ∗ Cz F c 1
    ∗ ∃ f : S4096x4096.Idx → Elt F .f32, ol c ↦{fullShare} f)

/-- A copy's tokens and its open cells are what its start needs. -/
theorem pre_of_tok (c : Dev nD) : iprop((bigSep Finset.univ fun ch : Ch => Tok F ch c) ∗ (bigSep Finset.univ fun ch : Ch => atPos ER (sc ch c) 0 ∅ 0)
      ∗ bigSep Finset.univ fun ch : Ch => atPos ER (rc ch c) 0 ∅ 0) ⊢ (bigSep Finset.univ fun ch : Ch => Pre F ch c : sProp 𝕄) := by
  rw [← bigSep_sep', ← bigSep_sep']
  refine bigSep_mono fun ch _ => ?_
  unfold Tok Pre
  show (iprop((dutyTok ER (sc ch c) 0 (0 : Fin 3) ∗ dutyTok ER (rc ch (ch.to c)) 0 (0 : Fin 3) ∗ cred (tallyAt (rc ch c) () ch.amt))
      ∗ atPos ER (sc ch c) 0 ∅ 0 ∗ atPos ER (rc ch c) 0 ∅ 0) : sProp 𝕄) ⊢ _
  iintro ⟨⟨T1, T2, T3⟩, PS, PR⟩
  isplitl [T1]; · iexact T1
  isplitl [T2]; · iexact T2
  isplitl [PS]; · iexact PS
  isplitl [PR] <;> iassumption

/-- The cells of the copies are opened. -/
theorem open_all (c : Dev nD) (f : S4096x4096.Idx → Elt F .f32) : iprop(Seed m c ∗ Pipeline.ownSems0 osem c ∗ (ol c ↦{fullShare} f)) ⊢ (iprop(|={Set.univ}=> Into m c) : sProp 𝕄) := by
  rw [ownSems_eq]
  unfold Seed Into
  iintro ⟨⟨%K, #HR, #Hlev, HoS, HoR, HB, HT⟩, ⟨HS, HC, C0, C1⟩, Ho⟩
  ihave HIS := (show iprop(records (blks m) K ∗ (bigSep Finset.univ fun ch : Ch => openTok ER (sc ch c))) ⊢
      ((bigSep Finset.univ fun ch : Ch => iprop(cellInv ER (Rd (blks m)) (K (sc ch c)) (sc ch c) ∗ openTok ER (sc ch c))) : sProp 𝕄) from
    bigSep_with_persistent (R := records (blks m) K) fun ch _ => BIClass.sep_mono (records_snd (blks m) K ch c) .rfl) $$ [HoS]
  · isplitr; · iexact HR
    iexact HoS
  ihave HIR := (show iprop(records (blks m) K ∗ (bigSep Finset.univ fun ch : Ch => openTok ER (rc ch c))) ⊢
      ((bigSep Finset.univ fun ch : Ch => iprop(cellInv ER (Rd (blks m)) (K (rc ch c)) (rc ch c) ∗ openTok ER (rc ch c))) : sProp 𝕄) from
    bigSep_with_persistent (R := records (blks m) K) fun ch _ => BIClass.sep_mono (records_rcv (blks m) K ch c) .rfl) $$ [HoR]
  · isplitr; · iexact HR
    iexact HoR
  imod (Rounds.cells_open ER (Rd (blks m)) Finset.univ (fun ch : Ch => sc ch c) (fun ch => K (sc ch c)) (fun _ _ => Set.mem_univ _)) $$ [HIS HS] with HS
  · isplitl [HIS] <;> iassumption
  imod (Rounds.cells_open ER (Rd (blks m)) Finset.univ (fun ch : Ch => rc ch c) (fun ch => K (rc ch c)) (fun _ _ => Set.mem_univ _)) $$ [HIR HC] with HC
  · isplitl [HIR] <;> iassumption
  ihave HS := (show (bigSep Finset.univ fun ch : Ch => iprop(atPos ER (sc ch c) 0 ∅ 0 ∗ reached ER (sc ch c) 0)) ⊢
      (iprop((bigSep Finset.univ fun ch : Ch => atPos ER (sc ch c) 0 ∅ 0) ∗ bigSep Finset.univ fun ch : Ch => reached ER (sc ch c) 0) : sProp 𝕄) from
    by rw [bigSep_sep']) $$ HS
  ihave HC := (show (bigSep Finset.univ fun ch : Ch => iprop(atPos ER (rc ch c) 0 ∅ 0 ∗ reached ER (rc ch c) 0)) ⊢
      (iprop((bigSep Finset.univ fun ch : Ch => atPos ER (rc ch c) 0 ∅ 0) ∗ bigSep Finset.univ fun ch : Ch => reached ER (rc ch c) 0) : sProp 𝕄) from
    by rw [bigSep_sep']) $$ HC
  icases HS with ⟨PS, US⟩
  icases HC with ⟨PR, UR⟩
  imodintro
  iexists K
  isplitr; · iexact HR
  isplitr; · iexact Hlev
  isplitl [US]; · unfold upsS; iexact US
  isplitl [UR]; · unfold ups; iexact UR
  isplitl [HB]; · iexact HB
  isplitl [PS PR HT]
  · iapply (pre_of_tok c)
    isplitl [HT]; · iexact HT
    isplitl [PS] <;> iassumption
  isplitl [C0]; · iexact C0
  isplitl [C1]; · iexact C1
  iexists f; iexact Ho

/-- What the kernel is entered with makes what its first point needs. -/
theorem first (c : Dev nD) : iprop(Into m c ∗ (tb c ↦{fullShare} (fun _ => pw c : Buf (Elt F) (tb c))) ∗ Pipeline.scopedRest spec0 c) ⊢ St0 (blks m) c := by
  rw [scopedRest0_eq]
  unfold Into St0 Keep Stg Acc
  iintro ⟨⟨%K, HR, Hlev, HuS, Hu, HB, HP, C0, C1, Ho⟩, Ht, ⟨⟨%fa, Ha⟩, ⟨%fg, Hg⟩, Hs⟩⟩
  ihave HP := (show (bigSep Finset.univ fun ch : Ch => Pre F ch c) ⊢
      (iprop((Pre F (.inl 0) c ∗ Pre F (.inl 1) c) ∗ bigSep (Finset.univ : Finset Rc) fun i => Pre F (.inr i) c) : sProp 𝕄) from
    by rw [bigSep_ch]) $$ HP
  icases HP with ⟨⟨P0, P1⟩, PR⟩
  ihave Hs := (stg_cut F c) $$ Hs
  icases Hs with ⟨S0, S1⟩
  iexists K
  isplitl [HR]; · iexact HR
  isplitl [Hlev]; · iexact Hlev
  isplitl [HuS]; · iexact HuS
  isplitl [Hu]; · iexact Hu
  isplitl [HB]; · iexact HB
  isplitl [P0]; · iexact P0
  isplitl [P1]; · iexact P1
  isplitl [PR]; · iexact PR
  isplitl [Hg]; · iexists fg; iexact Hg
  isplitl [Ha]
  · iexists fa
    isplitr
    · ipureintro; exact fun h => absurd rfl h
    iexact Ha
  isplitl [Ho]; · iexact Ho
  isplitr [Ht]
  · isplitl [S0]; · iexact S0
    isplitl [S1]; · iexact S1
    isplitl [C0] <;> iassumption
  iexact Ht

/-- What a device holds at the end. -/
def Gain (c : Dev nD) : sProp 𝕄 :=
  iprop((dats m 0 c).arrays ((dats m 0 c).arrAt · 32) ∗ semVal (bc c) 0 ∗ (ol c ↦{fullShare} ofin (blks m) c))

theorem dats_share (c : Dev nD) (w : Fin 2) : (dats m 0 c).share w = fullShare := (dats m 0 c).share_full (fun _ => rfl) w

theorem dats_A (c : Dev nD) : ∀ w : Fin 2, (dats m 0 c).A w = V3 m c (Pipeline.arrRef spec0 w)
  | 0 => (((V3_of m c main_arg0 (by decide)).trans <| (V2_of m c main_arg0 (by decide)).trans <| V1_of m c main_arg0 (by decide))).symm
  | 1 => (((V3_of m c main_arg1 (by decide)).trans <| (V2_of m c main_arg1 (by decide)).trans <| V1_of m c main_arg1 (by decide))).symm
  | ⟨_ + 2, h⟩ => absurd h (Nat.not_lt.2 (Nat.le_add_left _ _))

theorem held_pref (c : Dev nD) (pf : pre0.Contents (Elt F)) :
    (Pipeline.prefHeld pre0 c (fun _ => fullShare) pf : sProp 𝕄) = (tb c ↦{fullShare} (pf 0 : Buf (Elt F) (tb c))) := by
  unfold Pipeline.prefHeld
  rw [show (Finset.univ : Finset (Fin pre0.K)) = {0} from rfl, bigSep_singleton]
  rfl

/-- The buffers before the kernel: its arrays, the table, and the result to be written. -/
theorem enter_bufs (c : Dev nD) : StableHlo.held (c : Thread nD τ) (Pipeline.ucRefs τ sig) (V3 m c)
    ⊢ (iprop((dats m 0 c).arrays ((dats m 0 c).arrAt · 0) ∗ Pipeline.prefHeld pre0 c (fun _ => fullShare) (tblOf F c)
      ∗ ∃ f : S4096x4096.Idx → Elt F .f32, ol c ↦{fullShare} f) : sProp 𝕄) := by
  rw [← Pipeline.unscopedBufs_held (Ix := Unit) (Name := ℕ) (U := UU) (Lvl := ℕ) c (V3 m c)]
  refine BIBase.Entails.trans (Pipeline.PerCore.arrays_of_unscopedBufs (p := 0) pcfgs (adm F) (dats m) winFacts0 arr_whole0 c (dats_share m c) _ (dats_A m c)) ?_
  rw [show (Pipeline.unscopedRest (pcfgs (F := F) 0).spec c (fun b => V3 m c b) : sProp 𝕄) = _ from Pipeline.unscopedRest_split preFacts0 c _, held_pref, held_pref, unscopedRestP0_eq]
  iintro ⟨HA, HT, ⟨-, -, -, -, -, -, -, -, -, -, -, -, -, -, -, -, -, H⟩⟩
  isplitl [HA]; · iexact HA
  isplitl [HT]
  · iapply (show (tb c ↦{fullShare} (V3 m c main_v12 : Buf (Elt F) (tb c)) : sProp 𝕄) ⊢ (tb c ↦{fullShare} (tblOf F c 0 : Buf (Elt F) (tb c))) from by
      rw [table_eq]; exact .rfl)
    iexact HT
  iexists _; iexact H

/-- The kernel's region. -/
def R0 : Pipeline.PerCore.RegionSeg (pcfgs (F := F)) (adm F) (dats m) () defs₀ 𝒱₀ L lv 0 where
  win := winFacts0.to₀
  block_pos := block_pos0
  stage_whole := stage_whole0
  K := Ch ⊕ Ch ⊕ Fin 2
  osem := osem
  ho := osem_facts
  hbody c := body_obligation m c
  hwaits c := waits m c
  pre c := iprop(StableHlo.held (c : Thread nD τ) (Pipeline.ucRefs τ sig) (V3 m c) ∗ Ride m c)
  post c := iprop(Gain m c ∗ ∃ W, owes (c : Thread nD τ) (0 : CellTallies nD τ sig Unit) W)
  X c := Into m c
  Y c := iprop(semVal (bc c) 0 ∗ (ol c ↦{fullShare} ofin (blks m) c) ∗ (tb c ↦{fullShare} (fun _ => pw c : Buf (Elt F) (tb c))))
  Z _ := iprop(emp)
  hentry c := by
    unfold Ride
    iintro ⟨⟨Hh, HS, HO⟩, Hsem, -⟩
    ihave Hh := (enter_bufs m c) $$ Hh
    icases Hh with ⟨HA, HT, ⟨%f, Ho⟩⟩
    imod (open_all m c f) $$ [HS Hsem Ho] with HX
    · isplitl [HS]; · iexact HS
      isplitl [Hsem] <;> iassumption
    imodintro
    isplitl [HA]; · iexact HA
    isplitl [HT]; · iexact HT
    isplitl [HO]
    · iapply (show Ow F c 0 ⊢ (dats m 0 c).owesAt () (0 : Fin 33) from owes_in m c 0)
      unfold Ow
      iexact HO
    isplitl [HX]; · iexact HX
    iempintro
  hin c := by
    show iprop(Into m c ∗ Pipeline.prefHeld pre0 c (fun _ => fullShare) (tblOf F c) ∗ Pipeline.scopedRest spec0 c) ⊢ Ph (blks m) c 0
    rw [held_pref]
    exact first m c
  hout c := by
    show Ph (blks m) c 32 ⊢ _
    unfold Ph
    rw [if_pos rfl]
    exact .rfl
  hexit c := by
    unfold Gain
    refine BIBase.Entails.trans (BIClass.sep_mono .rfl (BIClass.sep_mono (owes_out m c (Fin.last 32)) .rfl)) ?_
    iintro ⟨HA, HO, ⟨Hb, Ho, -⟩, -⟩
    imodintro
    isplitr [HO]
    · isplitl [HA]; · iexact HA
      isplitl [Hb] <;> iassumption
    unfold Ow
    iexact HO

end

end Cert.KernelIdeal.Hand
end
-- ==== Proof.Deal.lean ====
module

public import proofs.«01_k».proof.Proof.Region

@[expose] public section

noncomputable section

namespace Cert.KernelIdeal.Hand

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # What the launch deals -/

section

/-! ## The cells and the tokens -/

/-- The cell of a copy at its sender (`false`) or its receiver (`true`). -/
abbrev cell (x : Bool × (Dev nD × Ch)) : GSem nD τ sig := ((x.2.1 : Thread nD τ), .dma (if x.1 then x.2.2.rcv else x.2.2.snd))

theorem chOf_cell (x : Bool × (Dev nD × Ch)) : chOf (if x.1 then x.2.2.rcv else x.2.2.snd) = some (x.1, x.2.2) := by
  rcases x with ⟨_ | _, c, ch⟩
  · exact chOf_snd ch
  · exact chOf_rcv ch

theorem dev_inj {c d : Dev nD} {s s' : SemLoc sig} (h : (((c : Thread nD τ), s) : GSem nD τ sig) = ((d : Thread nD τ), s')) : c = d :=
  congrArg (fun g : GSem nD τ sig => g.1.1) h

theorem cell_inj : Function.Injective cell := fun x y h => by
  have hs : (if x.1 then x.2.2.rcv else x.2.2.snd) = (if y.1 then y.2.2.rcv else y.2.2.snd) := SemLoc.dma.inj (congrArg Prod.snd h)
  have e := (chOf_cell x).symm.trans ((congrArg chOf hs).trans (chOf_cell y))
  have e := Option.some.inj e
  exact Prod.ext (congrArg (fun p : Bool × Ch => p.1) e) (Prod.ext (dev_inj h) (congrArg (fun p : Bool × Ch => p.2) e))

/-- The barrier's cells, open from the launch on. -/
def bars : Finset (GSem nD τ sig) := Finset.univ.map ⟨fun c : Dev nD => bc c, fun _ _ h => dev_inj h⟩
/-- The copies' cells, opened by their owners when the kernel begins. -/
def chans : Finset (GSem nD τ sig) := Finset.univ.map ⟨cell, cell_inj⟩
/-- The tokens of the payments. -/
def barToks : Finset (GSem nD τ sig × ℕ × Fin 3) :=
  Finset.univ.map ⟨fun x : Dev nD × Fin 3 => (bc x.1, 0, x.2), fun _ _ h =>
    Prod.ext (dev_inj (congrArg Prod.fst h)) (congrArg (fun t : GSem nD τ sig × ℕ × Fin 3 => t.2.2) h)⟩
def chToks : Finset (GSem nD τ sig × ℕ × Fin 3) :=
  Finset.univ.map ⟨fun x : Bool × (Dev nD × Ch) => (cell x, 0, (0 : Fin 3)), fun _ _ h => cell_inj (congrArg Prod.fst h)⟩

theorem dma_ne_reg {s r} : (SemLoc.dma s : SemLoc sig) ≠ .reg r := fun h => by cases h

theorem bars_chans : Disjoint bars chans := by
  rw [Finset.disjoint_left]
  rintro g h₁ h₂
  obtain ⟨c, -, rfl⟩ := Finset.mem_map.mp h₁
  obtain ⟨x, -, h⟩ := Finset.mem_map.mp h₂
  exact dma_ne_reg (congrArg (fun g : GSem nD τ sig => g.2) h)
theorem toks_disjoint : Disjoint barToks chToks := by
  rw [Finset.disjoint_left]
  rintro g h₁ h₂
  obtain ⟨c, -, rfl⟩ := Finset.mem_map.mp h₁
  obtain ⟨x, -, h⟩ := Finset.mem_map.mp h₂
  exact dma_ne_reg (congrArg (fun t : GSem nD τ sig × ℕ × Fin 3 => t.1.2) h)

/-- Who pays whom, as bijections. -/
def eqY : Dev nD ≃ Dev nD := ⟨yn, yn, yn_yn, yn_yn⟩
def eqR : Dev nD ≃ Dev nD := ⟨rt, lf, lf_rt, rt_lf⟩
def eqL : Dev nD ≃ Dev nD := ⟨lf, rt, rt_lf, lf_rt⟩
def eqTo (ch : Ch) : Dev nD ≃ Dev nD := ⟨ch.to, ch.frm, fun c => ch.frm_to c, fun c => ch.to_frm c⟩
def eqPair : Dev nD × Ch ≃ Dev nD × Ch :=
  ⟨fun x => (x.2.to x.1, x.2), fun x => (x.2.frm x.1, x.2), fun x => Prod.ext (x.2.frm_to x.1) rfl, fun x => Prod.ext (x.2.to_frm x.1) rfl⟩

theorem sep_bool (Φ : Bool × (Dev nD × Ch) → sProp 𝕄) : bigSep Finset.univ Φ
    = iprop((bigSep Finset.univ fun x : Dev nD × Ch => Φ (false, x)) ∗ bigSep Finset.univ fun x : Dev nD × Ch => Φ (true, x)) := by
  refine (bigSep_univ_prod Φ).trans ?_
  rw [show (Finset.univ : Finset Bool) = {false, true} by decide, bigSep_insert (by decide), bigSep_singleton]
  rfl

theorem sep_three (Φ : Fin 3 → sProp 𝕄) : bigSep Finset.univ Φ = iprop(Φ 0 ∗ Φ 1 ∗ Φ 2) := by
  rw [show (Finset.univ : Finset (Fin 3)) = insert 0 (insert 1 {2}) from rfl, bigSep_insert (by decide), bigSep_insert (by decide), bigSep_singleton]
  rfl

theorem chans_eq (Φ : GSem nD τ sig → sProp 𝕄) : bigSep chans Φ
    = iprop((bigSep Finset.univ fun x : Dev nD × Ch => Φ (sc x.2 x.1)) ∗ bigSep Finset.univ fun x : Dev nD × Ch => Φ (rc x.2 x.1)) := by
  unfold chans
  rw [bigSep_map]
  exact sep_bool _

theorem bars_eq (Φ : GSem nD τ sig → sProp 𝕄) : bigSep bars Φ = bigSep Finset.univ fun c : Dev nD => Φ (bc c) := by
  unfold bars
  rw [bigSep_map]
  rfl

theorem by_dev (Φ : Dev nD × Ch → sProp 𝕄) : bigSep Finset.univ Φ = bigSep Finset.univ fun c : Dev nD => bigSep Finset.univ fun ch : Ch => Φ (c, ch) :=
  bigSep_univ_prod Φ

variable (F) in
/-- The tokens a device starts with. -/
def Paid (c : Dev nD) : sProp 𝕄 :=
  iprop((dutyTok ER (bc (yn c)) 0 (0 : Fin 3) ∗ dutyTok ER (bc (rt c)) 0 (1 : Fin 3) ∗ dutyTok ER (bc (lf c)) 0 (2 : Fin 3))
    ∗ (bigSep Finset.univ fun ch : Ch => dutyTok ER (sc ch c) 0 (0 : Fin 3)) ∗ bigSep Finset.univ fun ch : Ch => dutyTok ER (rc ch (ch.to c)) 0 (0 : Fin 3))

theorem toks_eq : (bigSep (barToks ∪ chToks) fun x => (dutyTok ER x.1 x.2.1 x.2.2 : sProp 𝕄)) = bigSep Finset.univ fun c : Dev nD => Paid F c := by
  have hb : (bigSep barToks fun x => (dutyTok ER x.1 x.2.1 x.2.2 : sProp 𝕄))
      = bigSep Finset.univ fun c : Dev nD => iprop(dutyTok ER (bc (yn c)) 0 (0 : Fin 3) ∗ dutyTok ER (bc (rt c)) 0 (1 : Fin 3) ∗ dutyTok ER (bc (lf c)) 0 (2 : Fin 3)) := by
    unfold barToks
    rw [bigSep_map, bigSep_univ_prod]
    refine (bigSep_congr fun c _ => sep_three fun d => dutyTok ER (bc c) 0 d).trans ?_
    rw [bigSep_sep', bigSep_sep', bigSep_sep', bigSep_sep', bigSep_univ_equiv eqY (fun c : Dev nD => (dutyTok ER (bc c) 0 (0 : Fin 3) : sProp 𝕄)),
      bigSep_univ_equiv eqR (fun c : Dev nD => (dutyTok ER (bc c) 0 (1 : Fin 3) : sProp 𝕄)),
      bigSep_univ_equiv eqL (fun c : Dev nD => (dutyTok ER (bc c) 0 (2 : Fin 3) : sProp 𝕄))]
    rfl
  have hc : (bigSep chToks fun x => (dutyTok ER x.1 x.2.1 x.2.2 : sProp 𝕄))
      = bigSep Finset.univ fun c : Dev nD => iprop((bigSep Finset.univ fun ch : Ch => dutyTok ER (sc ch c) 0 (0 : Fin 3)) ∗ bigSep Finset.univ fun ch : Ch => dutyTok ER (rc ch (ch.to c)) 0 (0 : Fin 3)) := by
    unfold chToks
    rw [bigSep_map]
    refine (sep_bool _).trans ?_
    rw [bigSep_sep', ← by_dev (fun x => (dutyTok ER (sc x.2 x.1) 0 (0 : Fin 3) : sProp 𝕄)),
      ← by_dev (fun x => (dutyTok ER (rc x.2 (x.2.to x.1)) 0 (0 : Fin 3) : sProp 𝕄))]
    exact congrArg (fun P : sProp 𝕄 => iprop((bigSep Finset.univ fun x : Dev nD × Ch => dutyTok ER (sc x.2 x.1) 0 (0 : Fin 3)) ∗ P))
      (bigSep_univ_equiv eqPair (fun x : Dev nD × Ch => (dutyTok ER (rc x.2 x.1) 0 (0 : Fin 3) : sProp 𝕄)))
  rw [bigSep_union toks_disjoint]
  unfold Paid
  rw [bigSep_sep']
  exact congrArg₂ (fun P Q : sProp 𝕄 => iprop(P ∗ Q)) hb hc

/-! ## The credits -/

/-- What the others owe device `c`. -/
def due (c : Dev nD) : CellTallies nD τ sig Unit :=
  (((∑ ch : Ch, tallyAt (rc ch c) () ch.amt) + tallyAt (bc c) () 1) + tallyAt (bc c) () 1) + tallyAt (bc c) () 1

theorem tl_sum (c : Dev nD) : ∀ l : List Ch, tl c l = (l.map fun ch : Ch => (tallyAt (rc ch (ch.to c)) () ch.amt : CellTallies nD τ sig Unit)).sum
  | [] => rfl
  | ch :: l => by rw [tl, tl_sum c l, List.map_cons, List.sum_cons, add_comm]

theorem order_nodup : order.Nodup := by decide
theorem order_all : order.toFinset = Finset.univ := by decide

theorem tl_order (c : Dev nD) : tl c order = ∑ ch : Ch, (tallyAt (rc ch (ch.to c)) () ch.amt : CellTallies nD τ sig Unit) := by
  rw [tl_sum, ← order_all, List.sum_toFinset _ order_nodup]

theorem due_sum : (∑ c : Dev nD, O₀ c) = ∑ c : Dev nD, due c := by
  unfold O₀ due
  simp only [Finset.sum_add_distrib, tl_order]
  rw [Finset.sum_comm, Finset.sum_comm (f := fun c ch => (tallyAt (rc ch c) () ch.amt : CellTallies nD τ sig Unit))]
  refine congrArg₂ (· + ·) (congrArg₂ (· + ·) (congrArg₂ (· + ·) (Finset.sum_congr rfl fun ch _ => ?_) ?_) ?_) ?_
  · exact Equiv.sum_comp (eqTo ch) fun c => (tallyAt (rc ch c) () ch.amt : CellTallies nD τ sig Unit)
  · exact Equiv.sum_comp eqR fun c => (tallyAt (bc c) () 1 : CellTallies nD τ sig Unit)
  · exact Equiv.sum_comp eqL fun c => (tallyAt (bc c) () 1 : CellTallies nD τ sig Unit)
  · exact Equiv.sum_comp eqY fun c => (tallyAt (bc c) () 1 : CellTallies nD τ sig Unit)

theorem tally_off {g h : GSem nD τ sig} {n : ℕ} (e : g.1 ≠ h.1) : (tallyAt h () n : CellTallies nD τ sig Unit) g = 0 :=
  tallyAt_ne_cell (fun x => e (congrArg Prod.fst x)) () n

theorem due_own (c : Dev nD) (g : GSem nD τ sig) (h : due c g ≠ 0) : g.1 = (c : Thread nD τ) := by
  by_contra e
  refine h ?_
  unfold due
  rw [Pi.add_apply, Pi.add_apply, Pi.add_apply, Finset.sum_apply, Finset.sum_eq_zero fun ch _ => tally_off e, tally_off e]
  simp

theorem tally_three (c : Dev nD) : ((tallyAt (bc c) () 1 + tallyAt (bc c) () 1) + tallyAt (bc c) () 1 : CellTallies nD τ sig Unit) = tallyAt (bc c) () 3 := by
  rw [tallyAt_add, tallyAt_add]

theorem creds (c : Dev nD) : (Pipeline.launchCred O₀ c : sProp 𝕄)
    ⊢ iprop((bigSep Finset.univ fun ch : Ch => cred (tallyAt (rc ch c) () ch.amt)) ∗ cred (tallyAt (bc c) () 3)) := by
  rw [Pipeline.launchCred_of_sum O₀ due due_sum due_own c, show due c = (∑ ch : Ch, tallyAt (rc ch c) () ch.amt) + tallyAt (bc c) () 3 from by
    unfold due; rw [add_assoc, add_assoc, ← add_assoc (tallyAt (bc c) () 1), tally_three], ← Pipeline.cred_finsetSum]
  exact (cred_add _ _).1

/-! ## The seed of every device -/

variable (m : (ℓ : Loc nD τ sig) → Buf (Elt F) ℓ)

variable (F) in
/-- What is dealt to device `c` alone. -/
def Own (c : Dev nD) : sProp 𝕄 :=
  iprop(atPos ER (bc c) 0 (∅ : Finset (Fin 3)) 0 ∗ (bigSep Finset.univ fun ch : Ch => openTok ER (sc ch c)) ∗ (bigSep Finset.univ fun ch : Ch => openTok ER (rc ch c))
    ∗ Paid F c ∗ Pipeline.launchCred O₀ c)

theorem deal_join : iprop((bigSep Finset.univ fun c : Dev nD => atPos ER (bc c) 0 (∅ : Finset (Fin 3)) 0)
      ∗ (bigSep Finset.univ fun c : Dev nD => bigSep Finset.univ fun ch : Ch => openTok ER (sc ch c))
      ∗ (bigSep Finset.univ fun c : Dev nD => bigSep Finset.univ fun ch : Ch => openTok ER (rc ch c))
      ∗ (bigSep Finset.univ fun c : Dev nD => Paid F c) ∗ bigSep Finset.univ fun c : Dev nD => Pipeline.launchCred O₀ c) ⊢ (bigSep Finset.univ fun c : Dev nD => Own F c : sProp 𝕄) := by
  unfold Own
  rw [bigSep_sep', bigSep_sep', bigSep_sep', bigSep_sep']

/-- What is dealt to all. -/
def Share (K : GSem nD τ sig → ℕ) : sProp 𝕄 :=
  iprop(records (blks m) K ∗ levAts L lv ∗ bigSep Finset.univ fun c : Dev nD => reached ER (bc c) 0)
instance Share_persistent (K : GSem nD τ sig → ℕ) : BI.Persistent (Share m K) := by unfold Share; infer_instance

theorem reached_bar (d : Dev nD) : (bigSep Finset.univ fun c : Dev nD => (reached ER (bc c) 0 : sProp 𝕄)) ⊢ reached ER (bc d) 0 := bigSep_at (Finset.mem_univ d)

theorem toks_join (c : Dev nD) : iprop((bigSep Finset.univ fun ch : Ch => dutyTok ER (sc ch c) 0 (0 : Fin 3)) ∗ (bigSep Finset.univ fun ch : Ch => dutyTok ER (rc ch (ch.to c)) 0 (0 : Fin 3))
      ∗ bigSep Finset.univ fun ch : Ch => cred (tallyAt (rc ch c) () ch.amt)) ⊢ (bigSep Finset.univ fun ch : Ch => Tok F ch c : sProp 𝕄) := by
  unfold Tok
  rw [bigSep_sep', bigSep_sep']

theorem seed_intro (K : GSem nD τ sig → ℕ) (c : Dev nD) : iprop(Share m K ∗ Own F c) ⊢ Seed m c := by
  unfold Share Own Seed BarPre Paid
  iintro ⟨⟨#HR, #Hlev, #Hb⟩, Hat, HoS, HoR, ⟨⟨T0, T1, T2⟩, TS, TR⟩, Hcr⟩
  ihave Hcr := (creds (F := F) c) $$ Hcr
  icases Hcr with ⟨HC, HB⟩
  iexists K
  isplitr; · iexact HR
  isplitr; · iexact Hlev
  isplitl [HoS]; · iexact HoS
  isplitl [HoR]; · iexact HoR
  isplitr [TS TR HC]
  · isplitl [T0 T1 T2]
    · isplitl [T0]; · iexact T0
      isplitl [T2] <;> iassumption
    isplitr
    · isplitr; · iapply (reached_bar (F := F) (yn c)); iexact Hb
      isplitr; · iapply (reached_bar (F := F) (lf c)); iexact Hb
      iapply (reached_bar (F := F) (rt c)); iexact Hb
    isplitl [Hat] <;> iassumption
  iapply (toks_join (F := F) c)
  isplitl [TS]; · iexact TS
  isplitl [TR] <;> iassumption

theorem records_intro (K : GSem nD τ sig → ℕ) : (bigSep (bars ∪ chans) fun g => (cellInv ER (Rd (blks m)) (K g) g : sProp 𝕄)) ⊢ records (blks m) K := by
  rw [bigSep_union bars_chans, bars_eq, chans_eq]
  exact .rfl

/-- The launch's element. -/
def dealt : UX := launchOf bars chans (barToks ∪ chToks)

/-- Every device's seed, out of what the launch hands over. -/
theorem seeds : iprop((bigSep Finset.univ fun c : Dev nD => (semVal (bc c) 0 : sProp 𝕄)) ∗ (bigSep Finset.univ fun c : Dev nD => Pipeline.launchCred O₀ c) ∗ BI.own (ER dealt) ∗ levAts L lv)
    ⊢ (iprop(|={Set.univ}=> bigSep Finset.univ fun c : Dev nD => Seed m c) : sProp 𝕄) := by
  iintro ⟨Hv, Hcr, Hu, #Hlev⟩
  unfold dealt
  imod (Rounds.fund_launch ER (Rd (blks m)) bars_chans (fun g _ h => h) (barToks ∪ chToks)) $$ [Hv Hu] with ⟨%K, -, #Hinv, #Hr, Hat, Hopen, Htok⟩
  · isplitl [Hv]
    · iapply (show (bigSep Finset.univ fun c : Dev nD => (semVal (bc c) 0 : sProp 𝕄)) ⊢ bigSep bars (fun g => (semVal g 0 : sProp 𝕄)) from by rw [bars_eq])
      iexact Hv
    · iexact Hu
  imodintro
  ihave Hat := (show bigSep bars (fun g => (atPos ER g 0 ∅ 0 : sProp 𝕄)) ⊢ bigSep Finset.univ (fun c : Dev nD => (atPos ER (bc c) 0 ∅ 0 : sProp 𝕄)) from by rw [bars_eq]) $$ Hat
  ihave Hopen := (show bigSep chans (fun g => (openTok ER g : sProp 𝕄)) ⊢ iprop((bigSep Finset.univ fun c : Dev nD => bigSep Finset.univ fun ch : Ch => openTok ER (sc ch c))
      ∗ bigSep Finset.univ fun c : Dev nD => bigSep Finset.univ fun ch : Ch => openTok ER (rc ch c)) from by rw [chans_eq, by_dev, by_dev]) $$ Hopen
  icases Hopen with ⟨HoS, HoR⟩
  ihave Htok := (Entails.of_eq (toks_eq (F := F))) $$ Htok
  iapply (bigSep_with_persistent (R := Share m K) (Φ := fun c => Own F c) fun c _ => seed_intro m K c)
  isplitr
  · unfold Share
    isplitr; · iapply (records_intro m K); iexact Hinv
    isplitr; · iexact Hlev
    iapply (show bigSep bars (fun g => (reached ER g 0 : sProp 𝕄)) ⊢ bigSep Finset.univ (fun c : Dev nD => (reached ER (bc c) 0 : sProp 𝕄)) from by rw [bars_eq])
    iexact Hr
  iapply (deal_join (F := F))
  isplitl [Hat]; · iexact Hat
  isplitl [HoS]; · iexact HoS
  isplitl [HoR]; · iexact HoR
  isplitl [Htok] <;> iassumption

end

end Cert.KernelIdeal.Hand
end
-- ==== Proof.Program.lean ====
module

public import proofs.«01_k».proof.Proof.Deal

@[expose] public section

noncomputable section

namespace Cert.KernelIdeal.Hand

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # The whole program -/

section
variable (m : (ℓ : Loc nD τ sig) → Buf (Elt F) ℓ) (ρ : Dev nD → PrngReg)

/-- What rides along at each point of the host's program. -/
abbrev riding (_ : Fin 2) (c : Dev nD) : sProp 𝕄 := Ride m c

/-- The program's pieces on device `c`: the host's operations, then the kernel. -/
def pieces (c : Dev nD) : List (Pipeline.PerCore.Seg (pcfgs (F := F)) (adm F) (dats m) () defs₀ 𝒱₀ L lv) :=
  [.host (seg0 m 𝒱₀ L lv (riding m) c), .host (seg1 m 𝒱₀ L lv (riding m)), .host (seg2 m 𝒱₀ L lv (riding m)), .region (R0 m)]

theorem cells_inj : Function.Injective (Pipeline.PerCore.cellOf (nD := nD) (τ := τ) (Pipeline.pinD (pcfgs (F := F)) (adm F))) :=
  Pipeline.PerCore.cellOf_injective _ (fun _ p => by fin_cases p; exact (by decide : Pipeline.SpecSemsDistinct spec0))
    (fun _ p p' h => absurd (Subsingleton.elim p p') h)

theorem L_off (g : GSem nD τ sig) (h : g.1.2 ≠ .tc) : L g = ∅ := if_neg h

theorem free_sems (c : Dev nD) : (unscopedSems0 c : sProp 𝕄) = semVal (bc c) 0 := by
  unfold unscopedSems0
  rw [show (Finset.univ.filter fun sm : SemLoc sig => ¬ sm.isScoped .tc) = {SemLoc.reg barS} from by decide, bigSep_singleton]

theorem free_only : ∀ sm : SemLoc sig, sm.isScoped .tc = false → sm = .reg barS := by decide

/-- The launch's element: the staging cells', and the exchange's. -/
def u₀ : UU :=
  (Rounds.initOf (Pipeline.PerCore.cells (Pipeline.pinD (pcfgs (F := F)) (adm F)) cells_inj) (Pipeline.PerCore.launchToks (Pipeline.pinD (pcfgs (F := F)) (adm F)) cells_inj),
    (dealt, 1))

variable (F) in
/-- The exchange's element, held by device 0 until it is dealt. -/
def parked (c : Dev nD) : sProp 𝕄 := if c = 0 then BI.own (ER dealt) else iprop(emp)

theorem parked_all : (bigSep Finset.univ fun c : Dev nD => parked F c) = (BI.own (ER dealt) : sProp 𝕄) := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked
  rw [if_pos rfl]
  exact BI.equiv_iff.mp sep_emp

/-- The launch's element, cut into its two parts. -/
theorem u₀_cut : (ownU (u₀ (F := F)) : sProp 𝕄) ⊢ iprop(|={Set.univ}=> (BI.own (EP (Rounds.initOf (Pipeline.PerCore.cells (Pipeline.pinD (pcfgs (F := F)) (adm F)) cells_inj)
      (Pipeline.PerCore.launchToks (Pipeline.pinD (pcfgs (F := F)) (adm F)) cells_inj))) ∗ bigSep Finset.univ fun c : Dev nD => parked F c)) := by
  unfold u₀
  iintro Hu
  ihave H := (ownU_pair _ _) $$ Hu
  icases H with ⟨HP, HX⟩
  ihave HX := (show BI.own (embR ((dealt, 1) : UB)) ⊢ (iprop(BI.own (ER dealt) ∗ BI.own (((Emb.inr : Emb Counters UB).trans (embR : Emb UB (MT nD τ sig Unit (Elt F) ℕ UU ℕ))) (1 : Counters))) : sProp 𝕄) from
    own_pair_emb (embR : Emb UB (MT nD τ sig Unit (Elt F) ℕ UU ℕ)) dealt (1 : Counters)) $$ HX
  icases HX with ⟨HX, -⟩
  imodintro
  isplitl [HP]; · iexact HP
  iapply (Entails.of_eq (parked_all (F := F)).symm)
  iexact HX

/-- What a device starts with. -/
def From (c : Dev nD) : sProp 𝕄 := iprop(StableHlo.held (c : Thread nD τ) (Pipeline.ucRefs τ sig) (V0 m c) ∗ Ride m c)

theorem deal_all : iprop((bigSep Finset.univ fun c : Dev nD => iprop(unscopedBufs c (fun b => m ((c.tc : Thread nD τ).loc b)) ∗ unscopedSems0 c
      ∗ owes (c.tc : Thread nD τ) (O₀ c) ∅ ∗ Pipeline.launchCred O₀ c ∗ prngReg c (ρ c) ∗ parked F c)) ∗ levAts L lv)
    ⊢ (iprop(|={Set.univ}=> bigSep Finset.univ (From m)) : sProp 𝕄) := by
  have hcut : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ parked F c))
      ⊢ (iprop((bigSep Finset.univ fun c : Dev nD => iprop(StableHlo.held (c : Thread nD τ) (Pipeline.ucRefs τ sig) (V0 m c) ∗ ∃ W, owes (c : Thread nD τ) (O₀ c) W))
        ∗ (bigSep Finset.univ fun c : Dev nD => (semVal (bc c) 0 : sProp 𝕄)) ∗ (bigSep Finset.univ fun c : Dev nD => Pipeline.launchCred O₀ c)
        ∗ bigSep Finset.univ fun c : Dev nD => parked F c) : sProp 𝕄) := by
    rw [← bigSep_sep', ← bigSep_sep', ← bigSep_sep']
    refine bigSep_mono fun c _ => ?_
    show (iprop(unscopedBufs c (fun b => m ((c.tc : Thread nD τ).loc b)) ∗ unscopedSems0 c ∗ owes (c.tc : Thread nD τ) (O₀ c) ∅ ∗ Pipeline.launchCred O₀ c
      ∗ prngReg c (ρ c) ∗ parked F c) : sProp 𝕄) ⊢ _
    iintro ⟨Hh, Hs, HO, HC, -, HG⟩
    ihave Hh := (show (unscopedBufs c (fun b => m ((c.tc : Thread nD τ).loc b)) : sProp 𝕄) ⊢ StableHlo.held (c : Thread nD τ) (Pipeline.ucRefs τ sig) (V0 m c) from
      Entails.of_eq (Pipeline.unscopedBufs_held (Ix := Unit) (Name := ℕ) (U := UU) (Lvl := ℕ) c (V0 m c))) $$ Hh
    ihave Hs := (Entails.of_eq (free_sems (F := F) c)) $$ Hs
    isplitl [Hh HO]
    · isplitl [Hh]; · iexact Hh
      iexists ∅; iexact HO
    isplitl [Hs]; · iexact Hs
    isplitl [HC] <;> iassumption
  have hjoin : iprop((bigSep Finset.univ fun c : Dev nD => iprop(StableHlo.held (c : Thread nD τ) (Pipeline.ucRefs τ sig) (V0 m c) ∗ ∃ W, owes (c : Thread nD τ) (O₀ c) W))
        ∗ bigSep Finset.univ fun c : Dev nD => Seed m c) ⊢ (bigSep Finset.univ (From m) : sProp 𝕄) := by
    rw [← bigSep_sep']
    refine bigSep_mono fun c _ => ?_
    unfold From Ride
    show (iprop((StableHlo.held (c : Thread nD τ) (Pipeline.ucRefs τ sig) (V0 m c) ∗ ∃ W, owes (c : Thread nD τ) (O₀ c) W) ∗ Seed m c) : sProp 𝕄) ⊢ _
    iintro ⟨⟨Hh, HO⟩, HS⟩
    isplitl [Hh]; · iexact Hh
    isplitl [HS] <;> iassumption
  iintro ⟨H, #Hlev⟩
  ihave H := hcut $$ H
  icases H with ⟨HB, Hv, HC, HG⟩
  ihave HG := (Entails.of_eq (parked_all (F := F))) $$ HG
  imod (seeds m) $$ [Hv HC HG] with HS
  · isplitl [Hv]; · iexact Hv
    isplitl [HC]; · iexact HC
    isplitl [HG]; · iexact HG
    iexact Hlev
  imodintro
  iapply hjoin
  isplitl [HB] <;> iassumption

/-- What is read off the final memory of a device. -/
def Read (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1))
    ∧ s.mem (ol c) = (ofin (blks m) c : Buf (Elt F) (ol c)) ∧ s.sem (bc c) = 0

theorem read_end (c : Dev nD) (s' : Phys nD τ sig (Elt F)) : iprop(Gain m c ∗ SI s') ⊢ (iprop(|={Set.univ}=> (⌜Read m c s'.mem⌝ ∗ SI s')) : sProp 𝕄) := by
  unfold Gain
  iintro ⟨⟨HA, Hb, Ho⟩, HSI⟩
  icombine HSI Hb gives %hb
  icombine HSI Ho gives %ho
  ihave H := (show iprop((dats m 0 c).arrays ((dats m 0 c).arrAt · 32) ∗ SI s')
      ⊢ iprop(⌜∀ w : Fin 2, s'.mem.mem ((spec0 w).arr.view.loc (c.tc : Thread nD τ)) = (dats m 0 c).arrAt w 32⌝ ∗ SI s') from
    Pipeline.PerCore.arrays_read (p := 0) (pcfgs (F := F)) (adm F) (dats m) arr_whole0 c (dats_share m c) _ s') $$ [HA HSI]
  · isplitl [HA] <;> iassumption
  icases H with ⟨%ha, HSI⟩
  imodintro
  isplitr
  · ipureintro
    exact ⟨⟨(ha 0).trans ((dats m 0 c).arrAt_in 0 rfl _), (ha 1).trans ((dats m 0 c).arrAt_in 1 rfl _)⟩, Buf.eq_of_forall_mem_univ ho, by simpa using hb⟩
  iexact HSI

set_option backward.isDefEq.respectTransparency.types false in
/-- Every device ends with the sum of all in its result, its arguments unchanged, and every counter at zero. -/
theorem run_main : θ_run defs (onTc (τ := τ) (main (F := F))) ⟨m, fun _ => 0, ρ⟩ (fun r =>
    (∀ c : Dev nD, (r.2.mem ((c : Thread nD τ).loc main_arg0) = m ((c : Thread nD τ).loc main_arg0) ∧ r.2.mem ((c : Thread nD τ).loc main_arg1) = m ((c : Thread nD τ).loc main_arg1))
      ∧ r.2.mem (ol c) = (ofin (blks m) c : Buf (Elt F) (ol c))) ∧ r.2.sem = fun _ => 0) :=
  Pipeline.PerCore.θ_run_regions_kit_sems (pcfgs (F := F)) (adm F) (dats m) () cells_inj EP defs₀ 𝒱₀ L lv m ρ main (pieces m)
    (fun c Q => by
      rewrite [main_chain c, Pipeline.PerCore.Seg.run_eq_chain, show (pieces m c).map Pipeline.PerCore.Seg.prog
        = [StableHlo.seq (hostOps0 c), StableHlo.seq hostOps0_1, StableHlo.seq hostOps0_2, Prog.lift (.customCall (Pipeline.entry 0) ())] from rfl]
      dsimp (config := { failIfUnchanged := false }) only
      exact .rfl)
    (fun c => by
      simp only [pieces, Pipeline.PerCore.Seg.pipes_host, Pipeline.PerCore.Seg.pipes_region, Pipeline.PerCore.Seg.pipes_nil]
      decide)
    (O₀ := O₀) (hL := L_off) (G := fun c => parked F c) (u₀ := u₀) (hu₀ := u₀_cut)
    (T₀ := From m) (Tₙ := Gain m)
    (hch := fun c => ⟨.rfl, .rfl, .rfl, .rfl, .rfl⟩)
    (hinit := deal_all m ρ) (QY := Read m) (hfin := read_end m)
    (hQ := fun s h hs => ⟨fun c => ⟨(h c).1, (h c).2.1⟩, sem_eq_zero hs fun c sm hsm => by
      obtain rfl := free_only sm hsm
      exact (h c).2.2⟩)

end

end Cert.KernelIdeal.Hand
end
-- ==== Proof.Value.lean ====
module

public import proofs.«01_k».proof.Proof.Program
public import Idealize.ShloMosaic.Lib.MatmulPlain
public import Idealize.ShloMosaic.Lib.ValueLayout
public import Idealize.ShloMosaic.Lib.Layout

@[expose] public section

noncomputable section

namespace Cert.KernelIdeal.Hand

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # The value over the reals

Device `c` sums the products of its rows of the first array with all rows of the second over its half of the contracted
coordinates. The two halves are added across the sides, so that each strip ends as rows of the whole product. -/

open Idealize.ShloMosaic.ValueIdx hiding ix2 ix3

/-- The shape of the whole arrays. -/
abbrev SW : Shape := ⟨2, ![4096, 16384]⟩

/-- An element of a whole array by its numbers. -/
def ent (v : SW.Idx → Ideal .bf16) (a k : ℕ) : EReal :=
  if h : a < 4096 ∧ k < 16384 then v (ValueIdx.ix2 (⟨a, h.1⟩ : Fin 4096) (⟨k, h.2⟩ : Fin 16384)) else 0

theorem ent_ix (v : SW.Idx → Ideal .bf16) (a : Fin 4096) (k : Fin 16384) : v (ValueIdx.ix2 a k) = ent v a.val k.val := by
  rw [ent, dif_pos ⟨a.isLt, k.isLt⟩]

/-- One product of the sum for row `a` of the first array and row `b` of the second. -/
def term (x w : SW.Idx → Ideal .bf16) (a b k : ℕ) : EReal := ent x a k * ent w b k

theorem sum_next (f : ℕ → EReal) (o k : ℕ) :
    (∑ q ∈ Finset.range (512 * k), f (o + q)) + ∑ l : Fin 512, f (o + 512 * k + l.val)
      = ∑ q ∈ Finset.range (512 * (k + 1)), f (o + q) := by
  rw [Fin.sum_univ_eq_sum_range (fun l => f (o + 512 * k + l)), Nat.mul_succ, Finset.sum_range_add]
  simp only [Nat.add_assoc]

theorem sum_halves (f : ℕ → EReal) (y : Fin 2) :
    (∑ q ∈ Finset.range 8192, f (8192 * y.val + q)) + (∑ q ∈ Finset.range 8192, f (8192 * (1 - y).val + q))
      = ∑ q ∈ Finset.range 16384, f q := by
  have h : ∑ q ∈ Finset.range 16384, f q = (∑ q ∈ Finset.range 8192, f (8192 * 0 + q)) + ∑ q ∈ Finset.range 8192, f (8192 * 1 + q) := by
    rw [show 16384 = 8192 + 8192 from rfl, Finset.sum_range_add]; simp
  rw [h]
  match y with
  | 0 => rfl
  | 1 => exact add_comm _ _

theorem dims_step : dot_S512x512_S2048x512_S512x2048_1_1_0_0_n_n = DotDims.transposedRhs 512 512 2048 := rfl

/-- One step of the accumulation, at an element. -/
theorem step_at (a : Vec Ideal S512x512 .bf16) (b : Vec Ideal S2048x512 .bf16) (z : Vec Ideal S512x2048 .f32) (i : Fin 512) (j : Fin 2048) :
    k0_pay43 (F := Ideal) a b z (ValueIdx.ix2 i j) = (z (ValueIdx.ix2 i j) + ∑ l : Fin 512, a (ValueIdx.ix2 i l) * b (ValueIdx.ix2 j l) : EReal) := by
  simp only [k0_pay43, shapeCast_self, matmul]
  rw [addf_apply, dims_step, Ideal.matmul_transposedRhs_apply]
  rw [show (constant (F := Ideal) S512x2048 .f32 0x00000000#32 (ValueIdx.ix2 i j) : EReal) = 0 from Ideal.ofBits_zero_f32, zero_add]
  rfl

theorem zero_at (i : Fin 512) (j : Fin 2048) : k0_pay42 (F := Ideal) (ValueIdx.ix2 i j) = (0 : EReal) := by
  simp only [k0_pay42, shapeCast_self]
  exact Ideal.ofBits_zero_f32

theorem half_at (v : Vec Ideal S512x2048 .f32) (i : Fin 512) (j : Fin 2048) :
    k0_pay1 (F := Ideal) v (ValueIdx.ix3 (0 : Fin 1) i j) = v (ValueIdx.ix2 i j) := by
  simp only [k0_pay1]
  exact shapeCast_ab_1ab_apply _ _ _ _ _

theorem tot_at (v w : Vec Ideal S1x512x4096 .bf16) (i : Fin 512) (j : Fin 4096) :
    k0_pay3 (F := Ideal) v w (ValueIdx.ix3 (0 : Fin 1) i j) = (v (ValueIdx.ix3 (0 : Fin 1) i j) + w (ValueIdx.ix3 (0 : Fin 1) i j) : EReal) := by
  simp only [k0_pay3]
  refine (shapeCast_ab_1ab_apply _ _ _ _ _).trans ?_
  exact congrArg₂ (fun p q : EReal => p + q) (shapeCast_1ab_ab_apply _ _ _ _) (shapeCast_1ab_ab_apply _ _ _ _)

theorem out_at (v : Vec Ideal S1x512x2048 .bf16) (i : Fin 512) (j : Fin 2048) :
    outPay (F := Ideal) v (ValueIdx.ix3 (0 : Fin 1) i j) = v (ValueIdx.ix3 (0 : Fin 1) i j) := by
  simp only [outPay, k0_pay4]
  refine (shapeCast_ab_1ab_apply _ _ _ _ _).trans ?_
  exact shapeCast_1ab_ab_apply _ _ _ _

section
variable (m : (ℓ : Loc nD τ sig) → Buf (Elt Ideal) ℓ) (x w : SW.Idx → Ideal .bf16)

/-- Each device's part of an array of the whole one: its side's columns. -/
abbrev part (v : SW.Idx → Ideal .bf16) (c : Dev nD) : S4096x8192.Idx → Ideal .bf16 :=
  Layout.blockN ⟨2, ![4096, 8192]⟩ SW (Layout.meshBlock [2, 2, 4] ![[], [1]] c) v

theorem side_eq : ∀ c : Dev nD, Layout.meshLin [2, 2, 4] c.val [1] = (yc c).val := by decide

theorem part_at (v : SW.Idx → Ideal .bf16) (c : Dev nD) (a : Fin 4096) (k : Fin 8192) :
    part v c (ValueIdx.ix2 a k) = ent v a.val (8192 * (yc c).val + k.val) := by
  have hy := (yc c).isLt
  have hk := k.isLt
  refine (congrArg v (funext fun (b : Fin 2) => Fin.ext ?_)).trans (ent_ix v a (⟨8192 * (yc c).val + k.val, by omega⟩ : Fin 16384))
  rw [Layout.TilesN.idx_val]
  match b with
  | ⟨0, _⟩ =>
    show 0 * 4096 + a.val = a.val
    omega
  | ⟨1, _⟩ =>
    refine (congrArg (fun y => y * 8192 + k.val) (side_eq c)).trans ?_
    show (yc c).val * 8192 + k.val = 8192 * (yc c).val + k.val
    omega

variable (hx : ∀ c : Dev nD, m ((c : Thread nD τ).loc main_arg0) = part x c)
variable (hw : ∀ c : Dev nD, m ((c : Thread nD τ).loc main_arg1) = part w c)
include hx hw

theorem block_sum (c : Dev nD) (h k : ℕ) (hh : h < 2) (hk : k < 16) (i : Fin 512) (j : Fin 2048) :
    (∑ l : Fin 512, (blks m c (16 * h + k)).1 (ValueIdx.ix2 i l) * (blks m c (16 * h + k)).2 (ValueIdx.ix2 j l) : EReal)
      = ∑ l : Fin 512, term x w (512 * (pos c).val + i.val) (2048 * h + j.val) (8192 * (yc c).val + 512 * k + l.val) := by
  refine Finset.sum_congr rfl fun l _ => ?_
  have e1 : (16 * h + k) % 16 = k := by omega
  have e2 : (16 * h + k) / 16 % 2 = h := by omega
  refine congrArg₂ (fun p q : EReal => p * q) ?_ ?_
  · refine ((congrFun (hx c) _).trans (part_at x c _ _)).trans ?_
    show ent x (512 * (pos c).val + i.val) (8192 * (yc c).val + (512 * ((16 * h + k) % 16) + l.val)) = _
    rw [e1, Nat.add_assoc]
  · refine ((congrFun (hw c) _).trans (part_at w c _ _)).trans ?_
    show ent w (2048 * ((16 * h + k) / 16 % 2) + j.val) (8192 * (yc c).val + (512 * ((16 * h + k) % 16) + l.val)) = _
    rw [e1, e2, Nat.add_assoc]

theorem accv_at (c : Dev nD) (h : ℕ) (hh : h < 2) (i : Fin 512) (j : Fin 2048) : ∀ k, k < 16 →
    accv (blks m) c (16 * h + k + 1) (ValueIdx.ix2 i j)
      = ∑ q ∈ Finset.range (512 * (k + 1)), term x w (512 * (pos c).val + i.val) (2048 * h + j.val) (8192 * (yc c).val + q) := by
  intro k
  induction k with
  | zero =>
    intro hk
    rw [accv, step_at, if_pos (by omega), zero_at]
    refine (zero_add _).trans ((block_sum m x w hx hw c h 0 hh hk i j).trans ?_)
    rw [← sum_next]
    simp
  | succ k ih =>
    intro hk
    rw [accv, step_at, if_neg (by omega), block_sum m x w hx hw c h (k + 1) hh hk, ← sum_next]
    exact congrArg (fun p : EReal => p + _) (ih (by omega))

theorem ypart_at (c : Dev nD) (s : Fin 8) (i : Fin 512) (j : Fin 4096) :
    ypart (blks m) c (ValueIdx.ix3 s i j) = ∑ q ∈ Finset.range 8192, term x w (512 * (pos c).val + i.val) j.val (8192 * (yc c).val + q) := by
  have hj := j.isLt
  refine (half_at _ _ _).trans ?_
  refine (accv_at m x w hx hw c (j.val / 2048) (by omega) i (⟨j.val % 2048, Nat.mod_lt _ (by decide)⟩ : Fin 2048) 15 (by omega)).trans ?_
  rw [show 2048 * (j.val / 2048) + j.val % 2048 = j.val from Nat.div_add_mod _ _]

theorem tot_eq (c : Dev nD) (i : Fin 512) (j : Fin 4096) :
    tot (blks m) c (ValueIdx.ix3 (0 : Fin 1) i j) = ∑ q ∈ Finset.range 16384, term x w (512 * (pos c).val + i.val) j.val q := by
  refine (tot_at _ _ _ _).trans ?_
  rw [← sum_halves _ (yc c)]
  refine congrArg₂ (fun p q : EReal => p + q) (ypart_at m x w hx hw c 0 i j) ((ypart_at m x w hx hw (yn c) 0 i j).trans ?_)
  rw [pos_yn, yc_yn]

/-- Every device's result at an element is the whole sum of products there. -/
theorem ofin_at (c : Dev nD) (a b : Fin 4096) :
    ofin (blks m) c (ValueIdx.ix2 a b) = ∑ q ∈ Finset.range 16384, term x w a.val b.val q := by
  refine (out_at _ _ _).trans ?_
  refine (tot_eq m x w hx hw _ _ _).trans ?_
  rw [owner, pos_devAt]
  show ∑ q ∈ Finset.range 16384, term x w (512 * (a.val / 512) + a.val % 512) (2048 * (b.val / 2048) + b.val % 2048) q = _
  rw [Nat.div_add_mod, Nat.div_add_mod]

end

end Cert.KernelIdeal.Hand
end
-- ==== Proof.Same.lean ====
module

public import proofs.«01_k».proof.Proof.Program
public import proofs.«01_k».proof.Proof.Gen.Kernel

@[expose] public section

noncomputable section

namespace Cert.KernelIdeal.Same

open Idealize.ShloMosaic Idealize.SL.Sem
variable {F : FTy → Type} [FloatOps F]

/-! # The program printed for the machine's floats and the one printed for the reals are one text -/

theorem pcfgs_eq : Cert.Kernel.pcfgs (F := F) = Cert.KernelIdeal.pcfgs (F := F) := rfl
set_option maxHeartbeats 8000000 in
theorem main_eq : Cert.Kernel.main (F := F) = Cert.KernelIdeal.main (F := F) := rfl
set_option maxHeartbeats 8000000 in
theorem body_eq : Cert.Kernel.cc0__body (F := F) = Cert.KernelIdeal.cc0__body (F := F) := rfl
set_option maxHeartbeats 8000000 in
theorem table_eq : Cert.Kernel.defs₀ (F := F) = Cert.KernelIdeal.defs₀ (F := F) := by
  refine congrArg Defs.onTc (funext fun l => funext fun x => ?_)
  match l, x with
  | 0, (t, s) =>
    dsimp only
    rw [body_eq]
    rfl
  | ⟨_ + 1, h⟩, _ => exact absurd h (Nat.not_lt.2 (Nat.le_add_left _ _))
theorem defs_eq : Cert.Kernel.defs (F := F) = Cert.KernelIdeal.defs (F := F) := congrArg (Pipeline.defs _) table_eq

end Cert.KernelIdeal.Same
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Run
public import proofs.«01_k».proof.Proof.Value
public import proofs.«01_k».proof.Proof.Same
public import Idealize.ShloMosaic.Lib.StackMember
public import Idealize.ShloMosaic.Adequacy
public import Idealize.ShloMosaic.Init

@[expose] public section

noncomputable section

namespace Cert.Proof

open Idealize.ShloMosaic Idealize.SL.Sem Cert.Kernel

/-- The kernel's run over the machine's words: the one proof is for any floats, and the two texts are the same. -/
theorem frame_kernel : Cert.quiescent_Kernel := by
  intro m ρ _
  rw [Cert.KernelIdeal.Same.defs_eq, Cert.KernelIdeal.Same.main_eq]
  exact (θ_run Cert.KernelIdeal.defs _ _).mono (fun _ h => ⟨fun c => (h.1 c).1, h.2⟩) (Cert.KernelIdeal.Hand.run_main (F := Bits) m ρ)

theorem frame_ideal : Cert.quiescent_KernelIdeal := fun m ρ _ =>
  (θ_run Cert.KernelIdeal.defs _ _).mono (fun _ h => ⟨fun c => (h.1 c).1, h.2⟩) (Cert.KernelIdeal.Hand.run_main (F := Ideal) m ρ)

/-- The reference has no semaphore. -/
theorem no_sem (s : GSem Cert.ReferenceIdeal.nD Cert.ReferenceIdeal.τ Cert.ReferenceIdeal.sig) : False := by
  match s with
  | (_, .reg k) => exact k.elim0
  | (_, .dma k) => exact k.elim0

theorem frame_reference : Cert.quiescent_ReferenceIdeal := fun m ρ _ =>
  (θ_run Cert.ReferenceIdeal.defs _ _).mono (fun _ h => ⟨fun c => (h c).2, funext fun s => (no_sem s).elim⟩)
    (Cert.ReferenceIdeal.Value.run (F := Ideal) m ρ)

/-- The reference's result of two whole arrays. -/
abbrev product (x w : Cert.KernelIdeal.Hand.SW.Idx → Ideal .bf16) : Cert.ReferenceIdeal.S4096x4096.Idx → Ideal .f32 :=
  extf .f32 (truncf .bf16 (Host.dotGeneral Cert.ReferenceIdeal.dot_S4096x16384_S16384x4096_S4096x4096_1_0_0_1_n_n none x
    (transpose Cert.ReferenceIdeal.S16384x4096 [1, 0] w Cert.ReferenceIdeal.Gen.transposes_S4096x16384_S16384x4096_1_0))
      Cert.ReferenceIdeal.Gen.bitsLt_bf16_f32) Cert.ReferenceIdeal.Gen.bitsLt_bf16_f32

theorem dims_whole : Cert.ReferenceIdeal.dot_S4096x16384_S16384x4096_S4096x4096_1_0_0_1_n_n = DotDims.plain 4096 16384 4096 := rfl

theorem product_at (x w : Cert.KernelIdeal.Hand.SW.Idx → Ideal .bf16) (a b : Fin 4096) :
    product x w (ValueIdx.ix2 a b) = ∑ q ∈ Finset.range 16384, Cert.KernelIdeal.Hand.term x w a.val b.val q := by
  show Host.dotGeneral Cert.ReferenceIdeal.dot_S4096x16384_S16384x4096_S4096x4096_1_0_0_1_n_n none x
    (transpose Cert.ReferenceIdeal.S16384x4096 [1, 0] w Cert.ReferenceIdeal.Gen.transposes_S4096x16384_S16384x4096_1_0) (ValueIdx.ix2 a b) = _
  rw [dims_whole, StackMember.dotGeneral_plain_apply, ← Fin.sum_univ_eq_sum_range]
  refine Finset.sum_congr rfl fun k _ => ?_
  exact congrArg₂ (fun p q : EReal => p * q) (Cert.KernelIdeal.Hand.ent_ix x a k)
    ((ValueIdx.transpose_ix2_apply w _ k b).trans (Cert.KernelIdeal.Hand.ent_ix w b k))

theorem value : Cert.algebraic_KernelIdeal_ReferenceIdeal := by
  intro m ρ m' ρ' _ hm
  refine ⟨product (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).2.trans ?_, (h.1 c).1⟩) (Cert.KernelIdeal.Hand.run_main (F := Ideal) m ρ),
    (θ_run Cert.ReferenceIdeal.defs _ _).mono (fun _ h => h 0) (Cert.ReferenceIdeal.Value.run (F := Ideal) m' ρ')⟩
  funext (i : Cert.KernelIdeal.S4096x4096.Idx)
  obtain ⟨a, b, rfl⟩ : ∃ (a : Fin 4096) (b : Fin 4096), i = ValueIdx.ix2 a b := ⟨i 0, i 1, ValueIdx.eq_ix2 i⟩
  exact (Cert.KernelIdeal.Hand.ofin_at m _ _ (fun c => (hm c).1) (fun c => (hm c).2) c a b).trans (product_at _ _ a b).symm

theorem claim : Cert.Claim := ⟨Cert.Kernel.Gen.facts, Cert.KernelIdeal.Gen.facts, Cert.ReferenceIdeal.Gen.facts,
  frame_kernel, frame_ideal, frame_reference, trivial, value⟩

end Cert.Proof

end
